-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_gates_below_infinity [hPre_gates_below_infinity : Cert.Pre_gates_below_infinity.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_gates_below_infinity.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_gates_below_infinity [hPre_gates_below_infinity : Cert.Pre_gates_below_infinity.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_gates_below_infinity.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_below_infinity [hPre_below_infinity : Cert.Pre_below_infinity.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_below_infinity.fn (F := Ideal) (m ((c.tc : Thread Cert.Kernel7Ideal.nD Cert.Kernel7Ideal.τ).loc Cert.Kernel7Ideal.main_arg0))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_below_infinity [hPre_below_infinity : Cert.Pre_below_infinity.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_below_infinity.fn (F := Ideal) (m ((c.tc : Thread Cert.Reference7Ideal.nD Cert.Reference7Ideal.τ).loc Cert.Reference7Ideal.main_arg0))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_sample_gates_below_infinity [hPre_sample_gates_below_infinity : Cert.Pre_sample_gates_below_infinity.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_sample_gates_below_infinity.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_sample_gates_below_infinity [hPre_sample_gates_below_infinity : Cert.Pre_sample_gates_below_infinity.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_sample_gates_below_infinity.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_pages_below_infinity [hPre_pages_below_infinity : Cert.Pre_pages_below_infinity.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_pages_below_infinity.fn (F := Ideal) (m ((c.tc : Thread Cert.Kernel12Ideal.nD Cert.Kernel12Ideal.τ).loc Cert.Kernel12Ideal.main_arg0))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_pages_below_infinity [hPre_pages_below_infinity : Cert.Pre_pages_below_infinity.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_pages_below_infinity.fn (F := Ideal) (m ((c.tc : Thread Cert.Reference12Ideal.nD Cert.Reference12Ideal.τ).loc Cert.Reference12Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_gates_below_infinity [hKernel6Ideal : Cert.Kernel6Ideal.Facts] [hPre_gates_below_infinity : Cert.Pre_gates_below_infinity.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_gates_below_infinity m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_gates_below_infinity [hReference6Ideal : Cert.Reference6Ideal.Facts] [hPre_gates_below_infinity : Cert.Pre_gates_below_infinity.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_gates_below_infinity m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Kernel7Ideal_pre_below_infinity [hKernel7Ideal : Cert.Kernel7Ideal.Facts] [hPre_below_infinity : Cert.Pre_below_infinity.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_below_infinity m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Reference7Ideal_pre_below_infinity [hReference7Ideal : Cert.Reference7Ideal.Facts] [hPre_below_infinity : Cert.Pre_below_infinity.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_below_infinity m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_sample_gates_below_infinity [hKernel8Ideal : Cert.Kernel8Ideal.Facts] [hPre_sample_gates_below_infinity : Cert.Pre_sample_gates_below_infinity.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_sample_gates_below_infinity m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_sample_gates_below_infinity [hReference8Ideal : Cert.Reference8Ideal.Facts] [hPre_sample_gates_below_infinity : Cert.Pre_sample_gates_below_infinity.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_sample_gates_below_infinity m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Kernel12Ideal_pre_pages_below_infinity [hKernel12Ideal : Cert.Kernel12Ideal.Facts] [hPre_pages_below_infinity : Cert.Pre_pages_below_infinity.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_pages_below_infinity m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12Ideal_pre_pages_below_infinity [hReference12Ideal : Cert.Reference12Ideal.Facts] [hPre_pages_below_infinity : Cert.Pre_pages_below_infinity.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_pages_below_infinity m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v46)) (v1 : (c : Dev Cert.Kernel2Ideal.nD) → Buf (Elt Ideal) ((c.tc : Thread Cert.Kernel2Ideal.nD Cert.Kernel2Ideal.τ).loc Cert.Kernel2Ideal.main_v47)) (v2 : (c : Dev Cert.Kernel2Ideal.nD) → Buf (Elt Ideal) ((c.tc : Thread Cert.Kernel2Ideal.nD Cert.Kernel2Ideal.τ).loc Cert.Kernel2Ideal.main_v49)) (v3 : (c : Dev Cert.Kernel2Ideal.nD) → Buf (Elt Ideal) ((c.tc : Thread Cert.Kernel2Ideal.nD Cert.Kernel2Ideal.τ).loc Cert.Kernel2Ideal.main_v50)) (v4 : (c : Dev Cert.Kernel2Ideal.nD) → Buf (Elt Ideal) ((c.tc : Thread Cert.Kernel2Ideal.nD Cert.Kernel2Ideal.τ).loc Cert.Kernel2Ideal.main_v51)) (v5 : (c : Dev Cert.Kernel2Ideal.nD) → Buf (Elt Ideal) ((c.tc : Thread Cert.Kernel2Ideal.nD Cert.Kernel2Ideal.τ).loc Cert.Kernel2Ideal.main_v53)) (v6 : (c : Dev Cert.Kernel2Ideal.nD) → Buf (Elt Ideal) ((c.tc : Thread Cert.Kernel2Ideal.nD Cert.Kernel2Ideal.τ).loc Cert.Kernel2Ideal.main_v44_0)) (v7 : (c : Dev Cert.Kernel2Ideal.nD) → Buf (Elt Ideal) ((c.tc : Thread Cert.Kernel2Ideal.nD Cert.Kernel2Ideal.τ).loc Cert.Kernel2Ideal.main_v44_3)) (v8 : (c : Dev Cert.Kernel2Ideal.nD) → Buf (Elt Ideal) ((c.tc : Thread Cert.Kernel2Ideal.nD Cert.Kernel2Ideal.τ).loc Cert.Kernel2Ideal.main_v45_0)) (v9 : (c : Dev Cert.Kernel2Ideal.nD) → Buf (Elt Ideal) ((c.tc : Thread Cert.Kernel2Ideal.nD Cert.Kernel2Ideal.τ).loc Cert.Kernel2Ideal.main_v45_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_v47) = v1 c
          ∧ r.2.mem ((c.tc : Thread Cert.Kernel2Ideal.nD Cert.Kernel2Ideal.τ).loc Cert.Kernel2Ideal.main_v49) = v2 c
          ∧ r.2.mem ((c.tc : Thread Cert.Kernel2Ideal.nD Cert.Kernel2Ideal.τ).loc Cert.Kernel2Ideal.main_v50) = v3 c
          ∧ r.2.mem ((c.tc : Thread Cert.Kernel2Ideal.nD Cert.Kernel2Ideal.τ).loc Cert.Kernel2Ideal.main_v51) = v4 c
          ∧ r.2.mem ((c.tc : Thread Cert.Kernel2Ideal.nD Cert.Kernel2Ideal.τ).loc Cert.Kernel2Ideal.main_v53) = v5 c
          ∧ r.2.mem ((c.tc : Thread Cert.Kernel2Ideal.nD Cert.Kernel2Ideal.τ).loc Cert.Kernel2Ideal.main_v44_0) = v6 c
          ∧ r.2.mem ((c.tc : Thread Cert.Kernel2Ideal.nD Cert.Kernel2Ideal.τ).loc Cert.Kernel2Ideal.main_v44_3) = v7 c
          ∧ r.2.mem ((c.tc : Thread Cert.Kernel2Ideal.nD Cert.Kernel2Ideal.τ).loc Cert.Kernel2Ideal.main_v45_0) = v8 c
          ∧ r.2.mem ((c.tc : Thread Cert.Kernel2Ideal.nD Cert.Kernel2Ideal.τ).loc Cert.Kernel2Ideal.main_v45_3) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_v100) = v3 c
          ∧ r.2.mem ((c.tc : Thread Cert.Reference2Ideal.nD Cert.Reference2Ideal.τ).loc Cert.Reference2Ideal.main_v101) = v4 c
          ∧ r.2.mem ((c.tc : Thread Cert.Reference2Ideal.nD Cert.Reference2Ideal.τ).loc Cert.Reference2Ideal.main_v102) = v5 c
          ∧ r.2.mem ((c.tc : Thread Cert.Reference2Ideal.nD Cert.Reference2Ideal.τ).loc Cert.Reference2Ideal.main_v47) = v6 c
          ∧ r.2.mem ((c.tc : Thread Cert.Reference2Ideal.nD Cert.Reference2Ideal.τ).loc Cert.Reference2Ideal.main_v51) = v7 c
          ∧ r.2.mem ((c.tc : Thread Cert.Reference2Ideal.nD Cert.Reference2Ideal.τ).loc Cert.Reference2Ideal.main_v99) = v8 c
          ∧ r.2.mem ((c.tc : Thread Cert.Reference2Ideal.nD Cert.Reference2Ideal.τ).loc Cert.Reference2Ideal.main_v103) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v14) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_gates_below_infinity [hKernel6Ideal : Cert.Kernel6Ideal.Facts] [hReference6Ideal : Cert.Reference6Ideal.Facts] [hPre_gates_below_infinity : Cert.Pre_gates_below_infinity.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_gates_below_infinity m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_below_infinity [hKernel7Ideal : Cert.Kernel7Ideal.Facts] [hReference7Ideal : Cert.Reference7Ideal.Facts] [hPre_below_infinity : Cert.Pre_below_infinity.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_below_infinity m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal_pre_sample_gates_below_infinity [hKernel8Ideal : Cert.Kernel8Ideal.Facts] [hReference8Ideal : Cert.Reference8Ideal.Facts] [hPre_sample_gates_below_infinity : Cert.Pre_sample_gates_below_infinity.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_sample_gates_below_infinity m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v8_0)) (v1 : (c : Dev Cert.Kernel11Ideal.nD) → Buf (Elt Ideal) ((c.tc : Thread Cert.Kernel11Ideal.nD Cert.Kernel11Ideal.τ).loc Cert.Kernel11Ideal.main_v8_1)) (v2 : (c : Dev Cert.Kernel11Ideal.nD) → Buf (Elt Ideal) ((c.tc : Thread Cert.Kernel11Ideal.nD Cert.Kernel11Ideal.τ).loc Cert.Kernel11Ideal.main_v8_2)) (v3 : (c : Dev Cert.Kernel11Ideal.nD) → Buf (Elt Ideal) ((c.tc : Thread Cert.Kernel11Ideal.nD Cert.Kernel11Ideal.τ).loc Cert.Kernel11Ideal.main_v8_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8_0) = v0 c
          ∧ r.2.mem ((c.tc : Thread Cert.Kernel11Ideal.nD Cert.Kernel11Ideal.τ).loc Cert.Kernel11Ideal.main_v8_1) = v1 c
          ∧ r.2.mem ((c.tc : Thread Cert.Kernel11Ideal.nD Cert.Kernel11Ideal.τ).loc Cert.Kernel11Ideal.main_v8_2) = v2 c
          ∧ r.2.mem ((c.tc : Thread Cert.Kernel11Ideal.nD Cert.Kernel11Ideal.τ).loc Cert.Kernel11Ideal.main_v8_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v81) = v0 c
          ∧ r.2.mem ((c.tc : Thread Cert.Reference11Ideal.nD Cert.Reference11Ideal.τ).loc Cert.Reference11Ideal.main_v90) = v1 c
          ∧ r.2.mem ((c.tc : Thread Cert.Reference11Ideal.nD Cert.Reference11Ideal.τ).loc Cert.Reference11Ideal.main_v91) = v2 c
          ∧ r.2.mem ((c.tc : Thread Cert.Reference11Ideal.nD Cert.Reference11Ideal.τ).loc Cert.Reference11Ideal.main_v92) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_pages_below_infinity [hKernel12Ideal : Cert.Kernel12Ideal.Facts] [hReference12Ideal : Cert.Reference12Ideal.Facts] [hPre_pages_below_infinity : Cert.Pre_pages_below_infinity.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_pages_below_infinity m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v13_0)) (v1 : (c : Dev Cert.Kernel12Ideal.nD) → Buf (Elt Ideal) ((c.tc : Thread Cert.Kernel12Ideal.nD Cert.Kernel12Ideal.τ).loc Cert.Kernel12Ideal.main_v13_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13_0) = v0 c
          ∧ r.2.mem ((c.tc : Thread Cert.Kernel12Ideal.nD Cert.Kernel12Ideal.τ).loc Cert.Kernel12Ideal.main_v13_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_scores : Cert.Pre_finite_scores.Facts) (hPre_gates_below_infinity : Cert.Pre_gates_below_infinity.Facts) (hPre_below_infinity : Cert.Pre_below_infinity.Facts) (hPre_sample_gates_below_infinity : Cert.Pre_sample_gates_below_infinity.Facts) (hPre_pages_below_infinity : Cert.Pre_pages_below_infinity.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_gates_below_infinity (hKernel6Ideal := hKernel6Ideal) (hPre_gates_below_infinity := hPre_gates_below_infinity)
    ∧ quiescent_Reference6Ideal (hReference6Ideal := hReference6Ideal)
    ∧ quiescent_Reference6Ideal_pre_gates_below_infinity (hReference6Ideal := hReference6Ideal) (hPre_gates_below_infinity := hPre_gates_below_infinity)
    ∧ quiescent_Kernel7 (hKernel7 := hKernel7)
    ∧ quiescent_Kernel7Ideal (hKernel7Ideal := hKernel7Ideal)
    ∧ quiescent_Kernel7Ideal_pre_below_infinity (hKernel7Ideal := hKernel7Ideal) (hPre_below_infinity := hPre_below_infinity)
    ∧ quiescent_Reference7Ideal (hReference7Ideal := hReference7Ideal)
    ∧ quiescent_Reference7Ideal_pre_below_infinity (hReference7Ideal := hReference7Ideal) (hPre_below_infinity := hPre_below_infinity)
    ∧ quiescent_Kernel8 (hKernel8 := hKernel8)
    ∧ quiescent_Kernel8Ideal (hKernel8Ideal := hKernel8Ideal)
    ∧ quiescent_Kernel8Ideal_pre_sample_gates_below_infinity (hKernel8Ideal := hKernel8Ideal) (hPre_sample_gates_below_infinity := hPre_sample_gates_below_infinity)
    ∧ quiescent_Reference8Ideal (hReference8Ideal := hReference8Ideal)
    ∧ quiescent_Reference8Ideal_pre_sample_gates_below_infinity (hReference8Ideal := hReference8Ideal) (hPre_sample_gates_below_infinity := hPre_sample_gates_below_infinity)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_pages_below_infinity (hKernel12Ideal := hKernel12Ideal) (hPre_pages_below_infinity := hPre_pages_below_infinity)
    ∧ quiescent_Reference12Ideal (hReference12Ideal := hReference12Ideal)
    ∧ quiescent_Reference12Ideal_pre_pages_below_infinity (hReference12Ideal := hReference12Ideal) (hPre_pages_below_infinity := hPre_pages_below_infinity)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_gates_below_infinity (hKernel6Ideal := hKernel6Ideal) (hReference6Ideal := hReference6Ideal) (hPre_gates_below_infinity := hPre_gates_below_infinity)
    ∧ preserves_Kernel7_Kernel7Ideal
    ∧ algebraic_Kernel7Ideal_Reference7Ideal_pre_below_infinity (hKernel7Ideal := hKernel7Ideal) (hReference7Ideal := hReference7Ideal) (hPre_below_infinity := hPre_below_infinity)
    ∧ preserves_Kernel8_Kernel8Ideal
    ∧ algebraic_Kernel8Ideal_Reference8Ideal_pre_sample_gates_below_infinity (hKernel8Ideal := hKernel8Ideal) (hReference8Ideal := hReference8Ideal) (hPre_sample_gates_below_infinity := hPre_sample_gates_below_infinity)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_pages_below_infinity (hKernel12Ideal := hKernel12Ideal) (hReference12Ideal := hReference12Ideal) (hPre_pages_below_infinity := hPre_pages_below_infinity)
-- ==== Pre_below_infinity.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_cst : FVec F S_ .f32 := constant S_ .f32 0x7F800000#32
  let main_v0 : FVec F S8192x128 .f32 := broadcastInDim S8192x128 ![] bcast_S_S8192x128 main_cst
  let main_v1 : IVec S8192x128 1 := cmpf .olt main_arg0 main_v0
  let main_c : IVec S_ 1 := constantI S_ 1 1#1
  let main_v2 : IVec S_ 1 := (fun x v => Host.reduce IntOp.andi x v reducesTo_S8192x128_S_d0_1 h_S_) main_v1 main_c
  main_v2
-- ==== Pre_finite_scores.lean ====
abbrev S8192x1024 : Shape := ⟨2, ![8192, 1024]⟩
abbrev S8192x128 : Shape := ⟨2, ![8192, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x1024 .f32) (main_arg1 : FVec F S8192x1024 .f32) (main_arg2 : FVec F S8192x1024 .f32) (main_arg3 : FVec F S8192x128 .f32) : IVec S_ 1 × IVec S_ 1 × IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x128 .f32 := Host.absf main_arg3
  let main_cst_2 : FVec F S_ .f32 := constant S_ .f32 0x7F800000#32
  let main_v9 : FVec F S8192x128 .f32 := broadcastInDim S8192x128 ![] bcast_S_S8192x128 main_cst_2
  let main_v10 : IVec S8192x128 1 := cmpf .olt main_v8 main_v9
  let main_c_3 : IVec S_ 1 := constantI S_ 1 1#1
  let main_v11 : IVec S_ 1 := (fun x v => Host.reduce IntOp.andi x v reducesTo_S8192x128_S_d0_1 h_S_) main_v10 main_c_3
  (main_v3, main_v7, main_v11)
-- ==== Pre_gates_below_infinity.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : IVec S8192x128 32) (main_arg1 : FVec F S8192x128 .f32) : IVec S_ 1 :=
  let main_cst : FVec F S_ .f32 := constant S_ .f32 0x7F800000#32
  let main_v0 : FVec F S8192x128 .f32 := broadcastInDim S8192x128 ![] bcast_S_S8192x128 main_cst
  let main_v1 : IVec S8192x128 1 := cmpf .olt main_arg1 main_v0
  let main_c : IVec S_ 1 := constantI S_ 1 1#1
  let main_v2 : IVec S_ 1 := (fun x v => Host.reduce IntOp.andi x v reducesTo_S8192x128_S_d0_1 h_S_) main_v1 main_c
  main_v2
-- ==== Pre_pages_below_infinity.lean ====
abbrev S1x2560x128x8 : Shape := ⟨4, ![1, 2560, 128, 8]⟩
abbrev S_ : Shape := ⟨0, ![]⟩

class Facts : Prop where
  bcast_S_S1x2560x128x8 : S_.BroadcastsInDim S1x2560x128x8 (![] : Fin 0 → Fin S1x2560x128x8.rank)
  reducesTo_S1x2560x128x8_S_d0_1_2_3 : S1x2560x128x8.ReducesTo [0, 1, 2, 3] S_
  h_S_ : 0 < S_.numel

variable [Facts]

def fn {F : FTy → Type} [FloatOps F] (main_arg0 : FVec F S1x2560x128x8 .f32) : IVec S_ 1 :=
  let main_cst : FVec F S_ .f32 := constant S_ .f32 0x7F800000#32
  let main_v0 : FVec F S1x2560x128x8 .f32 := broadcastInDim S1x2560x128x8 ![] bcast_S_S1x2560x128x8 main_cst
  let main_v1 : IVec S1x2560x128x8 1 := cmpf .olt main_arg0 main_v0
  let main_c : IVec S_ 1 := constantI S_ 1 1#1
  let main_v2 : IVec S_ 1 := (fun x v => Host.reduce IntOp.andi x v reducesTo_S1x2560x128x8_S_d0_1_2_3 h_S_) main_v1 main_c
  main_v2
-- ==== Pre_sample_gates_below_infinity.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : IVec S1024x128 32) (main_arg1 : FVec F S1024x128 .f32) : IVec S_ 1 :=
  let main_cst : FVec F S_ .f32 := constant S_ .f32 0x7F800000#32
  let main_v0 : FVec F S1024x128 .f32 := broadcastInDim S1024x128 ![] bcast_S_S1024x128 main_cst
  let main_v1 : IVec S1024x128 1 := cmpf .olt main_arg1 main_v0
  let main_c : IVec S_ 1 := constantI S_ 1 1#1
  let main_v2 : IVec S_ 1 := (fun x v => Host.reduce IntOp.andi x v reducesTo_S1024x128_S_d0_1 h_S_) main_v1 main_c
  main_v2
-- ==== Kernel.lean ====
abbrev S8192x1024 : Shape := ⟨2, ![8192, 1024]⟩
abbrev S8192x128 : Shape := ⟨2, ![8192, 128]⟩
abbrev S2x4096x128 : Shape := ⟨3, ![2, 4096, 128]⟩
abbrev S2x4096x8 : Shape := ⟨3, ![2, 4096, 8]⟩
abbrev S2x8x4096 : Shape := ⟨3, ![2, 8, 4096]⟩
abbrev S2x8x4096x1 : Shape := ⟨4, ![2, 8, 4096, 1]⟩
abbrev S2x8x4096x128 : Shape := ⟨4, ![2, 8, 4096, 128]⟩
abbrev S2x8x16x256 : Shape := ⟨4, ![2, 8, 16, 256]⟩
abbrev S2x4096x1024 : Shape := ⟨3, ![2, 4096, 1024]⟩
abbrev S1x256x128 : Shape := ⟨3, ![1, 256, 128]⟩
abbrev S1x4096x128 : Shape := ⟨3, ![1, 4096, 128]⟩
abbrev S1x1x256x128 : Shape := ⟨4, ![1, 1, 256, 128]⟩
abbrev S1x1x16x256 : Shape := ⟨4, ![1, 1, 16, 256]⟩
abbrev S256x128 : Shape := ⟨2, ![256, 128]⟩
abbrev S256x1 : Shape := ⟨2, ![256, 1]⟩
abbrev S1x1x1x256 : Shape := ⟨4, ![1, 1, 1, 256]⟩
abbrev S1x256 : Shape := ⟨2, ![1, 256]⟩
abbrev S256x256 : Shape := ⟨2, ![256, 256]⟩
abbrev S256 : Shape := ⟨1, ![256]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S2x4096x128, .f32⟩
  | .hbm, ⟨5, _⟩ => ⟨S2x4096x8, .f32⟩
  | .hbm, ⟨6, _⟩ => ⟨S2x8x4096, .f32⟩
  | .hbm, ⟨7, _⟩ => ⟨S2x8x4096x1, .f32⟩
  | .hbm, ⟨8, _⟩ => ⟨S2x8x4096x128, .f32⟩
  | .hbm, ⟨9, _⟩ => ⟨S2x8x16x256, .f32⟩
  | .hbm, ⟨10, _⟩ => ⟨S8192x1024, .bf16⟩
  | .hbm, ⟨11, _⟩ => ⟨S2x4096x1024, .bf16⟩
  | .hbm, ⟨12, _⟩ => ⟨S8192x1024, .bf16⟩
  | .hbm, ⟨13, _⟩ => ⟨S2x4096x1024, .bf16⟩
  | .hbm, ⟨14, _⟩ => ⟨S8192x1024, .bf16⟩
  | .hbm, ⟨15, _⟩ => ⟨S2x4096x1024, .bf16⟩
  | .hbm, ⟨16, _⟩ => ⟨S2x4096x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x256x128, .f32⟩
  | .local _ .vmem, ⟨7, _⟩ => ⟨S1x1x256x128, .f32⟩
  | .local _ .vmem, ⟨8, _⟩ => ⟨S1x1x16x256, .f32⟩
  | .local _ .vmem, ⟨9, _⟩ => ⟨S1x1x16x256, .f32⟩
  | .local _ .vmem, ⟨10, _⟩ => ⟨S1x256x128, .f32⟩
  | .local _ .vmem, ⟨11, _⟩ => ⟨S1x256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  ⟨c0_i32, v12, c1_i32_8⟩
def k0_mult1 (i : grid0.Coords) (k0_t1 : Fin (k0_t1_loop i).trips) : BitVec 32 :=
  let c0_i32 : BitVec 32 := 0#32
  let c1_i32_8 : BitVec 32 := 1#32
  let arg9 : BitVec 32 := Scf.iv c0_i32 c1_i32_8 k0_t1
  let c256_i32_26 : BitVec 32 := 256#32
  let v60 : BitVec 32 := Scalar.muli arg9 c256_i32_26
  v60
def k0_off1 (i : grid0.Coords) (k0_t1 : Fin (k0_t1_loop i).trips) : Fin 3 → Nat :=
  let c0_27 : Index := 0#32
  let c0_i32 : BitVec 32 := 0#32
  let c1_i32_8 : BitVec 32 := 1#32
  let arg9 : BitVec 32 := Scf.iv c0_i32 c1_i32_8 k0_t1
  let c256_i32_26 : BitVec 32 := 256#32
  let v60 : BitVec 32 := Scalar.muli arg9 c256_i32_26
  let v61 : BitVec 32 := v60
  let v62 : Index := Scalar.indexCast v61
  let c0_28 : Index := 0#32
  ![0, v62.toNat, 0]
def k0_off2 (i : grid0.Coords) (k0_t1 : Fin (k0_t1_loop i).trips) : Fin 4 → Nat :=
  let c0_31 : Index := 0#32
  let c0_32 : Index := 0#32
  let c0_i32 : BitVec 32 := 0#32
  let c1_i32_8 : BitVec 32 := 1#32
  let arg9 : BitVec 32 := Scf.iv c0_i32 c1_i32_8 k0_t1
  let v68 : Index := Scalar.indexCast arg9
  let c0_33 : Index := 0#32
  ![0, 0, v68.toNat, 0]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_9 : BitVec 32 := 1#32
  ⟨v12, v9, c1_i32_9⟩
def k0_mult2 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_9 : BitVec 32 := 1#32
  let arg9 : BitVec 32 := Scf.iv v12 c1_i32_9 k0_t2
  let c256_i32_26 : BitVec 32 := 256#32
  let v60 : BitVec 32 := Scalar.muli arg9 c256_i32_26
  v60
def k0_off3 (i : grid0.Coords) (k0_t2 : Fin (k0_t2_loop i).trips) : Fin 3 → Nat :=
  let c0_27 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_9 : BitVec 32 := 1#32
  let arg9 : BitVec 32 := Scf.iv v12 c1_i32_9 k0_t2
  let c256_i32_26 : BitVec 32 := 256#32
  let v60 : BitVec 32 := Scalar.muli arg9 c256_i32_26
  let v61 : BitVec 32 := v60
  let v62 : Index := Scalar.indexCast v61
  let c0_28 : Index := 0#32
  ![0, v62.toNat, 0]
def k0_off4 (i : grid0.Coords) (k0_t2 : Fin (k0_t2_loop i).trips) : Fin 4 → Nat :=
  let c0_31 : Index := 0#32
  let c0_32 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_9 : BitVec 32 := 1#32
  let arg9 : BitVec 32 := Scf.iv v12 c1_i32_9 k0_t2
  let v68 : Index := Scalar.indexCast arg9
  let c0_33 : Index := 0#32
  ![0, 0, v68.toNat, 0]
def k0_mult3 (i : grid0.Coords) : BitVec 32 :=
  let arg2 : BitVec 32 := BitVec.ofNat 32 (i 2).val
  let c256_i32 : BitVec 32 := 256#32
  let v15 : BitVec 32 := Scalar.muli arg2 c256_i32
  v15
def k0_off5 (i : grid0.Coords) : Fin 3 → Nat :=
  let c0_10 : Index := 0#32
  let arg2 : BitVec 32 := BitVec.ofNat 32 (i 2).val
  let c256_i32 : BitVec 32 := 256#32
  let v15 : BitVec 32 := Scalar.muli arg2 c256_i32
  let v16 : BitVec 32 := v15
  let v17 : Index := Scalar.indexCast v16
  let c0_11 : Index := 0#32
  ![0, v17.toNat, 0]
def k0_off6 (i : grid0.Coords) : Fin 4 → Nat :=
  let c0_14 : Index := 0#32
  let c0_15 : Index := 0#32
  let arg2 : BitVec 32 := BitVec.ofNat 32 (i 2).val
  let v23 : Index := Scalar.indexCast arg2
  let c0_16 : Index := 0#32
  ![0, 0, v23.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x128 : Shape := ⟨2, ![8192, 128]⟩
abbrev S2x4096x8x128 : Shape := ⟨4, ![2, 4096, 8, 128]⟩
abbrev S2x4096x128 : Shape := ⟨3, ![2, 4096, 128]⟩
abbrev S2x4096x8 : Shape := ⟨3, ![2, 4096, 8]⟩
abbrev S2x8x4096 : Shape := ⟨3, ![2, 8, 4096]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S2x4096x1024 : Shape := ⟨3, ![2, 4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S2x4096x8x128, .f32⟩
  | .hbm, ⟨5, _⟩ => ⟨S2x4096x8x128, .f32⟩
  | .hbm, ⟨6, _⟩ => ⟨S2x4096x8x128, .f32⟩
  | .hbm, ⟨7, _⟩ => ⟨S2x4096x128, .f32⟩
  | .hbm, ⟨8, _⟩ => ⟨S2x4096x8, .f32⟩
  | .hbm, ⟨9, _⟩ => ⟨S2x8x4096, .f32⟩
  | .hbm, ⟨10, _⟩ => ⟨S2x8x4096x4096, .f32⟩
  | .hbm, ⟨11, _⟩ => ⟨S_, .f32⟩
  | .hbm, ⟨12, _⟩ => ⟨S2x8x4096x4096, .f32⟩
  | .hbm, ⟨13, _⟩ => ⟨S2x8x4096x4096, .f32⟩
  | .hbm, ⟨14, _⟩ => ⟨S2x8x4096x1, .f32⟩
  | .hbm, ⟨15, _⟩ => ⟨S2x8x4096x4096, .f32⟩
  | .hbm, ⟨16, _⟩ => ⟨S2x8x4096x4096, .f32⟩
  | .hbm, ⟨17, _⟩ => ⟨S2x8x1x4096, .f32⟩
  | .hbm, ⟨18, _⟩ => ⟨S2x8x4096x4096, .f32⟩
  | .hbm, ⟨19, _⟩ => ⟨S2x8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S2x8x4096x4096, .i1⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S2x8x4096, .f32⟩
  | .hbm, ⟨33, _⟩ => ⟨S_, .f32⟩
  | .hbm, ⟨34, _⟩ => ⟨S2x8x4096, .f32⟩
  | .hbm, ⟨35, _⟩ => ⟨S2x8x4096, .f32⟩
  | .hbm, ⟨36, _⟩ => ⟨S2x8x4096x1, .f32⟩
  | .hbm, ⟨37, _⟩ => ⟨S2x8x4096x4096, .f32⟩
  | .hbm, ⟨38, _⟩ => ⟨S2x8x4096x4096, .f32⟩
  | .hbm, ⟨39, _⟩ => ⟨S2x8x4096x4096, .f32⟩
  | .hbm, ⟨40, _⟩ => ⟨S_, .f32⟩
  | .hbm, ⟨41, _⟩ => ⟨S2x8x4096, .f32⟩
  | .hbm, ⟨42, _⟩ => ⟨S2x8x4096x1, .f32⟩
  | .hbm, ⟨43, _⟩ => ⟨S2x8x4096x4096, .f32⟩
  | .hbm, ⟨44, _⟩ => ⟨S2x8x4096x4096, .f32⟩
  | .hbm, ⟨45, _⟩ => ⟨S2x8x128x4096, .f32⟩
  | .hbm, ⟨46, _⟩ => ⟨S2x4096x8x128, .f32⟩
  | .hbm, ⟨47, _⟩ => ⟨S2x4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S2x4096x2048 : Shape := ⟨3, ![2, 4096, 2048]⟩
abbrev S128x8x2048 : Shape := ⟨3, ![128, 8, 2048]⟩
abbrev S2x2048 : Shape := ⟨2, ![2, 2048]⟩
abbrev S128x2048 : Shape := ⟨2, ![128, 2048]⟩
abbrev S1x2048x12288 : Shape := ⟨3, ![1, 2048, 12288]⟩
abbrev S1x12288 : Shape := ⟨2, ![1, 12288]⟩
abbrev S1x2048 : Shape := ⟨2, ![1, 2048]⟩
abbrev S1x2048x4104 : Shape := ⟨3, ![1, 2048, 4104]⟩
abbrev S1x8 : Shape := ⟨2, ![1, 8]⟩
abbrev S2048x4104 : Shape := ⟨2, ![2048, 4104]⟩
abbrev S2048x3072 : Shape := ⟨2, ![2048, 3072]⟩
abbrev S2048x1024 : Shape := ⟨2, ![2048, 1024]⟩
abbrev S2048x8 : Shape := ⟨2, ![2048, 8]⟩
abbrev S_ : Shape := ⟨0, ![]⟩
abbrev S2048x120 : Shape := ⟨2, ![2048, 120]⟩
abbrev S2048x4224 : Shape := ⟨2, ![2048, 4224]⟩
abbrev S8 : Shape := ⟨1, ![8]⟩
abbrev S120 : Shape := ⟨1, ![120]⟩
abbrev S128 : Shape := ⟨1, ![128]⟩
abbrev S1x128 : Shape := ⟨2, ![1, 128]⟩
abbrev S2048 : Shape := ⟨1, ![2048]⟩
abbrev S6x2048 : Shape := ⟨2, ![6, 2048]⟩
abbrev S136x2048 : Shape := ⟨2, ![136, 2048]⟩
abbrev S2048x12288 : Shape := ⟨2, ![2048, 12288]⟩
abbrev S12288 : Shape := ⟨1, ![12288]⟩
abbrev S136x12288 : Shape := ⟨2, ![136, 12288]⟩
abbrev S1x1024 : Shape := ⟨2, ![1, 1024]⟩
abbrev S136x1024 : Shape := ⟨2, ![136, 1024]⟩
abbrev S2x1x2048 : Shape := ⟨3, ![2, 1, 2048]⟩
abbrev S128x1x2048 : Shape := ⟨3, ![128, 1, 2048]⟩
abbrev S1024x8x2048 : Shape := ⟨3, ![1024, 8, 2048]⟩
abbrev S8192x1024 : Shape := ⟨2, ![8192, 1024]⟩
abbrev S8192x128 : Shape := ⟨2, ![8192, 128]⟩
abbrev S32x8x2048 : Shape := ⟨3, ![32, 8, 2048]⟩
abbrev S1x1x2048 : Shape := ⟨3, ![1, 1, 2048]⟩
abbrev S256x1024 : Shape := ⟨2, ![256, 1024]⟩
abbrev S256x128 : Shape := ⟨2, ![256, 128]⟩
abbrev S32x8 : Shape := ⟨2, ![32, 8]⟩
abbrev S32x8x1 : Shape := ⟨3, ![32, 8, 1]⟩
abbrev S256x2048 : Shape := ⟨2, ![256, 2048]⟩
abbrev S256x4224 : Shape := ⟨2, ![256, 4224]⟩
abbrev S1024x1024 : Shape := ⟨2, ![1024, 1024]⟩
abbrev S1024x128 : Shape := ⟨2, ![1024, 128]⟩
abbrev S32x1x2048 : Shape := ⟨3, ![32, 1, 2048]⟩
abbrev S1x2x4096x8x128 : Shape := ⟨5, ![1, 2, 4096, 8, 128]⟩
abbrev S8192x8 : Shape := ⟨2, ![8192, 8]⟩
abbrev S1x2x4096x8 : Shape := ⟨4, ![1, 2, 4096, 8]⟩
abbrev S1x128x8x8x128 : Shape := ⟨5, ![1, 128, 8, 8, 128]⟩
abbrev S1024x8 : Shape := ⟨2, ![1024, 8]⟩
abbrev S1x128x8x8 : Shape := ⟨4, ![1, 128, 8, 8]⟩

abbrev nBuf : Space → Nat
  | .hbm => 74
  | .vmem => 45
  | .smem => 0
  | _ => 0

abbrev bufTy : (tb : Table) → Fin (tcTables nBuf tb) → BufTy
  | .hbm, ⟨0, _⟩ => ⟨S2x4096x2048, .f32⟩
  | .hbm, ⟨1, _⟩ => ⟨S128x8x2048, .f32⟩
  | .hbm, ⟨2, _⟩ => ⟨S2x2048, .f32⟩
  | .hbm, ⟨3, _⟩ => ⟨S128x2048, .f32⟩
  | .hbm, ⟨4, _⟩ => ⟨S1x2048x12288, .f32⟩
  | .hbm, ⟨5, _⟩ => ⟨S1x12288, .f32⟩
  | .hbm, ⟨6, _⟩ => ⟨S1x2048, .f32⟩
  | .hbm, ⟨7, _⟩ => ⟨S1x2048x4104, .f32⟩
  | .hbm, ⟨8, _⟩ => ⟨S1x8, .f32⟩
  | .hbm, ⟨9, _⟩ => ⟨S2048x4104, .f32⟩
  | .hbm, ⟨10, _⟩ => ⟨S2048x3072, .f32⟩
  | .hbm, ⟨11, _⟩ => ⟨S2048x1024, .f32⟩
  | .hbm, ⟨12, _⟩ => ⟨S2048x8, .f32⟩
  | .hbm, ⟨13, _⟩ => ⟨S_, .f32⟩
  | .hbm, ⟨14, _⟩ => ⟨S2048x120, .f32⟩
  | .hbm, ⟨15, _⟩ => ⟨S2048x4224, .f32⟩
  | .hbm, ⟨16, _⟩ => ⟨S2048x4224, .bf16⟩
  | .hbm, ⟨17, _⟩ => ⟨S8, .f32⟩
  | .hbm, ⟨18, _⟩ => ⟨S_, .f32⟩
  | .hbm, ⟨19, _⟩ => ⟨S120, .f32⟩
  | .hbm, ⟨20, _⟩ => ⟨S128, .f32⟩
  | .hbm, ⟨21, _⟩ => ⟨S1x128, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S6x2048, .f32⟩
  | .hbm, ⟨26, _⟩ => ⟨S136x2048, .f32⟩
  | .hbm, ⟨27, _⟩ => ⟨S2048x12288, .f32⟩
  | .hbm, ⟨28, _⟩ => ⟨S12288, .f32⟩
  | .hbm, ⟨29, _⟩ => ⟨S1x12288, .f32⟩
  | .hbm, ⟨30, _⟩ => ⟨S136x12288, .f32⟩
  | .hbm, ⟨31, _⟩ => ⟨S2x2048, .f32⟩
  | .hbm, ⟨32, _⟩ => ⟨S2x1x2048, .f32⟩
  | .hbm, ⟨33, _⟩ => ⟨S2x2048, .f32⟩
  | .hbm, ⟨34, _⟩ => ⟨S2x1x2048, .f32⟩
  | .hbm, ⟨35, _⟩ => ⟨S2x2048, .f32⟩
  | .hbm, ⟨36, _⟩ => ⟨S2x1x2048, .f32⟩
  | .hbm, ⟨37, _⟩ => ⟨S2x2048, .f32⟩
  | .hbm, ⟨38, _⟩ => ⟨S2x1x2048, .f32⟩
  | .hbm, ⟨39, _⟩ => ⟨S2x2048, .f32⟩
  | .hbm, ⟨40, _⟩ => ⟨S2x1x2048, .f32⟩
  | .hbm, ⟨41, _⟩ => ⟨S2x2048, .f32⟩
  | .hbm, ⟨42, _⟩ => ⟨S2x1x2048, .f32⟩
  | .hbm, ⟨43, _⟩ => ⟨S128x2048, .f32⟩
  | .hbm, ⟨44, _⟩ => ⟨S128x1x2048, .f32⟩
  | .hbm, ⟨45, _⟩ => ⟨S128x2048, .f32⟩
  | .hbm, ⟨46, _⟩ => ⟨S128x1x2048, .f32⟩
  | .hbm, ⟨47, _⟩ => ⟨S128x2048, .f32⟩
  | .hbm, ⟨48, _⟩ => ⟨S128x1x2048, .f32⟩
  | .hbm, ⟨49, _⟩ => ⟨S128x2048, .f32⟩
  | .hbm, ⟨50, _⟩ => ⟨S128x1x2048, .f32⟩
  | .hbm, ⟨51, _⟩ => ⟨S128x2048, .f32⟩
  | .hbm, ⟨52, _⟩ => ⟨S128x1x2048, .f32⟩
  | .hbm, ⟨53, _⟩ => ⟨S128x2048, .f32⟩
  | .hbm, ⟨54, _⟩ => ⟨S128x1x2048, .f32⟩
  | .hbm, ⟨55, _⟩ => ⟨S1024x8x2048, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x128, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x128, .f32⟩
  | .hbm, ⟨66, _⟩ => ⟨S1x2x4096x8x128, .f32⟩
  | .hbm, ⟨67, _⟩ => ⟨S1x2x4096x8x128, .f32⟩
  | .hbm, ⟨68, _⟩ => ⟨S8192x8, .f32⟩
  | .hbm, ⟨69, _⟩ => ⟨S1x2x4096x8, .f32⟩
  | .hbm, ⟨70, _⟩ => ⟨S1x128x8x8x128, .f32⟩
  | .hbm, ⟨71, _⟩ => ⟨S1x128x8x8x128, .f32⟩
  | .hbm, ⟨72, _⟩ => ⟨S1024x8, .f32⟩
  | .hbm, ⟨73, _⟩ => ⟨S1x128x8x8, .f32⟩
  | .local _ .vmem, ⟨0, _⟩ => ⟨S136x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S32x8x2048, .f32⟩
  | .local _ .vmem, ⟨8, _⟩ => ⟨S32x8x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S2048x4224, .bf16⟩
  | .local _ .vmem, ⟨15, _⟩ => ⟨S1x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x128, .f32⟩
  | .local _ .vmem, ⟨25, _⟩ => ⟨S256x128, .f32⟩
  | .local _ .vmem, ⟨26, _⟩ => ⟨S32x8x2048, .f32⟩
  | .local _ .vmem, ⟨27, _⟩ => ⟨S32x8x2048, .f32⟩
  | .local _ .vmem, ⟨28, _⟩ => ⟨S32x1x2048, .f32⟩
  | .local _ .vmem, ⟨29, _⟩ => ⟨S32x1x2048, .f32⟩
  | .local _ .vmem, ⟨30, _⟩ => ⟨S32x1x2048, .f32⟩
  | .local _ .vmem, ⟨31, _⟩ => ⟨S32x1x2048, .f32⟩
  | .local _ .vmem, ⟨32, _⟩ => ⟨S1x2048, .f32⟩
  | .local _ .vmem, ⟨33, _⟩ => ⟨S2048x4224, .bf16⟩
  | .local _ .vmem, ⟨34, _⟩ => ⟨S1x128, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x128, .f32⟩
  | .local _ .vmem, ⟨44, _⟩ => ⟨S256x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev main_v44_3 : Ref sig .tc := ⟨.hbm, 59, rfl⟩
abbrev main_v44_4 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev main_v45_3 : Ref sig .tc := ⟨.hbm, 64, rfl⟩
abbrev main_v45_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_stg10_0 : Ref sig .tc := ⟨.vmem, 43, rfl⟩
abbrev cc2_stg10_1 : Ref sig .tc := ⟨.vmem, 44, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem6_1 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc2_sem9_1 : DmaSem sig := 42
abbrev cc2_sem10_0 : DmaSem sig := 43
abbrev cc2_sem10_1 : DmaSem sig := 44

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x4224 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x8x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x4224 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S256x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== Reference2Ideal.lean ====
abbrev S2x4096x2048 : Shape := ⟨3, ![2, 4096, 2048]⟩
abbrev S128x8x2048 : Shape := ⟨3, ![128, 8, 2048]⟩
abbrev S2x2048 : Shape := ⟨2, ![2, 2048]⟩
abbrev S128x2048 : Shape := ⟨2, ![128, 2048]⟩
abbrev S1x2048x12288 : Shape := ⟨3, ![1, 2048, 12288]⟩
abbrev S1x12288 : Shape := ⟨2, ![1, 12288]⟩
abbrev S1x2048 : Shape := ⟨2, ![1, 2048]⟩
abbrev S1x2048x4104 : Shape := ⟨3, ![1, 2048, 4104]⟩
abbrev S1x8 : Shape := ⟨2, ![1, 8]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2048x4104 : Shape := ⟨2, ![2048, 4104]⟩
abbrev S2x4096x4104 : Shape := ⟨3, ![2, 4096, 4104]⟩
abbrev S2x4096x1024 : Shape := ⟨3, ![2, 4096, 1024]⟩
abbrev S2x4096x8 : Shape := ⟨3, ![2, 4096, 8]⟩
abbrev S8 : Shape := ⟨1, ![8]⟩
abbrev S1x1x8 : Shape := ⟨3, ![1, 1, 8]⟩
abbrev S8192x1024 : Shape := ⟨2, ![8192, 1024]⟩
abbrev S1x2x4096x8x128 : Shape := ⟨5, ![1, 2, 4096, 8, 128]⟩
abbrev S1x2x4096x8 : Shape := ⟨4, ![1, 2, 4096, 8]⟩
abbrev S128x12288 : Shape := ⟨2, ![128, 12288]⟩
abbrev S128x8 : Shape := ⟨2, ![128, 8]⟩
abbrev S128x8x1 : Shape := ⟨3, ![128, 8, 1]⟩
abbrev S128x1x2048 : Shape := ⟨3, ![128, 1, 2048]⟩
abbrev S128x8x4104 : Shape := ⟨3, ![128, 8, 4104]⟩
abbrev S128x8x1024 : Shape := ⟨3, ![128, 8, 1024]⟩
abbrev S128x8x8 : Shape := ⟨3, ![128, 8, 8]⟩
abbrev S1024x1024 : Shape := ⟨2, ![1024, 1024]⟩
abbrev S1x128x8x8x128 : Shape := ⟨5, ![1, 128, 8, 8, 128]⟩
abbrev S1x128x8x8 : Shape := ⟨4, ![1, 128, 8, 8]⟩

abbrev nBuf : Space → Nat
  | .hbm => 167
  | .vmem => 0
  | .smem => 0
  | _ => 0

abbrev hbmTy0_0 (i : Nat) : BufTy := match i % 128 with
  | 0 => ⟨S2x4096x2048, .f32⟩
  | 1 => ⟨S128x8x2048, .f32⟩
  | 2 => ⟨S2x2048, .f32⟩
  | 3 => ⟨S128x2048, .f32⟩
  | 4 => ⟨S1x2048x12288, .f32⟩
  | 5 => ⟨S1x12288, .f32⟩
  | 6 => ⟨S1x2048, .f32⟩
  | 7 => ⟨S1x2048x4104, .f32⟩
  | 8 => ⟨S1x8, .f32⟩
  | 9 => ⟨S2x2048, .f32⟩
  | 10 => ⟨S2x2048, .f32⟩
  | 11 => ⟨S_, .f32⟩
  | 12 => ⟨S2x2048, .f32⟩
  | 13 => ⟨S2x2048, .f32⟩
  | 14 => ⟨S_, .f32⟩
  | 15 => ⟨S2x2048, .f32⟩
  | 16 => ⟨S2x2048, .f32⟩
  | 17 => ⟨S2x2048, .f32⟩
  | 18 => ⟨S2048x12288, .f32⟩
  | 19 => ⟨S2x12288, .f32⟩
  | 20 => ⟨S12288, .f32⟩
  | 21 => ⟨S1x12288, .f32⟩
  | 22 => ⟨S2x12288, .f32⟩
  | 23 => ⟨S2x12288, .f32⟩
  | 24 => ⟨S2x2048, .f32⟩
  | 25 => ⟨S2x2048, .f32⟩
  | 26 => ⟨S2x2048, .f32⟩
  | 27 => ⟨S2x2048, .f32⟩
  | 28 => ⟨S2x2048, .f32⟩
  | 29 => ⟨S2x2048, .f32⟩
  | 30 => ⟨S2048, .f32⟩
  | 31 => ⟨S2x4096x2048, .f32⟩
  | 32 => ⟨S_, .f32⟩
  | 33 => ⟨S2x4096, .f32⟩
  | 34 => ⟨S2x4096x1, .f32⟩
  | 35 => ⟨S_, .f32⟩
  | 36 => ⟨S2x4096x1, .f32⟩
  | 37 => ⟨S2x4096x1, .f32⟩
  | 38 => ⟨S_, .f32⟩
  | 39 => ⟨S2x4096x1, .f32⟩
  | 40 => ⟨S2x4096x1, .f32⟩
  | 41 => ⟨S2x4096x1, .f32⟩
  | 42 => ⟨S2x4096x2048, .f32⟩
  | 43 => ⟨S2x4096x2048, .f32⟩
  | 44 => ⟨S1x1x2048, .f32⟩
  | 45 => ⟨S2x4096x2048, .f32⟩
  | 46 => ⟨S2x4096x2048, .f32⟩
  | 47 => ⟨S2x1x2048, .f32⟩
  | 48 => ⟨S_, .f32⟩
  | 49 => ⟨S2x1x2048, .f32⟩
  | 50 => ⟨S2x1x2048, .f32⟩
  | 51 => ⟨S2x4096x2048, .f32⟩
  | 52 => ⟨S2x4096x2048, .f32⟩
  | 53 => ⟨S2x1x2048, .f32⟩
  | 54 => ⟨S2x4096x2048, .f32⟩
  | 55 => ⟨S2x4096x2048, .f32⟩
  | 56 => ⟨S2048x4104, .f32⟩
  | 57 => ⟨S2x4096x4104, .f32⟩
  | 58 => ⟨S2x4096x1024, .f32⟩
  | 59 => ⟨S2x4096x1024, .f32⟩
  | 60 => ⟨S2x4096x1024, .f32⟩
  | 61 => ⟨S2x4096x8, .f32⟩
  | 62 => ⟨S2x4096x1024, .f32⟩
  | 63 => ⟨S8, .f32⟩
  | 64 => ⟨S1x1x8, .f32⟩
  | 65 => ⟨S2x4096x8, .f32⟩
  | 66 => ⟨S2x4096x8, .f32⟩
  | 67 => ⟨S2x4096x8, .f32⟩
  | 68 => ⟨S_, .f32⟩
  | 69 => ⟨S2x4096x8, .f32⟩
  | 70 => ⟨S2x4096x8, .f32⟩
  | 71 => ⟨S2x4096x8, .f32⟩
  | 72 => ⟨S2x4096x8, .f32⟩
  | 73 => ⟨S2x4096x8, .i1⟩
  | 74 => ⟨S2x4096x8, .f32⟩
  | 75 => ⟨S2x4096x8, .f32⟩
  | 76 => ⟨S2x4096x8, .f32⟩
  | 77 => ⟨S2x4096x8, .f32⟩
  | 78 => ⟨S2x4096x8, .f32⟩
  | 79 => ⟨S2x4096x8, .f32⟩
  | 80 => ⟨S2x4096x8, .f32⟩
  | 81 => ⟨S2x4096x8, .f32⟩
  | 82 => ⟨S2x4096x8, .f32⟩
  | 83 => ⟨S8192x1024, .f32⟩
  | 84 => ⟨S1x2x4096x8x128, .f32⟩
  | 85 => ⟨S1x2x4096x8x128, .f32⟩
  | 86 => ⟨S1x2x4096x8, .f32⟩
  | 87 => ⟨S8192x1024, .f32⟩
  | 88 => ⟨S128x2048, .f32⟩
  | 89 => ⟨S128x2048, .f32⟩
  | 90 => ⟨S_, .f32⟩
  | 91 => ⟨S128x2048, .f32⟩
  | 92 => ⟨S128x2048, .f32⟩
  | 93 => ⟨S_, .f32⟩
  | 94 => ⟨S128x2048, .f32⟩
  | 95 => ⟨S128x2048, .f32⟩
  | 96 => ⟨S128x2048, .f32⟩
  | 97 => ⟨S2048x12288, .f32⟩
  | 98 => ⟨S128x12288, .f32⟩
  | 99 => ⟨S12288, .f32⟩
  | 100 => ⟨S1x12288, .f32⟩
  | 101 => ⟨S128x12288, .f32⟩
  | 102 => ⟨S128x12288, .f32⟩
  | 103 => ⟨S128x2048, .f32⟩
  | 104 => ⟨S128x2048, .f32⟩
  | 105 => ⟨S128x2048, .f32⟩
  | 106 => ⟨S128x2048, .f32⟩
  | 107 => ⟨S128x2048, .f32⟩
  | 108 => ⟨S128x2048, .f32⟩
  | 109 => ⟨S2048, .f32⟩
  | 110 => ⟨S128x8x2048, .f32⟩
  | 111 => ⟨S_, .f32⟩
  | 112 => ⟨S128x8, .f32⟩
  | 113 => ⟨S128x8x1, .f32⟩
  | 114 => ⟨S_, .f32⟩
  | 115 => ⟨S128x8x1, .f32⟩
  | 116 => ⟨S128x8x1, .f32⟩
  | 117 => ⟨S_, .f32⟩
  | 118 => ⟨S128x8x1, .f32⟩
  | 119 => ⟨S128x8x1, .f32⟩
  | 120 => ⟨S128x8x1, .f32⟩
  | 121 => ⟨S128x8x2048, .f32⟩
  | 122 => ⟨S128x8x2048, .f32⟩
  | 123 => ⟨S1x1x2048, .f32⟩
  | 124 => ⟨S128x8x2048, .f32⟩
  | 125 => ⟨S128x8x2048, .f32⟩
  | 126 => ⟨S128x1x2048, .f32⟩
  | 127 => ⟨S_, .f32⟩
  | _ => ⟨S2x4096x2048, .f32⟩

abbrev hbmTy0_1 (i : Nat) : BufTy := match i % 128 with
  | 0 => ⟨S128x1x2048, .f32⟩
  | 1 => ⟨S128x1x2048, .f32⟩
  | 2 => ⟨S128x8x2048, .f32⟩
  | 3 => ⟨S128x8x2048, .f32⟩
  | 4 => ⟨S128x1x2048, .f32⟩
  | 5 => ⟨S128x8x2048, .f32⟩
  | 6 => ⟨S128x8x2048, .f32⟩
  | 7 => ⟨S2048x4104, .f32⟩
  | 8 => ⟨S128x8x4104, .f32⟩
  | 9 => ⟨S128x8x1024, .f32⟩
  | 10 => ⟨S128x8x1024, .f32⟩
  | 11 => ⟨S128x8x1024, .f32⟩
  | 12 => ⟨S128x8x8, .f32⟩
  | 13 => ⟨S128x8x1024, .f32⟩
  | 14 => ⟨S8, .f32⟩
  | 15 => ⟨S1x1x8, .f32⟩
  | 16 => ⟨S128x8x8, .f32⟩
  | 17 => ⟨S128x8x8, .f32⟩
  | 18 => ⟨S128x8x8, .f32⟩
  | 19 => ⟨S_, .f32⟩
  | 20 => ⟨S128x8x8, .f32⟩
  | 21 => ⟨S128x8x8, .f32⟩
  | 22 => ⟨S128x8x8, .f32⟩
  | 23 => ⟨S128x8x8, .f32⟩
  | 24 => ⟨S128x8x8, .i1⟩
  | 25 => ⟨S128x8x8, .f32⟩
  | 26 => ⟨S128x8x8, .f32⟩
  | 27 => ⟨S128x8x8, .f32⟩
  | 28 => ⟨S128x8x8, .f32⟩
  | 29 => ⟨S128x8x8, .f32⟩
  | 30 => ⟨S128x8x8, .f32⟩
  | 31 => ⟨S128x8x8, .f32⟩
  | 32 => ⟨S128x8x8, .f32⟩
  | 33 => ⟨S128x8x8, .f32⟩
  | 34 => ⟨S1024x1024, .f32⟩
  | 35 => ⟨S1x128x8x8x128, .f32⟩
  | 36 => ⟨S1x128x8x8x128, .f32⟩
  | 37 => ⟨S1x128x8x8, .f32⟩
  | 38 => ⟨S1024x1024, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_3 : Ref sig .tc := ⟨.hbm, 111, rfl⟩
abbrev main_v67 : Ref sig .tc := ⟨.hbm, 112, rfl⟩
abbrev main_v68 : Ref sig .tc := ⟨.hbm, 113, rfl⟩
abbrev main_cst_4 : Ref sig .tc := ⟨.hbm, 114, rfl⟩
abbrev main_v69 : Ref sig .tc := ⟨.hbm, 115, rfl⟩
abbrev main_v70 : Ref sig .tc := ⟨.hbm, 116, rfl⟩
abbrev main_cst_5 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_6 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call3_v0 : Ref sig .tc := ⟨.hbm, 146, rfl⟩
abbrev main_call3_call0_cst : Ref sig .tc := ⟨.hbm, 147, rfl⟩
abbrev main_call3_call0_v0 : Ref sig .tc := ⟨.hbm, 148, rfl⟩
abbrev main_call3_call0_v1 : Ref sig .tc := ⟨.hbm, 149, rfl⟩
abbrev main_call3_call0_v2 : Ref sig .tc := ⟨.hbm, 150, rfl⟩
abbrev main_call3_call0_v3 : Ref sig .tc := ⟨.hbm, 151, rfl⟩
abbrev main_call3_call0_v4 : Ref sig .tc := ⟨.hbm, 152, rfl⟩
abbrev main_call3_call0_v5 : Ref sig .tc := ⟨.hbm, 153, rfl⟩
abbrev main_call3_call0_v6 : Ref sig .tc := ⟨.hbm, 154, rfl⟩
abbrev main_call3_call0_v7 : Ref sig .tc := ⟨.hbm, 155, rfl⟩
abbrev main_call3_call0_v8 : Ref sig .tc := ⟨.hbm, 156, rfl⟩
abbrev main_call3_call0_v9 : Ref sig .tc := ⟨.hbm, 157, rfl⟩
abbrev main_call3_call0_v10 : Ref sig .tc := ⟨.hbm, 158, rfl⟩
abbrev main_call3_call0_v11 : Ref sig .tc := ⟨.hbm, 159, rfl⟩
abbrev main_call3_v1 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S1x1024 : Shape := ⟨2, ![1, 1024]⟩
abbrev S1x2048x2048 : Shape := ⟨3, ![1, 2048, 2048]⟩
abbrev S2x4096x2048 : Shape := ⟨3, ![2, 4096, 2048]⟩
abbrev S128x8x2048 : Shape := ⟨3, ![128, 8, 2048]⟩
abbrev S2x2048 : Shape := ⟨2, ![2, 2048]⟩
abbrev S128x2048 : Shape := ⟨2, ![128, 2048]⟩
abbrev S2048x2048 : Shape := ⟨2, ![2048, 2048]⟩
abbrev S1024 : Shape := ⟨1, ![1024]⟩
abbrev S1024x8x2048 : Shape := ⟨3, ![1024, 8, 2048]⟩
abbrev S1024x2048 : Shape := ⟨2, ![1024, 2048]⟩
abbrev S2x1x2048 : Shape := ⟨3, ![2, 1, 2048]⟩
abbrev S256x1024 : Shape := ⟨2, ![256, 1024]⟩
abbrev S32x8x2048 : Shape := ⟨3, ![32, 8, 2048]⟩
abbrev S1x1x2048 : Shape := ⟨3, ![1, 1, 2048]⟩
abbrev S256 : Shape := ⟨1, ![256]⟩
abbrev S256x1 : Shape := ⟨2, ![256, 1]⟩
abbrev S256x2048 : Shape := ⟨2, ![256, 2048]⟩
abbrev S128x1x2048 : Shape := ⟨3, ![128, 1, 2048]⟩
abbrev S32x1x2048 : Shape := ⟨3, ![32, 1, 2048]⟩

abbrev nBuf : Space → Nat
  | .hbm => 27
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S2x4096x2048, .f32⟩
  | .hbm, ⟨8, _⟩ => ⟨S128x8x2048, .f32⟩
  | .hbm, ⟨9, _⟩ => ⟨S2x2048, .f32⟩
  | .hbm, ⟨10, _⟩ => ⟨S128x2048, .f32⟩
  | .hbm, ⟨11, _⟩ => ⟨S2048x2048, .f32⟩
  | .hbm, ⟨12, _⟩ => ⟨S2048x2048, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x8x2048, .f32⟩
  | .hbm, ⟨18, _⟩ => ⟨S1024x2048, .bf16⟩
  | .hbm, ⟨19, _⟩ => ⟨S1024x2048, .bf16⟩
  | .hbm, ⟨20, _⟩ => ⟨S2x1x2048, .f32⟩
  | .hbm, ⟨21, _⟩ => ⟨S1024x8x2048, .f32⟩
  | .hbm, ⟨22, _⟩ => ⟨S1024x2048, .bf16⟩
  | .hbm, ⟨23, _⟩ => ⟨S1024x2048, .bf16⟩
  | .hbm, ⟨24, _⟩ => ⟨S128x1x2048, .f32⟩
  | .hbm, ⟨25, _⟩ => ⟨S128x8x2048, .f32⟩
  | .hbm, ⟨26, _⟩ => ⟨S2x4096x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S32x8x2048, .f32⟩
  | .local _ .vmem, ⟨9, _⟩ => ⟨S32x8x2048, .f32⟩
  | .local _ .vmem, ⟨10, _⟩ => ⟨S1x1x2048, .f32⟩
  | .local _ .vmem, ⟨11, _⟩ => ⟨S1x1x2048, .f32⟩
  | .local _ .vmem, ⟨12, _⟩ => ⟨S32x8x2048, .f32⟩
  | .local _ .vmem, ⟨13, _⟩ => ⟨S32x8x2048, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1024x2048, .bf16⟩
  | .local _ .vmem, ⟨21, _⟩ => ⟨S1024x2048, .bf16⟩
  | .local _ .vmem, ⟨22, _⟩ => ⟨S32x8x2048, .f32⟩
  | .local _ .vmem, ⟨23, _⟩ => ⟨S32x8x2048, .f32⟩
  | .local _ .vmem, ⟨24, _⟩ => ⟨S32x1x2048, .f32⟩
  | .local _ .vmem, ⟨25, _⟩ => ⟨S32x1x2048, .f32⟩
  | .local _ .vmem, ⟨26, _⟩ => ⟨S32x8x2048, .f32⟩
  | .local _ .vmem, ⟨27, _⟩ => ⟨S32x8x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x8x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x1x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S32x8x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference3Ideal.lean ====
abbrev S8192x1024 : Shape := ⟨2, ![8192, 1024]⟩
abbrev S1024x1024 : Shape := ⟨2, ![1024, 1024]⟩
abbrev S1x1024 : Shape := ⟨2, ![1, 1024]⟩
abbrev S1x2048x2048 : Shape := ⟨3, ![1, 2048, 2048]⟩
abbrev S2x4096x2048 : Shape := ⟨3, ![2, 4096, 2048]⟩
abbrev S128x8x2048 : Shape := ⟨3, ![128, 8, 2048]⟩
abbrev S2x2048 : Shape := ⟨2, ![2, 2048]⟩
abbrev S128x2048 : Shape := ⟨2, ![128, 2048]⟩
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2048x2048 : Shape := ⟨2, ![2048, 2048]⟩
abbrev S2x1x2048 : Shape := ⟨3, ![2, 1, 2048]⟩
abbrev S128x8x1024 : Shape := ⟨3, ![128, 8, 1024]⟩
abbrev S128x8 : Shape := ⟨2, ![128, 8]⟩
abbrev S128x8x1 : Shape := ⟨3, ![128, 8, 1]⟩
abbrev S128x1x2048 : Shape := ⟨3, ![128, 1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S2x4096x2048, .f32⟩
  | .hbm, ⟨8, _⟩ => ⟨S128x8x2048, .f32⟩
  | .hbm, ⟨9, _⟩ => ⟨S2x2048, .f32⟩
  | .hbm, ⟨10, _⟩ => ⟨S128x2048, .f32⟩
  | .hbm, ⟨11, _⟩ => ⟨S2x4096x1024, .f32⟩
  | .hbm, ⟨12, _⟩ => ⟨S2x4096x1024, .f32⟩
  | .hbm, ⟨13, _⟩ => ⟨S1024, .f32⟩
  | .hbm, ⟨14, _⟩ => ⟨S2x4096x1024, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S1024, .f32⟩
  | .hbm, ⟨31, _⟩ => ⟨S2x4096x1024, .f32⟩
  | .hbm, ⟨32, _⟩ => ⟨S_, .f32⟩
  | .hbm, ⟨33, _⟩ => ⟨S2x4096, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S2x4096x1, .f32⟩
  | .hbm, ⟨42, _⟩ => ⟨S2x4096x1024, .f32⟩
  | .hbm, ⟨43, _⟩ => ⟨S2x4096x1024, .f32⟩
  | .hbm, ⟨44, _⟩ => ⟨S1x1x1024, .f32⟩
  | .hbm, ⟨45, _⟩ => ⟨S2x4096x1024, .f32⟩
  | .hbm, ⟨46, _⟩ => ⟨S2x4096x1024, .f32⟩
  | .hbm, ⟨47, _⟩ => ⟨S2x4096x2048, .f32⟩
  | .hbm, ⟨48, _⟩ => ⟨S2048x2048, .f32⟩
  | .hbm, ⟨49, _⟩ => ⟨S2x4096x2048, .f32⟩
  | .hbm, ⟨50, _⟩ => ⟨S2x1x2048, .f32⟩
  | .hbm, ⟨51, _⟩ => ⟨S2x4096x2048, .f32⟩
  | .hbm, ⟨52, _⟩ => ⟨S2x4096x2048, .f32⟩
  | .hbm, ⟨53, _⟩ => ⟨S2x4096x2048, .f32⟩
  | .hbm, ⟨54, _⟩ => ⟨S128x8x1024, .f32⟩
  | .hbm, ⟨55, _⟩ => ⟨S128x8x1024, .f32⟩
  | .hbm, ⟨56, _⟩ => ⟨S1024, .f32⟩
  | .hbm, ⟨57, _⟩ => ⟨S128x8x1024, .f32⟩
  | .hbm, ⟨58, _⟩ => ⟨S_, .f32⟩
  | .hbm, ⟨59, _⟩ => ⟨S128x8, .f32⟩
  | .hbm, ⟨60, _⟩ => ⟨S128x8x1, .f32⟩
  | .hbm, ⟨61, _⟩ => ⟨S_, .f32⟩
  | .hbm, ⟨62, _⟩ => ⟨S128x8x1, .f32⟩
  | .hbm, ⟨63, _⟩ => ⟨S128x8x1, .f32⟩
  | .hbm, ⟨64, _⟩ => ⟨S_, .f32⟩
  | .hbm, ⟨65, _⟩ => ⟨S128x8x1, .f32⟩
  | .hbm, ⟨66, _⟩ => ⟨S128x8x1, .f32⟩
  | .hbm, ⟨67, _⟩ => ⟨S128x8x1, .f32⟩
  | .hbm, ⟨68, _⟩ => ⟨S128x8x1024, .f32⟩
  | .hbm, ⟨69, _⟩ => ⟨S128x8x1024, .f32⟩
  | .hbm, ⟨70, _⟩ => ⟨S1x1x1024, .f32⟩
  | .hbm, ⟨71, _⟩ => ⟨S128x8x1024, .f32⟩
  | .hbm, ⟨72, _⟩ => ⟨S128x8x1024, .f32⟩
  | .hbm, ⟨73, _⟩ => ⟨S1024, .f32⟩
  | .hbm, ⟨74, _⟩ => ⟨S128x8x1024, .f32⟩
  | .hbm, ⟨75, _⟩ => ⟨S_, .f32⟩
  | .hbm, ⟨76, _⟩ => ⟨S128x8, .f32⟩
  | .hbm, ⟨77, _⟩ => ⟨S128x8x1, .f32⟩
  | .hbm, ⟨78, _⟩ => ⟨S_, .f32⟩
  | .hbm, ⟨79, _⟩ => ⟨S128x8x1, .f32⟩
  | .hbm, ⟨80, _⟩ => ⟨S128x8x1, .f32⟩
  | .hbm, ⟨81, _⟩ => ⟨S_, .f32⟩
  | .hbm, ⟨82, _⟩ => ⟨S128x8x1, .f32⟩
  | .hbm, ⟨83, _⟩ => ⟨S128x8x1, .f32⟩
  | .hbm, ⟨84, _⟩ => ⟨S128x8x1, .f32⟩
  | .hbm, ⟨85, _⟩ => ⟨S128x8x1024, .f32⟩
  | .hbm, ⟨86, _⟩ => ⟨S128x8x1024, .f32⟩
  | .hbm, ⟨87, _⟩ => ⟨S1x1x1024, .f32⟩
  | .hbm, ⟨88, _⟩ => ⟨S128x8x1024, .f32⟩
  | .hbm, ⟨89, _⟩ => ⟨S128x8x1024, .f32⟩
  | .hbm, ⟨90, _⟩ => ⟨S128x8x2048, .f32⟩
  | .hbm, ⟨91, _⟩ => ⟨S2048x2048, .f32⟩
  | .hbm, ⟨92, _⟩ => ⟨S128x8x2048, .f32⟩
  | .hbm, ⟨93, _⟩ => ⟨S128x1x2048, .f32⟩
  | .hbm, ⟨94, _⟩ => ⟨S128x8x2048, .f32⟩
  | .hbm, ⟨95, _⟩ => ⟨S128x8x2048, .f32⟩
  | .hbm, ⟨96, _⟩ => ⟨S128x8x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel4.lean ====
abbrev S8192x2048 : Shape := ⟨2, ![8192, 2048]⟩
abbrev S16x65536x128 : Shape := ⟨3, ![16, 65536, 128]⟩
abbrev S2x4096x2048 : Shape := ⟨3, ![2, 4096, 2048]⟩
abbrev S2x2048 : Shape := ⟨2, ![2, 2048]⟩
abbrev S1x16384x2048 : Shape := ⟨3, ![1, 16384, 2048]⟩
abbrev S2048 : Shape := ⟨1, ![2048]⟩
abbrev S1024x8x2048 : Shape := ⟨3, ![1024, 8, 2048]⟩
abbrev S16384x2048 : Shape := ⟨2, ![16384, 2048]⟩
abbrev S2x1x2048 : Shape := ⟨3, ![2, 1, 2048]⟩
abbrev S1x2048 : Shape := ⟨2, ![1, 2048]⟩
abbrev S512x2048 : Shape := ⟨2, ![512, 2048]⟩
abbrev S1024x2048 : Shape := ⟨2, ![1024, 2048]⟩
abbrev S1x4096x128 : Shape := ⟨3, ![1, 4096, 128]⟩
abbrev S64x8x2048 : Shape := ⟨3, ![64, 8, 2048]⟩
abbrev S1x1x2048 : Shape := ⟨3, ![1, 1, 2048]⟩
abbrev S512x1024 : Shape := ⟨2, ![512, 1024]⟩
abbrev S4096x128 : Shape := ⟨2, ![4096, 128]⟩
abbrev S512x128 : Shape := ⟨2, ![512, 128]⟩
abbrev S64x8 : Shape := ⟨2, ![64, 8]⟩
abbrev S64x8x1 : Shape := ⟨3, ![64, 8, 1]⟩

abbrev nBuf : Space → Nat
  | .hbm => 16
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S16x65536x128, .f32⟩
  | .hbm, ⟨2, _⟩ => ⟨S2x4096x2048, .f32⟩
  | .hbm, ⟨3, _⟩ => ⟨S2x2048, .f32⟩
  | .hbm, ⟨4, _⟩ => ⟨S1x16384x2048, .f32⟩
  | .hbm, ⟨5, _⟩ => ⟨S1x16384x2048, .f32⟩
  | .hbm, ⟨6, _⟩ => ⟨S2048, .f32⟩
  | .hbm, ⟨7, _⟩ => ⟨S1024x8x2048, .f32⟩
  | .hbm, ⟨8, _⟩ => ⟨S8192x2048, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x2048, .bf16⟩
  | .hbm, ⟨13, _⟩ => ⟨S2x1x2048, .f32⟩
  | .hbm, ⟨14, _⟩ => ⟨S1x2048, .f32⟩
  | .hbm, ⟨15, _⟩ => ⟨S1024x8x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x4096x128, .f32⟩
  | .local _ .vmem, ⟨7, _⟩ => ⟨S1x4096x128, .f32⟩
  | .local _ .vmem, ⟨8, _⟩ => ⟨S64x8x2048, .f32⟩
  | .local _ .vmem, ⟨9, _⟩ => ⟨S64x8x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S64x8x2048, .f32⟩
  | .local _ .vmem, ⟨14, _⟩ => ⟨S64x8x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v169 : BitVec 1 := Scalar.cmpi .eq arg1 c15_i32
  let v170 : BitVec 32 := Scalar.extui v169
  let c0_i32_76 : BitVec 32 := 0#32
  let v171 : BitVec 1 := Scalar.cmpi .ne v170 c0_i32_76
  v171

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel4Ideal.lean ====
abbrev S8192x2048 : Shape := ⟨2, ![8192, 2048]⟩
abbrev S16x65536x128 : Shape := ⟨3, ![16, 65536, 128]⟩
abbrev S2x4096x2048 : Shape := ⟨3, ![2, 4096, 2048]⟩
abbrev S2x2048 : Shape := ⟨2, ![2, 2048]⟩
abbrev S1x16384x2048 : Shape := ⟨3, ![1, 16384, 2048]⟩
abbrev S2048 : Shape := ⟨1, ![2048]⟩
abbrev S1024x8x2048 : Shape := ⟨3, ![1024, 8, 2048]⟩
abbrev S16384x2048 : Shape := ⟨2, ![16384, 2048]⟩
abbrev S2x1x2048 : Shape := ⟨3, ![2, 1, 2048]⟩
abbrev S1x2048 : Shape := ⟨2, ![1, 2048]⟩
abbrev S512x2048 : Shape := ⟨2, ![512, 2048]⟩
abbrev S1024x2048 : Shape := ⟨2, ![1024, 2048]⟩
abbrev S1x4096x128 : Shape := ⟨3, ![1, 4096, 128]⟩
abbrev S64x8x2048 : Shape := ⟨3, ![64, 8, 2048]⟩
abbrev S1x1x2048 : Shape := ⟨3, ![1, 1, 2048]⟩
abbrev S512x1024 : Shape := ⟨2, ![512, 1024]⟩
abbrev S4096x128 : Shape := ⟨2, ![4096, 128]⟩
abbrev S512x128 : Shape := ⟨2, ![512, 128]⟩
abbrev S64x8 : Shape := ⟨2, ![64, 8]⟩
abbrev S64x8x1 : Shape := ⟨3, ![64, 8, 1]⟩

abbrev nBuf : Space → Nat
  | .hbm => 16
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S16x65536x128, .f32⟩
  | .hbm, ⟨2, _⟩ => ⟨S2x4096x2048, .f32⟩
  | .hbm, ⟨3, _⟩ => ⟨S2x2048, .f32⟩
  | .hbm, ⟨4, _⟩ => ⟨S1x16384x2048, .f32⟩
  | .hbm, ⟨5, _⟩ => ⟨S1x16384x2048, .f32⟩
  | .hbm, ⟨6, _⟩ => ⟨S2048, .f32⟩
  | .hbm, ⟨7, _⟩ => ⟨S1024x8x2048, .f32⟩
  | .hbm, ⟨8, _⟩ => ⟨S8192x2048, .bf16⟩
  | .hbm, ⟨9, _⟩ => ⟨S16384x2048, .f32⟩
  | .hbm, ⟨10, _⟩ => ⟨S16384x2048, .bf16⟩
  | .hbm, ⟨11, _⟩ => ⟨S16384x2048, .f32⟩
  | .hbm, ⟨12, _⟩ => ⟨S16384x2048, .bf16⟩
  | .hbm, ⟨13, _⟩ => ⟨S2x1x2048, .f32⟩
  | .hbm, ⟨14, _⟩ => ⟨S1x2048, .f32⟩
  | .hbm, ⟨15, _⟩ => ⟨S1024x8x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x4096x128, .f32⟩
  | .local _ .vmem, ⟨7, _⟩ => ⟨S1x4096x128, .f32⟩
  | .local _ .vmem, ⟨8, _⟩ => ⟨S64x8x2048, .f32⟩
  | .local _ .vmem, ⟨9, _⟩ => ⟨S64x8x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S64x8x2048, .f32⟩
  | .local _ .vmem, ⟨14, _⟩ => ⟨S64x8x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v169 : BitVec 1 := Scalar.cmpi .eq arg1 c15_i32
  let v170 : BitVec 32 := Scalar.extui v169
  let c0_i32_76 : BitVec 32 := 0#32
  let v171 : BitVec 1 := Scalar.cmpi .ne v170 c0_i32_76
  v171

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S8192x2048 : Shape := ⟨2, ![8192, 2048]⟩
abbrev S16x65536x128 : Shape := ⟨3, ![16, 65536, 128]⟩
abbrev S2x4096x2048 : Shape := ⟨3, ![2, 4096, 2048]⟩
abbrev S2x2048 : Shape := ⟨2, ![2, 2048]⟩
abbrev S1x16384x2048 : Shape := ⟨3, ![1, 16384, 2048]⟩
abbrev S2048 : Shape := ⟨1, ![2048]⟩
abbrev S16x8192x8x128 : Shape := ⟨4, ![16, 8192, 8, 128]⟩
abbrev S8192x16x8x128 : Shape := ⟨4, ![8192, 16, 8, 128]⟩
abbrev S8192x16384 : Shape := ⟨2, ![8192, 16384]⟩
abbrev S16384x2048 : Shape := ⟨2, ![16384, 2048]⟩
abbrev S_ : Shape := ⟨0, ![]⟩
abbrev S2x1x2048 : Shape := ⟨3, ![2, 1, 2048]⟩
abbrev S2x4096 : Shape := ⟨2, ![2, 4096]⟩
abbrev S2x4096x1 : Shape := ⟨3, ![2, 4096, 1]⟩
abbrev S1x1x2048 : Shape := ⟨3, ![1, 1, 2048]⟩
abbrev S1024x8x2048 : Shape := ⟨3, ![1024, 8, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x65536x128, .f32⟩
  | .hbm, ⟨2, _⟩ => ⟨S2x4096x2048, .f32⟩
  | .hbm, ⟨3, _⟩ => ⟨S2x2048, .f32⟩
  | .hbm, ⟨4, _⟩ => ⟨S1x16384x2048, .f32⟩
  | .hbm, ⟨5, _⟩ => ⟨S1x16384x2048, .f32⟩
  | .hbm, ⟨6, _⟩ => ⟨S2048, .f32⟩
  | .hbm, ⟨7, _⟩ => ⟨S16x8192x8x128, .f32⟩
  | .hbm, ⟨8, _⟩ => ⟨S8192x16x8x128, .f32⟩
  | .hbm, ⟨9, _⟩ => ⟨S8192x16384, .f32⟩
  | .hbm, ⟨10, _⟩ => ⟨S16384x2048, .f32⟩
  | .hbm, ⟨11, _⟩ => ⟨S8192x16384, .f32⟩
  | .hbm, ⟨12, _⟩ => ⟨S8192x16384, .f32⟩
  | .hbm, ⟨13, _⟩ => ⟨S8192x16384, .f32⟩
  | .hbm, ⟨14, _⟩ => ⟨S_, .f32⟩
  | .hbm, ⟨15, _⟩ => ⟨S8192x16384, .f32⟩
  | .hbm, ⟨16, _⟩ => ⟨S8192x16384, .f32⟩
  | .hbm, ⟨17, _⟩ => ⟨S8192x16384, .f32⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x16384, .f32⟩
  | .hbm, ⟨22, _⟩ => ⟨S_, .f32⟩
  | .hbm, ⟨23, _⟩ => ⟨S8192x16384, .f32⟩
  | .hbm, ⟨24, _⟩ => ⟨S8192x16384, .f32⟩
  | .hbm, ⟨25, _⟩ => ⟨S_, .f32⟩
  | .hbm, ⟨26, _⟩ => ⟨S8192x16384, .f32⟩
  | .hbm, ⟨27, _⟩ => ⟨S8192x16384, .f32⟩
  | .hbm, ⟨28, _⟩ => ⟨S8192x16384, .f32⟩
  | .hbm, ⟨29, _⟩ => ⟨S8192x16384, .f32⟩
  | .hbm, ⟨30, _⟩ => ⟨S16384x2048, .f32⟩
  | .hbm, ⟨31, _⟩ => ⟨S8192x2048, .f32⟩
  | .hbm, ⟨32, _⟩ => ⟨S2x1x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S2x4096x1, .f32⟩
  | .hbm, ⟨48, _⟩ => ⟨S2x4096x2048, .f32⟩
  | .hbm, ⟨49, _⟩ => ⟨S2x4096x2048, .f32⟩
  | .hbm, ⟨50, _⟩ => ⟨S1x1x2048, .f32⟩
  | .hbm, ⟨51, _⟩ => ⟨S2x4096x2048, .f32⟩
  | .hbm, ⟨52, _⟩ => ⟨S2x4096x2048, .f32⟩
  | .hbm, ⟨53, _⟩ => ⟨S1024x8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S1024x2048 : Shape := ⟨2, ![1024, 2048]⟩
abbrev S16x8192x128 : Shape := ⟨3, ![16, 8192, 128]⟩
abbrev S128x8x2048 : Shape := ⟨3, ![128, 8, 2048]⟩
abbrev S128x2048 : Shape := ⟨2, ![128, 2048]⟩
abbrev S1x16384x2048 : Shape := ⟨3, ![1, 16384, 2048]⟩
abbrev S2048 : Shape := ⟨1, ![2048]⟩
abbrev S16384x2048 : Shape := ⟨2, ![16384, 2048]⟩
abbrev S128x1x2048 : Shape := ⟨3, ![128, 1, 2048]⟩
abbrev S1x2048 : Shape := ⟨2, ![1, 2048]⟩
abbrev S512x2048 : Shape := ⟨2, ![512, 2048]⟩
abbrev S1x4096x128 : Shape := ⟨3, ![1, 4096, 128]⟩
abbrev S64x8x2048 : Shape := ⟨3, ![64, 8, 2048]⟩
abbrev S64x1x2048 : Shape := ⟨3, ![64, 1, 2048]⟩
abbrev S512x1024 : Shape := ⟨2, ![512, 1024]⟩
abbrev S4096x128 : Shape := ⟨2, ![4096, 128]⟩
abbrev S512x128 : Shape := ⟨2, ![512, 128]⟩
abbrev S64x8 : Shape := ⟨2, ![64, 8]⟩
abbrev S64x8x1 : Shape := ⟨3, ![64, 8, 1]⟩
abbrev S1x1x2048 : Shape := ⟨3, ![1, 1, 2048]⟩

abbrev nBuf : Space → Nat
  | .hbm => 15
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S16x8192x128, .f32⟩
  | .hbm, ⟨2, _⟩ => ⟨S128x8x2048, .f32⟩
  | .hbm, ⟨3, _⟩ => ⟨S128x2048, .f32⟩
  | .hbm, ⟨4, _⟩ => ⟨S1x16384x2048, .f32⟩
  | .hbm, ⟨5, _⟩ => ⟨S1x16384x2048, .f32⟩
  | .hbm, ⟨6, _⟩ => ⟨S2048, .f32⟩
  | .hbm, ⟨7, _⟩ => ⟨S1024x2048, .bf16⟩
  | .hbm, ⟨8, _⟩ => ⟨S16384x2048, .f32⟩
  | .hbm, ⟨9, _⟩ => ⟨S16384x2048, .bf16⟩
  | .hbm, ⟨10, _⟩ => ⟨S16384x2048, .f32⟩
  | .hbm, ⟨11, _⟩ => ⟨S16384x2048, .bf16⟩
  | .hbm, ⟨12, _⟩ => ⟨S128x1x2048, .f32⟩
  | .hbm, ⟨13, _⟩ => ⟨S1x2048, .f32⟩
  | .hbm, ⟨14, _⟩ => ⟨S128x8x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x4096x128, .f32⟩
  | .local _ .vmem, ⟨7, _⟩ => ⟨S1x4096x128, .f32⟩
  | .local _ .vmem, ⟨8, _⟩ => ⟨S64x8x2048, .f32⟩
  | .local _ .vmem, ⟨9, _⟩ => ⟨S64x8x2048, .f32⟩
  | .local _ .vmem, ⟨10, _⟩ => ⟨S64x1x2048, .f32⟩
  | .local _ .vmem, ⟨11, _⟩ => ⟨S64x1x2048, .f32⟩
  | .local _ .vmem, ⟨12, _⟩ => ⟨S1x2048, .f32⟩
  | .local _ .vmem, ⟨13, _⟩ => ⟨S64x8x2048, .f32⟩
  | .local _ .vmem, ⟨14, _⟩ => ⟨S64x8x2048, .f32⟩
  | .local _ .vmem, ⟨15, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v169 : BitVec 1 := Scalar.cmpi .eq arg1 c15_i32
  let v170 : BitVec 32 := Scalar.extui v169
  let c0_i32_76 : BitVec 32 := 0#32
  let v171 : BitVec 1 := Scalar.cmpi .ne v170 c0_i32_76
  v171

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S1024x2048 : Shape := ⟨2, ![1024, 2048]⟩
abbrev S16x8192x128 : Shape := ⟨3, ![16, 8192, 128]⟩
abbrev S128x8x2048 : Shape := ⟨3, ![128, 8, 2048]⟩
abbrev S128x2048 : Shape := ⟨2, ![128, 2048]⟩
abbrev S1x16384x2048 : Shape := ⟨3, ![1, 16384, 2048]⟩
abbrev S2048 : Shape := ⟨1, ![2048]⟩
abbrev S16x1024x8x128 : Shape := ⟨4, ![16, 1024, 8, 128]⟩
abbrev S1024x16x8x128 : Shape := ⟨4, ![1024, 16, 8, 128]⟩
abbrev S1024x16384 : Shape := ⟨2, ![1024, 16384]⟩
abbrev S16384x2048 : Shape := ⟨2, ![16384, 2048]⟩
abbrev S_ : Shape := ⟨0, ![]⟩
abbrev S128x1x2048 : Shape := ⟨3, ![128, 1, 2048]⟩
abbrev S128x8 : Shape := ⟨2, ![128, 8]⟩
abbrev S128x8x1 : Shape := ⟨3, ![128, 8, 1]⟩
abbrev S1x1x2048 : Shape := ⟨3, ![1, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S16x8192x128, .f32⟩
  | .hbm, ⟨2, _⟩ => ⟨S128x8x2048, .f32⟩
  | .hbm, ⟨3, _⟩ => ⟨S128x2048, .f32⟩
  | .hbm, ⟨4, _⟩ => ⟨S1x16384x2048, .f32⟩
  | .hbm, ⟨5, _⟩ => ⟨S1x16384x2048, .f32⟩
  | .hbm, ⟨6, _⟩ => ⟨S2048, .f32⟩
  | .hbm, ⟨7, _⟩ => ⟨S16x1024x8x128, .f32⟩
  | .hbm, ⟨8, _⟩ => ⟨S1024x16x8x128, .f32⟩
  | .hbm, ⟨9, _⟩ => ⟨S1024x16384, .f32⟩
  | .hbm, ⟨10, _⟩ => ⟨S16384x2048, .f32⟩
  | .hbm, ⟨11, _⟩ => ⟨S1024x16384, .f32⟩
  | .hbm, ⟨12, _⟩ => ⟨S1024x16384, .f32⟩
  | .hbm, ⟨13, _⟩ => ⟨S1024x16384, .f32⟩
  | .hbm, ⟨14, _⟩ => ⟨S_, .f32⟩
  | .hbm, ⟨15, _⟩ => ⟨S1024x16384, .f32⟩
  | .hbm, ⟨16, _⟩ => ⟨S1024x16384, .f32⟩
  | .hbm, ⟨17, _⟩ => ⟨S1024x16384, .f32⟩
  | .hbm, ⟨18, _⟩ => ⟨S_, .f32⟩
  | .hbm, ⟨19, _⟩ => ⟨S1024x16384, .f32⟩
  | .hbm, ⟨20, _⟩ => ⟨S1024x16384, .f32⟩
  | .hbm, ⟨21, _⟩ => ⟨S1024x16384, .f32⟩
  | .hbm, ⟨22, _⟩ => ⟨S_, .f32⟩
  | .hbm, ⟨23, _⟩ => ⟨S1024x16384, .f32⟩
  | .hbm, ⟨24, _⟩ => ⟨S1024x16384, .f32⟩
  | .hbm, ⟨25, _⟩ => ⟨S_, .f32⟩
  | .hbm, ⟨26, _⟩ => ⟨S1024x16384, .f32⟩
  | .hbm, ⟨27, _⟩ => ⟨S1024x16384, .f32⟩
  | .hbm, ⟨28, _⟩ => ⟨S1024x16384, .f32⟩
  | .hbm, ⟨29, _⟩ => ⟨S1024x16384, .f32⟩
  | .hbm, ⟨30, _⟩ => ⟨S16384x2048, .f32⟩
  | .hbm, ⟨31, _⟩ => ⟨S1024x2048, .f32⟩
  | .hbm, ⟨32, _⟩ => ⟨S128x1x2048, .f32⟩
  | .hbm, ⟨33, _⟩ => ⟨S128x8x2048, .f32⟩
  | .hbm, ⟨34, _⟩ => ⟨S128x8x2048, .f32⟩
  | .hbm, ⟨35, _⟩ => ⟨S128x8x2048, .f32⟩
  | .hbm, ⟨36, _⟩ => ⟨S128x8x2048, .f32⟩
  | .hbm, ⟨37, _⟩ => ⟨S128x8x2048, .f32⟩
  | .hbm, ⟨38, _⟩ => ⟨S_, .f32⟩
  | .hbm, ⟨39, _⟩ => ⟨S128x8, .f32⟩
  | .hbm, ⟨40, _⟩ => ⟨S128x8x1, .f32⟩
  | .hbm, ⟨41, _⟩ => ⟨S_, .f32⟩
  | .hbm, ⟨42, _⟩ => ⟨S128x8x1, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S128x8x1, .f32⟩
  | .hbm, ⟨48, _⟩ => ⟨S128x8x2048, .f32⟩
  | .hbm, ⟨49, _⟩ => ⟨S128x8x2048, .f32⟩
  | .hbm, ⟨50, _⟩ => ⟨S1x1x2048, .f32⟩
  | .hbm, ⟨51, _⟩ => ⟨S128x8x2048, .f32⟩
  | .hbm, ⟨52, _⟩ => ⟨S128x8x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel6.lean ====
abbrev S8192x128 : Shape := ⟨2, ![8192, 128]⟩
abbrev S16x65536x128 : Shape := ⟨3, ![16, 65536, 128]⟩
abbrev S64x128 : Shape := ⟨2, ![64, 128]⟩
abbrev S16x512x128 : Shape := ⟨3, ![16, 512, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S16x65536x128, .f32⟩
  | .local _ .vmem, ⟨0, _⟩ => ⟨S64x128, .i32⟩
  | .local _ .vmem, ⟨1, _⟩ => ⟨S64x128, .i32⟩
  | .local _ .vmem, ⟨2, _⟩ => ⟨S64x128, .f32⟩
  | .local _ .vmem, ⟨3, _⟩ => ⟨S64x128, .f32⟩
  | .local _ .vmem, ⟨4, _⟩ => ⟨S16x512x128, .f32⟩
  | .local _ .vmem, ⟨5, _⟩ => ⟨S16x512x128, .f32⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v3 : Index := Scalar.indexCast arg4
  let c0 : Index := 0#32
  ![v3.toNat, 0]
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  v30
def k0_off2 (k0_t1 : Fin k0_t1_loop.trips) : Fin 3 → Nat :=
  let c0_6 : Index := 0#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v33 : Index := Scalar.indexCast v31
  let c0_7 : Index := 0#32
  ![0, v33.toNat, 0]
def k0_off3 (k0_t1 : Fin k0_t1_loop.trips) : Fin 3 → Nat :=
  let c1 : Index := 1#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v38 : Index := Scalar.indexCast v31
  let c0_8 : Index := 0#32
  ![1, v38.toNat, 0]
def k0_off4 (k0_t1 : Fin k0_t1_loop.trips) : Fin 3 → Nat :=
  let c2 : Index := 2#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v43 : Index := Scalar.indexCast v31
  let c0_9 : Index := 0#32
  ![2, v43.toNat, 0]
def k0_off5 (k0_t1 : Fin k0_t1_loop.trips) : Fin 3 → Nat :=
  let c3 : Index := 3#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v48 : Index := Scalar.indexCast v31
  let c0_10 : Index := 0#32
  ![3, v48.toNat, 0]
def k0_off6 (k0_t1 : Fin k0_t1_loop.trips) : Fin 3 → Nat :=
  let c4 : Index := 4#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v53 : Index := Scalar.indexCast v31
  let c0_11 : Index := 0#32
  ![4, v53.toNat, 0]
def k0_off7 (k0_t1 : Fin k0_t1_loop.trips) : Fin 3 → Nat :=
  let c5 : Index := 5#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v58 : Index := Scalar.indexCast v31
  let c0_12 : Index := 0#32
  ![5, v58.toNat, 0]
def k0_off8 (k0_t1 : Fin k0_t1_loop.trips) : Fin 3 → Nat :=
  let c6 : Index := 6#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v63 : Index := Scalar.indexCast v31
  let c0_13 : Index := 0#32
  ![6, v63.toNat, 0]
def k0_off9 (k0_t1 : Fin k0_t1_loop.trips) : Fin 3 → Nat :=
  let c7 : Index := 7#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v68 : Index := Scalar.indexCast v31
  let c0_14 : Index := 0#32
  ![7, v68.toNat, 0]
def k0_off10 (k0_t1 : Fin k0_t1_loop.trips) : Fin 3 → Nat :=
  let c8 : Index := 8#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v73 : Index := Scalar.indexCast v31
  let c0_15 : Index := 0#32
  ![8, v73.toNat, 0]
def k0_off11 (k0_t1 : Fin k0_t1_loop.trips) : Fin 3 → Nat :=
  let c9 : Index := 9#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v78 : Index := Scalar.indexCast v31
  let c0_16 : Index := 0#32
  ![9, v78.toNat, 0]
def k0_off12 (k0_t1 : Fin k0_t1_loop.trips) : Fin 3 → Nat :=
  let c10 : Index := 10#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v83 : Index := Scalar.indexCast v31
  let c0_17 : Index := 0#32
  ![10, v83.toNat, 0]
def k0_off13 (k0_t1 : Fin k0_t1_loop.trips) : Fin 3 → Nat :=
  let c11 : Index := 11#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v88 : Index := Scalar.indexCast v31
  let c0_18 : Index := 0#32
  ![11, v88.toNat, 0]
def k0_off14 (k0_t1 : Fin k0_t1_loop.trips) : Fin 3 → Nat :=
  let c12 : Index := 12#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v93 : Index := Scalar.indexCast v31
  let c0_19 : Index := 0#32
  ![12, v93.toNat, 0]
def k0_off15 (k0_t1 : Fin k0_t1_loop.trips) : Fin 3 → Nat :=
  let c13 : Index := 13#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v98 : Index := Scalar.indexCast v31
  let c0_20 : Index := 0#32
  ![13, v98.toNat, 0]
def k0_off16 (k0_t1 : Fin k0_t1_loop.trips) : Fin 3 → Nat :=
  let c14 : Index := 14#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v103 : Index := Scalar.indexCast v31
  let c0_21 : Index := 0#32
  ![14, v103.toNat, 0]
def k0_off17 (k0_t1 : Fin k0_t1_loop.trips) : Fin 3 → Nat :=
  let c15 : Index := 15#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v108 : Index := Scalar.indexCast v31
  let c0_22 : Index := 0#32
  ![15, v108.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel6Ideal.lean ====
abbrev S8192x128 : Shape := ⟨2, ![8192, 128]⟩
abbrev S16x65536x128 : Shape := ⟨3, ![16, 65536, 128]⟩
abbrev S64x128 : Shape := ⟨2, ![64, 128]⟩
abbrev S16x512x128 : Shape := ⟨3, ![16, 512, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S16x65536x128, .f32⟩
  | .local _ .vmem, ⟨0, _⟩ => ⟨S64x128, .i32⟩
  | .local _ .vmem, ⟨1, _⟩ => ⟨S64x128, .i32⟩
  | .local _ .vmem, ⟨2, _⟩ => ⟨S64x128, .f32⟩
  | .local _ .vmem, ⟨3, _⟩ => ⟨S64x128, .f32⟩
  | .local _ .vmem, ⟨4, _⟩ => ⟨S16x512x128, .f32⟩
  | .local _ .vmem, ⟨5, _⟩ => ⟨S16x512x128, .f32⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v3 : Index := Scalar.indexCast arg4
  let c0 : Index := 0#32
  ![v3.toNat, 0]
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  v30
def k0_off2 (k0_t1 : Fin k0_t1_loop.trips) : Fin 3 → Nat :=
  let c0_6 : Index := 0#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v33 : Index := Scalar.indexCast v31
  let c0_7 : Index := 0#32
  ![0, v33.toNat, 0]
def k0_off3 (k0_t1 : Fin k0_t1_loop.trips) : Fin 3 → Nat :=
  let c1 : Index := 1#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v38 : Index := Scalar.indexCast v31
  let c0_8 : Index := 0#32
  ![1, v38.toNat, 0]
def k0_off4 (k0_t1 : Fin k0_t1_loop.trips) : Fin 3 → Nat :=
  let c2 : Index := 2#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v43 : Index := Scalar.indexCast v31
  let c0_9 : Index := 0#32
  ![2, v43.toNat, 0]
def k0_off5 (k0_t1 : Fin k0_t1_loop.trips) : Fin 3 → Nat :=
  let c3 : Index := 3#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v48 : Index := Scalar.indexCast v31
  let c0_10 : Index := 0#32
  ![3, v48.toNat, 0]
def k0_off6 (k0_t1 : Fin k0_t1_loop.trips) : Fin 3 → Nat :=
  let c4 : Index := 4#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v53 : Index := Scalar.indexCast v31
  let c0_11 : Index := 0#32
  ![4, v53.toNat, 0]
def k0_off7 (k0_t1 : Fin k0_t1_loop.trips) : Fin 3 → Nat :=
  let c5 : Index := 5#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v58 : Index := Scalar.indexCast v31
  let c0_12 : Index := 0#32
  ![5, v58.toNat, 0]
def k0_off8 (k0_t1 : Fin k0_t1_loop.trips) : Fin 3 → Nat :=
  let c6 : Index := 6#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v63 : Index := Scalar.indexCast v31
  let c0_13 : Index := 0#32
  ![6, v63.toNat, 0]
def k0_off9 (k0_t1 : Fin k0_t1_loop.trips) : Fin 3 → Nat :=
  let c7 : Index := 7#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v68 : Index := Scalar.indexCast v31
  let c0_14 : Index := 0#32
  ![7, v68.toNat, 0]
def k0_off10 (k0_t1 : Fin k0_t1_loop.trips) : Fin 3 → Nat :=
  let c8 : Index := 8#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v73 : Index := Scalar.indexCast v31
  let c0_15 : Index := 0#32
  ![8, v73.toNat, 0]
def k0_off11 (k0_t1 : Fin k0_t1_loop.trips) : Fin 3 → Nat :=
  let c9 : Index := 9#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v78 : Index := Scalar.indexCast v31
  let c0_16 : Index := 0#32
  ![9, v78.toNat, 0]
def k0_off12 (k0_t1 : Fin k0_t1_loop.trips) : Fin 3 → Nat :=
  let c10 : Index := 10#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v83 : Index := Scalar.indexCast v31
  let c0_17 : Index := 0#32
  ![10, v83.toNat, 0]
def k0_off13 (k0_t1 : Fin k0_t1_loop.trips) : Fin 3 → Nat :=
  let c11 : Index := 11#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v88 : Index := Scalar.indexCast v31
  let c0_18 : Index := 0#32
  ![11, v88.toNat, 0]
def k0_off14 (k0_t1 : Fin k0_t1_loop.trips) : Fin 3 → Nat :=
  let c12 : Index := 12#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v93 : Index := Scalar.indexCast v31
  let c0_19 : Index := 0#32
  ![12, v93.toNat, 0]
def k0_off15 (k0_t1 : Fin k0_t1_loop.trips) : Fin 3 → Nat :=
  let c13 : Index := 13#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v98 : Index := Scalar.indexCast v31
  let c0_20 : Index := 0#32
  ![13, v98.toNat, 0]
def k0_off16 (k0_t1 : Fin k0_t1_loop.trips) : Fin 3 → Nat :=
  let c14 : Index := 14#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v103 : Index := Scalar.indexCast v31
  let c0_21 : Index := 0#32
  ![14, v103.toNat, 0]
def k0_off17 (k0_t1 : Fin k0_t1_loop.trips) : Fin 3 → Nat :=
  let c15 : Index := 15#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v108 : Index := Scalar.indexCast v31
  let c0_22 : Index := 0#32
  ![15, v108.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x128 : Shape := ⟨2, ![8192, 128]⟩
abbrev S8192x128x1 : Shape := ⟨3, ![8192, 128, 1]⟩
abbrev S16384 : Shape := ⟨1, ![16384]⟩
abbrev S1x1x16384 : Shape := ⟨3, ![1, 1, 16384]⟩
abbrev S8192x128x16384 : Shape := ⟨3, ![8192, 128, 16384]⟩
abbrev S_ : Shape := ⟨0, ![]⟩
abbrev S8192x16384 : Shape := ⟨2, ![8192, 16384]⟩
abbrev S8192x16x8x128 : Shape := ⟨4, ![8192, 16, 8, 128]⟩
abbrev S16x8192x8x128 : Shape := ⟨4, ![16, 8192, 8, 128]⟩
abbrev S16x65536x128 : Shape := ⟨3, ![16, 65536, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .i32⟩
  | .hbm, ⟨1, _⟩ => ⟨S8192x128, .f32⟩
  | .hbm, ⟨2, _⟩ => ⟨S8192x128x1, .i32⟩
  | .hbm, ⟨3, _⟩ => ⟨S16384, .i32⟩
  | .hbm, ⟨4, _⟩ => ⟨S1x1x16384, .i32⟩
  | .hbm, ⟨5, _⟩ => ⟨S8192x128x16384, .i32⟩
  | .hbm, ⟨6, _⟩ => ⟨S8192x128x16384, .i32⟩
  | .hbm, ⟨7, _⟩ => ⟨S8192x128x16384, .i1⟩
  | .hbm, ⟨8, _⟩ => ⟨S8192x128x1, .f32⟩
  | .hbm, ⟨9, _⟩ => ⟨S_, .f32⟩
  | .hbm, ⟨10, _⟩ => ⟨S_, .f32⟩
  | .hbm, ⟨11, _⟩ => ⟨S8192x128x16384, .f32⟩
  | .hbm, ⟨12, _⟩ => ⟨S8192x128x16384, .f32⟩
  | .hbm, ⟨13, _⟩ => ⟨S8192x128x16384, .f32⟩
  | .hbm, ⟨14, _⟩ => ⟨S_, .f32⟩
  | .hbm, ⟨15, _⟩ => ⟨S8192x16384, .f32⟩
  | .hbm, ⟨16, _⟩ => ⟨S8192x16x8x128, .f32⟩
  | .hbm, ⟨17, _⟩ => ⟨S16x8192x8x128, .f32⟩
  | .hbm, ⟨18, _⟩ => ⟨S16x65536x128, .f32⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel7.lean ====
abbrev S8192x128 : Shape := ⟨2, ![8192, 128]⟩
abbrev S256x256 : Shape := ⟨2, ![256, 256]⟩
abbrev S256x128 : Shape := ⟨2, ![256, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S256x256, .bf16⟩
  | .local _ .vmem, ⟨3, _⟩ => ⟨S256x128, .f32⟩
  | .local _ .vmem, ⟨4, _⟩ => ⟨S256x128, .f32⟩
  | .local _ .vmem, ⟨5, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x128 : Shape := ⟨2, ![8192, 128]⟩
abbrev S2x4096x128 : Shape := ⟨3, ![2, 4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096x1 : Shape := ⟨4, ![1, 4096, 4096, 1]⟩
abbrev S2x1x4096x128 : Shape := ⟨4, ![2, 1, 4096, 128]⟩
abbrev S_ : Shape := ⟨0, ![]⟩
abbrev S2x4096x4096x128 : Shape := ⟨4, ![2, 4096, 4096, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x4096x128, .f32⟩
  | .hbm, ⟨2, _⟩ => ⟨S4096, .i32⟩
  | .hbm, ⟨3, _⟩ => ⟨S1x4096, .i32⟩
  | .hbm, ⟨4, _⟩ => ⟨S4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S1x4096x4096x1, .i1⟩
  | .hbm, ⟨10, _⟩ => ⟨S2x1x4096x128, .f32⟩
  | .hbm, ⟨11, _⟩ => ⟨S_, .f32⟩
  | .hbm, ⟨12, _⟩ => ⟨S_, .f32⟩
  | .hbm, ⟨13, _⟩ => ⟨S2x4096x4096x128, .i1⟩
  | .hbm, ⟨14, _⟩ => ⟨S2x4096x4096x128, .f32⟩
  | .hbm, ⟨15, _⟩ => ⟨S2x4096x4096x128, .f32⟩
  | .hbm, ⟨16, _⟩ => ⟨S2x4096x4096x128, .f32⟩
  | .hbm, ⟨17, _⟩ => ⟨S_, .f32⟩
  | .hbm, ⟨18, _⟩ => ⟨S2x4096x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel8.lean ====
abbrev S1024x128 : Shape := ⟨2, ![1024, 128]⟩
abbrev S16x8192x128 : Shape := ⟨3, ![16, 8192, 128]⟩
abbrev S64x128 : Shape := ⟨2, ![64, 128]⟩
abbrev S16x512x128 : Shape := ⟨3, ![16, 512, 128]⟩
abbrev S128x128 : Shape := ⟨2, ![128, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x128, .i32⟩
  | .hbm, ⟨1, _⟩ => ⟨S1024x128, .f32⟩
  | .hbm, ⟨2, _⟩ => ⟨S16x8192x128, .f32⟩
  | .local _ .vmem, ⟨0, _⟩ => ⟨S64x128, .i32⟩
  | .local _ .vmem, ⟨1, _⟩ => ⟨S64x128, .i32⟩
  | .local _ .vmem, ⟨2, _⟩ => ⟨S64x128, .f32⟩
  | .local _ .vmem, ⟨3, _⟩ => ⟨S64x128, .f32⟩
  | .local _ .vmem, ⟨4, _⟩ => ⟨S16x512x128, .f32⟩
  | .local _ .vmem, ⟨5, _⟩ => ⟨S16x512x128, .f32⟩
  | _, _ => ⟨S1024x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v3 : Index := Scalar.indexCast arg4
  let c0 : Index := 0#32
  ![v3.toNat, 0]
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  v30
def k0_off2 (k0_t1 : Fin k0_t1_loop.trips) : Fin 3 → Nat :=
  let c0_6 : Index := 0#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v33 : Index := Scalar.indexCast v31
  let c0_7 : Index := 0#32
  ![0, v33.toNat, 0]
def k0_off3 (k0_t1 : Fin k0_t1_loop.trips) : Fin 3 → Nat :=
  let c1 : Index := 1#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v38 : Index := Scalar.indexCast v31
  let c0_8 : Index := 0#32
  ![1, v38.toNat, 0]
def k0_off4 (k0_t1 : Fin k0_t1_loop.trips) : Fin 3 → Nat :=
  let c2 : Index := 2#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v43 : Index := Scalar.indexCast v31
  let c0_9 : Index := 0#32
  ![2, v43.toNat, 0]
def k0_off5 (k0_t1 : Fin k0_t1_loop.trips) : Fin 3 → Nat :=
  let c3 : Index := 3#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v48 : Index := Scalar.indexCast v31
  let c0_10 : Index := 0#32
  ![3, v48.toNat, 0]
def k0_off6 (k0_t1 : Fin k0_t1_loop.trips) : Fin 3 → Nat :=
  let c4 : Index := 4#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v53 : Index := Scalar.indexCast v31
  let c0_11 : Index := 0#32
  ![4, v53.toNat, 0]
def k0_off7 (k0_t1 : Fin k0_t1_loop.trips) : Fin 3 → Nat :=
  let c5 : Index := 5#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v58 : Index := Scalar.indexCast v31
  let c0_12 : Index := 0#32
  ![5, v58.toNat, 0]
def k0_off8 (k0_t1 : Fin k0_t1_loop.trips) : Fin 3 → Nat :=
  let c6 : Index := 6#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v63 : Index := Scalar.indexCast v31
  let c0_13 : Index := 0#32
  ![6, v63.toNat, 0]
def k0_off9 (k0_t1 : Fin k0_t1_loop.trips) : Fin 3 → Nat :=
  let c7 : Index := 7#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v68 : Index := Scalar.indexCast v31
  let c0_14 : Index := 0#32
  ![7, v68.toNat, 0]
def k0_off10 (k0_t1 : Fin k0_t1_loop.trips) : Fin 3 → Nat :=
  let c8 : Index := 8#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v73 : Index := Scalar.indexCast v31
  let c0_15 : Index := 0#32
  ![8, v73.toNat, 0]
def k0_off11 (k0_t1 : Fin k0_t1_loop.trips) : Fin 3 → Nat :=
  let c9 : Index := 9#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v78 : Index := Scalar.indexCast v31
  let c0_16 : Index := 0#32
  ![9, v78.toNat, 0]
def k0_off12 (k0_t1 : Fin k0_t1_loop.trips) : Fin 3 → Nat :=
  let c10 : Index := 10#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v83 : Index := Scalar.indexCast v31
  let c0_17 : Index := 0#32
  ![10, v83.toNat, 0]
def k0_off13 (k0_t1 : Fin k0_t1_loop.trips) : Fin 3 → Nat :=
  let c11 : Index := 11#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v88 : Index := Scalar.indexCast v31
  let c0_18 : Index := 0#32
  ![11, v88.toNat, 0]
def k0_off14 (k0_t1 : Fin k0_t1_loop.trips) : Fin 3 → Nat :=
  let c12 : Index := 12#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v93 : Index := Scalar.indexCast v31
  let c0_19 : Index := 0#32
  ![12, v93.toNat, 0]
def k0_off15 (k0_t1 : Fin k0_t1_loop.trips) : Fin 3 → Nat :=
  let c13 : Index := 13#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v98 : Index := Scalar.indexCast v31
  let c0_20 : Index := 0#32
  ![13, v98.toNat, 0]
def k0_off16 (k0_t1 : Fin k0_t1_loop.trips) : Fin 3 → Nat :=
  let c14 : Index := 14#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v103 : Index := Scalar.indexCast v31
  let c0_21 : Index := 0#32
  ![14, v103.toNat, 0]
def k0_off17 (k0_t1 : Fin k0_t1_loop.trips) : Fin 3 → Nat :=
  let c15 : Index := 15#32
  let c0_i32 : BitVec 32 := 0#32
  let c1_i32 : BitVec 32 := 1#32
  let arg4 : BitVec 32 := Scf.iv c0_i32 c1_i32 k0_t1
  let c8_i32 : BitVec 32 := 8#32
  let v30 : BitVec 32 := Scalar.muli arg4 c8_i32
  let v31 : BitVec 32 := v30
  let v108 : Index := Scalar.indexCast v31
  let c0_22 : Index := 0#32
  ![15, v108.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S1024x128 : Shape := ⟨2, ![1024, 128]⟩
abbrev S1024x128x1 : Shape := ⟨3, ![1024, 128, 1]⟩
abbrev S16384 : Shape := ⟨1, ![16384]⟩
abbrev S1x1x16384 : Shape := ⟨3, ![1, 1, 16384]⟩
abbrev S1024x128x16384 : Shape := ⟨3, ![1024, 128, 16384]⟩
abbrev S_ : Shape := ⟨0, ![]⟩
abbrev S1024x16384 : Shape := ⟨2, ![1024, 16384]⟩
abbrev S1024x16x8x128 : Shape := ⟨4, ![1024, 16, 8, 128]⟩
abbrev S16x1024x8x128 : Shape := ⟨4, ![16, 1024, 8, 128]⟩
abbrev S16x8192x128 : Shape := ⟨3, ![16, 8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S1024x128, .i32⟩
  | .hbm, ⟨1, _⟩ => ⟨S1024x128, .f32⟩
  | .hbm, ⟨2, _⟩ => ⟨S1024x128x1, .i32⟩
  | .hbm, ⟨3, _⟩ => ⟨S16384, .i32⟩
  | .hbm, ⟨4, _⟩ => ⟨S1x1x16384, .i32⟩
  | .hbm, ⟨5, _⟩ => ⟨S1024x128x16384, .i32⟩
  | .hbm, ⟨6, _⟩ => ⟨S1024x128x16384, .i32⟩
  | .hbm, ⟨7, _⟩ => ⟨S1024x128x16384, .i1⟩
  | .hbm, ⟨8, _⟩ => ⟨S1024x128x1, .f32⟩
  | .hbm, ⟨9, _⟩ => ⟨S_, .f32⟩
  | .hbm, ⟨10, _⟩ => ⟨S_, .f32⟩
  | .hbm, ⟨11, _⟩ => ⟨S1024x128x16384, .f32⟩
  | .hbm, ⟨12, _⟩ => ⟨S1024x128x16384, .f32⟩
  | .hbm, ⟨13, _⟩ => ⟨S1024x128x16384, .f32⟩
  | .hbm, ⟨14, _⟩ => ⟨S_, .f32⟩
  | .hbm, ⟨15, _⟩ => ⟨S1024x16384, .f32⟩
  | .hbm, ⟨16, _⟩ => ⟨S1024x16x8x128, .f32⟩
  | .hbm, ⟨17, _⟩ => ⟨S16x1024x8x128, .f32⟩
  | .hbm, ⟨18, _⟩ => ⟨S16x8192x128, .f32⟩
  | _, _ => ⟨S1024x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel9.lean ====
abbrev S64x64 : Shape := ⟨2, ![64, 64]⟩
abbrev S1x64x64x16 : Shape := ⟨4, ![1, 64, 64, 16]⟩
abbrev S64x64x16 : Shape := ⟨3, ![64, 64, 16]⟩
abbrev S64x64x1 : Shape := ⟨3, ![64, 64, 1]⟩

abbrev nBuf : Space → Nat
  | .hbm => 10
  | .vmem => 6
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S1x64x64x16, .f32⟩
  | .hbm, ⟨3, _⟩ => ⟨S1x64x64x16, .f32⟩
  | .hbm, ⟨4, _⟩ => ⟨S64x64x16, .f32⟩
  | .hbm, ⟨5, _⟩ => ⟨S64x64x16, .f32⟩
  | .hbm, ⟨6, _⟩ => ⟨S64x64x1, .f32⟩
  | .hbm, ⟨7, _⟩ => ⟨S64x64x1, .f32⟩
  | .hbm, ⟨8, _⟩ => ⟨S64x64x16, .f32⟩
  | .hbm, ⟨9, _⟩ => ⟨S64x64x16, .f32⟩
  | .local _ .vmem, ⟨0, _⟩ => ⟨S64x64x1, .f32⟩
  | .local _ .vmem, ⟨1, _⟩ => ⟨S64x64x1, .f32⟩
  | .local _ .vmem, ⟨2, _⟩ => ⟨S64x64x16, .f32⟩
  | .local _ .vmem, ⟨3, _⟩ => ⟨S64x64x16, .f32⟩
  | .local _ .vmem, ⟨4, _⟩ => ⟨S64x64x16, .f32⟩
  | .local _ .vmem, ⟨5, _⟩ => ⟨S64x64x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference9Ideal.lean ====
abbrev S64x64 : Shape := ⟨2, ![64, 64]⟩
abbrev S1x64x64x16 : Shape := ⟨4, ![1, 64, 64, 16]⟩
abbrev S64x64x1 : Shape := ⟨3, ![64, 64, 1]⟩
abbrev S64x64x16 : Shape := ⟨3, ![64, 64, 16]⟩

abbrev nBuf : Space → Nat
  | .hbm => 22
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S1x64x64x16, .f32⟩
  | .hbm, ⟨3, _⟩ => ⟨S1x64x64x16, .f32⟩
  | .hbm, ⟨4, _⟩ => ⟨S64x64x1, .f32⟩
  | .hbm, ⟨5, _⟩ => ⟨S64x64x16, .f32⟩
  | .hbm, ⟨6, _⟩ => ⟨S64x64x16, .f32⟩
  | .hbm, ⟨7, _⟩ => ⟨S64x64x16, .f32⟩
  | .hbm, ⟨8, _⟩ => ⟨S64x64x1, .f32⟩
  | .hbm, ⟨9, _⟩ => ⟨S64x64x16, .f32⟩
  | .hbm, ⟨10, _⟩ => ⟨S64x64x16, .f32⟩
  | .hbm, ⟨11, _⟩ => ⟨S64x64x16, .f32⟩
  | .hbm, ⟨12, _⟩ => ⟨S64x64x16, .f32⟩
  | .hbm, ⟨13, _⟩ => ⟨S64x64x1, .f32⟩
  | .hbm, ⟨14, _⟩ => ⟨S64x64x16, .f32⟩
  | .hbm, ⟨15, _⟩ => ⟨S64x64x16, .f32⟩
  | .hbm, ⟨16, _⟩ => ⟨S64x64x16, .f32⟩
  | .hbm, ⟨17, _⟩ => ⟨S64x64x1, .f32⟩
  | .hbm, ⟨18, _⟩ => ⟨S64x64x16, .f32⟩
  | .hbm, ⟨19, _⟩ => ⟨S64x64x16, .f32⟩
  | .hbm, ⟨20, _⟩ => ⟨S64x64x16, .f32⟩
  | .hbm, ⟨21, _⟩ => ⟨S64x64x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel10.lean ====
abbrev S128x8x128 : Shape := ⟨3, ![128, 8, 128]⟩
abbrev S128x1x128 : Shape := ⟨3, ![128, 1, 128]⟩

abbrev nBuf : Space → Nat
  | .hbm => 2
  | .vmem => 2
  | .smem => 0
  | _ => 0

abbrev bufTy : (tb : Table) → Fin (tcTables nBuf tb) → BufTy
  | .hbm, ⟨0, _⟩ => ⟨S128x8x128, .f32⟩
  | .hbm, ⟨1, _⟩ => ⟨S128x8x128, .f32⟩
  | .local _ .vmem, ⟨0, _⟩ => ⟨S128x8x128, .f32⟩
  | .local _ .vmem, ⟨1, _⟩ => ⟨S128x8x128, .f32⟩
  | _, _ => ⟨S128x8x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference10Ideal.lean ====
abbrev S128x8x128 : Shape := ⟨3, ![128, 8, 128]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S1x8x8x1 : Shape := ⟨4, ![1, 8, 8, 1]⟩
abbrev S128x1x8x128 : Shape := ⟨4, ![128, 1, 8, 128]⟩
abbrev S_ : Shape := ⟨0, ![]⟩
abbrev S128x8x8x128 : Shape := ⟨4, ![128, 8, 8, 128]⟩

abbrev nBuf : Space → Nat
  | .hbm => 17
  | .vmem => 0
  | .smem => 0
  | _ => 0

abbrev bufTy : (tb : Table) → Fin (tcTables nBuf tb) → BufTy
  | .hbm, ⟨0, _⟩ => ⟨S128x8x128, .f32⟩
  | .hbm, ⟨1, _⟩ => ⟨S8, .i32⟩
  | .hbm, ⟨2, _⟩ => ⟨S1x8, .i32⟩
  | .hbm, ⟨3, _⟩ => ⟨S8x1, .i32⟩
  | .hbm, ⟨4, _⟩ => ⟨S8x8, .i32⟩
  | .hbm, ⟨5, _⟩ => ⟨S8x8, .i32⟩
  | .hbm, ⟨6, _⟩ => ⟨S8x8, .i1⟩
  | .hbm, ⟨7, _⟩ => ⟨S1x8x8x1, .i1⟩
  | .hbm, ⟨8, _⟩ => ⟨S128x1x8x128, .f32⟩
  | .hbm, ⟨9, _⟩ => ⟨S_, .f32⟩
  | .hbm, ⟨10, _⟩ => ⟨S_, .f32⟩
  | .hbm, ⟨11, _⟩ => ⟨S128x8x8x128, .i1⟩
  | .hbm, ⟨12, _⟩ => ⟨S128x8x8x128, .f32⟩
  | .hbm, ⟨13, _⟩ => ⟨S128x8x8x128, .f32⟩
  | .hbm, ⟨14, _⟩ => ⟨S128x8x8x128, .f32⟩
  | .hbm, ⟨15, _⟩ => ⟨S_, .f32⟩
  | .hbm, ⟨16, _⟩ => ⟨S128x8x128, .f32⟩
  | _, _ => ⟨S128x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel11.lean ====
abbrev S1x64x64 : Shape := ⟨3, ![1, 64, 64]⟩
abbrev S1x64 : Shape := ⟨2, ![1, 64]⟩
abbrev S64x64 : Shape := ⟨2, ![64, 64]⟩
abbrev S64 : Shape := ⟨1, ![64]⟩
abbrev S64x1 : Shape := ⟨2, ![64, 1]⟩
abbrev S1x4096 : Shape := ⟨2, ![1, 4096]⟩
abbrev S8x4096 : Shape := ⟨2, ![8, 4096]⟩

abbrev nBuf : Space → Nat
  | .hbm => 15
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S8x4096, .f32⟩
  | .hbm, ⟨12, _⟩ => ⟨S8x4096, .f32⟩
  | .hbm, ⟨13, _⟩ => ⟨S1x4096, .f32⟩
  | .hbm, ⟨14, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S8x4096, .f32⟩
  | .local _ .vmem, ⟨4, _⟩ => ⟨S8x4096, .f32⟩
  | .local _ .vmem, ⟨5, _⟩ => ⟨S1x4096, .f32⟩
  | .local _ .vmem, ⟨6, _⟩ => ⟨S1x4096, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S1x64x64 : Shape := ⟨3, ![1, 64, 64]⟩
abbrev S1x64 : Shape := ⟨2, ![1, 64]⟩
abbrev S64x64 : Shape := ⟨2, ![64, 64]⟩
abbrev S_ : Shape := ⟨0, ![]⟩
abbrev S64 : Shape := ⟨1, ![64]⟩
abbrev S64x1 : Shape := ⟨2, ![64, 1]⟩
abbrev S1x4096 : Shape := ⟨2, ![1, 4096]⟩
abbrev S8x4096 : Shape := ⟨2, ![8, 4096]⟩

abbrev nBuf : Space → Nat
  | .hbm => 98
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S1x4096, .f32⟩
  | .hbm, ⟨83, _⟩ => ⟨S1x4096, .f32⟩
  | .hbm, ⟨84, _⟩ => ⟨S1x4096, .f32⟩
  | .hbm, ⟨85, _⟩ => ⟨S1x4096, .f32⟩
  | .hbm, ⟨86, _⟩ => ⟨S8x4096, .f32⟩
  | .hbm, ⟨87, _⟩ => ⟨S1x4096, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S1x4096, .f32⟩
  | .hbm, ⟨92, _⟩ => ⟨S1x4096, .f32⟩
  | .hbm, ⟨93, _⟩ => ⟨S1x4096, .f32⟩
  | .hbm, ⟨94, _⟩ => ⟨S1x4096, .f32⟩
  | .hbm, ⟨95, _⟩ => ⟨S8x4096, .f32⟩
  | .hbm, ⟨96, _⟩ => ⟨S1x4096, .f32⟩
  | .hbm, ⟨97, _⟩ => ⟨S1x4096, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩

abbrev nD : Nat := 1
abbrev τ : Topo := Topo.v7x

variable {F : FTy → Type} [FloatOps F]
-- ==== Kernel12.lean ====
abbrev S1x2560x128x8 : Shape := ⟨4, ![1, 2560, 128, 8]⟩
abbrev S2560x128x8 : Shape := ⟨3, ![2560, 128, 8]⟩
abbrev S2560x1024 : Shape := ⟨2, ![2560, 1024]⟩
abbrev S1024x1024 : Shape := ⟨2, ![1024, 1024]⟩
abbrev S_ : Shape := ⟨0, ![]⟩
abbrev S256x1024 : Shape := ⟨2, ![256, 1024]⟩

abbrev nBuf : Space → Nat
  | .hbm => 92
  | .vmem => 8
  | .smem => 0
  | _ => 0

abbrev bufTy : (tb : Table) → Fin (tcTables nBuf tb) → BufTy
  | .hbm, ⟨0, _⟩ => ⟨S1x2560x128x8, .f32⟩
  | .hbm, ⟨1, _⟩ => ⟨S2560x128x8, .f32⟩
  | .hbm, ⟨2, _⟩ => ⟨S2560x1024, .f32⟩
  | .hbm, ⟨3, _⟩ => ⟨S1024x1024, .i32⟩
  | .hbm, ⟨4, _⟩ => ⟨S1024x1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S1024x1024, .i32⟩
  | .hbm, ⟨12, _⟩ => ⟨S1024x1024, .i32⟩
  | .hbm, ⟨13, _⟩ => ⟨S_, .i32⟩
  | .hbm, ⟨14, _⟩ => ⟨S1024x1024, .i32⟩
  | .hbm, ⟨15, _⟩ => ⟨S1024x1024, .i1⟩
  | .hbm, ⟨16, _⟩ => ⟨S_, .i32⟩
  | .hbm, ⟨17, _⟩ => ⟨S1024x1024, .i32⟩
  | .hbm, ⟨18, _⟩ => ⟨S1024x1024, .i1⟩
  | .hbm, ⟨19, _⟩ => ⟨S_, .i32⟩
  | .hbm, ⟨20, _⟩ => ⟨S_, .i1⟩
  | .hbm, ⟨21, _⟩ => ⟨S1024x1024, .i1⟩
  | .hbm, ⟨22, _⟩ => ⟨S1024x1024, .i1⟩
  | .hbm, ⟨23, _⟩ => ⟨S1024x1024, .i1⟩
  | .hbm, ⟨24, _⟩ => ⟨S1024x1024, .i32⟩
  | .hbm, ⟨25, _⟩ => ⟨S1024x1024, .i32⟩
  | .hbm, ⟨26, _⟩ => ⟨S1024x1024, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1024x1024, .i32⟩
  | .hbm, ⟨34, _⟩ => ⟨S1024x1024, .i32⟩
  | .hbm, ⟨35, _⟩ => ⟨S_, .i32⟩
  | .hbm, ⟨36, _⟩ => ⟨S1024x1024, .i32⟩
  | .hbm, ⟨37, _⟩ => ⟨S1024x1024, .i1⟩
  | .hbm, ⟨38, _⟩ => ⟨S_, .i32⟩
  | .hbm, ⟨39, _⟩ => ⟨S1024x1024, .i32⟩
  | .hbm, ⟨40, _⟩ => ⟨S1024x1024, .i1⟩
  | .hbm, ⟨41, _⟩ => ⟨S_, .i32⟩
  | .hbm, ⟨42, _⟩ => ⟨S_, .i1⟩
  | .hbm, ⟨43, _⟩ => ⟨S1024x1024, .i1⟩
  | .hbm, ⟨44, _⟩ => ⟨S1024x1024, .i1⟩
  | .hbm, ⟨45, _⟩ => ⟨S1024x1024, .i1⟩
  | .hbm, ⟨46, _⟩ => ⟨S1024x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S_, .i32⟩
  | .hbm, ⟨52, _⟩ => ⟨S1024x1024, .i32⟩
  | .hbm, ⟨53, _⟩ => ⟨S1024x1024, .i32⟩
  | .hbm, ⟨54, _⟩ => ⟨S1024x1024, .i32⟩
  | .hbm, ⟨55, _⟩ => ⟨S_, .i32⟩
  | .hbm, ⟨56, _⟩ => ⟨S1024x1024, .i32⟩
  | .hbm, ⟨57, _⟩ => ⟨S1024x1024, .i1⟩
  | .hbm, ⟨58, _⟩ => ⟨S1024x1024, .i32⟩
  | .hbm, ⟨59, _⟩ => ⟨S1024x1024, .i32⟩
  | .hbm, ⟨60, _⟩ => ⟨S_, .i32⟩
  | .hbm, ⟨61, _⟩ => ⟨S1024x1024, .i32⟩
  | .hbm, ⟨62, _⟩ => ⟨S1024x1024, .i1⟩
  | .hbm, ⟨63, _⟩ => ⟨S1024x1024, .i1⟩
  | .hbm, ⟨64, _⟩ => ⟨S_, .i32⟩
  | .hbm, ⟨65, _⟩ => ⟨S1024x1024, .i32⟩
  | .hbm, ⟨66, _⟩ => ⟨S1024x1024, .i32⟩
  | .hbm, ⟨67, _⟩ => ⟨S1024x1024, .i32⟩
  | .hbm, ⟨68, _⟩ => ⟨S_, .i32⟩
  | .hbm, ⟨69, _⟩ => ⟨S_, .i32⟩
  | .hbm, ⟨70, _⟩ => ⟨S1024x1024, .i32⟩
  | .hbm, ⟨71, _⟩ => ⟨S1024x1024, .i32⟩
  | .hbm, ⟨72, _⟩ => ⟨S1024x1024, .i32⟩
  | .hbm, ⟨73, _⟩ => ⟨S_, .i32⟩
  | .hbm, ⟨74, _⟩ => ⟨S1024x1024, .i32⟩
  | .hbm, ⟨75, _⟩ => ⟨S1024x1024, .i1⟩
  | .hbm, ⟨76, _⟩ => ⟨S1024x1024, .i32⟩
  | .hbm, ⟨77, _⟩ => ⟨S1024x1024, .i32⟩
  | .hbm, ⟨78, _⟩ => ⟨S_, .i32⟩
  | .hbm, ⟨79, _⟩ => ⟨S1024x1024, .i32⟩
  | .hbm, ⟨80, _⟩ => ⟨S1024x1024, .i1⟩
  | .hbm, ⟨81, _⟩ => ⟨S1024x1024, .i1⟩
  | .hbm, ⟨82, _⟩ => ⟨S_, .i32⟩
  | .hbm, ⟨83, _⟩ => ⟨S1024x1024, .i32⟩
  | .hbm, ⟨84, _⟩ => ⟨S1024x1024, .i32⟩
  | .hbm, ⟨85, _⟩ => ⟨S1024x1024, .i32⟩
  | .hbm, ⟨86, _⟩ => ⟨S1024x1024, .i1⟩
  | .hbm, ⟨87, _⟩ => ⟨S1024x1024, .i1⟩
  | .hbm, ⟨88, _⟩ => ⟨S1024x1024, .bf16⟩
  | .hbm, ⟨89, _⟩ => ⟨S1024x1024, .bf16⟩
  | .hbm, ⟨90, _⟩ => ⟨S2560x1024, .f32⟩
  | .hbm, ⟨91, _⟩ => ⟨S2560x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S1x2560x128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_v6 : Ref sig .tc := ⟨.hbm, 49, rfl⟩
abbrev main_c_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v7 : Ref sig .tc := ⟨.hbm, 67, rfl⟩
abbrev main_c_2 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13_0 : Ref sig .tc := ⟨.hbm, 90, rfl⟩
abbrev main_v13_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S1x2560x128x8 : Shape := ⟨4, ![1, 2560, 128, 8]⟩
abbrev S2560x128x8 : Shape := ⟨3, ![2560, 128, 8]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128x1 : Shape := ⟨4, ![1, 128, 128, 1]⟩
abbrev S2560x1x128x8 : Shape := ⟨4, ![2560, 1, 128, 8]⟩
abbrev S_ : Shape := ⟨0, ![]⟩
abbrev S2560x128x128x8 : Shape := ⟨4, ![2560, 128, 128, 8]⟩
abbrev S2560x8 : Shape := ⟨2, ![2560, 8]⟩
abbrev S2560x1x8 : Shape := ⟨3, ![2560, 1, 8]⟩
abbrev S2560x1024 : Shape := ⟨2, ![2560, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x2560x128x8, .f32⟩
  | .hbm, ⟨1, _⟩ => ⟨S2560x128x8, .f32⟩
  | .hbm, ⟨2, _⟩ => ⟨S128, .i32⟩
  | .hbm, ⟨3, _⟩ => ⟨S1x128, .i32⟩
  | .hbm, ⟨4, _⟩ => ⟨S128, .i32⟩
  | .hbm, ⟨5, _⟩ => ⟨S128x1, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S1x128x128x1, .i1⟩
  | .hbm, ⟨10, _⟩ => ⟨S2560x1x128x8, .f32⟩
  | .hbm, ⟨11, _⟩ => ⟨S_, .f32⟩
  | .hbm, ⟨12, _⟩ => ⟨S_, .f32⟩
  | .hbm, ⟨13, _⟩ => ⟨S2560x128x128x8, .i1⟩
  | .hbm, ⟨14, _⟩ => ⟨S2560x128x128x8, .f32⟩
  | .hbm, ⟨15, _⟩ => ⟨S2560x128x128x8, .f32⟩
  | .hbm, ⟨16, _⟩ => ⟨S2560x128x128x8, .f32⟩
  | .hbm, ⟨17, _⟩ => ⟨S_, .f32⟩
  | .hbm, ⟨18, _⟩ => ⟨S2560x128x8, .f32⟩
  | .hbm, ⟨19, _⟩ => ⟨S_, .f32⟩
  | .hbm, ⟨20, _⟩ => ⟨S2560x8, .f32⟩
  | .hbm, ⟨21, _⟩ => ⟨S2560x1x8, .f32⟩
  | .hbm, ⟨22, _⟩ => ⟨S2560x128x8, .f32⟩
  | .hbm, ⟨23, _⟩ => ⟨S2560x1024, .f32⟩
  | .hbm, ⟨24, _⟩ => ⟨S2560x1024, .f32⟩
  | _, _ => ⟨S1x2560x128x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Online.lean ====
/- The running softmax in the extended reals: a maximum, a sum of exponentials and a weighted sum taken over a prefix of
   the scores, what one further block of scores makes of them, and their quotient after the last block. -/
module

public import Idealize.ShloMosaic.PureOps.Ideal

@[expose] public section

noncomputable section

namespace Cert.Online

open Idealize.ShloMosaic Finset

/-- The maximum of the first `n` scores. -/
def top (S : ℕ → EReal) (n : ℕ) : EReal := (range n).sup S

/-- The sum of the exponentials of the first `n` scores, taken below their maximum. -/
def den (S : ℕ → EReal) (n : ℕ) : EReal := ∑ j ∈ range n, Ideal.exp (S j - top S n)

/-- The sum of the first `n` values, weighted by those exponentials. -/
def num (S V : ℕ → EReal) (n : ℕ) : EReal := ∑ j ∈ range n, Ideal.exp (S j - top S n) * V j

theorem exp_nonneg (x : EReal) : 0 ≤ Ideal.exp x := by
  induction x with
  | bot => simp
  | top => simp
  | coe r => simp only [Ideal.exp_coe]; exact_mod_cast (Real.exp_pos r).le

theorem exp_ne_top {x : EReal} (h : x ≠ ⊤) : Ideal.exp x ≠ ⊤ := by
  induction x with
  | bot => simp
  | top => exact absurd rfl h
  | coe r => simp only [Ideal.exp_coe]; exact EReal.coe_ne_top _

/-- A score below a bound, less that bound, is not `⊤`. -/
theorem sub_ne_top {s m : EReal} (h : s ≤ m) : s - m ≠ ⊤ := by
  induction s with
  | bot => simp
  | top => rw [top_le_iff.1 h]; simp
  | coe r =>
    induction m with
    | bot => simp at h
    | top => simp
    | coe t => exact EReal.coe_ne_top (r - t)

/-- Changing the bound that the exponentials are taken below. -/
theorem exp_rebase {s m m' : EReal} (h : s ≤ m) (h' : m ≤ m') :
    Ideal.exp (m - m') * Ideal.exp (s - m) = Ideal.exp (s - m') := by
  induction s with
  | bot => simp
  | top =>
    rw [top_le_iff.1 h]; rw [top_le_iff.1 h] at h'; rw [top_le_iff.1 h']; simp
  | coe r =>
    induction m with
    | bot => simp at h
    | top => rw [top_le_iff.1 h']; simp
    | coe t =>
      induction m' with
      | bot => simp at h'
      | top => simp
      | coe u =>
        rw [← EReal.coe_sub, ← EReal.coe_sub, ← EReal.coe_sub, Ideal.exp_coe, Ideal.exp_coe, Ideal.exp_coe, ← EReal.coe_mul, ← Real.exp_add]
        congr 2; ring

/-- A finite factor that is not negative goes through a sum. -/
theorem mul_sum {ι : Type*} (s : Finset ι) (f : ι → EReal) {c : EReal} (h0 : 0 ≤ c) (h1 : c ≠ ⊤) :
    c * ∑ i ∈ s, f i = ∑ i ∈ s, c * f i := by
  classical
  induction s using Finset.induction_on with
  | empty => simp
  | insert a s ha ih => rw [sum_insert ha, sum_insert ha, EReal.left_distrib_of_nonneg_of_ne_top h0 h1, ih]

theorem top_add (S : ℕ → EReal) (n c : ℕ) :
    top S (n + c) = max (top S n) ((Finset.univ : Finset (Fin c)).fold max ⊥ fun i : Fin c => S (n + i)) := by
  have hf : ((Finset.univ : Finset (Fin c)).fold max ⊥ fun i : Fin c => S (n + i)) = (Finset.univ : Finset (Fin c)).sup fun i : Fin c => S (n + i) := rfl
  rw [hf]
  apply le_antisymm
  · refine Finset.sup_le fun j hj => ?_
    rw [mem_range] at hj
    by_cases h : j < n
    · exact le_max_of_le_left (Finset.le_sup (f := S) (mem_range.2 h))
    · refine le_max_of_le_right ?_
      have := Finset.le_sup (f := fun i : Fin c => S (n + i)) (mem_univ (⟨j - n, by omega⟩ : Fin c))
      simpa [Nat.add_sub_cancel' (not_lt.1 h)] using this
  · refine max_le (Finset.sup_mono (range_mono (by omega))) (Finset.sup_le fun i _ => ?_)
    exact Finset.le_sup (f := S) (mem_range.2 (by omega))

theorem le_top (S : ℕ → EReal) {n j : ℕ} (h : j < n) : S j ≤ top S n := Finset.le_sup (f := S) (mem_range.2 h)

theorem top_mono (S : ℕ → EReal) (n c : ℕ) : top S n ≤ top S (n + c) := Finset.sup_mono (range_mono (by omega))

theorem num_add (S V : ℕ → EReal) (n c : ℕ) :
    num S V (n + c) = Ideal.exp (top S n - top S (n + c)) * num S V n
      + ∑ i : Fin c, Ideal.exp (S (n + i) - top S (n + c)) * V (n + i) := by
  unfold num
  rw [sum_range_add, mul_sum _ _ (exp_nonneg _) (exp_ne_top (sub_ne_top (top_mono S n c))),
    Fin.sum_univ_eq_sum_range (fun i => Ideal.exp (S (n + i) - top S (n + c)) * V (n + i)) c]
  congr 1
  refine sum_congr rfl fun j hj => ?_
  rw [← mul_assoc, exp_rebase (le_top S (mem_range.1 hj)) (top_mono S n c)]

theorem den_eq_num (S : ℕ → EReal) (n : ℕ) : den S n = num S (fun _ => 1) n := by simp [den, num]

theorem den_add (S : ℕ → EReal) (n c : ℕ) :
    den S (n + c) = Ideal.exp (top S n - top S (n + c)) * den S n
      + ∑ i : Fin c, Ideal.exp (S (n + i) - top S (n + c)) := by
  rw [den_eq_num, den_eq_num, num_add]; simp

/-- Scores that are `⊥` past `n` change nothing. -/
theorem top_past (S : ℕ → EReal) (n c : ℕ) (h : ∀ j, n ≤ j → S j = ⊥) : top S (n + c) = top S n := by
  refine le_antisymm (Finset.sup_le fun j hj => ?_) (top_mono S n c)
  by_cases hj' : j < n
  · exact le_top S hj'
  · rw [h j (not_lt.1 hj')]; exact bot_le

theorem num_past (S V : ℕ → EReal) (n c : ℕ) (h : ∀ j, n ≤ j → S j = ⊥) : num S V (n + c) = num S V n := by
  unfold num
  rw [sum_range_add, top_past S n c h, sum_eq_zero (s := range c), add_zero]
  intro j _
  rw [h (n + j) (by omega)]; simp

theorem den_past (S : ℕ → EReal) (n c : ℕ) (h : ∀ j, n ≤ j → S j = ⊥) : den S (n + c) = den S n := by
  rw [den_eq_num, den_eq_num, num_past S _ n c h]

/-- The denominator is not zero when no score is `⊤` and one is not `⊥`. -/
theorem den_ne_zero (S : ℕ → EReal) (n : ℕ) (ht : ∀ j, j < n → S j ≠ ⊤) {i : ℕ} (hi : i < n) (hb : S i ≠ ⊥) : den S n ≠ 0 := by
  have h1 : ∃ j ∈ range n, top S n = S j := by
    obtain ⟨j, hj, e⟩ := Finset.exists_mem_eq_sup (range n) ⟨i, mem_range.2 hi⟩ S
    exact ⟨j, hj, e⟩
  obtain ⟨j, hj, e⟩ := h1
  have hj' := mem_range.1 hj
  have hjb : S j ≠ ⊥ := fun hh => hb (le_bot_iff.1 (by rw [← hh, ← e]; exact le_top S hi))
  have hone : Ideal.exp (S j - top S n) = 1 := by
    rw [e]
    lift S j to ℝ using ⟨ht j hj', hjb⟩ with r
    rw [← EReal.coe_sub, sub_self, Ideal.exp_coe, Real.exp_zero]; rfl
  have hle : Ideal.exp (S j - top S n) ≤ den S n :=
    single_le_sum (f := fun j => Ideal.exp (S j - top S n)) (fun j _ => exp_nonneg _) hj
  rw [hone] at hle
  intro h0
  rw [h0] at hle
  exact absurd hle (by norm_num)

theorem den_nonneg (S : ℕ → EReal) (n : ℕ) : 0 ≤ den S n := sum_nonneg fun j _ => exp_nonneg _

/-- The quotient of the two sums is the sum of the values weighted by the quotients. -/
theorem num_div_den (S V : ℕ → EReal) (n : ℕ) (h0 : den S n ≠ 0) :
    Ideal.div (num S V n) (den S n) = ∑ j : Fin n, V j * Ideal.div (Ideal.exp (S j - top S n)) (den S n) := by
  have hi : 0 ≤ (den S n)⁻¹ := EReal.inv_nonneg_of_nonneg (den_nonneg S n)
  have ht : (den S n)⁻¹ ≠ ⊤ := fun h => by
    have := den_nonneg S n
    generalize den S n = x at *
    induction x with
    | bot => simp at h
    | top => simp at h
    | coe r => rw [← EReal.coe_inv] at h; exact EReal.coe_ne_top _ h
  unfold Ideal.div
  simp only [h0, if_false]
  rw [Fin.sum_univ_eq_sum_range (fun j => V j * (Ideal.exp (S j - top S n) * (den S n)⁻¹)) n, mul_comm]
  unfold num
  rw [mul_sum _ _ hi ht]
  refine sum_congr rfl fun j _ => ?_
  ac_rfl

end Cert.Online

end

end
-- ==== Proof.Block.lean ====
/- One block of queries of the forgetting attention: what the loop over the key blocks carries, and what the last, masked
   block and the division leave, as functions of the blocks the grid point reads. -/
module

public import proofs.«01_k».proof.Proof.Gen.KernelIdeal.Value
public import proofs.«01_k».proof.Proof.Online
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Att

open Idealize.ShloMosaic Idealize.ShloMosaic.TcCoe Idealize.SL.Sem
open Cert.KernelIdeal Cert.KernelIdeal.Gen Cert.Online

/-- Two indices of rank three with equal coordinates. -/
theorem ext3 {n : Fin 3 → ℕ} {x y : (a : Fin 3) → Fin (n a)} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

/-- Two indices of rank four with equal coordinates. -/
theorem ext4 {n : Fin 4 → ℕ} {x y : (a : Fin 4) → Fin (n a)} (h0 : (x 0).val = (y 0).val) (h1 : (x 1).val = (y 1).val)
    (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

/-- The score of query row `a` of the block against key `j` (taken modulo the 4096 keys), before the mask. -/
def raw (x0 : Vec Ideal S1x256x128 .bf16) (x1 : Vec Ideal S1x4096x128 .bf16) (x3 : Vec Ideal S1x1x256x128 .f32)
    (x4 : Vec Ideal S1x1x16x256 .f32) (a : Fin 256) (j : ℕ) : EReal :=
  (∑ x : Fin 128, x0 (ix3 0 a x) * x1 (ix3 0 (⟨j % 4096, Nat.mod_lt _ (by decide)⟩ : Fin 4096) x)) * Ideal.ofBits FTy.f32 0x3DB504F3#32
    + (x3 (ix4 0 0 a 0) - x4 (ix4 0 0 (⟨j / 256 % 16, Nat.mod_lt _ (by decide)⟩ : Fin 16) (⟨j % 256, Nat.mod_lt _ (by decide)⟩ : Fin 256)))

/-- The score under the causal mask, the block being the `q`-th. -/
def score (x0 : Vec Ideal S1x256x128 .bf16) (x1 : Vec Ideal S1x4096x128 .bf16) (x3 : Vec Ideal S1x1x256x128 .f32)
    (x4 : Vec Ideal S1x1x16x256 .f32) (q : ℕ) (a : Fin 256) (j : ℕ) : EReal :=
  if j ≤ 256 * q + a.val then raw x0 x1 x3 x4 a j else ⊥

/-- Column `b` of the values, at key `j` (taken modulo the 4096 keys). -/
def val (x2 : Vec Ideal S1x4096x128 .bf16) (b : Fin 128) (j : ℕ) : EReal :=
  x2 (ix3 0 (⟨j % 4096, Nat.mod_lt _ (by decide)⟩ : Fin 4096) b)

/-- What the loop carries after the first `n` keys: the running maximum, denominator and weighted sum of each row. -/
def Carries (S : Fin 256 → ℕ → EReal) (V : Fin 128 → ℕ → EReal) (n : ℕ)
    (acc : FVec Ideal S256x1 .f32 × FVec Ideal S256x1 .f32 × FVec Ideal S256x128 .f32) : Prop :=
  ∀ a : Fin 256, acc.1 (ix2 a 0) = top (S a) n ∧ acc.2.1 (ix2 a 0) = den (S a) n
    ∧ ∀ b : Fin 128, acc.2.2 (ix2 a b) = num (S a) (V b) n

theorem negInf : Ideal.ofBits FTy.f32 4286578688#32 = ⊥ := by simp [Ideal.ofBits, Ideal.ieee]

theorem mask_eq : (Named.named κ "mask" 4048155338#32 : Ideal .f32) = ⊥ := rfl

theorem carries_zero (S : Fin 256 → ℕ → EReal) (V : Fin 128 → ℕ → EReal) :
    Carries S V 0 (k0_pay4 (F := Ideal), k0_pay5 (F := Ideal), k0_pay6 (F := Ideal)) := by
  intro a
  refine ⟨?_, ?_, fun b => ?_⟩
  · pointwise [k0_pay4]; rw [mask_eq]; simp [top]
  · pointwise [k0_pay5]; simp [den]
  · pointwise [k0_pay6]; simp [num]

theorem carries_step (S : Fin 256 → ℕ → EReal) (V : Fin 128 → ℕ → EReal) (n : ℕ)
    (m l : FVec Ideal S256x1 .f32) (acc : FVec Ideal S256x128 .f32) (h : Carries S V n (m, l, acc))
    (x0 : Vec Ideal S1x256x128 .bf16) (x3 : Vec Ideal S1x1x256x128 .f32) (k v : Vec Ideal S1x256x128 .bf16) (f : Vec Ideal S1x1x1x256 .f32)
    (hs : ∀ a b : Fin 256, k0_pay7 x0 x3 k f (ix2 a b) = S a (n + b.val))
    (hv : ∀ (x : Fin 256) (b : Fin 128), v (ix3 0 x b) = V b (n + x.val)) :
    Carries S V (n + 256) (k0_pay8 x0 x3 m k f, k0_pay11 x0 x3 m l k f, k0_pay12 x0 x3 m acc k v f) := by
  intro a
  obtain ⟨h1, h2, h3⟩ := h a
  have e8 : k0_pay8 x0 x3 m k f (ix2 a 0) = top (S a) (n + 256) := by
    pointwise [k0_pay8]
    simp only [hs, negInf]
    rw [top_add]
    exact congrArg (fun z => max z _) h1
  refine ⟨e8, ?_, fun b => ?_⟩
  · show k0_pay11 x0 x3 m l k f (ix2 a 0) = _
    rw [den_add, ← h2, ← h1]
    pointwise [k0_pay11, k0_pay9, k0_pay10]
    simp only [e8, hs]
  · show k0_pay12 x0 x3 m acc k v f (ix2 a b) = _
    rw [num_add, ← h3 b, ← h1]
    pointwise [k0_pay12, k0_pay9, k0_pay10]
    simp only [e8, hs, hv]

/-- A choice by a signed comparison of two small numbers is the choice by their order. -/
theorem select_sle (x a : ℕ) (hx : x < 2 ^ 31) (ha : a < 2 ^ 31) (u v : EReal) :
    Scalar.select (IntOp.cmpi CmpIPredicate.sle (BitVec.ofNat 32 x) (BitVec.ofNat 32 a)) u v = if x ≤ a then u else v := by
  have e : ∀ y, y < 2 ^ 31 → (BitVec.ofNat 32 y).toInt = y := fun y hy => by
    rw [BitVec.toInt_eq_toNat_of_lt (by rw [BitVec.toNat_ofNat]; omega), BitVec.toNat_ofNat, Nat.mod_eq_of_lt (by omega)]
  simp only [IntOp.cmpi, BitVec.sle, e x hx, e a ha, Nat.cast_le, Scalar.select]
  by_cases h : x ≤ a <;> simp [h]

theorem cmp_le (x a : Fin 256) (u v : EReal) :
    Scalar.select (IntOp.cmpi CmpIPredicate.sle (BitVec.ofNat 32 x.val) (BitVec.ofNat 32 a.val)) u v = if x.val ≤ a.val then u else v :=
  select_sle x.val a.val (by omega) (by omega) u v

theorem last_block (S : Fin 256 → ℕ → EReal) (V : Fin 128 → ℕ → EReal) (n : ℕ)
    (m l : FVec Ideal S256x1 .f32) (acc : FVec Ideal S256x128 .f32) (h : Carries S V n (m, l, acc))
    (v : FVec Ideal S256x128 .bf16) (s : FVec Ideal S256x256 .f32)
    (hs : ∀ a b : Fin 256, (if b.val ≤ a.val then s (ix2 a b) else ⊥) = S a (n + b.val))
    (hv : ∀ (x : Fin 256) (b : Fin 128), v (ix2 x b) = V b (n + x.val)) (a : Fin 256) (b : Fin 128) :
    k0_pay1 m l acc v s (ix3 0 a b) = Ideal.div (num (S a) (V b) (n + 256)) (den (S a) (n + 256)) := by
  obtain ⟨h1, h2, h3⟩ := h a
  rw [num_add, den_add, top_add, ← h3 b, ← h2, ← h1]
  pointwise [k0_pay1]
  simp only [cmp_le, mask_eq, negInf, hs, hv]

/-- The loop over whole key blocks makes as many trips as the number of the query block. -/
theorem trips_first : ∀ q : Fin 16, Scf.trips (0#32) (Scalar.addi (0#32)
    (Scalar.muli (Scalar.divsi (Scalar.subi (BitVec.ofNat 32 q.val) 0#32) 1#32) 1#32)) 1#32 = q.val := by decide

/-- The loop after it makes none. -/
theorem trips_rest : ∀ q : Fin 16, Scf.trips (Scalar.addi (0#32)
    (Scalar.muli (Scalar.divsi (Scalar.subi (BitVec.ofNat 32 q.val) 0#32) 1#32) 1#32))
    (Scalar.addi (0#32) (Scalar.subi (BitVec.ofNat 32 q.val) 0#32)) 1#32 = 0 := by decide

/-- A block of 256 rows of a window of 4096, at row `b`. -/
theorem ld_rows {α : Type} (X : S1x4096x128.Idx → α) (off : Fin 3 → ℕ) (inb : ∀ a, off a + (![1, 256, 128] : Fin 3 → ℕ) a ≤ S1x4096x128.size a)
    (r : ℕ) (h : off = ![0, r, 0]) (b : Fin 256) (x : Fin 128) :
    X ((Rect.unit (s := S1x4096x128) off ![1, 256, 128] inb).toLoadRect.idx (ix3 (n0 := 1) 0 b x)) = X (ix3 0 (⟨(r + b.val) % 4096, Nat.mod_lt _ (by decide)⟩ : Fin 4096) x) := by
  subst h
  have h1 : r + 256 ≤ 4096 := inb 1
  refine congrArg X (ext3 ?_ ?_ ?_)
  · show 0 + 1 * 0 = 0
    rfl
  · show r + 1 * b.val = (r + b.val) % 4096
    rw [Nat.mod_eq_of_lt (by omega)]; omega
  · show 0 + 1 * x.val = x.val
    omega

/-- A row of a window of 16 rows of 256, at column `b`. -/
theorem ld_row {α : Type} (X : S1x1x16x256.Idx → α) (off : Fin 4 → ℕ) (inb : ∀ a, off a + (![1, 1, 1, 256] : Fin 4 → ℕ) a ≤ S1x1x16x256.size a)
    (r : ℕ) (h : off = ![0, 0, r, 0]) (b : Fin 256) :
    X ((Rect.unit (s := S1x1x16x256) off ![1, 1, 1, 256] inb).toLoadRect.idx (ix4 (n0 := 1) (n1 := 1) (n2 := 1) 0 0 0 b))
      = X (ix4 0 0 (⟨(256 * r + b.val) / 256 % 16, Nat.mod_lt _ (by decide)⟩ : Fin 16) (⟨(256 * r + b.val) % 256, Nat.mod_lt _ (by decide)⟩ : Fin 256)) := by
  subst h
  have h1 : r + 1 ≤ 16 := inb 2
  refine congrArg X (ext4 ?_ ?_ ?_ ?_)
  · show 0 + 1 * 0 = 0
    rfl
  · show 0 + 1 * 0 = 0
    rfl
  · show r + 1 * 0 = (256 * r + b.val) / 256 % 16
    omega
  · show 0 + 1 * b.val = (256 * r + b.val) % 256
    omega

section Launch

variable (c : Dev nD) (i : grid0.Coords) (arg3 : Memref sig .tc .vmem S1x256x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x1x256x128 .f32) (harg6 : arg6.IsWhole) (arg7 : Memref sig .tc .vmem S1x1x16x256 .f32) (harg7 : arg7.IsWhole)
  (arg8 : Memref sig .tc .vmem S1x256x128 .f32) (harg8 : arg8.IsWhole)
  (x0 : Vec Ideal S1x256x128 .bf16) (x1 x2 : Vec Ideal S1x4096x128 .bf16) (x3 : Vec Ideal S1x1x256x128 .f32) (x4 : Vec Ideal S1x1x16x256 .f32)

/-- Trip `k` of the loop, from what it carries. -/
theorem trip_eq (k : Fin (k0_t1_loop i).trips) (hk : k.val < (i 2).val) (acc)
    (h : Carries (score x0 x1 x3 x4 (i 2).val) (val x2) (256 * k.val) acc) :
    Carries (score x0 x1 x3 x4 (i 2).val) (val x2) (256 * (k.val + 1))
      (tripR_k0_t1 (F := Ideal) Variants.none c none i arg3 harg3 arg4 harg4 arg5 harg5 arg6 harg6 arg7 harg7 arg8 harg8 x0 x3
        (harg4.unread x1) (harg5.unread x2) (harg7.unread x4) k acc) := by
  unfold tripR_k0_t1 trip_k0_t1
  dsimp only
  have hq : (i 2).val < 16 := (i 2).isLt
  refine carries_step _ _ (256 * k.val) acc.1 acc.2.1 acc.2.2 h x0 x3 _ _ _ (fun a b => ?_) (fun x b => ?_)
  · pointwise [k0_pay7, k0_pay2, k0_pay3]
    simp only [Memref.IsWhole.readAt_unread]
    rw [ld_row x4 _ _ k.val (k0_off2_eq i k)]
    simp only [ld_rows x1 _ _ (256 * k.val) (k0_off1_eq i k)]
    unfold score
    rw [if_pos (by omega)]
    rfl
  · rw [Memref.IsWhole.readAt_unread]
    exact ld_rows x2 _ _ (256 * k.val) (k0_off1_eq i k) x b

/-- What the loop has carried after its first `n` trips. -/
theorem carried (n : ℕ) (hn : n ≤ (i 2).val) :
    Carries (score x0 x1 x3 x4 (i 2).val) (val x2) (256 * n)
      (st_k0_t1 (F := Ideal) Variants.none c none i arg3 harg3 arg4 harg4 arg5 harg5 arg6 harg6 arg7 harg7 arg8 harg8 x0 x3
        (harg4.unread x1) (harg5.unread x2) (harg7.unread x4) (k0_pay4, k0_pay5, k0_pay6) n) := by
  induction n with
  | zero => exact carries_zero _ _
  | succ n ih =>
    have ht : n < (k0_t1_loop i).trips := by
      show n < Scf.trips _ _ _
      exact lt_of_lt_of_eq hn (trips_first (i 2)).symm
    rw [st_k0_t1_succ Variants.none c none i arg3 harg3 arg4 harg4 arg5 harg5 arg6 harg6 arg7 harg7 arg8 harg8 x0 x3
        (harg4.unread x1) (harg5.unread x2) (harg7.unread x4) (k0_pay4, k0_pay5, k0_pay6) ⟨n, ht⟩]
    exact trip_eq c i arg3 harg3 arg4 harg4 arg5 harg5 arg6 harg6 arg7 harg7 arg8 harg8 x0 x1 x2 x3 x4 ⟨n, ht⟩ hn _ (ih (by omega))

/-- The block of the result that the grid point leaves. -/
theorem block_eq (a : Fin 256) (b : Fin 128) :
    out0_A_5 c i arg3 harg3 arg4 harg4 arg5 harg5 arg6 harg6 arg7 harg7 arg8 harg8 x0 x1 x2 x3 x4 (ix3 0 a b)
      = Ideal.div (num (score x0 x1 x3 x4 (i 2).val a) (val x2 b) 4096) (den (score x0 x1 x3 x4 (i 2).val a) 4096) := by
  unfold out0_A_5
  frame_out
  have hq : (i 2).val < 16 := (i 2).isLt
  rw [trips_first (i 2), trips_rest (i 2), st_k0_t2_zero]
  have hp : ∀ j, 256 * (i 2).val + 256 ≤ j → score x0 x1 x3 x4 (i 2).val a j = ⊥ := fun j hj => by
    unfold score
    rw [if_neg (by omega)]
  have e : (4096 : ℕ) = (256 * (i 2).val + 256) + (4096 - (256 * (i 2).val + 256)) := by omega
  rw [e, num_past _ _ _ _ hp, den_past _ _ _ hp]
  refine last_block _ _ _ _ _ _
    (carried c i arg3 harg3 arg4 harg4 arg5 harg5 arg6 harg6 arg7 harg7 arg8 harg8 x0 x1 x2 x3 x4 (i 2).val le_rfl) _ _ (fun a b => ?_) (fun x b => ?_) a b
  · pointwise [k0_pay20, k0_pay2, k0_pay3]
    have e1 : ∀ x : Fin 128, x1 (ix3 ⟨k0_off5 i 0, lt_of_eq_of_lt (congrFun (k0_off5_eq i) 0) Nat.zero_lt_one⟩
        ⟨k0_off5 i 1 + b.val, by rw [k0_off5_eq]; show 256 * (i 2).val + b.val < 4096; omega⟩
        ⟨k0_off5 i 2 + x.val, by rw [k0_off5_eq]; show 0 + x.val < 128; omega⟩)
        = x1 (ix3 0 (⟨(256 * (i 2).val + b.val) % 4096, Nat.mod_lt _ (by decide)⟩ : Fin 4096) x) := fun x =>
      congrArg x1 (ext3 (by show k0_off5 i 0 = 0; rw [k0_off5_eq]; rfl)
        (by show k0_off5 i 1 + b.val = (256 * (i 2).val + b.val) % 4096; rw [k0_off5_eq]; show 256 * (i 2).val + b.val = _; omega)
        (by show k0_off5 i 2 + x.val = x.val; rw [k0_off5_eq]; show 0 + x.val = _; omega))
    simp only [e1]
    unfold score
    by_cases hb : b.val ≤ a.val
    · rw [if_pos hb, if_pos (by omega)]
      unfold raw
      refine congrArg (fun z => _ + (x3 (ix4 0 0 a 0) - z)) (congrArg x4 (ext4 ?_ ?_ ?_ ?_))
      · show k0_off6 i 0 = 0; rw [k0_off6_eq]; rfl
      · show k0_off6 i 1 = 0; rw [k0_off6_eq]; rfl
      · show k0_off6 i 2 = (256 * (i 2).val + b.val) / 256 % 16; rw [k0_off6_eq]; show (i 2).val = _; omega
      · show k0_off6 i 3 + b.val = (256 * (i 2).val + b.val) % 256; rw [k0_off6_eq]; show 0 + b.val = _; omega
    · rw [if_neg hb, if_neg (by omega)]
  · pointwise [k0_pay19]
    refine congrArg x2 (ext3 ?_ ?_ ?_)
    · show k0_off5 i 0 = 0; rw [k0_off5_eq]; rfl
    · show k0_off5 i 1 + x.val = (256 * (i 2).val + x.val) % 4096; rw [k0_off5_eq]; show 256 * (i 2).val + x.val = _; omega
    · show k0_off5 i 2 + b.val = b.val; rw [k0_off5_eq]; show 0 + b.val = _; omega

end Launch

end Cert.KernelIdeal.Att
-- ==== Proof.Entry.lean ====
/- The attention of one query as a function of the arrays of queries, keys, values and cumulated log forget values, and the
   arrays the kernel's windows read, at an index. -/
module

public import proofs.«01_k».proof.Proof.Block
public import Idealize.ShloMosaic.Lib.Claim

@[expose] public section

set_option maxRecDepth 16384

noncomputable section

namespace Cert.KernelIdeal.Att

open Idealize.ShloMosaic Idealize.ShloMosaic.TcCoe Idealize.SL.Sem
open Cert.KernelIdeal Cert.KernelIdeal.Gen Cert.Online

/-- The masked score of query `r` of sequence `b` at head `h` against key `j` (taken modulo the 4096 keys). -/
def attS (Q K : S8192x1024.Idx → EReal) (F : S8192x128.Idx → EReal) (b : Fin 2) (h : Fin 8) (r : Fin 4096) (j : ℕ) : EReal :=
  if j ≤ r.val then
    (∑ x : Fin 128, Q (ix2 ⟨b.val * 4096 + r.val, by omega⟩ ⟨h.val * 128 + x.val, by omega⟩)
      * K (ix2 ⟨b.val * 4096 + j % 4096, by omega⟩ ⟨h.val * 128 + x.val, by omega⟩)) * Ideal.ofBits FTy.f32 0x3DB504F3#32
    + (F (ix2 ⟨b.val * 4096 + r.val, by omega⟩ ⟨h.val, by omega⟩) - F (ix2 ⟨b.val * 4096 + j % 4096, by omega⟩ ⟨h.val, by omega⟩))
  else ⊥

/-- Channel `d` of the values of sequence `b` at head `h`, at key `j` (taken modulo the 4096 keys). -/
def attV (W : S8192x1024.Idx → EReal) (b : Fin 2) (h : Fin 8) (d : Fin 128) (j : ℕ) : EReal :=
  W (ix2 ⟨b.val * 4096 + j % 4096, by omega⟩ ⟨h.val * 128 + d.val, by omega⟩)

/-- The attention's result: the weighted sum of the values over the sum of the weights. -/
def att (Q K W : S8192x1024.Idx → EReal) (F : S8192x128.Idx → EReal) (b : Fin 2) (r : Fin 4096) (h : Fin 8) (d : Fin 128) : EReal :=
  Ideal.div (num (attS Q K F b h r) (attV W b h d) 4096) (den (attS Q K F b h r) 4096)

variable (m : (ℓ : Loc nD τ sig) → Buf (Elt Ideal) ℓ)

theorem v7_at (c : Dev nD) (b : Fin 2) (r : Fin 4096) (x : Fin 1024) :
    (V m c main_v7 : S2x4096x1024.Idx → EReal) (ix3 b r x)
      = (m ((c : Thread nD τ).loc main_arg0) : S8192x1024.Idx → EReal) (ix2 ⟨b.val * 4096 + r.val, by omega⟩ x) := by
  entry_read
  pointwise

theorem v9_at (c : Dev nD) (b : Fin 2) (r : Fin 4096) (x : Fin 1024) :
    (V m c main_v9 : S2x4096x1024.Idx → EReal) (ix3 b r x)
      = (m ((c : Thread nD τ).loc main_arg1) : S8192x1024.Idx → EReal) (ix2 ⟨b.val * 4096 + r.val, by omega⟩ x) := by
  entry_read
  pointwise

theorem v11_at (c : Dev nD) (b : Fin 2) (r : Fin 4096) (x : Fin 1024) :
    (V m c main_v11 : S2x4096x1024.Idx → EReal) (ix3 b r x)
      = (m ((c : Thread nD τ).loc main_arg2) : S8192x1024.Idx → EReal) (ix2 ⟨b.val * 4096 + r.val, by omega⟩ x) := by
  entry_read
  pointwise

theorem v4_at (c : Dev nD) (b : Fin 2) (h : Fin 8) (r : Fin 4096) (x : Fin 128) :
    (V m c main_v4 : S2x8x4096x128.Idx → EReal) (ix4 b h r x)
      = (m ((c : Thread nD τ).loc main_arg3) : S8192x128.Idx → EReal) (ix2 ⟨b.val * 4096 + r.val, by omega⟩ ⟨h.val, by omega⟩) := by
  entry_read
  pointwise

theorem v5_at (c : Dev nD) (b : Fin 2) (h : Fin 8) (u : Fin 16) (x : Fin 256) :
    (V m c main_v5 : S2x8x16x256.Idx → EReal) (ix4 b h u x)
      = (m ((c : Thread nD τ).loc main_arg3) : S8192x128.Idx → EReal)
        (ix2 ⟨b.val * 4096 + (u.val * 256 + x.val), by omega⟩ ⟨h.val, by omega⟩) := by
  entry_read
  pointwise

end Cert.KernelIdeal.Att
-- ==== Proof.Final.lean ====
/- The kernel's result array after its run, at every index. -/
module

public import proofs.«01_k».proof.Proof.Entry
public import proofs.«01_k».proof.Proof.Gen.KernelIdeal.Value

@[expose] public section

set_option maxRecDepth 16384

noncomputable section

namespace Cert.KernelIdeal.Att

open Idealize.ShloMosaic Idealize.ShloMosaic.TcCoe Idealize.SL.Sem
open Cert.KernelIdeal Cert.KernelIdeal.Gen Cert.Online

/-- Which block of each array a grid point reads or writes. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 1).val, (grid0.coords t 2).val, 0]
    ∧ win0_4.index t = ![(grid0.coords t 0).val, (grid0.coords t 1).val, 0, 0]
    ∧ win0_5.index t = ![(grid0.coords t 0).val, (grid0.coords t 2).val, (grid0.coords t 1).val] :=
  (by decide +kernel : ∀ t : Fin grid0.N, _)

abbrev gb (t : Fin cfg0.N) : Fin 2 := grid0.coords t 0
abbrev gh (t : Fin cfg0.N) : Fin 8 := grid0.coords t 1
abbrev gr (t : Fin cfg0.N) : Fin 16 := grid0.coords t 2

theorem emb0 (t : Fin cfg0.N) (a : Fin 256) (x : Fin 128) : ((win0_0.blk t).view.emb (ix3 0 a x) : S2x4096x1024.Idx)
    = ix3 (gb t) ⟨(gr t).val * 256 + a.val, by have := (gr t).isLt; omega⟩ ⟨(gh t).val * 128 + x.val, by have := (gh t).isLt; omega⟩ := by
  blk_ext [idx t] <;> rfl

theorem emb1 (t : Fin cfg0.N) (a : Fin 4096) (x : Fin 128) : ((win0_1.blk t).view.emb (ix3 0 a x) : S2x4096x1024.Idx)
    = ix3 (gb t) a ⟨(gh t).val * 128 + x.val, by have := (gh t).isLt; omega⟩ := by
  blk_ext [idx t] <;> rfl

theorem emb2 (t : Fin cfg0.N) (a : Fin 4096) (x : Fin 128) : ((win0_2.blk t).view.emb (ix3 0 a x) : S2x4096x1024.Idx)
    = ix3 (gb t) a ⟨(gh t).val * 128 + x.val, by have := (gh t).isLt; omega⟩ := by
  blk_ext [idx t] <;> rfl

theorem emb3 (t : Fin cfg0.N) (a : Fin 256) (x : Fin 128) : ((win0_3.blk t).view.emb (ix4 0 0 a x) : S2x8x4096x128.Idx)
    = ix4 (gb t) (gh t) ⟨(gr t).val * 256 + a.val, by have := (gr t).isLt; omega⟩ x := by
  blk_ext [idx t] <;> rfl

theorem emb4 (t : Fin cfg0.N) (a : Fin 16) (x : Fin 256) : ((win0_4.blk t).view.emb (ix4 0 0 a x) : S2x8x16x256.Idx)
    = ix4 (gb t) (gh t) a x := by
  blk_ext [idx t] <;> rfl

theorem emb5 (t : Fin cfg0.N) (a : Fin 256) (x : Fin 128) : ((win0_5.blk t).view.emb (ix3 0 a x) : S2x4096x1024.Idx)
    = ix3 (gb t) ⟨(gr t).val * 256 + a.val, by have := (gr t).isLt; omega⟩ ⟨(gh t).val * 128 + x.val, by have := (gh t).isLt; omega⟩ := by
  blk_ext [idx t] <;> rfl

variable (m : (ℓ : Loc nD τ sig) → Buf (Elt Ideal) ℓ)

abbrev aQ (c : Dev nD) : S8192x1024.Idx → EReal := m ((c : Thread nD τ).loc main_arg0)
abbrev aK (c : Dev nD) : S8192x1024.Idx → EReal := m ((c : Thread nD τ).loc main_arg1)
abbrev aW (c : Dev nD) : S8192x1024.Idx → EReal := m ((c : Thread nD τ).loc main_arg2)
abbrev aF (c : Dev nD) : S8192x128.Idx → EReal := m ((c : Thread nD τ).loc main_arg3)

/-- The array the kernel leaves. -/
def result (c : Dev nD) : S2x4096x1024.Idx → EReal := fun y =>
  att (aQ m c) (aK m c) (aW m c) (aF m c) (y 0) (y 1)
    ⟨(y 2).val / 128, by have : (y 2).val < 1024 := (y 2).isLt; omega⟩ ⟨(y 2).val % 128, Nat.mod_lt _ (by decide)⟩

theorem result_ix (c : Dev nD) (b : Fin 2) (r : Fin 4096) (h : Fin 8) (d : Fin 128) :
    result m c (ix3 b r ⟨h.val * 128 + d.val, by omega⟩) = att (aQ m c) (aK m c) (aW m c) (aF m c) b r h d := by
  show att _ _ _ _ b r ⟨(h.val * 128 + d.val) / 128, _⟩ ⟨(h.val * 128 + d.val) % 128, _⟩ = _
  congr 1
  · exact Fin.ext (by show (h.val * 128 + d.val) / 128 = h.val; omega)
  · exact Fin.ext (by show (h.val * 128 + d.val) % 128 = d.val; omega)

theorem blk0 (c : Dev nD) (t : Fin cfg0.N) (a : Fin 256) (x : Fin 128) :
    (iblk m c 0 t : S1x256x128.Idx → EReal) (ix3 0 a x)
      = aQ m c (ix2 ⟨(gb t).val * 4096 + ((gr t).val * 256 + a.val), by have := (gb t).isLt; have := (gr t).isLt; omega⟩
          ⟨(gh t).val * 128 + x.val, by have := (gh t).isLt; omega⟩) := by
  refine (congrArg (V m c main_v7 : S2x4096x1024.Idx → EReal) (emb0 t a x)).trans ?_
  exact v7_at m c _ _ _

theorem blk1 (c : Dev nD) (t : Fin cfg0.N) (a : Fin 4096) (x : Fin 128) :
    (iblk m c 1 t : S1x4096x128.Idx → EReal) (ix3 0 a x)
      = aK m c (ix2 ⟨(gb t).val * 4096 + a.val, by have := (gb t).isLt; omega⟩
          ⟨(gh t).val * 128 + x.val, by have := (gh t).isLt; omega⟩) := by
  refine (congrArg (V m c main_v9 : S2x4096x1024.Idx → EReal) (emb1 t a x)).trans ?_
  exact v9_at m c _ _ _

theorem blk2 (c : Dev nD) (t : Fin cfg0.N) (a : Fin 4096) (x : Fin 128) :
    (iblk m c 2 t : S1x4096x128.Idx → EReal) (ix3 0 a x)
      = aW m c (ix2 ⟨(gb t).val * 4096 + a.val, by have := (gb t).isLt; omega⟩
          ⟨(gh t).val * 128 + x.val, by have := (gh t).isLt; omega⟩) := by
  refine (congrArg (V m c main_v11 : S2x4096x1024.Idx → EReal) (emb2 t a x)).trans ?_
  exact v11_at m c _ _ _

theorem blk3 (c : Dev nD) (t : Fin cfg0.N) (a : Fin 256) (x : Fin 128) :
    (iblk m c 3 t : S1x1x256x128.Idx → EReal) (ix4 0 0 a x)
      = aF m c (ix2 ⟨(gb t).val * 4096 + ((gr t).val * 256 + a.val), by have := (gb t).isLt; have := (gr t).isLt; omega⟩
          ⟨(gh t).val, by have := (gh t).isLt; omega⟩) := by
  refine (congrArg (V m c main_v4 : S2x8x4096x128.Idx → EReal) (emb3 t a x)).trans ?_
  exact v4_at m c _ _ _ _

theorem blk4 (c : Dev nD) (t : Fin cfg0.N) (a : Fin 16) (x : Fin 256) :
    (iblk m c 4 t : S1x1x16x256.Idx → EReal) (ix4 0 0 a x)
      = aF m c (ix2 ⟨(gb t).val * 4096 + (a.val * 256 + x.val), by have := (gb t).isLt; omega⟩
          ⟨(gh t).val, by have := (gh t).isLt; omega⟩) := by
  refine (congrArg (V m c main_v5 : S2x8x16x256.Idx → EReal) (emb4 t a x)).trans ?_
  exact v5_at m c _ _ _ _

theorem score_eq (c : Dev nD) (t : Fin cfg0.N) (a : Fin 256) (j : ℕ) :
    score (iblk m c 0 t) (iblk m c 1 t) (iblk m c 3 t) (iblk m c 4 t) (gr t).val a j
      = attS (aQ m c) (aK m c) (aF m c) (gb t) (gh t) ⟨(gr t).val * 256 + a.val, by have := (gr t).isLt; omega⟩ j := by
  unfold score attS
  refine if_congr (by rw [Nat.mul_comm]) ?_ rfl
  unfold raw
  simp only [blk0, blk1, blk3, blk4]
  have e : j / 256 % 16 * 256 + j % 256 = j % 4096 := by omega
  simp only [e]

theorem val_eq (c : Dev nD) (t : Fin cfg0.N) (b : Fin 128) (j : ℕ) :
    val (iblk m c 2 t) b j = attV (aW m c) (gb t) (gh t) b j := by
  unfold val attV
  exact blk2 m c t _ _

/-- After the run the result array is `result`. -/
theorem final (c : Dev nD) : (dats m 0 c).arrAt 5 (cfgs 0).N = result m c := by
  refine (dats m 0 c).arrAt_eq_of_covers 5 _ (by decide +kernel) fun t _ y => ?_
  blk_simp
  rw [after0_5]
  unfold outsAt0
  idx_vars y
  obtain rfl : y0 = 0 := Subsingleton.elim _ _
  refine (block_eq c (grid0.coords t) _ _ _ _ _ _ _ _ _ _ _ _ (iblk m c 0 t) (iblk m c 1 t) (iblk m c 2 t) (iblk m c 3 t) (iblk m c 4 t) y1 y2).trans ?_
  refine Eq.trans ?_ (congrArg (result m c) (emb5 t y1 y2)).symm
  rw [result_ix]
  unfold att
  rw [show score (iblk m c 0 t) (iblk m c 1 t) (iblk m c 3 t) (iblk m c 4 t) ((grid0.coords t) 2).val y1 = _ from funext (score_eq m c t y1),
    show val (iblk m c 2 t) y2 = _ from funext (val_eq m c t y2)]

end Cert.KernelIdeal.Att
-- ==== Proof.Ref.lean ====
/- The reference's result at an index: its own term, cut at the masked scores, the row maximum and the exponentials. -/
module

public import proofs.«01_k».proof.Proof.Entry
public import proofs.«01_k».proof.Proof.Gen.ReferenceIdeal.Run

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.Online Cert.KernelIdeal.Att

/-- The reference's masked scores. -/
def scT (Q K : FVec Ideal S8192x1024 .f32) (F : FVec Ideal S8192x128 .f32) : FVec Ideal S2x8x4096x4096 .f32 :=
  select (broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (mulf (Host.dotGeneral dot_S2x4096x8x128_S2x4096x8x128_S2x8x4096x4096_3_3_1_1_02_02 none (shapeCast _ Q shapeCasts_S8192x1024_S2x4096x8x128) (shapeCast _ K shapeCasts_S8192x1024_S2x4096x8x128)) (broadcastInDim S2x8x4096x4096 ![] bcast_S_S2x8x4096x4096 (constant S_ .f32 0x3DB504F3#32))) (broadcastInDim S2x8x4096x4096 ![0, 1, 2, 3] bcast_S2x8x4096x1_S2x8x4096x4096_0_1_2_3 (broadcastInDim S2x8x4096x1 ![0, 1, 2] bcast_S2x8x4096_S2x8x4096x1_0_1_2 (transpose S2x8x4096 [0, 2, 1] (extractStridedSlice S2x4096x8 ![0, 0, 0] (shapeCast _ F shapeCasts_S8192x128_S2x4096x128) slices_S2x4096x128_S2x4096x8_0_0_0) transposes_S2x4096x8_S2x8x4096_0_2_1)))) (broadcastInDim S2x8x4096x4096 ![0, 1, 2, 3] bcast_S2x8x1x4096_S2x8x4096x4096_0_1_2_3 (broadcastInDim S2x8x1x4096 ![0, 1, 3] bcast_S2x8x4096_S2x8x1x4096_0_1_3 (transpose S2x8x4096 [0, 2, 1] (extractStridedSlice S2x4096x8 ![0, 0, 0] (shapeCast _ F shapeCasts_S8192x128_S2x4096x128) slices_S2x4096x128_S2x4096x8_0_0_0) transposes_S2x4096x8_S2x8x4096_0_2_1)))) (broadcastInDim S2x8x4096x4096 ![] bcast_S_S2x8x4096x4096 (id (constant S_ .f32 0xFF800000#32)))

/-- The reference's row maxima. -/
def mxT (S : FVec Ideal S2x8x4096x4096 .f32) : FVec Ideal S2x8x4096 .f32 :=
  maximumf (broadcastInDim S2x8x4096 ![] bcast_S_S2x8x4096 (constant S_ .f32 0xFF800000#32)) (Host.reduce FloatOps.maximumf S (constant S_ .f32 0xFF800000#32) reducesTo_S2x8x4096x4096_S2x8x4096_d3 h_S_)

/-- The reference's exponentials. -/
def exT (S : FVec Ideal S2x8x4096x4096 .f32) (M : FVec Ideal S2x8x4096 .f32) : FVec Ideal S2x8x4096x4096 .f32 :=
  Host.exp (subf S (broadcastInDim S2x8x4096x4096 ![0, 1, 2, 3] bcast_S2x8x4096x1_S2x8x4096x4096_0_1_2_3 (broadcastInDim S2x8x4096x1 ![0, 1, 2] bcast_S2x8x4096_S2x8x4096x1_0_1_2 M)))

/-- The reference's weighted sum of the values. -/
def outT (W : FVec Ideal S8192x1024 .f32) (E : FVec Ideal S2x8x4096x4096 .f32) : FVec Ideal S2x4096x1024 .f32 :=
  shapeCast _ (transpose S2x4096x8x128 [0, 3, 1, 2] (Host.dotGeneral dot_S2x4096x8x128_S2x8x4096x4096_S2x8x128x4096_1_3_3_2_02_01 none (shapeCast _ W shapeCasts_S8192x1024_S2x4096x8x128) (Host.divf E (broadcastInDim S2x8x4096x4096 ![0, 1, 2, 3] bcast_S2x8x4096x1_S2x8x4096x4096_0_1_2_3 (broadcastInDim S2x8x4096x1 ![0, 1, 2] bcast_S2x8x4096_S2x8x4096x1_0_1_2 (Host.reduceAdd E (constant S_ .f32 0x00000000#32) reducesTo_S2x8x4096x4096_S2x8x4096_d3 h_S_))))) transposes_S2x8x128x4096_S2x4096x8x128_0_3_1_2) shapeCasts_S2x4096x8x128_S2x4096x1024

theorem res_eq (m : (ℓ : Loc nD τ sig) → Buf (Elt Ideal) ℓ) (c : Dev nD) :
    Value.res_out0 m c = outT (m ((c.tc : Thread nD τ).loc main_arg2))
      (exT (scT (m ((c.tc : Thread nD τ).loc main_arg0)) (m ((c.tc : Thread nD τ).loc main_arg1)) (m ((c.tc : Thread nD τ).loc main_arg3)))
        (mxT (scT (m ((c.tc : Thread nD τ).loc main_arg0)) (m ((c.tc : Thread nD τ).loc main_arg1)) (m ((c.tc : Thread nD τ).loc main_arg3))))) := rfl

theorem add_sub_assoc' (x y z : EReal) : x + y - z = x + (y - z) := by
  rw [sub_eq_add_neg, sub_eq_add_neg, add_assoc]

theorem scT_at (Q K : FVec Ideal S8192x1024 .f32) (F : FVec Ideal S8192x128 .f32) (b : Fin 2) (h : Fin 8) (r j : Fin 4096) :
    scT Q K F (ix4 b h r j) = attS Q K F b h r j.val := by
  pointwise [scT]
  rw [select_sle j.val r.val (by omega) (by omega)]
  unfold attS
  refine if_congr Iff.rfl ?_ negInf
  have hj : j.val % 4096 = j.val := Nat.mod_eq_of_lt j.isLt
  simp only [hj]
  exact add_sub_assoc' _ _ _

theorem lift_rows (h : S2x8x4096x4096.Reduces [3] S2x8x4096) (b : Fin 2) (u : Fin 8) (r j : Fin 4096) :
    h.lift (ix3 b u r) j = (ix4 b u r j : S2x8x4096x4096.Idx) := by
  funext i
  fin_cases i <;> rfl

theorem rowMax (S : FVec Ideal S2x8x4096x4096 .f32) (e : FVec Ideal S_ .f32) (h : S2x8x4096x4096.Reduces [3] S2x8x4096)
    (b : Fin 2) (u : Fin 8) (r : Fin 4096) :
    Host.reduce FloatOps.maximumf S e reducesTo_S2x8x4096x4096_S2x8x4096_d3 h_S_ (ix3 b u r)
      = (Finset.univ : Finset (Fin 4096)).fold max (e (Shape.Idx.first h_S_)) (fun j => S (ix4 b u r j)) := by
  refine (Host.reduce_eq_fold_single (FloatOps.maximumf (F := Ideal) (φ := .f32)) S e
    reducesTo_S2x8x4096x4096_S2x8x4096_d3 h h_S_ (ix3 b u r)).trans ?_
  exact congrArg (fun f => (Finset.univ : Finset (Fin 4096)).fold max (e (Shape.Idx.first h_S_)) f)
    (funext fun j => congrArg S (lift_rows h b u r j))

theorem max_at {s : Shape} (x y : FVec Ideal s .f32) (i : s.Idx) : maximumf x y i = max (x i) (y i) := rfl

theorem init_at (i : S_.Idx) : (constant S_ .f32 0xFF800000#32 : FVec Ideal S_ .f32) i = ⊥ := negInf

theorem start_at (i : S2x8x4096.Idx) :
    (broadcastInDim S2x8x4096 ![] bcast_S_S2x8x4096 (constant S_ .f32 0xFF800000#32) : FVec Ideal S2x8x4096 .f32) i = ⊥ := negInf

theorem mxT_at (S : FVec Ideal S2x8x4096x4096 .f32) (b : Fin 2) (h : Fin 8) (r : Fin 4096) :
    mxT S (ix3 b h r) = (Finset.univ : Finset (Fin 4096)).fold max ⊥ fun j => S (ix4 b h r j) := by
  unfold mxT
  rw [max_at, start_at, rowMax S _ (by decide) b h r, init_at]
  exact max_eq_right bot_le

theorem exT_at (S : FVec Ideal S2x8x4096x4096 .f32) (M : FVec Ideal S2x8x4096 .f32) (b : Fin 2) (h : Fin 8) (r j : Fin 4096) :
    exT S M (ix4 b h r j) = Ideal.exp (S (ix4 b h r j) - M (ix3 b h r)) := by
  pointwise [exT]

theorem outT_at (W : FVec Ideal S8192x1024 .f32) (E : FVec Ideal S2x8x4096x4096 .f32) (b : Fin 2) (r : Fin 4096) (h : Fin 8) (d : Fin 128) :
    outT W E (ix3 b r ⟨h.val * 128 + d.val, by omega⟩)
      = ∑ j : Fin 4096, attV W b h d j.val * Ideal.div (E (ix4 b h r j)) (∑ i : Fin 4096, E (ix4 b h r i)) := by
  pointwise [outT]
  refine Finset.sum_congr rfl fun j _ => ?_
  have hj : j.val % 4096 = j.val := Nat.mod_eq_of_lt j.isLt
  simp only [attV, hj]

/-- A finite extended real. -/
def Fin' (x : EReal) : Prop := x ≠ ⊤ ∧ x ≠ ⊥

theorem Fin'.mul {x y : EReal} (hx : Fin' x) (hy : Fin' y) : Fin' (x * y) := by
  lift x to ℝ using hx
  lift y to ℝ using hy
  rw [← EReal.coe_mul]
  exact ⟨EReal.coe_ne_top _, EReal.coe_ne_bot _⟩

theorem Fin'.add {x y : EReal} (hx : Fin' x) (hy : Fin' y) : Fin' (x + y) := by
  lift x to ℝ using hx
  lift y to ℝ using hy
  rw [← EReal.coe_add]
  exact ⟨EReal.coe_ne_top _, EReal.coe_ne_bot _⟩

theorem Fin'.sub {x y : EReal} (hx : Fin' x) (hy : Fin' y) : Fin' (x - y) := by
  lift x to ℝ using hx
  lift y to ℝ using hy
  rw [← EReal.coe_sub]
  exact ⟨EReal.coe_ne_top _, EReal.coe_ne_bot _⟩

theorem Fin'.sum {ι : Type} (s : Finset ι) (f : ι → EReal) (h : ∀ i, Fin' (f i)) : Fin' (∑ i ∈ s, f i) := by
  classical
  induction s using Finset.induction_on with
  | empty => rw [Finset.sum_empty]; exact ⟨EReal.zero_ne_top, EReal.zero_ne_bot⟩
  | insert a s ha ih => rw [Finset.sum_insert ha]; exact (h a).add ih

theorem scale_fin : Fin' (Ideal.ofBits FTy.f32 0x3DB504F3#32) := by
  unfold Ideal.ofBits Ideal.ieee
  simp only [BitVec.extractLsb'_eq_extractLsb]
  rw [if_neg (by decide), if_neg (by decide)]
  exact ⟨EReal.coe_ne_top _, EReal.coe_ne_bot _⟩

/-- With finite queries, keys and log forget values, an unmasked score is finite. -/
theorem attS_fin (Q K : S8192x1024.Idx → EReal) (F : S8192x128.Idx → EReal) (hQ : ∀ i, Fin' (Q i)) (hK : ∀ i, Fin' (K i))
    (hF : ∀ i, Fin' (F i)) (b : Fin 2) (h : Fin 8) (r : Fin 4096) (j : ℕ) (hj : j ≤ r.val) : Fin' (attS Q K F b h r j) := by
  unfold attS
  rw [if_pos hj]
  exact ((Fin'.sum _ _ fun x => (hQ _).mul (hK _)).mul scale_fin).add ((hF _).sub (hF _))

/-- The reference's result at an index. -/
theorem ref_at (Q K W : FVec Ideal S8192x1024 .f32) (F : FVec Ideal S8192x128 .f32) (hQ : ∀ i, Fin' (Q i)) (hK : ∀ i, Fin' (K i))
    (hF : ∀ i, Fin' (F i)) (b : Fin 2) (r : Fin 4096) (h : Fin 8) (d : Fin 128) :
    outT W (exT (scT Q K F) (mxT (scT Q K F))) (ix3 b r ⟨h.val * 128 + d.val, by omega⟩) = att Q K W F b r h d := by
  have hE : ∀ j : Fin 4096, exT (scT Q K F) (mxT (scT Q K F)) (ix4 b h r j)
      = Ideal.exp (attS Q K F b h r j.val - top (attS Q K F b h r) 4096) := fun j => by
    have ht : top (attS Q K F b h r) 4096 = (Finset.univ : Finset (Fin 4096)).fold max ⊥ fun j => attS Q K F b h r j.val := by
      have e := top_add (attS Q K F b h r) 0 4096
      simp only [Nat.zero_add] at e
      rw [e]
      exact max_eq_right bot_le
    rw [exT_at, mxT_at, scT_at, ht]
    simp only [scT_at]
  rw [outT_at]
  simp only [hE]
  have hd : ∑ i : Fin 4096, Ideal.exp (attS Q K F b h r i.val - top (attS Q K F b h r) 4096) = den (attS Q K F b h r) 4096 := by
    unfold den
    exact (Finset.sum_range fun j => Ideal.exp (attS Q K F b h r j - top (attS Q K F b h r) 4096)).symm
  rw [hd]
  unfold att
  refine (num_div_den _ _ _ (den_ne_zero _ _ (fun j _ => ?_) r.isLt (attS_fin Q K F hQ hK hF b h r r.val le_rfl).2)).symm
  by_cases hj : j ≤ r.val
  · exact (attS_fin Q K F hQ hK hF b h r j hj).1
  · unfold attS
    rw [if_neg hj]
    exact bot_ne_top

end Cert.ReferenceIdeal.Att
-- ==== Proof.Attention.lean ====
/- The claims about the attention: what the precondition says, element by element, and the two results equal. -/
module

public import proofs.«01_k».proof.Defs
public import proofs.«01_k».proof.Proof.Gen.Kernel.Frame
public import proofs.«01_k».proof.Proof.Gen.KernelIdeal.Frame
public import proofs.«01_k».proof.Proof.Final
public import proofs.«01_k».proof.Proof.Ref
public import Idealize.ShloMosaic.Lib.ReduceAll
public import Idealize.ShloMosaic.Lib.Quiescent

@[expose] public section

set_option maxRecDepth 16384

noncomputable section

namespace Cert.Attention

open Idealize.ShloMosaic Idealize.ShloMosaic.TcCoe Idealize.SL.Sem
open Cert.KernelIdeal.Att Cert.ReferenceIdeal.Att

/-- The side conditions of the precondition's operations. -/
theorem preFacts : Cert.Pre_finite_scores.Facts where
  bcast_S_S8192x1024 := by decide
  reducesTo_S8192x1024_S_d0_1 := by decide
  h_S_ := by decide
  bcast_S_S8192x128 := by decide
  reducesTo_S8192x128_S_d0_1 := by decide

instance : Subsingleton Cert.Pre_finite_scores.S_.Idx := ⟨fun a b => funext fun i => i.elim0⟩

theorem infinity : Ideal.ofBits FTy.f32 0x7F800000#32 = ⊤ := by
  simp [Ideal.ofBits, Ideal.ieee]

/-- A value whose absolute value is below infinity is finite. -/
theorem fin_of_abs (x : EReal) (h : Ideal.cmp .olt (max x (-x)) (Ideal.ofBits FTy.f32 0x7F800000#32) = 1#1) : Fin' x := by
  rw [infinity] at h
  have h' : max x (-x) < ⊤ := by
    by_contra hc
    simp [Ideal.cmp, hc] at h
  constructor
  · rintro rfl
    simp at h'
  · rintro rfl
    simp at h'

variable (m : (ℓ : Loc Cert.KernelIdeal.nD Cert.KernelIdeal.τ Cert.KernelIdeal.sig) → Buf (Elt Ideal) ℓ)

/-- An array whose absolute values are all below infinity has finite elements. -/
theorem all_fin {s : Shape} {axes : List (Fin s.rank)} (x : FVec Ideal s .f32)
    (hb : Cert.Pre_finite_scores.S_.BroadcastsInDim s (![] : Fin 0 → Fin s.rank)) (hr : s.ReducesTo axes Cert.Pre_finite_scores.S_)
    (hu : 0 < Cert.Pre_finite_scores.S_.numel)
    (h : Host.reduce IntOp.andi (cmpf .olt (Host.absf x)
      (broadcastInDim s ![] hb (constant (F := Ideal) Cert.Pre_finite_scores.S_ .f32 0x7F800000#32)))
      (constantI Cert.Pre_finite_scores.S_ 1 1#1) hr hu = fun _ => 1#1) (i : s.Idx) : Fin' (x i) := by
  have e := Host.reduce_andi_all _ _ hr hu (fun a => a.elim0) (congrFun h _) i
  exact fin_of_abs (x i) e

theorem pre_fin (h : Cert.Pre_KernelIdeal_finite_scores (hPre_finite_scores := preFacts) m) (c : Dev Cert.KernelIdeal.nD) :
    (∀ i, Fin' (aQ m c i)) ∧ (∀ i, Fin' (aK m c i)) ∧ (∀ i, Fin' (aF m c i)) := by
  obtain ⟨h0, h1, h2⟩ := h c
  dsimp only [Cert.Pre_finite_scores.fn] at h0 h1 h2
  exact ⟨all_fin _ _ _ _ h0, all_fin _ _ _ _ h1, all_fin _ _ _ _ h2⟩

theorem results_eq (m' : (ℓ : Loc Cert.ReferenceIdeal.nD Cert.ReferenceIdeal.τ Cert.ReferenceIdeal.sig) → Buf (Elt Ideal) ℓ)
    (c : Dev Cert.KernelIdeal.nD) (hQ : ∀ i, Fin' (aQ m c i)) (hK : ∀ i, Fin' (aK m c i)) (hF : ∀ i, Fin' (aF m c i))
    (e0 : m' ((c.tc : Thread Cert.ReferenceIdeal.nD Cert.ReferenceIdeal.τ).loc Cert.ReferenceIdeal.main_arg0) = aQ m c)
    (e1 : m' ((c.tc : Thread Cert.ReferenceIdeal.nD Cert.ReferenceIdeal.τ).loc Cert.ReferenceIdeal.main_arg1) = aK m c)
    (e2 : m' ((c.tc : Thread Cert.ReferenceIdeal.nD Cert.ReferenceIdeal.τ).loc Cert.ReferenceIdeal.main_arg2) = aW m c)
    (e3 : m' ((c.tc : Thread Cert.ReferenceIdeal.nD Cert.ReferenceIdeal.τ).loc Cert.ReferenceIdeal.main_arg3) = aF m c) :
    Cert.ReferenceIdeal.Value.res_out0 m' c = result m c := by
  rw [res_eq, e0, e1, e2, e3]
  funext y
  obtain ⟨b, r, x, rfl⟩ : ∃ (b : Fin 2) (r : Fin 4096) (x : Fin 1024), y = ix3 b r x :=
    ⟨y 0, y 1, y 2, by funext i; fin_cases i <;> rfl⟩
  have hx : x = ⟨(⟨x.val / 128, by omega⟩ : Fin 8).val * 128 + (⟨x.val % 128, by omega⟩ : Fin 128).val, by
    show x.val / 128 * 128 + x.val % 128 < 1024
    omega⟩ := Fin.ext (by show x.val = x.val / 128 * 128 + x.val % 128; omega)
  rw [hx]
  exact (ref_at _ _ _ _ hQ hK hF b r _ _).trans (result_ix m c b r _ _).symm

theorem frame_kernel : Cert.quiescent_Kernel (hKernel := Cert.Kernel.Gen.facts) :=
  fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_ideal_pre : Cert.quiescent_KernelIdeal_pre_finite_scores (hKernelIdeal := Cert.KernelIdeal.Gen.facts)
    (hPre_finite_scores := preFacts) :=
  fun m ρ _ => Cert.KernelIdeal.Gen.frame m ρ

theorem frame_reference : Cert.quiescent_ReferenceIdeal (hReferenceIdeal := Cert.ReferenceIdeal.Gen.facts) :=
  fun m ρ _ => (θ_run (Cert.ReferenceIdeal.defs (F := Ideal)) _ _).mono
    (fun r h => ⟨fun c => (h c).2, sem_eq_zero_of_no_sems (by decide) r.2⟩) (Cert.ReferenceIdeal.Value.run (F := Ideal) m ρ)

theorem frame_reference_pre : Cert.quiescent_ReferenceIdeal_pre_finite_scores (hReferenceIdeal := Cert.ReferenceIdeal.Gen.facts)
    (hPre_finite_scores := preFacts) :=
  fun m ρ _ => (θ_run (Cert.ReferenceIdeal.defs (F := Ideal)) _ _).mono
    (fun r h => ⟨fun c => (h c).2, sem_eq_zero_of_no_sems (by decide) r.2⟩) (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_scores (hKernelIdeal := Cert.KernelIdeal.Gen.facts)
    (hReferenceIdeal := Cert.ReferenceIdeal.Gen.facts) (hPre_finite_scores := preFacts) := by
  intro m ρ m' ρ' hpre hargs
  refine ⟨fun c => result m c, ?_, ?_⟩
  · exact (θ_run _ _ _).mono (fun r h c => ⟨((h c).1).trans (final m c), (h c).2⟩)
      (Cert.KernelIdeal.Value.run_blocks m ρ)
  · refine (θ_run _ _ _).mono (fun r h c => ⟨((h c).1).trans ?_, (h c).2⟩) (Cert.ReferenceIdeal.Value.run m' ρ')
    obtain ⟨hQ, hK, hF⟩ := pre_fin m hpre c
    obtain ⟨e0, e1, e2, e3⟩ := hargs c
    exact results_eq m m' c hQ hK hF e0 e1 e2 e3

end Cert.Attention
-- ==== Proof.ProjSpec.lean ====
/- The modulation vectors, the modulated norm, and the mixer's input projections of one token, written out over the entries
   of the arrays. -/
module

public import proofs.«01_k».proof.Proof.Online

@[expose] public section

noncomputable section

namespace Cert.Layer

open Idealize.ShloMosaic

/-- `x · sigmoid x`. -/
def silu (x : EReal) : EReal := x * Ideal.logistic x

/-- Entry `j` of the modulation of the conditioning vector `cv`. -/
def modAt (cv : Fin 2048 → EReal) (w : Fin 2048 → Fin 12288 → EReal) (b : Fin 12288 → EReal) (j : Fin 12288) : EReal :=
  (∑ k, silu (cv k) * w k j) + b j

/-- The root mean square norm of `x` with gain `g`, scaled by `1 + sc` and shifted by `sh`. -/
def normed (x g sc sh : Fin 2048 → EReal) (k : Fin 2048) : EReal :=
  x k * Ideal.rsqrt (Ideal.div (∑ q, x q * x q) (Ideal.ofBits FTy.f32 0x45000000#32) + Ideal.ofBits FTy.f32 0x358637BD#32)
    * g k * (Ideal.ofBits FTy.f32 0x3F800000#32 + sc k) + sh k

theorem modAt_congr {cv cv' : Fin 2048 → EReal} {w w' : Fin 2048 → Fin 12288 → EReal} {b b' : Fin 12288 → EReal} (j : Fin 12288)
    (hc : ∀ k, cv k = cv' k) (hw : ∀ k i, w k i = w' k i) (hb : ∀ i, b i = b' i) : modAt cv w b j = modAt cv' w' b' j := by
  rw [funext hc, funext hb, show w = w' from funext fun k => funext (hw k)]

theorem normed_congr {x g sc sh x' g' sc' sh' : Fin 2048 → EReal} (k : Fin 2048) (hx : ∀ q, x q = x' q) (hg : ∀ q, g q = g' q)
    (hc : ∀ q, sc q = sc' q) (hs : ∀ q, sh q = sh' q) : normed x g sc sh k = normed x' g' sc' sh' k := by
  rw [funext hx, funext hg, funext hc, funext hs]

/-- The logarithm of the sigmoid of `z`. -/
def logSig (z : EReal) : EReal := -(max (-z) 0 + Ideal.log1p (Ideal.exp (-(FloatOps.absf (F := Ideal) (φ := .f32) (-z)))))

end Cert.Layer
-- ==== Proof.ProjBody.lean ====
/- What the bodies of the modulation call and of the two projection calls leave in their output blocks, at an index. -/
module

public import proofs.«01_k».proof.Proof.ProjSpec
public import proofs.«01_k».proof.Proof.Gen.Kernel2Ideal.Frame
public import Idealize.ShloMosaic.Lib.Claim
public import Idealize.ShloMosaic.Lib.Pointwise
public import Idealize.ShloMosaic.Lib.Pipeline.ValueKit

@[expose] public section

set_option maxRecDepth 16384

noncomputable section

namespace Cert.Kernel2Ideal.Prj

open Idealize.ShloMosaic Idealize.ShloMosaic.TcCoe Idealize.SL.Sem
open Cert.Kernel2Ideal Cert.Kernel2Ideal.Gen Cert.Layer

theorem mod_block (x0 : S136x2048.Idx → EReal) (x1 : S2048x1024.Idx → EReal) (x2 : S1x1024.Idx → EReal) (r : Fin 136) (j : Fin 1024) :
    (out0_3 (F := Ideal) x0 x1 x2 : S136x1024.Idx → EReal) (ix2 r j)
      = (∑ k : Fin 2048, silu (x0 (ix2 r k)) * x1 (ix2 k j)) + x2 (ix2 0 j) := by
  unfold out0_3
  simp (disch := decide) only [View.canon_cons_unit_lit', View.ld_unit_lit']
  pointwise [k0_pay1, silu]

theorem prod1 (x0 : S32x8x2048.Idx → EReal) (x3 : S1x2048.Idx → EReal) (x1 x2 : S1x1x2048.Idx → EReal) (x4 : S2048x4224.Idx → EReal)
    (r : Fin 256) (j : Fin 4224) :
    (k1_pay4 (F := Ideal) x0 x3 x1 x2 x4 : S256x4224.Idx → EReal) (ix2 r j)
      = ∑ k : Fin 2048, normed (fun q => x0 (ix3 ⟨r.val / 8, by omega⟩ ⟨r.val % 8, by omega⟩ q)) (fun q => x3 (ix2 0 q))
          (fun q => x2 (ix3 0 0 q)) (fun q => x1 (ix3 0 0 q)) k * x4 (ix2 k j) := by
  pointwise [k1_pay4, normed]

theorem prod2 (x0 : S32x8x2048.Idx → EReal) (x3 : S1x2048.Idx → EReal) (x1 x2 : S32x1x2048.Idx → EReal) (x4 : S2048x4224.Idx → EReal)
    (r : Fin 256) (j : Fin 4224) :
    (k2_pay4 (F := Ideal) x0 x3 x1 x2 x4 : S256x4224.Idx → EReal) (ix2 r j)
      = ∑ k : Fin 2048, normed (fun q => x0 (ix3 ⟨r.val / 8, by omega⟩ ⟨r.val % 8, by omega⟩ q)) (fun q => x3 (ix2 0 q))
          (fun q => x2 (ix3 ⟨r.val / 8, by omega⟩ 0 q)) (fun q => x1 (ix3 ⟨r.val / 8, by omega⟩ 0 q)) k * x4 (ix2 k j) := by
  pointwise [k2_pay4, normed]

/-- Token `r` of a block, modulated and normed. -/
def tok1 (x0 : S32x8x2048.Idx → EReal) (x1 x2 : S1x1x2048.Idx → EReal) (x3 : S1x2048.Idx → EReal) (r : Fin 256) (k : Fin 2048) : EReal :=
  normed (fun q => x0 (ix3 ⟨r.val / 8, by omega⟩ ⟨r.val % 8, by omega⟩ q)) (fun q => x3 (ix2 0 q))
    (fun q => x2 (ix3 0 0 q)) (fun q => x1 (ix3 0 0 q)) k

theorem out1_6_at (x0 : S32x8x2048.Idx → EReal) (x1 x2 : S1x1x2048.Idx → EReal) (x3 : S1x2048.Idx → EReal) (x4 : S2048x4224.Idx → EReal)
    (x5 : S1x128.Idx → EReal) (r : Fin 256) (j : Fin 1024) :
    (out1_6 (F := Ideal) x0 x1 x2 x3 x4 x5 : S256x1024.Idx → EReal) (ix2 r j)
      = ∑ k, tok1 x0 x1 x2 x3 r k * x4 (ix2 k ⟨j.val, by omega⟩) := by
  unfold out1_6
  simp (disch := decide) only [View.canon_cons_unit_lit', View.ld_unit_lit']
  refine Eq.trans ?_ (prod1 x0 x3 x1 x2 x4 r ⟨j.val, by omega⟩)
  pointwise [k1_pay5]

theorem out1_7_at (x0 : S32x8x2048.Idx → EReal) (x1 x2 : S1x1x2048.Idx → EReal) (x3 : S1x2048.Idx → EReal) (x4 : S2048x4224.Idx → EReal)
    (x5 : S1x128.Idx → EReal) (r : Fin 256) (j : Fin 1024) :
    (out1_7 (F := Ideal) x0 x1 x2 x3 x4 x5 : S256x1024.Idx → EReal) (ix2 r j)
      = ∑ k, tok1 x0 x1 x2 x3 r k * x4 (ix2 k ⟨1024 + j.val, by omega⟩) := by
  unfold out1_7
  simp (disch := decide) only [View.canon_cons_unit_lit', View.ld_unit_lit']
  refine Eq.trans ?_ (prod1 x0 x3 x1 x2 x4 r ⟨1024 + j.val, by omega⟩)
  pointwise [k1_pay6]

theorem out1_8_at (x0 : S32x8x2048.Idx → EReal) (x1 x2 : S1x1x2048.Idx → EReal) (x3 : S1x2048.Idx → EReal) (x4 : S2048x4224.Idx → EReal)
    (x5 : S1x128.Idx → EReal) (r : Fin 256) (j : Fin 1024) :
    (out1_8 (F := Ideal) x0 x1 x2 x3 x4 x5 : S256x1024.Idx → EReal) (ix2 r j)
      = ∑ k, tok1 x0 x1 x2 x3 r k * x4 (ix2 k ⟨2048 + j.val, by omega⟩) := by
  unfold out1_8 k1_pay7
  simp (disch := decide) only [View.canon_cons_unit_lit', View.ld_unit_lit']
  refine Eq.trans ?_ (prod1 x0 x3 x1 x2 x4 r ⟨2048 + j.val, by omega⟩)
  pointwise [k1_pay1]

theorem out1_9_at (x0 : S32x8x2048.Idx → EReal) (x1 x2 : S1x1x2048.Idx → EReal) (x3 : S1x2048.Idx → EReal) (x4 : S2048x4224.Idx → EReal)
    (x5 : S1x128.Idx → EReal) (r : Fin 256) (j : Fin 1024) :
    (out1_9 (F := Ideal) x0 x1 x2 x3 x4 x5 : S256x1024.Idx → EReal) (ix2 r j)
      = ∑ k, tok1 x0 x1 x2 x3 r k * x4 (ix2 k ⟨3072 + j.val, by omega⟩) := by
  unfold out1_9 k1_pay7
  simp (disch := decide) only [View.canon_cons_unit_lit', View.ld_unit_lit']
  refine Eq.trans ?_ (prod1 x0 x3 x1 x2 x4 r ⟨3072 + j.val, by omega⟩)
  pointwise [k1_pay2]

theorem out1_10_at (x0 : S32x8x2048.Idx → EReal) (x1 x2 : S1x1x2048.Idx → EReal) (x3 : S1x2048.Idx → EReal) (x4 : S2048x4224.Idx → EReal)
    (x5 : S1x128.Idx → EReal) (r : Fin 256) (j : Fin 128) :
    (out1_10 (F := Ideal) x0 x1 x2 x3 x4 x5 : S256x128.Idx → EReal) (ix2 r j)
      = logSig ((∑ k, tok1 x0 x1 x2 x3 r k * x4 (ix2 k ⟨4096 + j.val, by omega⟩)) + x5 (ix2 0 j)) := by
  unfold out1_10 k1_pay7
  simp (disch := decide) only [View.canon_cons_unit_lit', View.ld_unit_lit']
  refine Eq.trans ?_ (congrArg (fun z => logSig (z + x5 (ix2 0 j))) (prod1 x0 x3 x1 x2 x4 r ⟨4096 + j.val, by omega⟩))
  pointwise [k1_pay3, logSig]
  simp only [zero_sub, ne_eq, not_true_eq_false, if_false]

/-- Token `r` of a block, modulated and normed. -/
def tok2 (x0 : S32x8x2048.Idx → EReal) (x1 x2 : S32x1x2048.Idx → EReal) (x3 : S1x2048.Idx → EReal) (r : Fin 256) (k : Fin 2048) : EReal :=
  normed (fun q => x0 (ix3 ⟨r.val / 8, by omega⟩ ⟨r.val % 8, by omega⟩ q)) (fun q => x3 (ix2 0 q))
    (fun q => x2 (ix3 ⟨r.val / 8, by omega⟩ 0 q)) (fun q => x1 (ix3 ⟨r.val / 8, by omega⟩ 0 q)) k

theorem out2_6_at (x0 : S32x8x2048.Idx → EReal) (x1 x2 : S32x1x2048.Idx → EReal) (x3 : S1x2048.Idx → EReal) (x4 : S2048x4224.Idx → EReal)
    (x5 : S1x128.Idx → EReal) (r : Fin 256) (j : Fin 1024) :
    (out2_6 (F := Ideal) x0 x1 x2 x3 x4 x5 : S256x1024.Idx → EReal) (ix2 r j)
      = ∑ k, tok2 x0 x1 x2 x3 r k * x4 (ix2 k ⟨j.val, by omega⟩) := by
  unfold out2_6
  simp (disch := decide) only [View.canon_cons_unit_lit', View.ld_unit_lit']
  refine Eq.trans ?_ (prod2 x0 x3 x1 x2 x4 r ⟨j.val, by omega⟩)
  pointwise [k2_pay5]

theorem out2_7_at (x0 : S32x8x2048.Idx → EReal) (x1 x2 : S32x1x2048.Idx → EReal) (x3 : S1x2048.Idx → EReal) (x4 : S2048x4224.Idx → EReal)
    (x5 : S1x128.Idx → EReal) (r : Fin 256) (j : Fin 1024) :
    (out2_7 (F := Ideal) x0 x1 x2 x3 x4 x5 : S256x1024.Idx → EReal) (ix2 r j)
      = ∑ k, tok2 x0 x1 x2 x3 r k * x4 (ix2 k ⟨1024 + j.val, by omega⟩) := by
  unfold out2_7
  simp (disch := decide) only [View.canon_cons_unit_lit', View.ld_unit_lit']
  refine Eq.trans ?_ (prod2 x0 x3 x1 x2 x4 r ⟨1024 + j.val, by omega⟩)
  pointwise [k2_pay6]

theorem out2_8_at (x0 : S32x8x2048.Idx → EReal) (x1 x2 : S32x1x2048.Idx → EReal) (x3 : S1x2048.Idx → EReal) (x4 : S2048x4224.Idx → EReal)
    (x5 : S1x128.Idx → EReal) (r : Fin 256) (j : Fin 1024) :
    (out2_8 (F := Ideal) x0 x1 x2 x3 x4 x5 : S256x1024.Idx → EReal) (ix2 r j)
      = ∑ k, tok2 x0 x1 x2 x3 r k * x4 (ix2 k ⟨2048 + j.val, by omega⟩) := by
  unfold out2_8 k2_pay7
  simp (disch := decide) only [View.canon_cons_unit_lit', View.ld_unit_lit']
  refine Eq.trans ?_ (prod2 x0 x3 x1 x2 x4 r ⟨2048 + j.val, by omega⟩)
  pointwise [k2_pay1]

theorem out2_9_at (x0 : S32x8x2048.Idx → EReal) (x1 x2 : S32x1x2048.Idx → EReal) (x3 : S1x2048.Idx → EReal) (x4 : S2048x4224.Idx → EReal)
    (x5 : S1x128.Idx → EReal) (r : Fin 256) (j : Fin 1024) :
    (out2_9 (F := Ideal) x0 x1 x2 x3 x4 x5 : S256x1024.Idx → EReal) (ix2 r j)
      = ∑ k, tok2 x0 x1 x2 x3 r k * x4 (ix2 k ⟨3072 + j.val, by omega⟩) := by
  unfold out2_9 k2_pay7
  simp (disch := decide) only [View.canon_cons_unit_lit', View.ld_unit_lit']
  refine Eq.trans ?_ (prod2 x0 x3 x1 x2 x4 r ⟨3072 + j.val, by omega⟩)
  pointwise [k2_pay2]

theorem out2_10_at (x0 : S32x8x2048.Idx → EReal) (x1 x2 : S32x1x2048.Idx → EReal) (x3 : S1x2048.Idx → EReal) (x4 : S2048x4224.Idx → EReal)
    (x5 : S1x128.Idx → EReal) (r : Fin 256) (j : Fin 128) :
    (out2_10 (F := Ideal) x0 x1 x2 x3 x4 x5 : S256x128.Idx → EReal) (ix2 r j)
      = logSig ((∑ k, tok2 x0 x1 x2 x3 r k * x4 (ix2 k ⟨4096 + j.val, by omega⟩)) + x5 (ix2 0 j)) := by
  unfold out2_10 k2_pay7
  simp (disch := decide) only [View.canon_cons_unit_lit', View.ld_unit_lit']
  refine Eq.trans ?_ (congrArg (fun z => logSig (z + x5 (ix2 0 j))) (prod2 x0 x3 x1 x2 x4 r ⟨4096 + j.val, by omega⟩))
  pointwise [k2_pay3, logSig]
  simp only [zero_sub, ne_eq, not_true_eq_false, if_false]

end Cert.Kernel2Ideal.Prj
-- ==== Proof.ProjArrays.lean ====
/- The arrays the three calls of the projections' program leave, at every index, from the arrays they are entered with. -/
module

public import proofs.«01_k».proof.Proof.ProjBody

@[expose] public section

set_option maxRecDepth 16384

noncomputable section

namespace Cert.Kernel2Ideal.Prj

open Idealize.ShloMosaic Idealize.ShloMosaic.TcCoe Idealize.SL.Sem
open Cert.Kernel2Ideal Cert.Kernel2Ideal.Gen Cert.Layer

variable (V : (c : Dev nD) → (b : Ref sig .tc) → Buf (Elt Ideal) ((c : Thread nD τ).loc b))

/-! ## The modulation call -/

theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem lt0 (t : Fin cfg0.N) : t.val < 12 := t.isLt

theorem emb0_0 (t : Fin cfg0.N) (a : Fin 136) (x : Fin 2048) : ((win0_0.blk t).view.emb (ix2 a x) : S136x2048.Idx) = ix2 a x := by
  blk_ext [idx0 t] <;> rfl
theorem emb0_1 (t : Fin cfg0.N) (a : Fin 2048) (x : Fin 1024) : ((win0_1.blk t).view.emb (ix2 a x) : S2048x12288.Idx)
    = ix2 a ⟨t.val * 1024 + x.val, by have := lt0 t; omega⟩ := by
  blk_ext [idx0 t] <;> rfl
theorem emb0_2 (t : Fin cfg0.N) (a : Fin 1) (x : Fin 1024) : ((win0_2.blk t).view.emb (ix2 a x) : S1x12288.Idx)
    = ix2 a ⟨t.val * 1024 + x.val, by have := lt0 t; omega⟩ := by
  blk_ext [idx0 t] <;> rfl
theorem emb0_3 (t : Fin cfg0.N) (a : Fin 136) (x : Fin 1024) : ((win0_3.blk t).view.emb (ix2 a x) : S136x12288.Idx)
    = ix2 a ⟨t.val * 1024 + x.val, by have := lt0 t; omega⟩ := by
  blk_ext [idx0 t] <;> rfl

/-- The modulation call's result, from its conditioning rows, weights and biases. -/
def modArr (c : Dev nD) : S136x12288.Idx → EReal := fun y =>
  modAt (fun k => (V c main_v14 : S136x2048.Idx → EReal) (ix2 (y 0) k)) (fun k j => (V c main_v15 : S2048x12288.Idx → EReal) (ix2 k j))
    (fun j => (V c main_v17 : S1x12288.Idx → EReal) (ix2 0 j)) (y 1)

theorem final0 (c : Dev nD) : (dat0 V c).arrAt 3 cfg0.N = modArr V c := by
  refine (dat0 V c).arrAt_eq_of_covers 3 _ (by decide +kernel) fun t _ y => ?_
  blk_simp
  rw [after0_3]
  idx_vars y
  refine (mod_block _ _ _ y0 y1).trans ?_
  refine Eq.trans ?_ (congrArg (modArr V c) (emb0_3 t y0 y1)).symm
  refine congrArg₂ (· + ·) (Finset.sum_congr rfl fun k _ => congrArg₂ (· * ·) (congrArg silu ?_) ?_) ?_
  · exact congrArg (V c main_v14 : S136x2048.Idx → EReal) (emb0_0 t y0 k)
  · exact congrArg (V c main_v15 : S2048x12288.Idx → EReal) (emb0_1 t k y1)
  · exact congrArg (V c main_v17 : S1x12288.Idx → EReal) (emb0_2 t 0 y1)

/-! ## The projection call of the prompt -/

theorem idx1 : ∀ t : Fin cfg1.N, win1_0.index t = ![t.val, 0, 0] ∧ win1_1.index t = ![t.val / 16, 0, 0]
    ∧ win1_2.index t = ![t.val / 16, 0, 0] ∧ win1_3.index t = ![0, 0] ∧ win1_4.index t = ![0, 0] ∧ win1_5.index t = ![0, 0]
    ∧ win1_6.index t = ![t.val, 0] ∧ win1_7.index t = ![t.val, 0] ∧ win1_8.index t = ![t.val, 0] ∧ win1_9.index t = ![t.val, 0]
    ∧ win1_10.index t = ![t.val, 0] :=
  (by decide +kernel : ∀ t : Fin grid1.N, _)

theorem lt1 (t : Fin cfg1.N) : t.val < 32 := t.isLt

theorem emb1_0 (t : Fin cfg1.N) (a : Fin 32) (s : Fin 8) (x : Fin 2048) : ((win1_0.blk t).view.emb (ix3 a s x) : S1024x8x2048.Idx)
    = ix3 ⟨t.val * 32 + a.val, by have := lt1 t; omega⟩ s x := by
  blk_ext [idx1 t] <;> rfl
theorem emb1_1 (t : Fin cfg1.N) (x : Fin 2048) : ((win1_1.blk t).view.emb (ix3 0 0 x) : S2x1x2048.Idx)
    = ix3 ⟨t.val / 16, by have := lt1 t; omega⟩ 0 x := by
  blk_ext [idx1 t] <;> rfl
theorem emb1_2 (t : Fin cfg1.N) (x : Fin 2048) : ((win1_2.blk t).view.emb (ix3 0 0 x) : S2x1x2048.Idx)
    = ix3 ⟨t.val / 16, by have := lt1 t; omega⟩ 0 x := by
  blk_ext [idx1 t] <;> rfl
theorem emb1_3 (t : Fin cfg1.N) (a : Fin 1) (x : Fin 2048) : ((win1_3.blk t).view.emb (ix2 a x) : S1x2048.Idx) = ix2 a x := by
  blk_ext [idx1 t] <;> rfl
theorem emb1_4 (t : Fin cfg1.N) (a : Fin 2048) (x : Fin 4224) : ((win1_4.blk t).view.emb (ix2 a x) : S2048x4224.Idx) = ix2 a x := by
  blk_ext [idx1 t] <;> rfl
theorem emb1_5 (t : Fin cfg1.N) (a : Fin 1) (x : Fin 128) : ((win1_5.blk t).view.emb (ix2 a x) : S1x128.Idx) = ix2 a x := by
  blk_ext [idx1 t] <;> rfl
theorem emb1_6 (t : Fin cfg1.N) (a : Fin 256) (x : Fin 1024) : ((win1_6.blk t).view.emb (ix2 a x) : S8192x1024.Idx)
    = ix2 ⟨t.val * 256 + a.val, by have := lt1 t; omega⟩ x := by
  blk_ext [idx1 t] <;> rfl
theorem emb1_7 (t : Fin cfg1.N) (a : Fin 256) (x : Fin 1024) : ((win1_7.blk t).view.emb (ix2 a x) : S8192x1024.Idx)
    = ix2 ⟨t.val * 256 + a.val, by have := lt1 t; omega⟩ x := by
  blk_ext [idx1 t] <;> rfl
theorem emb1_8 (t : Fin cfg1.N) (a : Fin 256) (x : Fin 1024) : ((win1_8.blk t).view.emb (ix2 a x) : S8192x1024.Idx)
    = ix2 ⟨t.val * 256 + a.val, by have := lt1 t; omega⟩ x := by
  blk_ext [idx1 t] <;> rfl
theorem emb1_9 (t : Fin cfg1.N) (a : Fin 256) (x : Fin 1024) : ((win1_9.blk t).view.emb (ix2 a x) : S8192x1024.Idx)
    = ix2 ⟨t.val * 256 + a.val, by have := lt1 t; omega⟩ x := by
  blk_ext [idx1 t] <;> rfl
theorem emb1_10 (t : Fin cfg1.N) (a : Fin 256) (x : Fin 128) : ((win1_10.blk t).view.emb (ix2 a x) : S8192x128.Idx)
    = ix2 ⟨t.val * 256 + a.val, by have := lt1 t; omega⟩ x := by
  blk_ext [idx1 t] <;> rfl

/-- Token `r` of the prompt, normed and modulated. -/
def row1 (c : Dev nD) (r : Fin 8192) (k : Fin 2048) : EReal :=
  normed (fun q => (V c main_v43 : S1024x8x2048.Idx → EReal) (ix3 ⟨r.val / 8, by omega⟩ ⟨r.val % 8, by omega⟩ q))
    (fun q => (V c main_v12 : S1x2048.Idx → EReal) (ix2 0 q))
    (fun q => (V c main_v22 : S2x1x2048.Idx → EReal) (ix3 ⟨r.val / 4096, by omega⟩ 0 q))
    (fun q => (V c main_v20 : S2x1x2048.Idx → EReal) (ix3 ⟨r.val / 4096, by omega⟩ 0 q)) k

theorem tok_row1 (c : Dev nD) (t : Fin cfg1.N) (r : Fin 256) (k : Fin 2048) :
    tok1 (iblk1 V c 0 t) (iblk1 V c 1 t) (iblk1 V c 2 t) (iblk1 V c 3 t) r k
      = row1 V c ⟨t.val * 256 + r.val, by have := lt1 t; omega⟩ k := by
  have e0 : ∀ q, (iblk1 V c 0 t : S32x8x2048.Idx → EReal) (ix3 ⟨r.val / 8, by omega⟩ ⟨r.val % 8, by omega⟩ q)
      = (V c main_v43 : S1024x8x2048.Idx → EReal) (ix3 ⟨(t.val * 256 + r.val) / 8, by have := lt1 t; omega⟩ ⟨(t.val * 256 + r.val) % 8, by omega⟩ q) := fun q =>
    (congrArg (V c main_v43 : S1024x8x2048.Idx → EReal) (emb1_0 t _ _ q)).trans
      (congrArg (V c main_v43 : S1024x8x2048.Idx → EReal) (congrArg₂ (fun u v => ix3 u v q) (Fin.ext (by show t.val * 32 + r.val / 8 = (t.val * 256 + r.val) / 8; omega))
        (Fin.ext (by show r.val % 8 = (t.val * 256 + r.val) % 8; omega))))
  have e3 : ∀ q, (iblk1 V c 3 t : S1x2048.Idx → EReal) (ix2 0 q) = (V c main_v12 : S1x2048.Idx → EReal) (ix2 0 q) := fun q =>
    congrArg (V c main_v12 : S1x2048.Idx → EReal) (emb1_3 t 0 q)
  have e1 : ∀ q, (iblk1 V c 1 t : S1x1x2048.Idx → EReal) (ix3 0 0 q)
      = (V c main_v20 : S2x1x2048.Idx → EReal) (ix3 ⟨(t.val * 256 + r.val) / 4096, by have := lt1 t; omega⟩ 0 q) := fun q =>
    (congrArg (V c main_v20 : S2x1x2048.Idx → EReal) (emb1_1 t q)).trans
      (congrArg (V c main_v20 : S2x1x2048.Idx → EReal) (congrArg (fun u => ix3 u 0 q) (Fin.ext (by show t.val / 16 = (t.val * 256 + r.val) / 4096; omega))))
  have e2 : ∀ q, (iblk1 V c 2 t : S1x1x2048.Idx → EReal) (ix3 0 0 q)
      = (V c main_v22 : S2x1x2048.Idx → EReal) (ix3 ⟨(t.val * 256 + r.val) / 4096, by have := lt1 t; omega⟩ 0 q) := fun q =>
    (congrArg (V c main_v22 : S2x1x2048.Idx → EReal) (emb1_2 t q)).trans
      (congrArg (V c main_v22 : S2x1x2048.Idx → EReal) (congrArg (fun u => ix3 u 0 q) (Fin.ext (by show t.val / 16 = (t.val * 256 + r.val) / 4096; omega))))
  unfold tok1 row1
  simp only [e0, e1, e2, e3]

/-- Columns 0 to 1023 of the product of the prompt with the input weights. -/
def arr1_6 (c : Dev nD) : S8192x1024.Idx → EReal := fun y =>
  ∑ k, row1 V c (y 0) k * (V c main_v6 : S2048x4224.Idx → EReal) (ix2 k ⟨(y 1).val, by have : (y 1).val < 1024 := (y 1).isLt; omega⟩)

theorem final1_6 (c : Dev nD) : (dat1 V c).arrAt 6 cfg1.N = arr1_6 V c := by
  refine (dat1 V c).arrAt_eq_of_covers 6 _ (by decide +kernel) fun t _ y => ?_
  blk_simp
  rw [after1_6]
  idx_vars y
  refine (out1_6_at _ _ _ _ _ _ y0 y1).trans ?_
  refine Eq.trans ?_ (congrArg (arr1_6 V c) (emb1_6 t y0 y1)).symm
  refine Finset.sum_congr rfl fun k _ => congrArg₂ (· * ·) (tok_row1 V c t y0 k) ?_
  exact congrArg (V c main_v6 : S2048x4224.Idx → EReal) (emb1_4 t k _)

/-- Columns 1024 to 2047 of the product of the prompt with the input weights. -/
def arr1_7 (c : Dev nD) : S8192x1024.Idx → EReal := fun y =>
  ∑ k, row1 V c (y 0) k * (V c main_v6 : S2048x4224.Idx → EReal) (ix2 k ⟨1024 + (y 1).val, by have : (y 1).val < 1024 := (y 1).isLt; omega⟩)

theorem final1_7 (c : Dev nD) : (dat1 V c).arrAt 7 cfg1.N = arr1_7 V c := by
  refine (dat1 V c).arrAt_eq_of_covers 7 _ (by decide +kernel) fun t _ y => ?_
  blk_simp
  rw [after1_7]
  idx_vars y
  refine (out1_7_at _ _ _ _ _ _ y0 y1).trans ?_
  refine Eq.trans ?_ (congrArg (arr1_7 V c) (emb1_7 t y0 y1)).symm
  refine Finset.sum_congr rfl fun k _ => congrArg₂ (· * ·) (tok_row1 V c t y0 k) ?_
  exact congrArg (V c main_v6 : S2048x4224.Idx → EReal) (emb1_4 t k _)

/-- Columns 2048 to 3071 of the product of the prompt with the input weights. -/
def arr1_8 (c : Dev nD) : S8192x1024.Idx → EReal := fun y =>
  ∑ k, row1 V c (y 0) k * (V c main_v6 : S2048x4224.Idx → EReal) (ix2 k ⟨2048 + (y 1).val, by have : (y 1).val < 1024 := (y 1).isLt; omega⟩)

theorem final1_8 (c : Dev nD) : (dat1 V c).arrAt 8 cfg1.N = arr1_8 V c := by
  refine (dat1 V c).arrAt_eq_of_covers 8 _ (by decide +kernel) fun t _ y => ?_
  blk_simp
  rw [after1_8]
  idx_vars y
  refine (out1_8_at _ _ _ _ _ _ y0 y1).trans ?_
  refine Eq.trans ?_ (congrArg (arr1_8 V c) (emb1_8 t y0 y1)).symm
  refine Finset.sum_congr rfl fun k _ => congrArg₂ (· * ·) (tok_row1 V c t y0 k) ?_
  exact congrArg (V c main_v6 : S2048x4224.Idx → EReal) (emb1_4 t k _)

/-- Columns 3072 to 4095 of the product of the prompt with the input weights. -/
def arr1_9 (c : Dev nD) : S8192x1024.Idx → EReal := fun y =>
  ∑ k, row1 V c (y 0) k * (V c main_v6 : S2048x4224.Idx → EReal) (ix2 k ⟨3072 + (y 1).val, by have : (y 1).val < 1024 := (y 1).isLt; omega⟩)

theorem final1_9 (c : Dev nD) : (dat1 V c).arrAt 9 cfg1.N = arr1_9 V c := by
  refine (dat1 V c).arrAt_eq_of_covers 9 _ (by decide +kernel) fun t _ y => ?_
  blk_simp
  rw [after1_9]
  idx_vars y
  refine (out1_9_at _ _ _ _ _ _ y0 y1).trans ?_
  refine Eq.trans ?_ (congrArg (arr1_9 V c) (emb1_9 t y0 y1)).symm
  refine Finset.sum_congr rfl fun k _ => congrArg₂ (· * ·) (tok_row1 V c t y0 k) ?_
  exact congrArg (V c main_v6 : S2048x4224.Idx → EReal) (emb1_4 t k _)

/-- The log forget values of the prompt, padded to 128 columns. -/
def arr1_10 (c : Dev nD) : S8192x128.Idx → EReal := fun y =>
  logSig ((∑ k, row1 V c (y 0) k * (V c main_v6 : S2048x4224.Idx → EReal) (ix2 k ⟨4096 + (y 1).val, by have : (y 1).val < 128 := (y 1).isLt; omega⟩))
    + (V c main_v10 : S1x128.Idx → EReal) (ix2 0 (y 1)))

theorem final1_10 (c : Dev nD) : (dat1 V c).arrAt 10 cfg1.N = arr1_10 V c := by
  refine (dat1 V c).arrAt_eq_of_covers 10 _ (by decide +kernel) fun t _ y => ?_
  blk_simp
  rw [after1_10]
  idx_vars y
  refine (out1_10_at _ _ _ _ _ _ y0 y1).trans ?_
  refine Eq.trans ?_ (congrArg (arr1_10 V c) (emb1_10 t y0 y1)).symm
  refine congrArg logSig (congrArg₂ (· + ·) (Finset.sum_congr rfl fun k _ => congrArg₂ (· * ·) (tok_row1 V c t y0 k) ?_) ?_)
  · exact congrArg (V c main_v6 : S2048x4224.Idx → EReal) (emb1_4 t k _)
  · exact congrArg (V c main_v10 : S1x128.Idx → EReal) (emb1_5 t 0 y1)

/-! ## The projection call of the samples -/

theorem idx2 : ∀ t : Fin cfg2.N, win2_0.index t = ![t.val, 0, 0] ∧ win2_1.index t = ![t.val, 0, 0]
    ∧ win2_2.index t = ![t.val, 0, 0] ∧ win2_3.index t = ![0, 0] ∧ win2_4.index t = ![0, 0] ∧ win2_5.index t = ![0, 0]
    ∧ win2_6.index t = ![t.val, 0] ∧ win2_7.index t = ![t.val, 0] ∧ win2_8.index t = ![t.val, 0] ∧ win2_9.index t = ![t.val, 0]
    ∧ win2_10.index t = ![t.val, 0] :=
  (by decide +kernel : ∀ t : Fin grid2.N, _)

theorem lt2 (t : Fin cfg2.N) : t.val < 4 := t.isLt

theorem emb2_0 (t : Fin cfg2.N) (a : Fin 32) (s : Fin 8) (x : Fin 2048) : ((win2_0.blk t).view.emb (ix3 a s x) : S128x8x2048.Idx)
    = ix3 ⟨t.val * 32 + a.val, by have := lt2 t; omega⟩ s x := by
  blk_ext [idx2 t] <;> rfl
theorem emb2_1 (t : Fin cfg2.N) (a : Fin 32) (x : Fin 2048) : ((win2_1.blk t).view.emb (ix3 a 0 x) : S128x1x2048.Idx)
    = ix3 ⟨t.val * 32 + a.val, by have := lt2 t; omega⟩ 0 x := by
  blk_ext [idx2 t] <;> rfl
theorem emb2_2 (t : Fin cfg2.N) (a : Fin 32) (x : Fin 2048) : ((win2_2.blk t).view.emb (ix3 a 0 x) : S128x1x2048.Idx)
    = ix3 ⟨t.val * 32 + a.val, by have := lt2 t; omega⟩ 0 x := by
  blk_ext [idx2 t] <;> rfl
theorem emb2_3 (t : Fin cfg2.N) (a : Fin 1) (x : Fin 2048) : ((win2_3.blk t).view.emb (ix2 a x) : S1x2048.Idx) = ix2 a x := by
  blk_ext [idx2 t] <;> rfl
theorem emb2_4 (t : Fin cfg2.N) (a : Fin 2048) (x : Fin 4224) : ((win2_4.blk t).view.emb (ix2 a x) : S2048x4224.Idx) = ix2 a x := by
  blk_ext [idx2 t] <;> rfl
theorem emb2_5 (t : Fin cfg2.N) (a : Fin 1) (x : Fin 128) : ((win2_5.blk t).view.emb (ix2 a x) : S1x128.Idx) = ix2 a x := by
  blk_ext [idx2 t] <;> rfl
theorem emb2_6 (t : Fin cfg2.N) (a : Fin 256) (x : Fin 1024) : ((win2_6.blk t).view.emb (ix2 a x) : S1024x1024.Idx)
    = ix2 ⟨t.val * 256 + a.val, by have := lt2 t; omega⟩ x := by
  blk_ext [idx2 t] <;> rfl
theorem emb2_7 (t : Fin cfg2.N) (a : Fin 256) (x : Fin 1024) : ((win2_7.blk t).view.emb (ix2 a x) : S1024x1024.Idx)
    = ix2 ⟨t.val * 256 + a.val, by have := lt2 t; omega⟩ x := by
  blk_ext [idx2 t] <;> rfl
theorem emb2_8 (t : Fin cfg2.N) (a : Fin 256) (x : Fin 1024) : ((win2_8.blk t).view.emb (ix2 a x) : S1024x1024.Idx)
    = ix2 ⟨t.val * 256 + a.val, by have := lt2 t; omega⟩ x := by
  blk_ext [idx2 t] <;> rfl
theorem emb2_9 (t : Fin cfg2.N) (a : Fin 256) (x : Fin 1024) : ((win2_9.blk t).view.emb (ix2 a x) : S1024x1024.Idx)
    = ix2 ⟨t.val * 256 + a.val, by have := lt2 t; omega⟩ x := by
  blk_ext [idx2 t] <;> rfl
theorem emb2_10 (t : Fin cfg2.N) (a : Fin 256) (x : Fin 128) : ((win2_10.blk t).view.emb (ix2 a x) : S1024x128.Idx)
    = ix2 ⟨t.val * 256 + a.val, by have := lt2 t; omega⟩ x := by
  blk_ext [idx2 t] <;> rfl

/-- Token `r` of the samples, normed and modulated. -/
def row2 (c : Dev nD) (r : Fin 1024) (k : Fin 2048) : EReal :=
  normed (fun q => (V c main_arg1 : S128x8x2048.Idx → EReal) (ix3 ⟨r.val / 8, by omega⟩ ⟨r.val % 8, by omega⟩ q))
    (fun q => (V c main_v12 : S1x2048.Idx → EReal) (ix2 0 q))
    (fun q => (V c main_v34 : S128x1x2048.Idx → EReal) (ix3 ⟨r.val / 8, by omega⟩ 0 q))
    (fun q => (V c main_v32 : S128x1x2048.Idx → EReal) (ix3 ⟨r.val / 8, by omega⟩ 0 q)) k

theorem tok_row2 (c : Dev nD) (t : Fin cfg2.N) (r : Fin 256) (k : Fin 2048) :
    tok2 (iblk2 V c 0 t) (iblk2 V c 1 t) (iblk2 V c 2 t) (iblk2 V c 3 t) r k
      = row2 V c ⟨t.val * 256 + r.val, by have := lt2 t; omega⟩ k := by
  have e0 : ∀ q, (iblk2 V c 0 t : S32x8x2048.Idx → EReal) (ix3 ⟨r.val / 8, by omega⟩ ⟨r.val % 8, by omega⟩ q)
      = (V c main_arg1 : S128x8x2048.Idx → EReal) (ix3 ⟨(t.val * 256 + r.val) / 8, by have := lt2 t; omega⟩ ⟨(t.val * 256 + r.val) % 8, by omega⟩ q) := fun q =>
    (congrArg (V c main_arg1 : S128x8x2048.Idx → EReal) (emb2_0 t _ _ q)).trans
      (congrArg (V c main_arg1 : S128x8x2048.Idx → EReal) (congrArg₂ (fun u v => ix3 u v q) (Fin.ext (by show t.val * 32 + r.val / 8 = (t.val * 256 + r.val) / 8; omega))
        (Fin.ext (by show r.val % 8 = (t.val * 256 + r.val) % 8; omega))))
  have e3 : ∀ q, (iblk2 V c 3 t : S1x2048.Idx → EReal) (ix2 0 q) = (V c main_v12 : S1x2048.Idx → EReal) (ix2 0 q) := fun q =>
    congrArg (V c main_v12 : S1x2048.Idx → EReal) (emb2_3 t 0 q)
  have e1 : ∀ q, (iblk2 V c 1 t : S32x1x2048.Idx → EReal) (ix3 ⟨r.val / 8, by omega⟩ 0 q)
      = (V c main_v32 : S128x1x2048.Idx → EReal) (ix3 ⟨(t.val * 256 + r.val) / 8, by have := lt2 t; omega⟩ 0 q) := fun q =>
    (congrArg (V c main_v32 : S128x1x2048.Idx → EReal) (emb2_1 t _ q)).trans
      (congrArg (V c main_v32 : S128x1x2048.Idx → EReal) (congrArg (fun u => ix3 u 0 q) (Fin.ext (by show t.val * 32 + r.val / 8 = (t.val * 256 + r.val) / 8; omega))))
  have e2 : ∀ q, (iblk2 V c 2 t : S32x1x2048.Idx → EReal) (ix3 ⟨r.val / 8, by omega⟩ 0 q)
      = (V c main_v34 : S128x1x2048.Idx → EReal) (ix3 ⟨(t.val * 256 + r.val) / 8, by have := lt2 t; omega⟩ 0 q) := fun q =>
    (congrArg (V c main_v34 : S128x1x2048.Idx → EReal) (emb2_2 t _ q)).trans
      (congrArg (V c main_v34 : S128x1x2048.Idx → EReal) (congrArg (fun u => ix3 u 0 q) (Fin.ext (by show t.val * 32 + r.val / 8 = (t.val * 256 + r.val) / 8; omega))))
  unfold tok2 row2
  simp only [e0, e1, e2, e3]

/-- Columns 0 to 1023 of the product of the samples with the input weights. -/
def arr2_6 (c : Dev nD) : S1024x1024.Idx → EReal := fun y =>
  ∑ k, row2 V c (y 0) k * (V c main_v6 : S2048x4224.Idx → EReal) (ix2 k ⟨(y 1).val, by have : (y 1).val < 1024 := (y 1).isLt; omega⟩)

theorem final2_6 (c : Dev nD) : (dat2 V c).arrAt 6 cfg2.N = arr2_6 V c := by
  refine (dat2 V c).arrAt_eq_of_covers 6 _ (by decide +kernel) fun t _ y => ?_
  blk_simp
  rw [after2_6]
  idx_vars y
  refine (out2_6_at _ _ _ _ _ _ y0 y1).trans ?_
  refine Eq.trans ?_ (congrArg (arr2_6 V c) (emb2_6 t y0 y1)).symm
  refine Finset.sum_congr rfl fun k _ => congrArg₂ (· * ·) (tok_row2 V c t y0 k) ?_
  exact congrArg (V c main_v6 : S2048x4224.Idx → EReal) (emb2_4 t k _)

/-- Columns 1024 to 2047 of the product of the samples with the input weights. -/
def arr2_7 (c : Dev nD) : S1024x1024.Idx → EReal := fun y =>
  ∑ k, row2 V c (y 0) k * (V c main_v6 : S2048x4224.Idx → EReal) (ix2 k ⟨1024 + (y 1).val, by have : (y 1).val < 1024 := (y 1).isLt; omega⟩)

theorem final2_7 (c : Dev nD) : (dat2 V c).arrAt 7 cfg2.N = arr2_7 V c := by
  refine (dat2 V c).arrAt_eq_of_covers 7 _ (by decide +kernel) fun t _ y => ?_
  blk_simp
  rw [after2_7]
  idx_vars y
  refine (out2_7_at _ _ _ _ _ _ y0 y1).trans ?_
  refine Eq.trans ?_ (congrArg (arr2_7 V c) (emb2_7 t y0 y1)).symm
  refine Finset.sum_congr rfl fun k _ => congrArg₂ (· * ·) (tok_row2 V c t y0 k) ?_
  exact congrArg (V c main_v6 : S2048x4224.Idx → EReal) (emb2_4 t k _)

/-- Columns 2048 to 3071 of the product of the samples with the input weights. -/
def arr2_8 (c : Dev nD) : S1024x1024.Idx → EReal := fun y =>
  ∑ k, row2 V c (y 0) k * (V c main_v6 : S2048x4224.Idx → EReal) (ix2 k ⟨2048 + (y 1).val, by have : (y 1).val < 1024 := (y 1).isLt; omega⟩)

theorem final2_8 (c : Dev nD) : (dat2 V c).arrAt 8 cfg2.N = arr2_8 V c := by
  refine (dat2 V c).arrAt_eq_of_covers 8 _ (by decide +kernel) fun t _ y => ?_
  blk_simp
  rw [after2_8]
  idx_vars y
  refine (out2_8_at _ _ _ _ _ _ y0 y1).trans ?_
  refine Eq.trans ?_ (congrArg (arr2_8 V c) (emb2_8 t y0 y1)).symm
  refine Finset.sum_congr rfl fun k _ => congrArg₂ (· * ·) (tok_row2 V c t y0 k) ?_
  exact congrArg (V c main_v6 : S2048x4224.Idx → EReal) (emb2_4 t k _)

/-- Columns 3072 to 4095 of the product of the samples with the input weights. -/
def arr2_9 (c : Dev nD) : S1024x1024.Idx → EReal := fun y =>
  ∑ k, row2 V c (y 0) k * (V c main_v6 : S2048x4224.Idx → EReal) (ix2 k ⟨3072 + (y 1).val, by have : (y 1).val < 1024 := (y 1).isLt; omega⟩)

theorem final2_9 (c : Dev nD) : (dat2 V c).arrAt 9 cfg2.N = arr2_9 V c := by
  refine (dat2 V c).arrAt_eq_of_covers 9 _ (by decide +kernel) fun t _ y => ?_
  blk_simp
  rw [after2_9]
  idx_vars y
  refine (out2_9_at _ _ _ _ _ _ y0 y1).trans ?_
  refine Eq.trans ?_ (congrArg (arr2_9 V c) (emb2_9 t y0 y1)).symm
  refine Finset.sum_congr rfl fun k _ => congrArg₂ (· * ·) (tok_row2 V c t y0 k) ?_
  exact congrArg (V c main_v6 : S2048x4224.Idx → EReal) (emb2_4 t k _)

/-- The log forget values of the samples, padded to 128 columns. -/
def arr2_10 (c : Dev nD) : S1024x128.Idx → EReal := fun y =>
  logSig ((∑ k, row2 V c (y 0) k * (V c main_v6 : S2048x4224.Idx → EReal) (ix2 k ⟨4096 + (y 1).val, by have : (y 1).val < 128 := (y 1).isLt; omega⟩))
    + (V c main_v10 : S1x128.Idx → EReal) (ix2 0 (y 1)))

theorem final2_10 (c : Dev nD) : (dat2 V c).arrAt 10 cfg2.N = arr2_10 V c := by
  refine (dat2 V c).arrAt_eq_of_covers 10 _ (by decide +kernel) fun t _ y => ?_
  blk_simp
  rw [after2_10]
  idx_vars y
  refine (out2_10_at _ _ _ _ _ _ y0 y1).trans ?_
  refine Eq.trans ?_ (congrArg (arr2_10 V c) (emb2_10 t y0 y1)).symm
  refine congrArg logSig (congrArg₂ (· + ·) (Finset.sum_congr rfl fun k _ => congrArg₂ (· * ·) (tok_row2 V c t y0 k) ?_) ?_)
  · exact congrArg (V c main_v6 : S2048x4224.Idx → EReal) (emb2_4 t k _)
  · exact congrArg (V c main_v10 : S1x128.Idx → EReal) (emb2_5 t 0 y1)

end Cert.Kernel2Ideal.Prj
-- ==== Proof.ProjEntry.lean ====
/- The projections' program: what its calls are entered with, and its results after the run, at every index, from its
   arguments. -/
module

public import proofs.«01_k».proof.Proof.ProjArrays
public import Idealize.ShloMosaic.Lib.StableHlo.RunRead

@[expose] public section

set_option maxRecDepth 16384

noncomputable section

namespace Cert.Kernel2Ideal.Prj

open Idealize.ShloMosaic Idealize.ShloMosaic.TcCoe Idealize.SL Idealize.SL.Sem Idealize.SL.RA
open Cert.Kernel2Ideal Cert.Kernel2Ideal.Gen Cert.Layer

variable (m : (ℓ : Loc nD τ sig) → Buf (Elt Ideal) ℓ) (ρ : Dev nD → PrngReg)

abbrev aX (c : Dev nD) : S2x4096x2048.Idx → EReal := m ((c : Thread nD τ).loc main_arg0)
abbrev aY (c : Dev nD) : S128x8x2048.Idx → EReal := m ((c : Thread nD τ).loc main_arg1)
abbrev aC (c : Dev nD) : S2x2048.Idx → EReal := m ((c : Thread nD τ).loc main_arg2)
abbrev aD (c : Dev nD) : S128x2048.Idx → EReal := m ((c : Thread nD τ).loc main_arg3)
abbrev aA (c : Dev nD) : S1x2048x12288.Idx → EReal := m ((c : Thread nD τ).loc main_arg4)
abbrev aB (c : Dev nD) : S1x12288.Idx → EReal := m ((c : Thread nD τ).loc main_arg5)
abbrev aG (c : Dev nD) : S1x2048.Idx → EReal := m ((c : Thread nD τ).loc main_arg6)
abbrev aW (c : Dev nD) : S1x2048x4104.Idx → EReal := m ((c : Thread nD τ).loc main_arg7)
abbrev aF (c : Dev nD) : S1x8.Idx → EReal := m ((c : Thread nD τ).loc main_arg8)

/-! ## What the modulation call is entered with -/

theorem at17 (V : Valuation τ sig (Elt Ideal)) (r : Ref sig .tc)
    (hr : r ∉ [main_v0, main_v1, main_v2, main_v3, main_cst, main_v4, main_v5, main_v6, main_v7, main_cst_0, main_v8, main_v9, main_v10, main_v11, main_v12, main_cst_1, main_v13]) :
    StableHlo.upto hostOps0 V 17 (Proc.devRef .tc r) = V (Proc.devRef .tc r) :=
  StableHlo.upto_unwritten _ rfl hr V

/-- The modulation call's rows: the joined condition arrays. -/
theorem v14_eq (V : Valuation τ sig (Elt Ideal)) :
    (StableHlo.after hostOps0 V (Proc.devRef .tc main_v14) : S136x2048.Idx → EReal)
      = (concatenate S136x2048 0 [⟨S2x2048, (V (Proc.devRef .tc main_arg2) : S2x2048.Idx → EReal)⟩,
          ⟨S128x2048, (V (Proc.devRef .tc main_arg3) : S128x2048.Idx → EReal)⟩,
          ⟨S6x2048, (StableHlo.upto hostOps0 V 17 (Proc.devRef .tc main_v13) : S6x2048.Idx → EReal)⟩]
          concatenates_S2x2048_S128x2048_S6x2048_S136x2048_d0) := by
  refine (StableHlo.after_last_write (i := 17) [main_v15, main_v16, main_v17] rfl rfl (by decide) V).trans ?_
  refine (StableHlo.nary_result _ _ _ _ _ _).trans ?_
  rw [← at17 V main_arg2 (by decide), ← at17 V main_arg3 (by decide)]
  rfl

/-- The projection weights the calls are entered with, over the pieces they are joined from. -/
theorem v6_eq (V : Valuation τ sig (Elt Ideal)) :
    (StableHlo.after hostOps0 V (Proc.devRef .tc main_v6) : S2048x4224.Idx → EReal)
      = (concatenate S2048x4224 1 [⟨S2048x3072, (StableHlo.upto hostOps0 V 6 (Proc.devRef .tc main_v1) : S2048x3072.Idx → EReal)⟩,
          ⟨S2048x1024, (StableHlo.upto hostOps0 V 6 (Proc.devRef .tc main_v2) : S2048x1024.Idx → EReal)⟩,
          ⟨S2048x8, (StableHlo.upto hostOps0 V 6 (Proc.devRef .tc main_v3) : S2048x8.Idx → EReal)⟩,
          ⟨S2048x120, (StableHlo.upto hostOps0 V 6 (Proc.devRef .tc main_v4) : S2048x120.Idx → EReal)⟩]
          concatenates_S2048x3072_S2048x1024_S2048x8_S2048x120_S2048x4224_d1) := by
  refine (StableHlo.after_last_write (i := 7) [main_v7, main_cst_0, main_v8, main_v9, main_v10, main_v11, main_v12, main_cst_1, main_v13, main_v14, main_v15, main_v16, main_v17] rfl rfl (by decide) V).trans ?_
  refine (StableHlo.unary_result ..).trans ?_
  have h := StableHlo.upto_last_write (ops := hostOps0) (n := 7) (i := 6) (r := main_v5) [] rfl rfl (by decide) V
  rw [h.trans (StableHlo.nary_result _ _ _ _ _ _)]
  rfl

theorem v14_p (c : Dev nD) (b : Fin 2) (k : Fin 2048) :
    (V1 m ρ c main_v14 : S136x2048.Idx → EReal) (ix2 ⟨b.val, by omega⟩ k) = aC m c (ix2 b k) := by
  refine (congrFun (v14_eq _) _).trans ?_
  pointwise

theorem v14_s (c : Dev nD) (b : Fin 128) (k : Fin 2048) :
    (V1 m ρ c main_v14 : S136x2048.Idx → EReal) (ix2 ⟨2 + b.val, by omega⟩ k) = aD m c (ix2 b k) := by
  refine (congrFun (v14_eq _) _).trans ?_
  pointwise

theorem v15_at (c : Dev nD) (k : Fin 2048) (j : Fin 12288) :
    (V1 m ρ c main_v15 : S2048x12288.Idx → EReal) (ix2 k j) = aA m c (ix3 0 k j) := by
  dsimp only [V1, W1]
  entry_read
  pointwise

theorem v17_at (c : Dev nD) (j : Fin 12288) :
    (V1 m ρ c main_v17 : S1x12288.Idx → EReal) (ix2 0 j) = aB m c (ix2 0 j) := by
  dsimp only [V1, W1]
  entry_read
  pointwise

theorem w6_low (c : Dev nD) (k : Fin 2048) (j : Fin 3072) :
    (W1 m ρ c (Proc.devRef .tc main_v6) : S2048x4224.Idx → EReal) (ix2 k ⟨j.val, by omega⟩) = aW m c (ix3 0 k ⟨j.val, by omega⟩) := by
  refine (congrFun (v6_eq _) _).trans ?_
  trans (StableHlo.upto hostOps0 (fun b => m ((c : Dev nD), b)) 6 (Proc.devRef .tc main_v1) : S2048x3072.Idx → EReal) (ix2 k j)
  · pointwise
  dsimp only [StableHlo.upto, hostOps0, List.take]
  entry_read
  pointwise

theorem w6_mid (c : Dev nD) (k : Fin 2048) (j : Fin 1024) :
    (W1 m ρ c (Proc.devRef .tc main_v6) : S2048x4224.Idx → EReal) (ix2 k ⟨3072 + j.val, by omega⟩) = aW m c (ix3 0 k ⟨3080 + j.val, by omega⟩) := by
  refine (congrFun (v6_eq _) _).trans ?_
  trans (StableHlo.upto hostOps0 (fun b => m ((c : Dev nD), b)) 6 (Proc.devRef .tc main_v2) : S2048x1024.Idx → EReal) (ix2 k j)
  · pointwise
  dsimp only [StableHlo.upto, hostOps0, List.take]
  entry_read
  pointwise

theorem w6_high (c : Dev nD) (k : Fin 2048) (j : Fin 8) :
    (W1 m ρ c (Proc.devRef .tc main_v6) : S2048x4224.Idx → EReal) (ix2 k ⟨4096 + j.val, by omega⟩) = aW m c (ix3 0 k ⟨3072 + j.val, by omega⟩) := by
  refine (congrFun (v6_eq _) _).trans ?_
  trans (StableHlo.upto hostOps0 (fun b => m ((c : Dev nD), b)) 6 (Proc.devRef .tc main_v3) : S2048x8.Idx → EReal) (ix2 k j)
  · have h1 : ¬ 4096 + j.val < 3072 := by omega
    have h2 : ¬ 4096 + j.val - 3072 < 1024 := by omega
    have h3 : 4096 + j.val - 3072 - 1024 < 8 := by omega
    have e : (⟨4096 + j.val - 3072 - 1024, h3⟩ : Fin 8) = j := Fin.ext (by show 4096 + j.val - 3072 - 1024 = j.val; omega)
    pointwise
    rw [dif_neg h1, dif_neg h2, dif_pos h3, e]
  dsimp only [StableHlo.upto, hostOps0, List.take]
  entry_read
  pointwise

theorem w10_at (c : Dev nD) (j : Fin 8) :
    (W1 m ρ c (Proc.devRef .tc main_v10) : S1x128.Idx → EReal) (ix2 0 ⟨j.val, by omega⟩) = aF m c (ix2 0 j) := by
  dsimp only [V1, W1]
  entry_read
  pointwise

theorem w12_at (c : Dev nD) (k : Fin 2048) :
    (W1 m ρ c (Proc.devRef .tc main_v12) : S1x2048.Idx → EReal) (ix2 0 k) = aG m c (ix2 0 k) := by
  dsimp only [V1, W1]
  entry_read
  pointwise

/-! ## What the projection calls are entered with -/

/-- The modulation of sequence `b` of the prompt, and of sample `b`. -/
def modP (c : Dev nD) (b : Fin 2) (j : Fin 12288) : EReal :=
  modAt (fun k => aC m c (ix2 b k)) (fun k j => aA m c (ix3 0 k j)) (fun j => aB m c (ix2 0 j)) j
def modS (c : Dev nD) (b : Fin 128) (j : Fin 12288) : EReal :=
  modAt (fun k => aD m c (ix2 b k)) (fun k j => aA m c (ix3 0 k j)) (fun j => aB m c (ix2 0 j)) j

theorem v18_eq (c : Dev nD) : W2 m ρ c (Proc.devRef .tc main_v18) = modArr (V1 m ρ) c :=
  (W2_arr m ρ c 3).trans (final0 (V1 m ρ) c)

theorem v18_p (c : Dev nD) (b : Fin 2) (j : Fin 12288) :
    (W2 m ρ c (Proc.devRef .tc main_v18) : S136x12288.Idx → EReal) (ix2 ⟨b.val, by omega⟩ j) = modP m c b j := by
  refine (congrFun (v18_eq m ρ c) (ix2 ⟨b.val, by omega⟩ j)).trans ?_
  exact modAt_congr j (v14_p m ρ c b) (v15_at m ρ c) (v17_at m ρ c)

theorem v18_s (c : Dev nD) (b : Fin 128) (j : Fin 12288) :
    (W2 m ρ c (Proc.devRef .tc main_v18) : S136x12288.Idx → EReal) (ix2 ⟨2 + b.val, by omega⟩ j) = modS m c b j := by
  refine (congrFun (v18_eq m ρ c) (ix2 ⟨2 + b.val, by omega⟩ j)).trans ?_
  exact modAt_congr j (v14_s m ρ c b) (v15_at m ρ c) (v17_at m ρ c)

theorem v20_at (c : Dev nD) (b : Fin 2) (k : Fin 2048) :
    (V3 m ρ c main_v20 : S2x1x2048.Idx → EReal) (ix3 b 0 k) = modP m c b ⟨k.val, by omega⟩ := by
  refine Eq.trans ?_ (v18_p m ρ c b ⟨k.val, by omega⟩)
  dsimp only [V3, W3]
  entry_read
  pointwise

theorem v22_at (c : Dev nD) (b : Fin 2) (k : Fin 2048) :
    (V3 m ρ c main_v22 : S2x1x2048.Idx → EReal) (ix3 b 0 k) = modP m c b ⟨2048 + k.val, by omega⟩ := by
  refine Eq.trans ?_ (v18_p m ρ c b ⟨2048 + k.val, by omega⟩)
  dsimp only [V3, W3]
  entry_read
  pointwise

theorem v32_at (c : Dev nD) (b : Fin 128) (k : Fin 2048) :
    (V3 m ρ c main_v32 : S128x1x2048.Idx → EReal) (ix3 b 0 k) = modS m c b ⟨k.val, by omega⟩ := by
  refine Eq.trans ?_ (v18_s m ρ c b ⟨k.val, by omega⟩)
  dsimp only [V3, W3]
  entry_read
  pointwise

theorem v34_at (c : Dev nD) (b : Fin 128) (k : Fin 2048) :
    (V3 m ρ c main_v34 : S128x1x2048.Idx → EReal) (ix3 b 0 k) = modS m c b ⟨2048 + k.val, by omega⟩ := by
  refine Eq.trans ?_ (v18_s m ρ c b ⟨2048 + k.val, by omega⟩)
  dsimp only [V3, W3]
  entry_read
  pointwise

theorem v43_at (c : Dev nD) (b : Fin 2) (l : Fin 4096) (k : Fin 2048) :
    (V3 m ρ c main_v43 : S1024x8x2048.Idx → EReal) (ix3 ⟨(b.val * 4096 + l.val) / 8, by omega⟩ ⟨(b.val * 4096 + l.val) % 8, by omega⟩ k)
      = aX m c (ix3 b l k) := by
  refine Eq.trans ?_ (congrFun (W2_args m ρ c main_arg0 (by decide)) (ix3 b l k))
  dsimp only [V3, W3]
  entry_read
  pointwise

theorem V3_old (c : Dev nD) (r : Ref sig .tc) (h1 : r ∉ hostOps1_W)
    (h0 : ∀ w : Fin cfg0.W, Pipeline.arrRef spec0 w = r → (cfg0.win w).isOut = false) :
    V3 m ρ c r = W1 m ρ c (Proc.devRef .tc r) :=
  (W3_of m ρ c r h1).trans (W2_of m ρ c r h0)

theorem V3_6 (c : Dev nD) : V3 m ρ c main_v6 = W1 m ρ c (Proc.devRef .tc main_v6) := V3_old m ρ c _ (by decide) (by decide)
theorem V3_10 (c : Dev nD) : V3 m ρ c main_v10 = W1 m ρ c (Proc.devRef .tc main_v10) := V3_old m ρ c _ (by decide) (by decide)
theorem V3_12 (c : Dev nD) : V3 m ρ c main_v12 = W1 m ρ c (Proc.devRef .tc main_v12) := V3_old m ρ c _ (by decide) (by decide)

theorem V4_6 (c : Dev nD) : V4 m ρ c main_v6 = W1 m ρ c (Proc.devRef .tc main_v6) := (W4_of m ρ c _ (by decide)).trans (V3_6 m ρ c)
theorem V4_10 (c : Dev nD) : V4 m ρ c main_v10 = W1 m ρ c (Proc.devRef .tc main_v10) := (W4_of m ρ c _ (by decide)).trans (V3_10 m ρ c)
theorem V4_12 (c : Dev nD) : V4 m ρ c main_v12 = W1 m ρ c (Proc.devRef .tc main_v12) := (W4_of m ρ c _ (by decide)).trans (V3_12 m ρ c)
theorem V4_32 (c : Dev nD) : V4 m ρ c main_v32 = V3 m ρ c main_v32 := W4_of m ρ c _ (by decide)
theorem V4_34 (c : Dev nD) : V4 m ρ c main_v34 = V3 m ρ c main_v34 := W4_of m ρ c _ (by decide)
theorem V4_arg1 (c : Dev nD) : V4 m ρ c main_arg1 = m ((c : Thread nD τ).loc main_arg1) := W4_args m ρ c main_arg1 (by decide)

/-! ## The tokens -/

/-- Token `l` of sequence `b` of the prompt, normed and modulated; and of sample `b`. -/
def tokP (c : Dev nD) (b : Fin 2) (l : Fin 4096) (k : Fin 2048) : EReal :=
  normed (fun q => aX m c (ix3 b l q)) (fun q => aG m c (ix2 0 q)) (fun q => modP m c b ⟨2048 + q.val, by omega⟩)
    (fun q => modP m c b ⟨q.val, by omega⟩) k
def tokS (c : Dev nD) (b : Fin 128) (l : Fin 8) (k : Fin 2048) : EReal :=
  normed (fun q => aY m c (ix3 b l q)) (fun q => aG m c (ix2 0 q)) (fun q => modS m c b ⟨2048 + q.val, by omega⟩)
    (fun q => modS m c b ⟨q.val, by omega⟩) k

theorem row1_eq (c : Dev nD) (b : Fin 2) (l : Fin 4096) (k : Fin 2048) :
    row1 (V3 m ρ) c ⟨b.val * 4096 + l.val, by omega⟩ k = tokP m c b l k := by
  have e : (⟨(b.val * 4096 + l.val) / 4096, by omega⟩ : Fin 2) = b := Fin.ext (by show (b.val * 4096 + l.val) / 4096 = b.val; omega)
  exact normed_congr k (v43_at m ρ c b l) (fun q => (congrFun (V3_12 m ρ c) _).trans (w12_at m ρ c q))
    (fun q => (congrArg (fun u => (V3 m ρ c main_v22 : S2x1x2048.Idx → EReal) (ix3 u 0 q)) e).trans (v22_at m ρ c b q))
    (fun q => (congrArg (fun u => (V3 m ρ c main_v20 : S2x1x2048.Idx → EReal) (ix3 u 0 q)) e).trans (v20_at m ρ c b q))

theorem row2_eq (c : Dev nD) (b : Fin 128) (l : Fin 8) (k : Fin 2048) :
    row2 (V4 m ρ) c ⟨b.val * 8 + l.val, by omega⟩ k = tokS m c b l k := by
  have e : (⟨(b.val * 8 + l.val) / 8, by omega⟩ : Fin 128) = b := Fin.ext (by show (b.val * 8 + l.val) / 8 = b.val; omega)
  have e' : (⟨(b.val * 8 + l.val) % 8, by omega⟩ : Fin 8) = l := Fin.ext (by show (b.val * 8 + l.val) % 8 = l.val; omega)
  exact normed_congr k
    (fun q => (congrFun (V4_arg1 m ρ c) _).trans (congrArg (aY m c) (congrArg₂ (fun u v => ix3 u v q) e e')))
    (fun q => (congrFun (V4_12 m ρ c) _).trans (w12_at m ρ c q))
    (fun q => (congrArg (fun u => (V4 m ρ c main_v34 : S128x1x2048.Idx → EReal) (ix3 u 0 q)) e).trans
      ((congrFun (V4_34 m ρ c) _).trans (v34_at m ρ c b q)))
    (fun q => (congrArg (fun u => (V4 m ρ c main_v32 : S128x1x2048.Idx → EReal) (ix3 u 0 q)) e).trans
      ((congrFun (V4_32 m ρ c) _).trans (v32_at m ρ c b q)))

/-- Column `j` of the input projection of a token. -/
def projP (c : Dev nD) (b : Fin 2) (l : Fin 4096) (j : Fin 4104) : EReal := ∑ k, tokP m c b l k * aW m c (ix3 0 k j)
def projS (c : Dev nD) (b : Fin 128) (l : Fin 8) (j : Fin 4104) : EReal := ∑ k, tokS m c b l k * aW m c (ix3 0 k j)

theorem arr1_6_at (c : Dev nD) (b : Fin 2) (l : Fin 4096) (j : Fin 1024) :
    arr1_6 (V3 m ρ) c (ix2 ⟨b.val * 4096 + l.val, by omega⟩ j) = projP m c b l ⟨j.val, by omega⟩ :=
  Finset.sum_congr rfl fun k _ => congrArg₂ (· * ·) (row1_eq m ρ c b l k)
    ((congrFun (V3_6 m ρ c) _).trans (w6_low m ρ c k ⟨j.val, by omega⟩))

theorem arr1_7_at (c : Dev nD) (b : Fin 2) (l : Fin 4096) (j : Fin 1024) :
    arr1_7 (V3 m ρ) c (ix2 ⟨b.val * 4096 + l.val, by omega⟩ j) = projP m c b l ⟨1024 + j.val, by omega⟩ :=
  Finset.sum_congr rfl fun k _ => congrArg₂ (· * ·) (row1_eq m ρ c b l k)
    ((congrFun (V3_6 m ρ c) _).trans (w6_low m ρ c k ⟨1024 + j.val, by omega⟩))

theorem arr1_8_at (c : Dev nD) (b : Fin 2) (l : Fin 4096) (j : Fin 1024) :
    arr1_8 (V3 m ρ) c (ix2 ⟨b.val * 4096 + l.val, by omega⟩ j) = projP m c b l ⟨2048 + j.val, by omega⟩ :=
  Finset.sum_congr rfl fun k _ => congrArg₂ (· * ·) (row1_eq m ρ c b l k)
    ((congrFun (V3_6 m ρ c) _).trans (w6_low m ρ c k ⟨2048 + j.val, by omega⟩))

theorem arr1_9_at (c : Dev nD) (b : Fin 2) (l : Fin 4096) (j : Fin 1024) :
    arr1_9 (V3 m ρ) c (ix2 ⟨b.val * 4096 + l.val, by omega⟩ j) = projP m c b l ⟨3080 + j.val, by omega⟩ :=
  Finset.sum_congr rfl fun k _ => congrArg₂ (· * ·) (row1_eq m ρ c b l k)
    ((congrFun (V3_6 m ρ c) _).trans (w6_mid m ρ c k j))

theorem arr1_10_at (c : Dev nD) (b : Fin 2) (l : Fin 4096) (j : Fin 8) :
    arr1_10 (V3 m ρ) c (ix2 ⟨b.val * 4096 + l.val, by omega⟩ ⟨j.val, by omega⟩)
      = logSig (projP m c b l ⟨3072 + j.val, by omega⟩ + aF m c (ix2 0 j)) :=
  congrArg logSig (congrArg₂ (· + ·) (Finset.sum_congr rfl fun k _ => congrArg₂ (· * ·) (row1_eq m ρ c b l k)
    ((congrFun (V3_6 m ρ c) _).trans (w6_high m ρ c k j))) ((congrFun (V3_10 m ρ c) _).trans (w10_at m ρ c j)))

theorem arr2_6_at (c : Dev nD) (b : Fin 128) (l : Fin 8) (j : Fin 1024) :
    arr2_6 (V4 m ρ) c (ix2 ⟨b.val * 8 + l.val, by omega⟩ j) = projS m c b l ⟨j.val, by omega⟩ :=
  Finset.sum_congr rfl fun k _ => congrArg₂ (· * ·) (row2_eq m ρ c b l k)
    ((congrFun (V4_6 m ρ c) _).trans (w6_low m ρ c k ⟨j.val, by omega⟩))

theorem arr2_7_at (c : Dev nD) (b : Fin 128) (l : Fin 8) (j : Fin 1024) :
    arr2_7 (V4 m ρ) c (ix2 ⟨b.val * 8 + l.val, by omega⟩ j) = projS m c b l ⟨1024 + j.val, by omega⟩ :=
  Finset.sum_congr rfl fun k _ => congrArg₂ (· * ·) (row2_eq m ρ c b l k)
    ((congrFun (V4_6 m ρ c) _).trans (w6_low m ρ c k ⟨1024 + j.val, by omega⟩))

theorem arr2_8_at (c : Dev nD) (b : Fin 128) (l : Fin 8) (j : Fin 1024) :
    arr2_8 (V4 m ρ) c (ix2 ⟨b.val * 8 + l.val, by omega⟩ j) = projS m c b l ⟨2048 + j.val, by omega⟩ :=
  Finset.sum_congr rfl fun k _ => congrArg₂ (· * ·) (row2_eq m ρ c b l k)
    ((congrFun (V4_6 m ρ c) _).trans (w6_low m ρ c k ⟨2048 + j.val, by omega⟩))

theorem arr2_9_at (c : Dev nD) (b : Fin 128) (l : Fin 8) (j : Fin 1024) :
    arr2_9 (V4 m ρ) c (ix2 ⟨b.val * 8 + l.val, by omega⟩ j) = projS m c b l ⟨3080 + j.val, by omega⟩ :=
  Finset.sum_congr rfl fun k _ => congrArg₂ (· * ·) (row2_eq m ρ c b l k)
    ((congrFun (V4_6 m ρ c) _).trans (w6_mid m ρ c k j))

theorem arr2_10_at (c : Dev nD) (b : Fin 128) (l : Fin 8) (j : Fin 8) :
    arr2_10 (V4 m ρ) c (ix2 ⟨b.val * 8 + l.val, by omega⟩ ⟨j.val, by omega⟩)
      = logSig (projS m c b l ⟨3072 + j.val, by omega⟩ + aF m c (ix2 0 j)) :=
  congrArg logSig (congrArg₂ (· + ·) (Finset.sum_congr rfl fun k _ => congrArg₂ (· * ·) (row2_eq m ρ c b l k)
    ((congrFun (V4_6 m ρ c) _).trans (w6_high m ρ c k j))) ((congrFun (V4_10 m ρ c) _).trans (w10_at m ρ c j)))

end Cert.Kernel2Ideal.Prj
-- ==== Proof.ProjKernel.lean ====
/- The projections' program: its ten results after the run, at every index, from its arguments; and the run. -/
module

public import proofs.«01_k».proof.Proof.ProjEntry

@[expose] public section

set_option maxRecDepth 16384

noncomputable section

namespace Cert.Kernel2Ideal.Prj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.Layer

variable (m : (ℓ : Loc nD τ sig) → Buf (Elt Ideal) ℓ) (ρ : Dev nD → PrngReg)

/-! ## The calls' arrays after the last call -/

theorem W5_44_0 (c : Dev nD) : W5 m ρ c (Proc.devRef .tc main_v44_0) = arr1_6 (V3 m ρ) c :=
  (W5_of m ρ c main_v44_0 (by decide)).trans ((W4_arr m ρ c 6).trans (final1_6 (V3 m ρ) c))
theorem W5_44_1 (c : Dev nD) : W5 m ρ c (Proc.devRef .tc main_v44_1) = arr1_7 (V3 m ρ) c :=
  (W5_of m ρ c main_v44_1 (by decide)).trans ((W4_arr m ρ c 7).trans (final1_7 (V3 m ρ) c))
theorem W5_44_2 (c : Dev nD) : W5 m ρ c (Proc.devRef .tc main_v44_2) = arr1_8 (V3 m ρ) c :=
  (W5_of m ρ c main_v44_2 (by decide)).trans ((W4_arr m ρ c 8).trans (final1_8 (V3 m ρ) c))
theorem W5_44_3 (c : Dev nD) : W5 m ρ c (Proc.devRef .tc main_v44_3) = arr1_9 (V3 m ρ) c :=
  (W5_of m ρ c main_v44_3 (by decide)).trans ((W4_arr m ρ c 9).trans (final1_9 (V3 m ρ) c))
theorem W5_44_4 (c : Dev nD) : W5 m ρ c (Proc.devRef .tc main_v44_4) = arr1_10 (V3 m ρ) c :=
  (W5_of m ρ c main_v44_4 (by decide)).trans ((W4_arr m ρ c 10).trans (final1_10 (V3 m ρ) c))
theorem W5_45_0 (c : Dev nD) : W5 m ρ c (Proc.devRef .tc main_v45_0) = arr2_6 (V4 m ρ) c :=
  (W5_arr m ρ c 6).trans (final2_6 (V4 m ρ) c)
theorem W5_45_1 (c : Dev nD) : W5 m ρ c (Proc.devRef .tc main_v45_1) = arr2_7 (V4 m ρ) c :=
  (W5_arr m ρ c 7).trans (final2_7 (V4 m ρ) c)
theorem W5_45_2 (c : Dev nD) : W5 m ρ c (Proc.devRef .tc main_v45_2) = arr2_8 (V4 m ρ) c :=
  (W5_arr m ρ c 8).trans (final2_8 (V4 m ρ) c)
theorem W5_45_3 (c : Dev nD) : W5 m ρ c (Proc.devRef .tc main_v45_3) = arr2_9 (V4 m ρ) c :=
  (W5_arr m ρ c 9).trans (final2_9 (V4 m ρ) c)
theorem W5_45_4 (c : Dev nD) : W5 m ρ c (Proc.devRef .tc main_v45_4) = arr2_10 (V4 m ρ) c :=
  (W5_arr m ρ c 10).trans (final2_10 (V4 m ρ) c)

/-! ## The results at an index -/

theorem kP_at (c : Dev nD) (b : Fin 2) (l : Fin 4096) (h : Fin 8) (d : Fin 128) :
    (W6 m ρ c (Proc.devRef .tc main_v46) : S1x2x4096x8x128.Idx → EReal) (ix5 0 b l h d) = projP m c b l ⟨1024 + (h.val * 128 + d.val), by omega⟩ := by
  trans (W5 m ρ c (Proc.devRef .tc main_v44_1) : S8192x1024.Idx → EReal) (ix2 ⟨b.val * 4096 + l.val, by omega⟩ ⟨h.val * 128 + d.val, by omega⟩)
  · dsimp only [W6]
    entry_read
    pointwise
  · exact (congrFun (W5_44_1 m ρ c) _).trans (arr1_7_at m ρ c b l ⟨h.val * 128 + d.val, by omega⟩)

theorem vP_at (c : Dev nD) (b : Fin 2) (l : Fin 4096) (h : Fin 8) (d : Fin 128) :
    (W6 m ρ c (Proc.devRef .tc main_v47) : S1x2x4096x8x128.Idx → EReal) (ix5 0 b l h d) = projP m c b l ⟨2048 + (h.val * 128 + d.val), by omega⟩ := by
  trans (W5 m ρ c (Proc.devRef .tc main_v44_2) : S8192x1024.Idx → EReal) (ix2 ⟨b.val * 4096 + l.val, by omega⟩ ⟨h.val * 128 + d.val, by omega⟩)
  · dsimp only [W6]
    entry_read
    pointwise
  · exact (congrFun (W5_44_2 m ρ c) _).trans (arr1_8_at m ρ c b l ⟨h.val * 128 + d.val, by omega⟩)

theorem logP_at (c : Dev nD) (b : Fin 2) (l : Fin 4096) (j : Fin 8) :
    (W6 m ρ c (Proc.devRef .tc main_v49) : S1x2x4096x8.Idx → EReal) (ix4 0 b l j) = logSig (projP m c b l ⟨3072 + j.val, by omega⟩ + aF m c (ix2 0 j)) := by
  trans (W5 m ρ c (Proc.devRef .tc main_v44_4) : S8192x128.Idx → EReal) (ix2 ⟨b.val * 4096 + l.val, by omega⟩ ⟨j.val, by omega⟩)
  · dsimp only [W6]
    entry_read
    pointwise
  · exact (congrFun (W5_44_4 m ρ c) _).trans (arr1_10_at m ρ c b l j)

theorem qP_at (c : Dev nD) (b : Fin 2) (l : Fin 4096) (j : Fin 1024) :
    (W6 m ρ c (Proc.devRef .tc main_v44_0) : S8192x1024.Idx → EReal) (ix2 ⟨b.val * 4096 + l.val, by omega⟩ j) = projP m c b l ⟨j.val, by omega⟩ :=
  (congrFun ((W6_of m ρ c main_v44_0 (by decide)).trans (W5_44_0 m ρ c)) _).trans (arr1_6_at m ρ c b l j)

theorem uP_at (c : Dev nD) (b : Fin 2) (l : Fin 4096) (j : Fin 1024) :
    (W6 m ρ c (Proc.devRef .tc main_v44_3) : S8192x1024.Idx → EReal) (ix2 ⟨b.val * 4096 + l.val, by omega⟩ j) = projP m c b l ⟨3080 + j.val, by omega⟩ :=
  (congrFun ((W6_of m ρ c main_v44_3 (by decide)).trans (W5_44_3 m ρ c)) _).trans (arr1_9_at m ρ c b l j)

theorem kS_at (c : Dev nD) (b : Fin 128) (l : Fin 8) (h : Fin 8) (d : Fin 128) :
    (W6 m ρ c (Proc.devRef .tc main_v50) : S1x128x8x8x128.Idx → EReal) (ix5 0 b l h d) = projS m c b l ⟨1024 + (h.val * 128 + d.val), by omega⟩ := by
  trans (W5 m ρ c (Proc.devRef .tc main_v45_1) : S1024x1024.Idx → EReal) (ix2 ⟨b.val * 8 + l.val, by omega⟩ ⟨h.val * 128 + d.val, by omega⟩)
  · dsimp only [W6]
    entry_read
    pointwise
  · exact (congrFun (W5_45_1 m ρ c) _).trans (arr2_7_at m ρ c b l ⟨h.val * 128 + d.val, by omega⟩)

theorem vS_at (c : Dev nD) (b : Fin 128) (l : Fin 8) (h : Fin 8) (d : Fin 128) :
    (W6 m ρ c (Proc.devRef .tc main_v51) : S1x128x8x8x128.Idx → EReal) (ix5 0 b l h d) = projS m c b l ⟨2048 + (h.val * 128 + d.val), by omega⟩ := by
  trans (W5 m ρ c (Proc.devRef .tc main_v45_2) : S1024x1024.Idx → EReal) (ix2 ⟨b.val * 8 + l.val, by omega⟩ ⟨h.val * 128 + d.val, by omega⟩)
  · dsimp only [W6]
    entry_read
    pointwise
  · exact (congrFun (W5_45_2 m ρ c) _).trans (arr2_8_at m ρ c b l ⟨h.val * 128 + d.val, by omega⟩)

theorem logS_at (c : Dev nD) (b : Fin 128) (l : Fin 8) (j : Fin 8) :
    (W6 m ρ c (Proc.devRef .tc main_v53) : S1x128x8x8.Idx → EReal) (ix4 0 b l j) = logSig (projS m c b l ⟨3072 + j.val, by omega⟩ + aF m c (ix2 0 j)) := by
  trans (W5 m ρ c (Proc.devRef .tc main_v45_4) : S1024x128.Idx → EReal) (ix2 ⟨b.val * 8 + l.val, by omega⟩ ⟨j.val, by omega⟩)
  · dsimp only [W6]
    entry_read
    pointwise
  · exact (congrFun (W5_45_4 m ρ c) _).trans (arr2_10_at m ρ c b l j)

theorem qS_at (c : Dev nD) (b : Fin 128) (l : Fin 8) (j : Fin 1024) :
    (W6 m ρ c (Proc.devRef .tc main_v45_0) : S1024x1024.Idx → EReal) (ix2 ⟨b.val * 8 + l.val, by omega⟩ j) = projS m c b l ⟨j.val, by omega⟩ :=
  (congrFun ((W6_of m ρ c main_v45_0 (by decide)).trans (W5_45_0 m ρ c)) _).trans (arr2_6_at m ρ c b l j)

theorem uS_at (c : Dev nD) (b : Fin 128) (l : Fin 8) (j : Fin 1024) :
    (W6 m ρ c (Proc.devRef .tc main_v45_3) : S1024x1024.Idx → EReal) (ix2 ⟨b.val * 8 + l.val, by omega⟩ j) = projS m c b l ⟨3080 + j.val, by omega⟩ :=
  (congrFun ((W6_of m ρ c main_v45_3 (by decide)).trans (W5_45_3 m ρ c)) _).trans (arr2_9_at m ρ c b l j)

/-! ## The run -/

local notation "𝕄" => MT nD τ sig Unit (Elt Ideal) ℕ (UR sig nD τ) ℕ

set_option backward.isDefEq.respectTransparency.types false in
/-- The run ends with every result buffer at the contents after the last stretch of host operations, and the arguments as
    launched. -/
theorem run : θ_run (defs (F := Ideal)) (onTc (τ := τ) (main (F := Ideal))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_v47) = W6 m ρ c (Proc.devRef .tc main_v47)
      ∧ r.2.mem ((c.tc : Thread nD τ).loc main_v49) = W6 m ρ c (Proc.devRef .tc main_v49)
      ∧ r.2.mem ((c.tc : Thread nD τ).loc main_v50) = W6 m ρ c (Proc.devRef .tc main_v50)
      ∧ r.2.mem ((c.tc : Thread nD τ).loc main_v51) = W6 m ρ c (Proc.devRef .tc main_v51)
      ∧ r.2.mem ((c.tc : Thread nD τ).loc main_v53) = W6 m ρ c (Proc.devRef .tc main_v53)
      ∧ r.2.mem ((c.tc : Thread nD τ).loc main_v44_0) = W6 m ρ c (Proc.devRef .tc main_v44_0)
      ∧ r.2.mem ((c.tc : Thread nD τ).loc main_v44_3) = W6 m ρ c (Proc.devRef .tc main_v44_3)
      ∧ r.2.mem ((c.tc : Thread nD τ).loc main_v45_0) = W6 m ρ c (Proc.devRef .tc main_v45_0)
      ∧ r.2.mem ((c.tc : Thread nD τ).loc main_v45_3) = W6 m ρ c (Proc.devRef .tc main_v45_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v46 (by decide)),
       h c _ (mem_uc main_v47 (by decide)),
       h c _ (mem_uc main_v49 (by decide)),
       h c _ (mem_uc main_v50 (by decide)),
       h c _ (mem_uc main_v51 (by decide)),
       h c _ (mem_uc main_v53 (by decide)),
       h c _ (mem_uc main_v44_0 (by decide)),
       h c _ (mem_uc main_v44_3 (by decide)),
       h c _ (mem_uc main_v45_0 (by decide)),
       h c _ (mem_uc main_v45_3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Kernel2Ideal.Prj
-- ==== Proof.ProjRef.lean ====
/- The reference of the projections' program at an index: its own terms, cut at the modulation, the tokens, the product and
   the forget logits. -/
module

public import proofs.«01_k».proof.Proof.ProjSpec
public import proofs.«01_k».proof.Proof.Gen.Reference2Ideal.Run
public import Idealize.ShloMosaic.Lib.Pointwise
public import Idealize.ShloMosaic.Lib.IdealHost

@[expose] public section

set_option maxRecDepth 16384

noncomputable section

namespace Cert.Reference2Ideal.Prj

open Idealize.ShloMosaic Idealize.ShloMosaic.TcCoe Idealize.SL.Sem
open Cert.Reference2Ideal Cert.Reference2Ideal.Gen Cert.Layer

/-- One column of the input projection of one token: `x` the token, `cv` its conditioning vector, `w` the column. -/
def projOf (x cv : Fin 2048 → EReal) (A : Fin 2048 → Fin 12288 → EReal) (B : Fin 12288 → EReal) (g w : Fin 2048 → EReal) : EReal :=
  ∑ k, normed x g (fun q => modAt cv A B ⟨2048 + q.val, by omega⟩) (fun q => modAt cv A B ⟨q.val, by omega⟩) k * w k

/-! ## The prompt -/

def modP (C : FVec Ideal S2x2048 .f32) (A : FVec Ideal S1x2048x12288 .f32) (B : FVec Ideal S1x12288 .f32) : FVec Ideal S2x12288 .f32 :=
  addf (Host.dotGeneral dot_S2x2048_S2048x12288_S2x12288_1_0_0_1_n_n none (mulf C (Host.divf (broadcastInDim S2x2048 ![] bcast_S_S2x2048 (constant S_ .f32 0x3F800000#32)) (addf (broadcastInDim S2x2048 ![] bcast_S_S2x2048 (constant S_ .f32 0x3F800000#32)) (Host.exp (Host.negf C))))) (shapeCast _ A shapeCasts_S1x2048x12288_S2048x12288)) (broadcastInDim S2x12288 ![0, 1] bcast_S1x12288_S2x12288_0_1 (broadcastInDim S1x12288 ![1] bcast_S12288_S1x12288_1 (shapeCast _ B shapeCasts_S1x12288_S12288)))

def tokP (X : FVec Ideal S2x4096x2048 .f32) (G : FVec Ideal S1x2048 .f32) (M : FVec Ideal S2x12288 .f32) : FVec Ideal S2x4096x2048 .f32 :=
  addf (mulf (mulf (mulf X (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf X X) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ G shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 2048] M slices_S2x12288_S2x2048_0_2048))))) (broadcastInDim S2x4096x2048 ![0, 1, 2] bcast_S2x1x2048_S2x4096x2048_0_1_2 (broadcastInDim S2x1x2048 ![0, 2] bcast_S2x2048_S2x1x2048_0_2 (extractStridedSlice S2x2048 ![0, 0] M slices_S2x12288_S2x2048_0_0)))

def prjP (T : FVec Ideal S2x4096x2048 .f32) (W : FVec Ideal S1x2048x4104 .f32) : FVec Ideal S2x4096x4104 .f32 :=
  Host.dotGeneral dot_S2x4096x2048_S2048x4104_S2x4096x4104_2_0_01_1_n_n none T (shapeCast _ W shapeCasts_S1x2048x4104_S2048x4104)

def zedP (P : FVec Ideal S2x4096x4104 .f32) (F : FVec Ideal S1x8 .f32) : FVec Ideal S2x4096x8 .f32 :=
  addf (extractStridedSlice S2x4096x8 ![0, 0, 3072] P slices_S2x4096x4104_S2x4096x8_0_0_3072) (broadcastInDim S2x4096x8 ![0, 1, 2] bcast_S1x1x8_S2x4096x8_0_1_2 (broadcastInDim S1x1x8 ![2] bcast_S8_S1x1x8_2 (shapeCast _ F shapeCasts_S1x8_S8)))

def logP (Z : FVec Ideal S2x4096x8 .f32) : FVec Ideal S1x2x4096x8 .f32 :=
  broadcastInDim S1x2x4096x8 ![1, 2, 3] bcast_S2x4096x8_S1x2x4096x8_1_2_3 (Host.negf (select (cmpf .une (subf (Host.negf Z) (broadcastInDim S2x4096x8 ![] bcast_S_S2x4096x8 (constant S_ .f32 0x00000000#32))) (subf (Host.negf Z) (broadcastInDim S2x4096x8 ![] bcast_S_S2x4096x8 (constant S_ .f32 0x00000000#32)))) (addf (Host.negf Z) (broadcastInDim S2x4096x8 ![] bcast_S_S2x4096x8 (constant S_ .f32 0x00000000#32))) (addf (maximumf (Host.negf Z) (broadcastInDim S2x4096x8 ![] bcast_S_S2x4096x8 (constant S_ .f32 0x00000000#32))) (Host.log1p (Host.exp (Host.negf (Host.absf (subf (Host.negf Z) (broadcastInDim S2x4096x8 ![] bcast_S_S2x4096x8 (constant S_ .f32 0x00000000#32))))))))))

theorem modP_at (C : FVec Ideal S2x2048 .f32) (A : FVec Ideal S1x2048x12288 .f32) (B : FVec Ideal S1x12288 .f32) (b : Fin 2) (j : Fin 12288) :
    modP C A B (ix2 b j) = modAt (fun k => C (ix2 b k)) (fun k i => A (ix3 0 k i)) (fun i => B (ix2 0 i)) j := by
  pointwise [modP]
  rfl

theorem tokP_at (X : FVec Ideal S2x4096x2048 .f32) (G : FVec Ideal S1x2048 .f32) (M : FVec Ideal S2x12288 .f32) (b : Fin 2) (l : Fin 4096) (k : Fin 2048) :
    tokP X G M (ix3 b l k) = normed (fun q => X (ix3 b l q)) (fun q => G (ix2 0 q)) (fun q => M (ix2 b ⟨2048 + q.val, by omega⟩))
      (fun q => M (ix2 b ⟨q.val, by omega⟩)) k := by
  pointwise [tokP]
  unfold normed
  rw [Ideal.ofBits_one_f32]

theorem prjP_at (T : FVec Ideal S2x4096x2048 .f32) (W : FVec Ideal S1x2048x4104 .f32) (b : Fin 2) (l : Fin 4096) (j : Fin 4104) :
    prjP T W (ix3 b l j) = ∑ k, T (ix3 b l k) * W (ix3 0 k j) := by
  pointwise [prjP]

theorem zedP_at (P : FVec Ideal S2x4096x4104 .f32) (F : FVec Ideal S1x8 .f32) (b : Fin 2) (l : Fin 4096) (j : Fin 8) :
    zedP P F (ix3 b l j) = P (ix3 b l ⟨3072 + j.val, by omega⟩) + F (ix2 0 j) := by
  pointwise [zedP]

theorem logP_at (Z : FVec Ideal S2x4096x8 .f32) (b : Fin 2) (l : Fin 4096) (j : Fin 8) :
    logP Z (ix4 0 b l j) = logSig (Z (ix3 b l j)) := by
  pointwise [logP]
  simp only [ne_eq, not_true_eq_false, if_false]
  rfl

def allP (X : FVec Ideal S2x4096x2048 .f32) (C : FVec Ideal S2x2048 .f32) (A : FVec Ideal S1x2048x12288 .f32) (B : FVec Ideal S1x12288 .f32)
    (G : FVec Ideal S1x2048 .f32) (W : FVec Ideal S1x2048x4104 .f32) : FVec Ideal S2x4096x4104 .f32 :=
  prjP (tokP X G (modP C A B)) W

theorem allP_at (X : FVec Ideal S2x4096x2048 .f32) (C : FVec Ideal S2x2048 .f32) (A : FVec Ideal S1x2048x12288 .f32) (B : FVec Ideal S1x12288 .f32)
    (G : FVec Ideal S1x2048 .f32) (W : FVec Ideal S1x2048x4104 .f32)
    (b : Fin 2) (l : Fin 4096) (j : Fin 4104) :
    allP X C A B G W (ix3 b l j) = projOf (fun q => X (ix3 b l q)) (fun k => C (ix2 b k)) (fun k i => A (ix3 0 k i)) (fun i => B (ix2 0 i))
      (fun q => G (ix2 0 q)) (fun k => W (ix3 0 k j)) := by
  refine (prjP_at _ W b l j).trans (Finset.sum_congr rfl fun k _ => congrArg (· * _) ((tokP_at X G _ b l k).trans ?_))
  exact normed_congr k (fun _ => rfl) (fun _ => rfl) (fun q => modP_at C A B b _) (fun q => modP_at C A B b _)

/-! ## The samples -/

def modS (C : FVec Ideal S128x2048 .f32) (A : FVec Ideal S1x2048x12288 .f32) (B : FVec Ideal S1x12288 .f32) : FVec Ideal S128x12288 .f32 :=
  addf (Host.dotGeneral dot_S128x2048_S2048x12288_S128x12288_1_0_0_1_n_n none (mulf C (Host.divf (broadcastInDim S128x2048 ![] bcast_S_S128x2048 (constant S_ .f32 0x3F800000#32)) (addf (broadcastInDim S128x2048 ![] bcast_S_S128x2048 (constant S_ .f32 0x3F800000#32)) (Host.exp (Host.negf C))))) (shapeCast _ A shapeCasts_S1x2048x12288_S2048x12288)) (broadcastInDim S128x12288 ![0, 1] bcast_S1x12288_S128x12288_0_1 (broadcastInDim S1x12288 ![1] bcast_S12288_S1x12288_1 (shapeCast _ B shapeCasts_S1x12288_S12288)))

def tokS (X : FVec Ideal S128x8x2048 .f32) (G : FVec Ideal S1x2048 .f32) (M : FVec Ideal S128x12288 .f32) : FVec Ideal S128x8x2048 .f32 :=
  addf (mulf (mulf (mulf X (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf X X) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ G shapeCasts_S1x2048_S2048)))) (broadcastInDim S128x8x2048 ![0, 1, 2] bcast_S128x1x2048_S128x8x2048_0_1_2 (addf (broadcastInDim S128x1x2048 ![] bcast_S_S128x1x2048 (constant S_ .f32 0x3F800000#32)) (broadcastInDim S128x1x2048 ![0, 2] bcast_S128x2048_S128x1x2048_0_2 (extractStridedSlice S128x2048 ![0, 2048] M slices_S128x12288_S128x2048_0_2048))))) (broadcastInDim S128x8x2048 ![0, 1, 2] bcast_S128x1x2048_S128x8x2048_0_1_2 (broadcastInDim S128x1x2048 ![0, 2] bcast_S128x2048_S128x1x2048_0_2 (extractStridedSlice S128x2048 ![0, 0] M slices_S128x12288_S128x2048_0_0)))

def prjS (T : FVec Ideal S128x8x2048 .f32) (W : FVec Ideal S1x2048x4104 .f32) : FVec Ideal S128x8x4104 .f32 :=
  Host.dotGeneral dot_S128x8x2048_S2048x4104_S128x8x4104_2_0_01_1_n_n none T (shapeCast _ W shapeCasts_S1x2048x4104_S2048x4104)

def zedS (P : FVec Ideal S128x8x4104 .f32) (F : FVec Ideal S1x8 .f32) : FVec Ideal S128x8x8 .f32 :=
  addf (extractStridedSlice S128x8x8 ![0, 0, 3072] P slices_S128x8x4104_S128x8x8_0_0_3072) (broadcastInDim S128x8x8 ![0, 1, 2] bcast_S1x1x8_S128x8x8_0_1_2 (broadcastInDim S1x1x8 ![2] bcast_S8_S1x1x8_2 (shapeCast _ F shapeCasts_S1x8_S8)))

def logS (Z : FVec Ideal S128x8x8 .f32) : FVec Ideal S1x128x8x8 .f32 :=
  broadcastInDim S1x128x8x8 ![1, 2, 3] bcast_S128x8x8_S1x128x8x8_1_2_3 (Host.negf (select (cmpf .une (subf (Host.negf Z) (broadcastInDim S128x8x8 ![] bcast_S_S128x8x8 (constant S_ .f32 0x00000000#32))) (subf (Host.negf Z) (broadcastInDim S128x8x8 ![] bcast_S_S128x8x8 (constant S_ .f32 0x00000000#32)))) (addf (Host.negf Z) (broadcastInDim S128x8x8 ![] bcast_S_S128x8x8 (constant S_ .f32 0x00000000#32))) (addf (maximumf (Host.negf Z) (broadcastInDim S128x8x8 ![] bcast_S_S128x8x8 (constant S_ .f32 0x00000000#32))) (Host.log1p (Host.exp (Host.negf (Host.absf (subf (Host.negf Z) (broadcastInDim S128x8x8 ![] bcast_S_S128x8x8 (constant S_ .f32 0x00000000#32))))))))))

theorem modS_at (C : FVec Ideal S128x2048 .f32) (A : FVec Ideal S1x2048x12288 .f32) (B : FVec Ideal S1x12288 .f32) (b : Fin 128) (j : Fin 12288) :
    modS C A B (ix2 b j) = modAt (fun k => C (ix2 b k)) (fun k i => A (ix3 0 k i)) (fun i => B (ix2 0 i)) j := by
  pointwise [modS]
  rfl

theorem tokS_at (X : FVec Ideal S128x8x2048 .f32) (G : FVec Ideal S1x2048 .f32) (M : FVec Ideal S128x12288 .f32) (b : Fin 128) (l : Fin 8) (k : Fin 2048) :
    tokS X G M (ix3 b l k) = normed (fun q => X (ix3 b l q)) (fun q => G (ix2 0 q)) (fun q => M (ix2 b ⟨2048 + q.val, by omega⟩))
      (fun q => M (ix2 b ⟨q.val, by omega⟩)) k := by
  pointwise [tokS]
  unfold normed
  rw [Ideal.ofBits_one_f32]

theorem prjS_at (T : FVec Ideal S128x8x2048 .f32) (W : FVec Ideal S1x2048x4104 .f32) (b : Fin 128) (l : Fin 8) (j : Fin 4104) :
    prjS T W (ix3 b l j) = ∑ k, T (ix3 b l k) * W (ix3 0 k j) := by
  pointwise [prjS]

theorem zedS_at (P : FVec Ideal S128x8x4104 .f32) (F : FVec Ideal S1x8 .f32) (b : Fin 128) (l : Fin 8) (j : Fin 8) :
    zedS P F (ix3 b l j) = P (ix3 b l ⟨3072 + j.val, by omega⟩) + F (ix2 0 j) := by
  pointwise [zedS]

theorem logS_at (Z : FVec Ideal S128x8x8 .f32) (b : Fin 128) (l : Fin 8) (j : Fin 8) :
    logS Z (ix4 0 b l j) = logSig (Z (ix3 b l j)) := by
  pointwise [logS]
  simp only [ne_eq, not_true_eq_false, if_false]
  rfl

def allS (X : FVec Ideal S128x8x2048 .f32) (C : FVec Ideal S128x2048 .f32) (A : FVec Ideal S1x2048x12288 .f32) (B : FVec Ideal S1x12288 .f32)
    (G : FVec Ideal S1x2048 .f32) (W : FVec Ideal S1x2048x4104 .f32) : FVec Ideal S128x8x4104 .f32 :=
  prjS (tokS X G (modS C A B)) W

theorem allS_at (X : FVec Ideal S128x8x2048 .f32) (C : FVec Ideal S128x2048 .f32) (A : FVec Ideal S1x2048x12288 .f32) (B : FVec Ideal S1x12288 .f32)
    (G : FVec Ideal S1x2048 .f32) (W : FVec Ideal S1x2048x4104 .f32)
    (b : Fin 128) (l : Fin 8) (j : Fin 4104) :
    allS X C A B G W (ix3 b l j) = projOf (fun q => X (ix3 b l q)) (fun k => C (ix2 b k)) (fun k i => A (ix3 0 k i)) (fun i => B (ix2 0 i))
      (fun q => G (ix2 0 q)) (fun k => W (ix3 0 k j)) := by
  refine (prjS_at _ W b l j).trans (Finset.sum_congr rfl fun k _ => congrArg (· * _) ((tokS_at X G _ b l k).trans ?_))
  exact normed_congr k (fun _ => rfl) (fun _ => rfl) (fun q => modS_at C A B b _) (fun q => modS_at C A B b _)

/-! ## The results of the prompt -/

def keyP (P : FVec Ideal S2x4096x4104 .f32) : FVec Ideal S1x2x4096x8x128 .f32 :=
  shapeCast _ (extractStridedSlice S2x4096x1024 ![0, 0, 1024] P slices_S2x4096x4104_S2x4096x1024_0_0_1024) shapeCasts_S2x4096x1024_S1x2x4096x8x128

theorem keyP_at (P : FVec Ideal S2x4096x4104 .f32) (b : Fin 2) (l : Fin 4096) (h : Fin 8) (d : Fin 128) :
    keyP P (ix5 0 b l h d) = P (ix3 b l ⟨1024 + (h.val * 128 + d.val), by omega⟩) := by
  pointwise [keyP]

def valP (P : FVec Ideal S2x4096x4104 .f32) : FVec Ideal S1x2x4096x8x128 .f32 :=
  shapeCast _ (extractStridedSlice S2x4096x1024 ![0, 0, 2048] P slices_S2x4096x4104_S2x4096x1024_0_0_2048) shapeCasts_S2x4096x1024_S1x2x4096x8x128

theorem valP_at (P : FVec Ideal S2x4096x4104 .f32) (b : Fin 2) (l : Fin 4096) (h : Fin 8) (d : Fin 128) :
    valP P (ix5 0 b l h d) = P (ix3 b l ⟨2048 + (h.val * 128 + d.val), by omega⟩) := by
  pointwise [valP]

def qryP (P : FVec Ideal S2x4096x4104 .f32) : FVec Ideal S8192x1024 .f32 :=
  shapeCast _ (extractStridedSlice S2x4096x1024 ![0, 0, 0] P slices_S2x4096x4104_S2x4096x1024_0_0_0) shapeCasts_S2x4096x1024_S8192x1024

theorem qryP_at (P : FVec Ideal S2x4096x4104 .f32) (b : Fin 2) (l : Fin 4096) (j : Fin 1024) :
    qryP P (ix2 ⟨b.val * 4096 + l.val, by omega⟩ j) = P (ix3 b l ⟨j.val, by omega⟩) := by
  pointwise [qryP]

def gluP (P : FVec Ideal S2x4096x4104 .f32) : FVec Ideal S8192x1024 .f32 :=
  shapeCast _ (extractStridedSlice S2x4096x1024 ![0, 0, 3080] P slices_S2x4096x4104_S2x4096x1024_0_0_3080) shapeCasts_S2x4096x1024_S8192x1024

theorem gluP_at (P : FVec Ideal S2x4096x4104 .f32) (b : Fin 2) (l : Fin 4096) (j : Fin 1024) :
    gluP P (ix2 ⟨b.val * 4096 + l.val, by omega⟩ j) = P (ix3 b l ⟨3080 + j.val, by omega⟩) := by
  pointwise [gluP]

/-! ## The results of the samples -/

def keyS (P : FVec Ideal S128x8x4104 .f32) : FVec Ideal S1x128x8x8x128 .f32 :=
  shapeCast _ (extractStridedSlice S128x8x1024 ![0, 0, 1024] P slices_S128x8x4104_S128x8x1024_0_0_1024) shapeCasts_S128x8x1024_S1x128x8x8x128

theorem keyS_at (P : FVec Ideal S128x8x4104 .f32) (b : Fin 128) (l : Fin 8) (h : Fin 8) (d : Fin 128) :
    keyS P (ix5 0 b l h d) = P (ix3 b l ⟨1024 + (h.val * 128 + d.val), by omega⟩) := by
  pointwise [keyS]

def valS (P : FVec Ideal S128x8x4104 .f32) : FVec Ideal S1x128x8x8x128 .f32 :=
  shapeCast _ (extractStridedSlice S128x8x1024 ![0, 0, 2048] P slices_S128x8x4104_S128x8x1024_0_0_2048) shapeCasts_S128x8x1024_S1x128x8x8x128

theorem valS_at (P : FVec Ideal S128x8x4104 .f32) (b : Fin 128) (l : Fin 8) (h : Fin 8) (d : Fin 128) :
    valS P (ix5 0 b l h d) = P (ix3 b l ⟨2048 + (h.val * 128 + d.val), by omega⟩) := by
  pointwise [valS]

def qryS (P : FVec Ideal S128x8x4104 .f32) : FVec Ideal S1024x1024 .f32 :=
  shapeCast _ (extractStridedSlice S128x8x1024 ![0, 0, 0] P slices_S128x8x4104_S128x8x1024_0_0_0) shapeCasts_S128x8x1024_S1024x1024

theorem qryS_at (P : FVec Ideal S128x8x4104 .f32) (b : Fin 128) (l : Fin 8) (j : Fin 1024) :
    qryS P (ix2 ⟨b.val * 8 + l.val, by omega⟩ j) = P (ix3 b l ⟨j.val, by omega⟩) := by
  pointwise [qryS]

def gluS (P : FVec Ideal S128x8x4104 .f32) : FVec Ideal S1024x1024 .f32 :=
  shapeCast _ (extractStridedSlice S128x8x1024 ![0, 0, 3080] P slices_S128x8x4104_S128x8x1024_0_0_3080) shapeCasts_S128x8x1024_S1024x1024

theorem gluS_at (P : FVec Ideal S128x8x4104 .f32) (b : Fin 128) (l : Fin 8) (j : Fin 1024) :
    gluS P (ix2 ⟨b.val * 8 + l.val, by omega⟩ j) = P (ix3 b l ⟨3080 + j.val, by omega⟩) := by
  pointwise [gluS]

end Cert.Reference2Ideal.Prj
-- ==== Proof.Proj.lean ====
/- The claims about the modulation and the input projection: the frames, and the ten results equal. -/
module

public import proofs.«01_k».proof.Defs
public import proofs.«01_k».proof.Proof.Gen.Kernel2.Frame
public import proofs.«01_k».proof.Proof.ProjKernel
public import proofs.«01_k».proof.Proof.ProjRef
public import Idealize.ShloMosaic.Lib.Quiescent

@[expose] public section

set_option maxRecDepth 16384

noncomputable section

namespace Cert.Projection

open Idealize.ShloMosaic Idealize.ShloMosaic.TcCoe Idealize.SL.Sem
open Cert.Kernel2Ideal Cert.Kernel2Ideal.Gen Cert.Kernel2Ideal.Prj Cert.Reference2Ideal.Prj Cert.Layer

/-! ## Equality of arrays from their elements -/

theorem ext5P (f g : S1x2x4096x8x128.Idx → EReal) (e : ∀ (b : Fin 2) (l : Fin 4096) (h : Fin 8) (d : Fin 128), f (ix5 0 b l h d) = g (ix5 0 b l h d)) :
    f = g := by
  funext y
  idx_vars y
  obtain rfl : y0 = 0 := Subsingleton.elim _ _
  exact e y1 y2 y3 y4

theorem ext4P (f g : S1x2x4096x8.Idx → EReal) (e : ∀ (b : Fin 2) (l : Fin 4096) (j : Fin 8), f (ix4 0 b l j) = g (ix4 0 b l j)) : f = g := by
  funext y
  idx_vars y
  obtain rfl : y0 = 0 := Subsingleton.elim _ _
  exact e y1 y2 y3

theorem ext2P (f g : S8192x1024.Idx → EReal) (e : ∀ (b : Fin 2) (l : Fin 4096) (j : Fin 1024),
    f (ix2 ⟨b.val * 4096 + l.val, by omega⟩ j) = g (ix2 ⟨b.val * 4096 + l.val, by omega⟩ j)) : f = g := by
  funext y
  idx_vars y
  have h := e ⟨y0.val / 4096, by omega⟩ ⟨y0.val % 4096, by omega⟩ y1
  have hy : (⟨y0.val / 4096 * 4096 + y0.val % 4096, by omega⟩ : Fin 8192) = y0 := Fin.ext (by show y0.val / 4096 * 4096 + y0.val % 4096 = y0.val; omega)
  exact hy ▸ h

theorem ext5S (f g : S1x128x8x8x128.Idx → EReal) (e : ∀ (b : Fin 128) (l : Fin 8) (h : Fin 8) (d : Fin 128), f (ix5 0 b l h d) = g (ix5 0 b l h d)) :
    f = g := by
  funext y
  idx_vars y
  obtain rfl : y0 = 0 := Subsingleton.elim _ _
  exact e y1 y2 y3 y4

theorem ext4S (f g : S1x128x8x8.Idx → EReal) (e : ∀ (b : Fin 128) (l : Fin 8) (j : Fin 8), f (ix4 0 b l j) = g (ix4 0 b l j)) : f = g := by
  funext y
  idx_vars y
  obtain rfl : y0 = 0 := Subsingleton.elim _ _
  exact e y1 y2 y3

theorem ext2S (f g : S1024x1024.Idx → EReal) (e : ∀ (b : Fin 128) (l : Fin 8) (j : Fin 1024),
    f (ix2 ⟨b.val * 8 + l.val, by omega⟩ j) = g (ix2 ⟨b.val * 8 + l.val, by omega⟩ j)) : f = g := by
  funext y
  idx_vars y
  have h := e ⟨y0.val / 8, by omega⟩ ⟨y0.val % 8, by omega⟩ y1
  have hy : (⟨y0.val / 8 * 8 + y0.val % 8, by omega⟩ : Fin 1024) = y0 := Fin.ext (by show y0.val / 8 * 8 + y0.val % 8 = y0.val; omega)
  exact hy ▸ h

/-! ## The results -/

variable (m : (ℓ : Loc nD τ sig) → Buf (Elt Ideal) ℓ) (ρ : Dev nD → PrngReg)

theorem projP_eq (c : Dev nD) (b : Fin 2) (l : Fin 4096) (j : Fin 4104) :
    allP (aX m c) (aC m c) (aA m c) (aB m c) (aG m c) (aW m c) (ix3 b l j) = projP m c b l j :=
  allP_at (aX m c) (aC m c) (aA m c) (aB m c) (aG m c) (aW m c) b l j

theorem keyP_eq (c : Dev nD) : keyP (allP (aX m c) (aC m c) (aA m c) (aB m c) (aG m c) (aW m c)) = W6 m ρ c (Proc.devRef .tc main_v46) :=
  ext5P _ _ fun b l h d => ((keyP_at _ b l h d).trans (projP_eq m c b l _)).trans (kP_at m ρ c b l h d).symm

theorem valP_eq (c : Dev nD) : valP (allP (aX m c) (aC m c) (aA m c) (aB m c) (aG m c) (aW m c)) = W6 m ρ c (Proc.devRef .tc main_v47) :=
  ext5P _ _ fun b l h d => ((valP_at _ b l h d).trans (projP_eq m c b l _)).trans (vP_at m ρ c b l h d).symm

theorem logP_eq (c : Dev nD) : Cert.Reference2Ideal.Prj.logP (zedP (allP (aX m c) (aC m c) (aA m c) (aB m c) (aG m c) (aW m c)) (aF m c)) = W6 m ρ c (Proc.devRef .tc main_v49) :=
  ext4P _ _ fun b l j => ((Cert.Reference2Ideal.Prj.logP_at _ b l j).trans (congrArg logSig ((zedP_at _ _ b l j).trans
    (congrArg (· + _) (projP_eq m c b l _))))).trans (Cert.Kernel2Ideal.Prj.logP_at m ρ c b l j).symm

theorem qryP_eq (c : Dev nD) : qryP (allP (aX m c) (aC m c) (aA m c) (aB m c) (aG m c) (aW m c)) = W6 m ρ c (Proc.devRef .tc main_v44_0) :=
  ext2P _ _ fun b l j => ((qryP_at _ b l j).trans (projP_eq m c b l _)).trans (qP_at m ρ c b l j).symm

theorem gluP_eq (c : Dev nD) : gluP (allP (aX m c) (aC m c) (aA m c) (aB m c) (aG m c) (aW m c)) = W6 m ρ c (Proc.devRef .tc main_v44_3) :=
  ext2P _ _ fun b l j => ((gluP_at _ b l j).trans (projP_eq m c b l _)).trans (uP_at m ρ c b l j).symm

theorem projS_eq (c : Dev nD) (b : Fin 128) (l : Fin 8) (j : Fin 4104) :
    allS (aY m c) (aD m c) (aA m c) (aB m c) (aG m c) (aW m c) (ix3 b l j) = projS m c b l j :=
  allS_at (aY m c) (aD m c) (aA m c) (aB m c) (aG m c) (aW m c) b l j

theorem keyS_eq (c : Dev nD) : keyS (allS (aY m c) (aD m c) (aA m c) (aB m c) (aG m c) (aW m c)) = W6 m ρ c (Proc.devRef .tc main_v50) :=
  ext5S _ _ fun b l h d => ((keyS_at _ b l h d).trans (projS_eq m c b l _)).trans (kS_at m ρ c b l h d).symm

theorem valS_eq (c : Dev nD) : valS (allS (aY m c) (aD m c) (aA m c) (aB m c) (aG m c) (aW m c)) = W6 m ρ c (Proc.devRef .tc main_v51) :=
  ext5S _ _ fun b l h d => ((valS_at _ b l h d).trans (projS_eq m c b l _)).trans (vS_at m ρ c b l h d).symm

theorem logS_eq (c : Dev nD) : Cert.Reference2Ideal.Prj.logS (zedS (allS (aY m c) (aD m c) (aA m c) (aB m c) (aG m c) (aW m c)) (aF m c)) = W6 m ρ c (Proc.devRef .tc main_v53) :=
  ext4S _ _ fun b l j => ((Cert.Reference2Ideal.Prj.logS_at _ b l j).trans (congrArg logSig ((zedS_at _ _ b l j).trans
    (congrArg (· + _) (projS_eq m c b l _))))).trans (Cert.Kernel2Ideal.Prj.logS_at m ρ c b l j).symm

theorem qryS_eq (c : Dev nD) : qryS (allS (aY m c) (aD m c) (aA m c) (aB m c) (aG m c) (aW m c)) = W6 m ρ c (Proc.devRef .tc main_v45_0) :=
  ext2S _ _ fun b l j => ((qryS_at _ b l j).trans (projS_eq m c b l _)).trans (qS_at m ρ c b l j).symm

theorem gluS_eq (c : Dev nD) : gluS (allS (aY m c) (aD m c) (aA m c) (aB m c) (aG m c) (aW m c)) = W6 m ρ c (Proc.devRef .tc main_v45_3) :=
  ext2S _ _ fun b l j => ((gluS_at _ b l j).trans (projS_eq m c b l _)).trans (uS_at m ρ c b l j).symm

/-! ## The claims -/

theorem frame_kernel2 : Cert.quiescent_Kernel2 (hKernel2 := Cert.Kernel2.Gen.facts) :=
  fun m ρ _ => Cert.Kernel2.Gen.frame m ρ

theorem frame_ideal2 : Cert.quiescent_Kernel2Ideal (hKernel2Ideal := Cert.Kernel2Ideal.Gen.facts) :=
  fun m ρ _ => Cert.Kernel2Ideal.Gen.frame m ρ

theorem frame_reference2 : Cert.quiescent_Reference2Ideal (hReference2Ideal := Cert.Reference2Ideal.Gen.facts) :=
  fun m ρ _ => (θ_run (Cert.Reference2Ideal.defs (F := Ideal)) _ _).mono
    (fun r h => ⟨fun c => (h c).2.2.2.2.2.2.2.2.2.2, sem_eq_zero_of_no_sems (by decide) r.2⟩)
    (Cert.Reference2Ideal.Value.run (F := Ideal) m ρ)

theorem preserves2 : Cert.preserves_Kernel2_Kernel2Ideal := trivial

theorem keyP_agree (m' : (ℓ : Loc Cert.Reference2Ideal.nD Cert.Reference2Ideal.τ Cert.Reference2Ideal.sig) → Buf (Elt Ideal) ℓ) (c : Dev nD)
    (e0 : m' ((c.tc : Thread Cert.Reference2Ideal.nD Cert.Reference2Ideal.τ).loc Cert.Reference2Ideal.main_arg0) = aX m c)
    (e2 : m' ((c.tc : Thread Cert.Reference2Ideal.nD Cert.Reference2Ideal.τ).loc Cert.Reference2Ideal.main_arg2) = aC m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    keyP (allP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v46) := by
  rw [e0, e2, e4, e5, e6, e7]
  exact keyP_eq m ρ c

theorem valP_agree (m' : (ℓ : Loc Cert.Reference2Ideal.nD Cert.Reference2Ideal.τ Cert.Reference2Ideal.sig) → Buf (Elt Ideal) ℓ) (c : Dev nD)
    (e0 : m' ((c.tc : Thread Cert.Reference2Ideal.nD Cert.Reference2Ideal.τ).loc Cert.Reference2Ideal.main_arg0) = aX m c)
    (e2 : m' ((c.tc : Thread Cert.Reference2Ideal.nD Cert.Reference2Ideal.τ).loc Cert.Reference2Ideal.main_arg2) = aC m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    valP (allP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v47) := by
  rw [e0, e2, e4, e5, e6, e7]
  exact valP_eq m ρ c

theorem logP_agree (m' : (ℓ : Loc Cert.Reference2Ideal.nD Cert.Reference2Ideal.τ Cert.Reference2Ideal.sig) → Buf (Elt Ideal) ℓ) (c : Dev nD)
    (e0 : m' ((c.tc : Thread Cert.Reference2Ideal.nD Cert.Reference2Ideal.τ).loc Cert.Reference2Ideal.main_arg0) = aX m c)
    (e2 : m' ((c.tc : Thread Cert.Reference2Ideal.nD Cert.Reference2Ideal.τ).loc Cert.Reference2Ideal.main_arg2) = aC m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c)
    (e8 : m' ((c.tc : Thread Cert.Reference2Ideal.nD Cert.Reference2Ideal.τ).loc Cert.Reference2Ideal.main_arg8) = aF m c) :
    Cert.Reference2Ideal.Prj.logP (zedP (allP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) (m' ((c.tc : Thread Cert.Reference2Ideal.nD Cert.Reference2Ideal.τ).loc Cert.Reference2Ideal.main_arg8))) = W6 m ρ c (Proc.devRef .tc main_v49) := by
  rw [e0, e2, e4, e5, e6, e7, e8]
  exact logP_eq m ρ c

theorem keyS_agree (m' : (ℓ : Loc Cert.Reference2Ideal.nD Cert.Reference2Ideal.τ Cert.Reference2Ideal.sig) → Buf (Elt Ideal) ℓ) (c : Dev nD)
    (e1 : m' ((c.tc : Thread Cert.Reference2Ideal.nD Cert.Reference2Ideal.τ).loc Cert.Reference2Ideal.main_arg1) = aY m c)
    (e3 : m' ((c.tc : Thread Cert.Reference2Ideal.nD Cert.Reference2Ideal.τ).loc Cert.Reference2Ideal.main_arg3) = aD m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    keyS (allS (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v50) := by
  rw [e1, e3, e4, e5, e6, e7]
  exact keyS_eq m ρ c

theorem valS_agree (m' : (ℓ : Loc Cert.Reference2Ideal.nD Cert.Reference2Ideal.τ Cert.Reference2Ideal.sig) → Buf (Elt Ideal) ℓ) (c : Dev nD)
    (e1 : m' ((c.tc : Thread Cert.Reference2Ideal.nD Cert.Reference2Ideal.τ).loc Cert.Reference2Ideal.main_arg1) = aY m c)
    (e3 : m' ((c.tc : Thread Cert.Reference2Ideal.nD Cert.Reference2Ideal.τ).loc Cert.Reference2Ideal.main_arg3) = aD m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    valS (allS (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v51) := by
  rw [e1, e3, e4, e5, e6, e7]
  exact valS_eq m ρ c

theorem logS_agree (m' : (ℓ : Loc Cert.Reference2Ideal.nD Cert.Reference2Ideal.τ Cert.Reference2Ideal.sig) → Buf (Elt Ideal) ℓ) (c : Dev nD)
    (e1 : m' ((c.tc : Thread Cert.Reference2Ideal.nD Cert.Reference2Ideal.τ).loc Cert.Reference2Ideal.main_arg1) = aY m c)
    (e3 : m' ((c.tc : Thread Cert.Reference2Ideal.nD Cert.Reference2Ideal.τ).loc Cert.Reference2Ideal.main_arg3) = aD m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c)
    (e8 : m' ((c.tc : Thread Cert.Reference2Ideal.nD Cert.Reference2Ideal.τ).loc Cert.Reference2Ideal.main_arg8) = aF m c) :
    Cert.Reference2Ideal.Prj.logS (zedS (allS (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) (m' ((c.tc : Thread Cert.Reference2Ideal.nD Cert.Reference2Ideal.τ).loc Cert.Reference2Ideal.main_arg8))) = W6 m ρ c (Proc.devRef .tc main_v53) := by
  rw [e1, e3, e4, e5, e6, e7, e8]
  exact logS_eq m ρ c

theorem qryP_agree (m' : (ℓ : Loc Cert.Reference2Ideal.nD Cert.Reference2Ideal.τ Cert.Reference2Ideal.sig) → Buf (Elt Ideal) ℓ) (c : Dev nD)
    (e0 : m' ((c.tc : Thread Cert.Reference2Ideal.nD Cert.Reference2Ideal.τ).loc Cert.Reference2Ideal.main_arg0) = aX m c)
    (e2 : m' ((c.tc : Thread Cert.Reference2Ideal.nD Cert.Reference2Ideal.τ).loc Cert.Reference2Ideal.main_arg2) = aC m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    qryP (allP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v44_0) := by
  rw [e0, e2, e4, e5, e6, e7]
  exact qryP_eq m ρ c

theorem gluP_agree (m' : (ℓ : Loc Cert.Reference2Ideal.nD Cert.Reference2Ideal.τ Cert.Reference2Ideal.sig) → Buf (Elt Ideal) ℓ) (c : Dev nD)
    (e0 : m' ((c.tc : Thread Cert.Reference2Ideal.nD Cert.Reference2Ideal.τ).loc Cert.Reference2Ideal.main_arg0) = aX m c)
    (e2 : m' ((c.tc : Thread Cert.Reference2Ideal.nD Cert.Reference2Ideal.τ).loc Cert.Reference2Ideal.main_arg2) = aC m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    gluP (allP (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v44_3) := by
  rw [e0, e2, e4, e5, e6, e7]
  exact gluP_eq m ρ c

theorem qryS_agree (m' : (ℓ : Loc Cert.Reference2Ideal.nD Cert.Reference2Ideal.τ Cert.Reference2Ideal.sig) → Buf (Elt Ideal) ℓ) (c : Dev nD)
    (e1 : m' ((c.tc : Thread Cert.Reference2Ideal.nD Cert.Reference2Ideal.τ).loc Cert.Reference2Ideal.main_arg1) = aY m c)
    (e3 : m' ((c.tc : Thread Cert.Reference2Ideal.nD Cert.Reference2Ideal.τ).loc Cert.Reference2Ideal.main_arg3) = aD m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    qryS (allS (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v45_0) := by
  rw [e1, e3, e4, e5, e6, e7]
  exact qryS_eq m ρ c

theorem gluS_agree (m' : (ℓ : Loc Cert.Reference2Ideal.nD Cert.Reference2Ideal.τ Cert.Reference2Ideal.sig) → Buf (Elt Ideal) ℓ) (c : Dev nD)
    (e1 : m' ((c.tc : Thread Cert.Reference2Ideal.nD Cert.Reference2Ideal.τ).loc Cert.Reference2Ideal.main_arg1) = aY m c)
    (e3 : m' ((c.tc : Thread Cert.Reference2Ideal.nD Cert.Reference2Ideal.τ).loc Cert.Reference2Ideal.main_arg3) = aD m c)
    (e4 : m' ((c.tc : Thread Cert.Reference2Ideal.nD Cert.Reference2Ideal.τ).loc Cert.Reference2Ideal.main_arg4) = aA m c)
    (e5 : m' ((c.tc : Thread Cert.Reference2Ideal.nD Cert.Reference2Ideal.τ).loc Cert.Reference2Ideal.main_arg5) = aB m c)
    (e6 : m' ((c.tc : Thread Cert.Reference2Ideal.nD Cert.Reference2Ideal.τ).loc Cert.Reference2Ideal.main_arg6) = aG m c)
    (e7 : m' ((c.tc : Thread Cert.Reference2Ideal.nD Cert.Reference2Ideal.τ).loc Cert.Reference2Ideal.main_arg7) = aW m c) :
    gluS (allS (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) = W6 m ρ c (Proc.devRef .tc main_v45_3) := by
  rw [e1, e3, e4, e5, e6, e7]
  exact gluS_eq m ρ c

theorem algebraic2 : Cert.algebraic_Kernel2Ideal_Reference2Ideal (hKernel2Ideal := Cert.Kernel2Ideal.Gen.facts)
    (hReference2Ideal := Cert.Reference2Ideal.Gen.facts) := by
  intro m ρ m' ρ' hpre hargs
  refine ⟨fun c => W6 m ρ c (Proc.devRef .tc main_v46), fun c => W6 m ρ c (Proc.devRef .tc main_v47), fun c => W6 m ρ c (Proc.devRef .tc main_v49), fun c => W6 m ρ c (Proc.devRef .tc main_v50), fun c => W6 m ρ c (Proc.devRef .tc main_v51), fun c => W6 m ρ c (Proc.devRef .tc main_v53), fun c => W6 m ρ c (Proc.devRef .tc main_v44_0), fun c => W6 m ρ c (Proc.devRef .tc main_v44_3), fun c => W6 m ρ c (Proc.devRef .tc main_v45_0), fun c => W6 m ρ c (Proc.devRef .tc main_v45_3), ?_, ?_⟩
  · exact Cert.Kernel2Ideal.Prj.run m ρ
  · refine (θ_run _ _ _).mono (fun r h c => ?_) (Cert.Reference2Ideal.Value.run m' ρ')
    obtain ⟨e0, e1, e2, e3, e4, e5, e6, e7, e8⟩ := hargs c
    obtain ⟨h0, h1, h2, h3, h4, h5, h6, h7, h8, h9, h⟩ := h c
    exact ⟨h0.trans (keyP_agree m ρ m' c e0 e2 e4 e5 e6 e7),
      h1.trans (valP_agree m ρ m' c e0 e2 e4 e5 e6 e7),
      h2.trans (logP_agree m ρ m' c e0 e2 e4 e5 e6 e7 e8),
      h3.trans (keyS_agree m ρ m' c e1 e3 e4 e5 e6 e7),
      h4.trans (valS_agree m ρ m' c e1 e3 e4 e5 e6 e7),
      h5.trans (logS_agree m ρ m' c e1 e3 e4 e5 e6 e7 e8),
      h6.trans (qryP_agree m ρ m' c e0 e2 e4 e5 e6 e7),
      h7.trans (gluP_agree m ρ m' c e0 e2 e4 e5 e6 e7),
      h8.trans (qryS_agree m ρ m' c e1 e3 e4 e5 e6 e7),
      h9.trans (gluS_agree m ρ m' c e1 e3 e4 e5 e6 e7), h⟩

end Cert.Projection
-- ==== Proof.OutBody.lean ====
/- The output projection of one token, written out, and what the bodies of the two output projection calls leave in their
   output blocks, at an index. -/
module

public import proofs.«01_k».proof.Proof.Gen.Kernel3Ideal.Frame
public import Idealize.ShloMosaic.Lib.Claim
public import Idealize.ShloMosaic.Lib.Pointwise
public import Idealize.ShloMosaic.Lib.Pipeline.ValueKit

@[expose] public section

set_option maxRecDepth 16384

noncomputable section

namespace Cert.Merge

open Idealize.ShloMosaic

/-- The root mean square norm of a branch `v` with gain `g`. -/
def branch (v g : Fin 1024 → EReal) (k : Fin 1024) : EReal :=
  v k * Ideal.rsqrt (Ideal.div (∑ q, v q * v q) (Ideal.ofBits FTy.f32 0x44800000#32) + Ideal.ofBits FTy.f32 0x358637BD#32) * g k

/-- One column of the product of the two normed branches with the output weights: `wa` and `ws` are the column's two halves. -/
def merged (att ssm ga gs wa ws : Fin 1024 → EReal) : EReal :=
  (∑ k, branch att ga k * wa k) + ∑ k, branch ssm gs k * ws k

/-- The residual `x` plus the gated update `g · z`. -/
abbrev gated (x g z : EReal) : EReal := x + g * z

theorem merged_congr {a s p q u v a' s' p' q' u' v' : Fin 1024 → EReal} (h1 : ∀ k, a k = a' k) (h2 : ∀ k, s k = s' k) (h3 : ∀ k, p k = p' k)
    (h4 : ∀ k, q k = q' k) (h5 : ∀ k, u k = u' k) (h6 : ∀ k, v k = v' k) : merged a s p q u v = merged a' s' p' q' u' v' := by
  rw [funext h1, funext h2, funext h3, funext h4, funext h5, funext h6]

/-- A sum over the joined features is the sum over one branch plus the sum over the other. -/
theorem sum_join (f : Fin 2048 → EReal) :
    ∑ k, f k = (∑ k : Fin 1024, f ⟨k.val, by omega⟩) + ∑ k : Fin 1024, f ⟨1024 + k.val, by omega⟩ :=
  Fin.sum_univ_add (a := 1024) (b := 1024) f

end Cert.Merge

namespace Cert.Kernel3Ideal.Out

open Idealize.ShloMosaic Idealize.ShloMosaic.TcCoe Idealize.SL.Sem
open Cert.Kernel3Ideal Cert.Kernel3Ideal.Gen Cert.Merge

theorem prod0 (v0 v19 : S256x1024.Idx → EReal) (v1 v20 : S1x1024.Idx → EReal) (v16 v35 : S1024x2048.Idx → EReal) (r : Fin 256) (j : Fin 2048) :
    (k0_pay2 (F := Ideal) v0 v1 v16 v19 v20 v35 : S256x2048.Idx → EReal) (ix2 r j)
      = merged (fun q => v0 (ix2 r q)) (fun q => v19 (ix2 r q)) (fun q => v1 (ix2 0 q)) (fun q => v20 (ix2 0 q))
          (fun q => v16 (ix2 q j)) (fun q => v35 (ix2 q j)) := by
  pointwise [k0_pay2, merged, branch]

theorem prod1 (v0 v19 : S256x1024.Idx → EReal) (v1 v20 : S1x1024.Idx → EReal) (v16 v35 : S1024x2048.Idx → EReal) (r : Fin 256) (j : Fin 2048) :
    (k1_pay2 (F := Ideal) v0 v1 v16 v19 v20 v35 : S256x2048.Idx → EReal) (ix2 r j)
      = merged (fun q => v0 (ix2 r q)) (fun q => v19 (ix2 r q)) (fun q => v1 (ix2 0 q)) (fun q => v20 (ix2 0 q))
          (fun q => v16 (ix2 q j)) (fun q => v35 (ix2 q j)) := by
  pointwise [k1_pay2, merged, branch]

theorem resid0 (P : S256x2048.Idx → EReal) (x : S32x8x2048.Idx → EReal) (g : S1x1x2048.Idx → EReal) (a : Fin 32) (s : Fin 8) (j : Fin 2048) :
    (k0_pay1 (F := Ideal) P x g : S32x8x2048.Idx → EReal) (ix3 a s j)
      = x (ix3 a s j) + g (ix3 0 0 j) * P (ix2 ⟨a.val * 8 + s.val, by omega⟩ j) := by
  pointwise [k0_pay1]

theorem resid1 (P : S256x2048.Idx → EReal) (x : S32x8x2048.Idx → EReal) (g : S32x1x2048.Idx → EReal) (a : Fin 32) (s : Fin 8) (j : Fin 2048) :
    (k1_pay1 (F := Ideal) P x g : S32x8x2048.Idx → EReal) (ix3 a s j)
      = x (ix3 a s j) + g (ix3 a 0 j) * P (ix2 ⟨a.val * 8 + s.val, by omega⟩ j) := by
  pointwise [k1_pay1]

theorem out0_at (x0 x1 : S256x1024.Idx → EReal) (x2 x3 : S1x1024.Idx → EReal) (x4 x5 : S1024x2048.Idx → EReal) (x6 : S32x8x2048.Idx → EReal)
    (x7 : S1x1x2048.Idx → EReal) (a : Fin 32) (s : Fin 8) (j : Fin 2048) :
    (out0_8 (F := Ideal) x0 x1 x2 x3 x4 x5 x6 x7 : S32x8x2048.Idx → EReal) (ix3 a s j)
      = x6 (ix3 a s j) + x7 (ix3 0 0 j) * merged (fun q => x0 (ix2 ⟨a.val * 8 + s.val, by omega⟩ q)) (fun q => x1 (ix2 ⟨a.val * 8 + s.val, by omega⟩ q))
          (fun q => x2 (ix2 0 q)) (fun q => x3 (ix2 0 q)) (fun q => x4 (ix2 q j)) (fun q => x5 (ix2 q j)) := by
  unfold out0_8
  simp (disch := decide) only [View.canon_cons_unit_lit', View.ld_unit_lit']
  exact (resid0 _ x6 x7 a s j).trans (congrArg (fun z => x6 (ix3 a s j) + x7 (ix3 0 0 j) * z) (prod0 x0 x1 x2 x3 x4 x5 _ j))

theorem out1_at (x0 x1 : S256x1024.Idx → EReal) (x2 x3 : S1x1024.Idx → EReal) (x4 x5 : S1024x2048.Idx → EReal) (x6 : S32x8x2048.Idx → EReal)
    (x7 : S32x1x2048.Idx → EReal) (a : Fin 32) (s : Fin 8) (j : Fin 2048) :
    (out1_8 (F := Ideal) x0 x1 x2 x3 x4 x5 x6 x7 : S32x8x2048.Idx → EReal) (ix3 a s j)
      = x6 (ix3 a s j) + x7 (ix3 a 0 j) * merged (fun q => x0 (ix2 ⟨a.val * 8 + s.val, by omega⟩ q)) (fun q => x1 (ix2 ⟨a.val * 8 + s.val, by omega⟩ q))
          (fun q => x2 (ix2 0 q)) (fun q => x3 (ix2 0 q)) (fun q => x4 (ix2 q j)) (fun q => x5 (ix2 q j)) := by
  unfold out1_8
  simp (disch := decide) only [View.canon_cons_unit_lit', View.ld_unit_lit']
  exact (resid1 _ x6 x7 a s j).trans (congrArg (fun z => x6 (ix3 a s j) + x7 (ix3 a 0 j) * z) (prod1 x0 x1 x2 x3 x4 x5 _ j))

end Cert.Kernel3Ideal.Out
-- ==== Proof.OutArrays.lean ====
/- The arrays the two output projection calls leave, at every index, from the arrays they are entered with. -/
module

public import proofs.«01_k».proof.Proof.OutBody

@[expose] public section

set_option maxRecDepth 16384

noncomputable section

namespace Cert.Kernel3Ideal.Out

open Idealize.ShloMosaic Idealize.ShloMosaic.TcCoe Idealize.SL.Sem
open Cert.Kernel3Ideal Cert.Kernel3Ideal.Gen Cert.Merge

variable (V : (c : Dev nD) → (b : Ref sig .tc) → Buf (Elt Ideal) ((c : Thread nD τ).loc b))

/-! ## The call of the prompt -/

theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0, 0]
    ∧ win0_7.index t = ![t.val / 16, 0, 0] ∧ win0_8.index t = ![t.val, 0, 0] :=
  (by decide +kernel : ∀ t : Fin grid0.N, _)

theorem lt0 (t : Fin cfg0.N) : t.val < 32 := t.isLt

theorem emb0_0 (t : Fin cfg0.N) (a : Fin 256) (x : Fin 1024) : ((win0_0.blk t).view.emb (ix2 a x) : S8192x1024.Idx)
    = ix2 ⟨t.val * 256 + a.val, by have := lt0 t; omega⟩ x := by
  blk_ext [idx0 t] <;> rfl
theorem emb0_1 (t : Fin cfg0.N) (a : Fin 256) (x : Fin 1024) : ((win0_1.blk t).view.emb (ix2 a x) : S8192x1024.Idx)
    = ix2 ⟨t.val * 256 + a.val, by have := lt0 t; omega⟩ x := by
  blk_ext [idx0 t] <;> rfl
theorem emb0_2 (t : Fin cfg0.N) (a : Fin 1) (x : Fin 1024) : ((win0_2.blk t).view.emb (ix2 a x) : S1x1024.Idx) = ix2 a x := by
  blk_ext [idx0 t] <;> rfl
theorem emb0_3 (t : Fin cfg0.N) (a : Fin 1) (x : Fin 1024) : ((win0_3.blk t).view.emb (ix2 a x) : S1x1024.Idx) = ix2 a x := by
  blk_ext [idx0 t] <;> rfl
theorem emb0_4 (t : Fin cfg0.N) (a : Fin 1024) (x : Fin 2048) : ((win0_4.blk t).view.emb (ix2 a x) : S1024x2048.Idx) = ix2 a x := by
  blk_ext [idx0 t] <;> rfl
theorem emb0_5 (t : Fin cfg0.N) (a : Fin 1024) (x : Fin 2048) : ((win0_5.blk t).view.emb (ix2 a x) : S1024x2048.Idx) = ix2 a x := by
  blk_ext [idx0 t] <;> rfl
theorem emb0_6 (t : Fin cfg0.N) (a : Fin 32) (s : Fin 8) (x : Fin 2048) : ((win0_6.blk t).view.emb (ix3 a s x) : S1024x8x2048.Idx)
    = ix3 ⟨t.val * 32 + a.val, by have := lt0 t; omega⟩ s x := by
  blk_ext [idx0 t] <;> rfl
theorem emb0_8 (t : Fin cfg0.N) (a : Fin 32) (s : Fin 8) (x : Fin 2048) : ((win0_8.blk t).view.emb (ix3 a s x) : S1024x8x2048.Idx)
    = ix3 ⟨t.val * 32 + a.val, by have := lt0 t; omega⟩ s x := by
  blk_ext [idx0 t] <;> rfl
theorem emb0_7 (t : Fin cfg0.N) (x : Fin 2048) : ((win0_7.blk t).view.emb (ix3 0 0 x) : S2x1x2048.Idx)
    = ix3 ⟨t.val / 16, by have := lt0 t; omega⟩ 0 x := by
  blk_ext [idx0 t] <;> rfl

/-- Column `j` of token `(a, s)` of the prompt after the merge. -/
def res0 (c : Dev nD) (a : Fin 1024) (s : Fin 8) (j : Fin 2048) : EReal :=
  gated ((V c main_v6 : S1024x8x2048.Idx → EReal) (ix3 a s j)) ((V c main_v9 : S2x1x2048.Idx → EReal) (ix3 ⟨a.val / 512, by omega⟩ 0 j))
    (merged (fun q => (V c main_arg0 : S8192x1024.Idx → EReal) (ix2 ⟨a.val * 8 + s.val, by omega⟩ q))
        (fun q => (V c main_arg1 : S8192x1024.Idx → EReal) (ix2 ⟨a.val * 8 + s.val, by omega⟩ q))
        (fun q => (V c main_v3 : S1x1024.Idx → EReal) (ix2 0 q)) (fun q => (V c main_v5 : S1x1024.Idx → EReal) (ix2 0 q))
        (fun q => (V c main_v7 : S1024x2048.Idx → EReal) (ix2 q j)) (fun q => (V c main_v8 : S1024x2048.Idx → EReal) (ix2 q j)))

def arr0 (c : Dev nD) : S1024x8x2048.Idx → EReal := fun y => res0 V c (y 0) (y 1) (y 2)

theorem final0 (c : Dev nD) : (dat0 V c).arrAt 8 cfg0.N = arr0 V c := by
  refine (dat0 V c).arrAt_eq_of_covers 8 _ (by decide +kernel) fun t _ y => ?_
  blk_simp
  rw [after0_8]
  idx_vars y
  have ht := lt0 t
  refine (out0_at _ _ _ _ _ _ _ _ y0 y1 y2).trans ?_
  refine Eq.trans ?_ (congrArg (arr0 V c) (emb0_8 t y0 y1 y2)).symm
  have er : ∀ q, (ix2 (⟨t.val * 256 + (y0.val * 8 + y1.val), by omega⟩ : Fin 8192) q : S8192x1024.Idx)
      = ix2 ⟨(t.val * 32 + y0.val) * 8 + y1.val, by omega⟩ q := fun q =>
    congrArg (fun u => ix2 u q) (Fin.ext (by show t.val * 256 + (y0.val * 8 + y1.val) = (t.val * 32 + y0.val) * 8 + y1.val; omega))
  refine congrArg₂ (· + ·) ?_ (congrArg₂ (· * ·) ?_ (merged_congr (fun q => ?_) (fun q => ?_) (fun q => ?_) (fun q => ?_) (fun q => ?_) (fun q => ?_)))
  · exact congrArg (V c main_v6 : S1024x8x2048.Idx → EReal) (emb0_6 t y0 y1 y2)
  · refine congrArg (V c main_v9 : S2x1x2048.Idx → EReal) ((emb0_7 t y2).trans (congrArg (fun u => ix3 u 0 y2) (Fin.ext ?_)))
    show t.val / 16 = (t.val * 32 + y0.val) / 512
    omega
  · exact congrArg (V c main_arg0 : S8192x1024.Idx → EReal) ((emb0_0 t _ q).trans (er q))
  · exact congrArg (V c main_arg1 : S8192x1024.Idx → EReal) ((emb0_1 t _ q).trans (er q))
  · exact congrArg (V c main_v3 : S1x1024.Idx → EReal) (emb0_2 t 0 q)
  · exact congrArg (V c main_v5 : S1x1024.Idx → EReal) (emb0_3 t 0 q)
  · exact congrArg (V c main_v7 : S1024x2048.Idx → EReal) (emb0_4 t q y2)
  · exact congrArg (V c main_v8 : S1024x2048.Idx → EReal) (emb0_5 t q y2)

/-! ## The call of the samples -/

theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![0, 0] ∧ win1_6.index t = ![t.val, 0, 0]
    ∧ win1_7.index t = ![t.val, 0, 0] ∧ win1_8.index t = ![t.val, 0, 0] :=
  (by decide +kernel : ∀ t : Fin grid1.N, _)

theorem lt1 (t : Fin cfg1.N) : t.val < 4 := t.isLt

theorem emb1_0 (t : Fin cfg1.N) (a : Fin 256) (x : Fin 1024) : ((win1_0.blk t).view.emb (ix2 a x) : S1024x1024.Idx)
    = ix2 ⟨t.val * 256 + a.val, by have := lt1 t; omega⟩ x := by
  blk_ext [idx1 t] <;> rfl
theorem emb1_1 (t : Fin cfg1.N) (a : Fin 256) (x : Fin 1024) : ((win1_1.blk t).view.emb (ix2 a x) : S1024x1024.Idx)
    = ix2 ⟨t.val * 256 + a.val, by have := lt1 t; omega⟩ x := by
  blk_ext [idx1 t] <;> rfl
theorem emb1_2 (t : Fin cfg1.N) (a : Fin 1) (x : Fin 1024) : ((win1_2.blk t).view.emb (ix2 a x) : S1x1024.Idx) = ix2 a x := by
  blk_ext [idx1 t] <;> rfl
theorem emb1_3 (t : Fin cfg1.N) (a : Fin 1) (x : Fin 1024) : ((win1_3.blk t).view.emb (ix2 a x) : S1x1024.Idx) = ix2 a x := by
  blk_ext [idx1 t] <;> rfl
theorem emb1_4 (t : Fin cfg1.N) (a : Fin 1024) (x : Fin 2048) : ((win1_4.blk t).view.emb (ix2 a x) : S1024x2048.Idx) = ix2 a x := by
  blk_ext [idx1 t] <;> rfl
theorem emb1_5 (t : Fin cfg1.N) (a : Fin 1024) (x : Fin 2048) : ((win1_5.blk t).view.emb (ix2 a x) : S1024x2048.Idx) = ix2 a x := by
  blk_ext [idx1 t] <;> rfl
theorem emb1_6 (t : Fin cfg1.N) (a : Fin 32) (s : Fin 8) (x : Fin 2048) : ((win1_6.blk t).view.emb (ix3 a s x) : S128x8x2048.Idx)
    = ix3 ⟨t.val * 32 + a.val, by have := lt1 t; omega⟩ s x := by
  blk_ext [idx1 t] <;> rfl
theorem emb1_8 (t : Fin cfg1.N) (a : Fin 32) (s : Fin 8) (x : Fin 2048) : ((win1_8.blk t).view.emb (ix3 a s x) : S128x8x2048.Idx)
    = ix3 ⟨t.val * 32 + a.val, by have := lt1 t; omega⟩ s x := by
  blk_ext [idx1 t] <;> rfl
theorem emb1_7 (t : Fin cfg1.N) (a : Fin 32) (x : Fin 2048) : ((win1_7.blk t).view.emb (ix3 a 0 x) : S128x1x2048.Idx)
    = ix3 ⟨t.val * 32 + a.val, by have := lt1 t; omega⟩ 0 x := by
  blk_ext [idx1 t] <;> rfl

/-- Column `j` of token `(a, s)` of the samples after the merge. -/
def res1 (c : Dev nD) (a : Fin 128) (s : Fin 8) (j : Fin 2048) : EReal :=
  gated ((V c main_arg8 : S128x8x2048.Idx → EReal) (ix3 a s j)) ((V c main_v13 : S128x1x2048.Idx → EReal) (ix3 a 0 j))
    (merged (fun q => (V c main_arg2 : S1024x1024.Idx → EReal) (ix2 ⟨a.val * 8 + s.val, by omega⟩ q))
        (fun q => (V c main_arg3 : S1024x1024.Idx → EReal) (ix2 ⟨a.val * 8 + s.val, by omega⟩ q))
        (fun q => (V c main_v3 : S1x1024.Idx → EReal) (ix2 0 q)) (fun q => (V c main_v5 : S1x1024.Idx → EReal) (ix2 0 q))
        (fun q => (V c main_v11 : S1024x2048.Idx → EReal) (ix2 q j)) (fun q => (V c main_v12 : S1024x2048.Idx → EReal) (ix2 q j)))

def arr1 (c : Dev nD) : S128x8x2048.Idx → EReal := fun y => res1 V c (y 0) (y 1) (y 2)

theorem final1 (c : Dev nD) : (dat1 V c).arrAt 8 cfg1.N = arr1 V c := by
  refine (dat1 V c).arrAt_eq_of_covers 8 _ (by decide +kernel) fun t _ y => ?_
  blk_simp
  rw [after1_8]
  idx_vars y
  have ht := lt1 t
  refine (out1_at _ _ _ _ _ _ _ _ y0 y1 y2).trans ?_
  refine Eq.trans ?_ (congrArg (arr1 V c) (emb1_8 t y0 y1 y2)).symm
  have er : ∀ q, (ix2 (⟨t.val * 256 + (y0.val * 8 + y1.val), by omega⟩ : Fin 1024) q : S1024x1024.Idx)
      = ix2 ⟨(t.val * 32 + y0.val) * 8 + y1.val, by omega⟩ q := fun q =>
    congrArg (fun u => ix2 u q) (Fin.ext (by show t.val * 256 + (y0.val * 8 + y1.val) = (t.val * 32 + y0.val) * 8 + y1.val; omega))
  refine congrArg₂ (· + ·) ?_ (congrArg₂ (· * ·) ?_ (merged_congr (fun q => ?_) (fun q => ?_) (fun q => ?_) (fun q => ?_) (fun q => ?_) (fun q => ?_)))
  · exact congrArg (V c main_arg8 : S128x8x2048.Idx → EReal) (emb1_6 t y0 y1 y2)
  · exact congrArg (V c main_v13 : S128x1x2048.Idx → EReal) (emb1_7 t y0 y2)
  · exact congrArg (V c main_arg2 : S1024x1024.Idx → EReal) ((emb1_0 t _ q).trans (er q))
  · exact congrArg (V c main_arg3 : S1024x1024.Idx → EReal) ((emb1_1 t _ q).trans (er q))
  · exact congrArg (V c main_v3 : S1x1024.Idx → EReal) (emb1_2 t 0 q)
  · exact congrArg (V c main_v5 : S1x1024.Idx → EReal) (emb1_3 t 0 q)
  · exact congrArg (V c main_v11 : S1024x2048.Idx → EReal) (emb1_4 t q y2)
  · exact congrArg (V c main_v12 : S1024x2048.Idx → EReal) (emb1_5 t q y2)

end Cert.Kernel3Ideal.Out
-- ==== Proof.OutKernel.lean ====
/- The output projections' program: what its calls are entered with, its two results after the run, at every index, from
   its arguments; and the run. -/
module

public import proofs.«01_k».proof.Proof.OutArrays
public import Idealize.ShloMosaic.Lib.StableHlo.RunRead

@[expose] public section

set_option maxRecDepth 16384

noncomputable section

namespace Cert.Kernel3Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen Cert.Merge

variable (m : (ℓ : Loc nD τ sig) → Buf (Elt Ideal) ℓ) (ρ : Dev nD → PrngReg)

abbrev aAp (c : Dev nD) : S8192x1024.Idx → EReal := m ((c : Thread nD τ).loc main_arg0)
abbrev aSp (c : Dev nD) : S8192x1024.Idx → EReal := m ((c : Thread nD τ).loc main_arg1)
abbrev aAs (c : Dev nD) : S1024x1024.Idx → EReal := m ((c : Thread nD τ).loc main_arg2)
abbrev aSs (c : Dev nD) : S1024x1024.Idx → EReal := m ((c : Thread nD τ).loc main_arg3)
abbrev aGa (c : Dev nD) : S1x1024.Idx → EReal := m ((c : Thread nD τ).loc main_arg4)
abbrev aGs (c : Dev nD) : S1x1024.Idx → EReal := m ((c : Thread nD τ).loc main_arg5)
abbrev aW (c : Dev nD) : S1x2048x2048.Idx → EReal := m ((c : Thread nD τ).loc main_arg6)
abbrev aX (c : Dev nD) : S2x4096x2048.Idx → EReal := m ((c : Thread nD τ).loc main_arg7)
abbrev aY (c : Dev nD) : S128x8x2048.Idx → EReal := m ((c : Thread nD τ).loc main_arg8)
abbrev aGp (c : Dev nD) : S2x2048.Idx → EReal := m ((c : Thread nD τ).loc main_arg9)
abbrev aGq (c : Dev nD) : S128x2048.Idx → EReal := m ((c : Thread nD τ).loc main_arg10)

/-- Column `j` of the merged prompt token `(b, l)`, from the arguments. -/
def prompt (c : Dev nD) (b : Fin 2) (l : Fin 4096) (j : Fin 2048) : EReal :=
  aX m c (ix3 b l j) + aGp m c (ix2 b j)
    * merged (fun q => aAp m c (ix2 ⟨b.val * 4096 + l.val, by omega⟩ q)) (fun q => aSp m c (ix2 ⟨b.val * 4096 + l.val, by omega⟩ q))
        (fun q => aGa m c (ix2 0 q)) (fun q => aGs m c (ix2 0 q)) (fun q => aW m c (ix3 0 ⟨q.val, by omega⟩ j))
        (fun q => aW m c (ix3 0 ⟨1024 + q.val, by omega⟩ j))

/-- Column `j` of the merged sample token `(b, l)`, from the arguments. -/
def sample (c : Dev nD) (b : Fin 128) (l : Fin 8) (j : Fin 2048) : EReal :=
  aY m c (ix3 b l j) + aGq m c (ix2 b j)
    * merged (fun q => aAs m c (ix2 ⟨b.val * 8 + l.val, by omega⟩ q)) (fun q => aSs m c (ix2 ⟨b.val * 8 + l.val, by omega⟩ q))
        (fun q => aGa m c (ix2 0 q)) (fun q => aGs m c (ix2 0 q)) (fun q => aW m c (ix3 0 ⟨q.val, by omega⟩ j))
        (fun q => aW m c (ix3 0 ⟨1024 + q.val, by omega⟩ j))

/-! ## What the prompt's call is entered with -/

theorem p_ga (c : Dev nD) (q : Fin 1024) : (W1 m ρ c (Proc.devRef .tc main_v3) : S1x1024.Idx → EReal) (ix2 0 q) = aGa m c (ix2 0 q) := by
  dsimp only [W1]
  entry_read
  pointwise

theorem p_gs (c : Dev nD) (q : Fin 1024) : (W1 m ρ c (Proc.devRef .tc main_v5) : S1x1024.Idx → EReal) (ix2 0 q) = aGs m c (ix2 0 q) := by
  dsimp only [W1]
  entry_read
  pointwise

theorem w_at (c : Dev nD) (k j : Fin 2048) : (W1 m ρ c (Proc.devRef .tc main_v1) : S2048x2048.Idx → EReal) (ix2 k j) = aW m c (ix3 0 k j) := by
  dsimp only [W1]
  entry_read
  pointwise

theorem p_wa (c : Dev nD) (q : Fin 1024) (j : Fin 2048) :
    (W1 m ρ c (Proc.devRef .tc main_v7) : S1024x2048.Idx → EReal) (ix2 q j) = aW m c (ix3 0 ⟨q.val, by omega⟩ j) := by
  dsimp only [W1]
  entry_read
  pointwise

theorem p_ws (c : Dev nD) (q : Fin 1024) (j : Fin 2048) :
    (W1 m ρ c (Proc.devRef .tc main_v8) : S1024x2048.Idx → EReal) (ix2 q j) = aW m c (ix3 0 ⟨1024 + q.val, by omega⟩ j) := by
  dsimp only [W1]
  entry_read
  pointwise

theorem p_gate (c : Dev nD) (b : Fin 2) (j : Fin 2048) : (W1 m ρ c (Proc.devRef .tc main_v9) : S2x1x2048.Idx → EReal) (ix3 b 0 j) = aGp m c (ix2 b j) := by
  dsimp only [W1]
  entry_read
  pointwise

theorem p_x (c : Dev nD) (a : Fin 1024) (s : Fin 8) (j : Fin 2048) : (W1 m ρ c (Proc.devRef .tc main_v6) : S1024x8x2048.Idx → EReal) (ix3 a s j)
    = aX m c (ix3 ⟨a.val / 512, by omega⟩ ⟨a.val % 512 * 8 + s.val, by omega⟩ j) := by
  dsimp only [W1]
  entry_read
  pointwise

/-! ## What the samples' call is entered with -/

theorem s_ga (c : Dev nD) (q : Fin 1024) : (W3 m ρ c (Proc.devRef .tc main_v3) : S1x1024.Idx → EReal) (ix2 0 q) = aGa m c (ix2 0 q) :=
  (congrFun ((W3_of m ρ c main_v3 (by decide)).trans (W2_of m ρ c main_v3 (by decide))) _).trans (p_ga m ρ c q)

theorem s_gs (c : Dev nD) (q : Fin 1024) : (W3 m ρ c (Proc.devRef .tc main_v5) : S1x1024.Idx → EReal) (ix2 0 q) = aGs m c (ix2 0 q) :=
  (congrFun ((W3_of m ρ c main_v5 (by decide)).trans (W2_of m ρ c main_v5 (by decide))) _).trans (p_gs m ρ c q)

theorem s_wa (c : Dev nD) (q : Fin 1024) (j : Fin 2048) :
    (W3 m ρ c (Proc.devRef .tc main_v11) : S1024x2048.Idx → EReal) (ix2 q j) = aW m c (ix3 0 ⟨q.val, by omega⟩ j) := by
  trans (W2 m ρ c (Proc.devRef .tc main_v1) : S2048x2048.Idx → EReal) (ix2 ⟨q.val, by omega⟩ j)
  · dsimp only [W3]
    entry_read
    pointwise
  · exact (congrFun (W2_of m ρ c main_v1 (by decide)) _).trans (w_at m ρ c _ j)

theorem s_ws (c : Dev nD) (q : Fin 1024) (j : Fin 2048) :
    (W3 m ρ c (Proc.devRef .tc main_v12) : S1024x2048.Idx → EReal) (ix2 q j) = aW m c (ix3 0 ⟨1024 + q.val, by omega⟩ j) := by
  trans (W2 m ρ c (Proc.devRef .tc main_v1) : S2048x2048.Idx → EReal) (ix2 ⟨1024 + q.val, by omega⟩ j)
  · dsimp only [W3]
    entry_read
    pointwise
  · exact (congrFun (W2_of m ρ c main_v1 (by decide)) _).trans (w_at m ρ c _ j)

theorem s_gate (c : Dev nD) (b : Fin 128) (j : Fin 2048) :
    (W3 m ρ c (Proc.devRef .tc main_v13) : S128x1x2048.Idx → EReal) (ix3 b 0 j) = aGq m c (ix2 b j) := by
  trans (W2 m ρ c (Proc.devRef .tc main_arg10) : S128x2048.Idx → EReal) (ix2 b j)
  · dsimp only [W3]
    entry_read
    pointwise
  · exact congrFun (W2_args m ρ c main_arg10 (by decide)) _

/-! ## The results at an index -/

theorem prompt_at (c : Dev nD) (b : Fin 2) (l : Fin 4096) (j : Fin 2048) :
    (W5 m ρ c (Proc.devRef .tc main_v15) : S2x4096x2048.Idx → EReal) (ix3 b l j) = prompt m c b l j := by
  trans (W4 m ρ c (Proc.devRef .tc main_v10) : S1024x8x2048.Idx → EReal)
    (ix3 ⟨b.val * 512 + l.val / 8, by omega⟩ ⟨l.val % 8, by omega⟩ j)
  · dsimp only [W5]
    entry_read
    pointwise
  have e : (W4 m ρ c (Proc.devRef .tc main_v10) : S1024x8x2048.Idx → EReal) = arr0 (V1 m ρ) c :=
    (W4_of m ρ c main_v10 (by decide)).trans ((W3_of m ρ c main_v10 (by decide)).trans ((W2_arr m ρ c 8).trans (final0 (V1 m ρ) c)))
  refine (congrFun e _).trans ?_
  have hq : (⟨(b.val * 512 + l.val / 8) * 8 + l.val % 8, by omega⟩ : Fin 8192) = ⟨b.val * 4096 + l.val, by omega⟩ :=
    Fin.ext (by show (b.val * 512 + l.val / 8) * 8 + l.val % 8 = b.val * 4096 + l.val; omega)
  have hb : (⟨(b.val * 512 + l.val / 8) / 512, by omega⟩ : Fin 2) = b := Fin.ext (by show (b.val * 512 + l.val / 8) / 512 = b.val; omega)
  refine congrArg₂ (· + ·) ?_ (congrArg₂ (· * ·) ?_ (merged_congr (fun q => ?_) (fun q => ?_) (fun q => ?_) (fun q => ?_) (fun q => ?_) (fun q => ?_)))
  · refine (p_x m ρ c _ _ j).trans (congrArg (aX m c) (congrArg₂ (fun u v => ix3 u v j) (Fin.ext ?_) (Fin.ext ?_)))
    · show (b.val * 512 + l.val / 8) / 512 = b.val
      omega
    · show (b.val * 512 + l.val / 8) % 512 * 8 + l.val % 8 = l.val
      omega
  · exact (p_gate m ρ c _ j).trans (congrArg (fun u => aGp m c (ix2 u j)) hb)
  · exact (congrFun (W1_args m ρ c main_arg0 (by decide)) _).trans (congrArg (fun u => aAp m c (ix2 u q)) hq)
  · exact (congrFun (W1_args m ρ c main_arg1 (by decide)) _).trans (congrArg (fun u => aSp m c (ix2 u q)) hq)
  · exact p_ga m ρ c q
  · exact p_gs m ρ c q
  · exact p_wa m ρ c q j
  · exact p_ws m ρ c q j

theorem sample_at (c : Dev nD) (b : Fin 128) (l : Fin 8) (j : Fin 2048) :
    (W5 m ρ c (Proc.devRef .tc main_v14) : S128x8x2048.Idx → EReal) (ix3 b l j) = sample m c b l j := by
  have e : (W5 m ρ c (Proc.devRef .tc main_v14) : S128x8x2048.Idx → EReal) = arr1 (V3 m ρ) c :=
    (W5_of m ρ c main_v14 (by decide)).trans ((W4_arr m ρ c 8).trans (final1 (V3 m ρ) c))
  refine (congrFun e _).trans ?_
  refine congrArg₂ (· + ·) ?_ (congrArg₂ (· * ·) ?_ (merged_congr (fun q => ?_) (fun q => ?_) (fun q => ?_) (fun q => ?_) (fun q => ?_) (fun q => ?_)))
  · exact congrFun (W3_args m ρ c main_arg8 (by decide)) _
  · exact s_gate m ρ c b j
  · exact congrFun (W3_args m ρ c main_arg2 (by decide)) _
  · exact congrFun (W3_args m ρ c main_arg3 (by decide)) _
  · exact s_ga m ρ c q
  · exact s_gs m ρ c q
  · exact s_wa m ρ c q j
  · exact s_ws m ρ c q j

/-! ## The run -/

local notation "𝕄" => MT nD τ sig Unit (Elt Ideal) ℕ (UR sig nD τ) ℕ

set_option backward.isDefEq.respectTransparency.types false in
/-- The run ends with both result buffers at the contents after the last stretch of host operations, and the arguments as
    launched. -/
theorem run : θ_run (defs (F := Ideal)) (onTc (τ := τ) (main (F := Ideal))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v15 (by decide)),
       h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.Kernel3Ideal.Out
-- ==== Proof.OutRef.lean ====
/- The reference of the output projection at an index: its own terms, cut at the normed branches; the sum over the joined
   features split at the two branches. -/
module

public import proofs.«01_k».proof.Proof.OutBody
public import proofs.«01_k».proof.Proof.Gen.Reference3Ideal.Run
public import Idealize.ShloMosaic.Lib.Pointwise
public import Idealize.ShloMosaic.Lib.IdealHost

@[expose] public section

set_option maxRecDepth 16384

noncomputable section

namespace Cert.Reference3Ideal.Out

open Idealize.ShloMosaic Idealize.ShloMosaic.TcCoe Idealize.SL.Sem
open Cert.Reference3Ideal Cert.Reference3Ideal.Gen Cert.Merge

def nrmP (A : FVec Ideal S8192x1024 .f32) (G : FVec Ideal S1x1024 .f32) : FVec Ideal S2x4096x1024 .f32 :=
  (mulf (mulf (shapeCast _ A shapeCasts_S8192x1024_S2x4096x1024) (broadcastInDim S2x4096x1024 ![0, 1, 2] bcast_S2x4096x1_S2x4096x1024_0_1_2 (Host.rsqrt (addf (Host.divf (broadcastInDim S2x4096x1 ![0, 1] bcast_S2x4096_S2x4096x1_0_1 (Host.reduceAdd (mulf (shapeCast _ A shapeCasts_S8192x1024_S2x4096x1024) (shapeCast _ A shapeCasts_S8192x1024_S2x4096x1024)) (constant S_ .f32 0x00000000#32) reducesTo_S2x4096x1024_S2x4096_d2 h_S_)) (broadcastInDim S2x4096x1 ![] bcast_S_S2x4096x1 (constant S_ .f32 0x44800000#32))) (broadcastInDim S2x4096x1 ![] bcast_S_S2x4096x1 (constant S_ .f32 0x358637BD#32)))))) (broadcastInDim S2x4096x1024 ![0, 1, 2] bcast_S1x1x1024_S2x4096x1024_0_1_2 (broadcastInDim S1x1x1024 ![2] bcast_S1024_S1x1x1024_2 (shapeCast _ G shapeCasts_S1x1024_S1024))))

def mrgP (N Q : FVec Ideal S2x4096x1024 .f32) (W : FVec Ideal S1x2048x2048 .f32) (X : FVec Ideal S2x4096x2048 .f32) (H : FVec Ideal S2x2048 .f32) : FVec Ideal S2x4096x2048 .f32 :=
  addf X (mulf (broadcastInDim S2x4096x2048 ![0, 1, 2] bcast_S2x1x2048_S2x4096x2048_0_1_2 (broadcastInDim S2x1x2048 ![0, 2] bcast_S2x2048_S2x1x2048_0_2 H)) (Host.dotGeneral dot_S2x4096x2048_S2048x2048_S2x4096x2048_2_0_01_1_n_n none (concatenate S2x4096x2048 2 [⟨S2x4096x1024, N⟩, ⟨S2x4096x1024, Q⟩] concatenates_S2x4096x1024_S2x4096x1024_S2x4096x2048_d2) (shapeCast _ W shapeCasts_S1x2048x2048_S2048x2048)))

theorem nrmP_at (A : FVec Ideal S8192x1024 .f32) (G : FVec Ideal S1x1024 .f32) (b : Fin 2) (l : Fin 4096) (k : Fin 1024) :
    nrmP A G (ix3 b l k) = branch (fun q => A (ix2 ⟨b.val * 4096 + l.val, by omega⟩ q)) (fun q => G (ix2 0 q)) k := by
  pointwise [nrmP, branch]

theorem catP_lo (N Q : FVec Ideal S2x4096x1024 .f32) (b : Fin 2) (l : Fin 4096) (k : Fin 1024) :
    (concatenate S2x4096x2048 2 [⟨S2x4096x1024, N⟩, ⟨S2x4096x1024, Q⟩] concatenates_S2x4096x1024_S2x4096x1024_S2x4096x2048_d2 : FVec Ideal S2x4096x2048 .f32) (ix3 b l ⟨k.val, by omega⟩) = N (ix3 b l k) := by
  pointwise

theorem catP_hi (N Q : FVec Ideal S2x4096x1024 .f32) (b : Fin 2) (l : Fin 4096) (k : Fin 1024) :
    (concatenate S2x4096x2048 2 [⟨S2x4096x1024, N⟩, ⟨S2x4096x1024, Q⟩] concatenates_S2x4096x1024_S2x4096x1024_S2x4096x2048_d2 : FVec Ideal S2x4096x2048 .f32) (ix3 b l ⟨1024 + k.val, by omega⟩) = Q (ix3 b l k) := by
  pointwise

theorem finP_at (C : FVec Ideal S2x4096x2048 .f32) (W : FVec Ideal S1x2048x2048 .f32) (X : FVec Ideal S2x4096x2048 .f32) (H : FVec Ideal S2x2048 .f32)
    (b : Fin 2) (l : Fin 4096) (j : Fin 2048) :
    (addf X (mulf (broadcastInDim S2x4096x2048 ![0, 1, 2] bcast_S2x1x2048_S2x4096x2048_0_1_2 (broadcastInDim S2x1x2048 ![0, 2] bcast_S2x2048_S2x1x2048_0_2 H)) (Host.dotGeneral dot_S2x4096x2048_S2048x2048_S2x4096x2048_2_0_01_1_n_n none C (shapeCast _ W shapeCasts_S1x2048x2048_S2048x2048))) : FVec Ideal S2x4096x2048 .f32) (ix3 b l j)
      = X (ix3 b l j) + H (ix2 b j) * ∑ k, C (ix3 b l k) * W (ix3 0 k j) := by
  pointwise

theorem allP_at (A S : FVec Ideal S8192x1024 .f32) (Ga Gs : FVec Ideal S1x1024 .f32) (W : FVec Ideal S1x2048x2048 .f32) (X : FVec Ideal S2x4096x2048 .f32)
    (H : FVec Ideal S2x2048 .f32) (b : Fin 2) (l : Fin 4096) (j : Fin 2048) :
    mrgP (nrmP A Ga) (nrmP S Gs) W X H (ix3 b l j) = X (ix3 b l j) + H (ix2 b j)
      * merged (fun q => A (ix2 ⟨b.val * 4096 + l.val, by omega⟩ q)) (fun q => S (ix2 ⟨b.val * 4096 + l.val, by omega⟩ q)) (fun q => Ga (ix2 0 q))
          (fun q => Gs (ix2 0 q)) (fun q => W (ix3 0 ⟨q.val, by omega⟩ j)) (fun q => W (ix3 0 ⟨1024 + q.val, by omega⟩ j)) := by
  refine (finP_at _ W X H b l j).trans (congrArg (fun z => X (ix3 b l j) + H (ix2 b j) * z) ((sum_join _).trans ?_))
  refine congrArg₂ (· + ·) (Finset.sum_congr rfl fun k _ => congrArg (· * _) ?_) (Finset.sum_congr rfl fun k _ => congrArg (· * _) ?_)
  · exact (catP_lo _ _ b l k).trans (nrmP_at A Ga b l k)
  · exact (catP_hi _ _ b l k).trans (nrmP_at S Gs b l k)

def nrmS (A : FVec Ideal S1024x1024 .f32) (G : FVec Ideal S1x1024 .f32) : FVec Ideal S128x8x1024 .f32 :=
  (mulf (mulf (shapeCast _ A shapeCasts_S1024x1024_S128x8x1024) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (shapeCast _ A shapeCasts_S1024x1024_S128x8x1024) (shapeCast _ A shapeCasts_S1024x1024_S128x8x1024)) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 (shapeCast _ G shapeCasts_S1x1024_S1024))))

def mrgS (N Q : FVec Ideal S128x8x1024 .f32) (W : FVec Ideal S1x2048x2048 .f32) (X : FVec Ideal S128x8x2048 .f32) (H : FVec Ideal S128x2048 .f32) : FVec Ideal S128x8x2048 .f32 :=
  addf X (mulf (broadcastInDim S128x8x2048 ![0, 1, 2] bcast_S128x1x2048_S128x8x2048_0_1_2 (broadcastInDim S128x1x2048 ![0, 2] bcast_S128x2048_S128x1x2048_0_2 H)) (Host.dotGeneral dot_S128x8x2048_S2048x2048_S128x8x2048_2_0_01_1_n_n none (concatenate S128x8x2048 2 [⟨S128x8x1024, N⟩, ⟨S128x8x1024, Q⟩] concatenates_S128x8x1024_S128x8x1024_S128x8x2048_d2) (shapeCast _ W shapeCasts_S1x2048x2048_S2048x2048)))

theorem nrmS_at (A : FVec Ideal S1024x1024 .f32) (G : FVec Ideal S1x1024 .f32) (b : Fin 128) (l : Fin 8) (k : Fin 1024) :
    nrmS A G (ix3 b l k) = branch (fun q => A (ix2 ⟨b.val * 8 + l.val, by omega⟩ q)) (fun q => G (ix2 0 q)) k := by
  pointwise [nrmS, branch]

theorem catS_lo (N Q : FVec Ideal S128x8x1024 .f32) (b : Fin 128) (l : Fin 8) (k : Fin 1024) :
    (concatenate S128x8x2048 2 [⟨S128x8x1024, N⟩, ⟨S128x8x1024, Q⟩] concatenates_S128x8x1024_S128x8x1024_S128x8x2048_d2 : FVec Ideal S128x8x2048 .f32) (ix3 b l ⟨k.val, by omega⟩) = N (ix3 b l k) := by
  pointwise

theorem catS_hi (N Q : FVec Ideal S128x8x1024 .f32) (b : Fin 128) (l : Fin 8) (k : Fin 1024) :
    (concatenate S128x8x2048 2 [⟨S128x8x1024, N⟩, ⟨S128x8x1024, Q⟩] concatenates_S128x8x1024_S128x8x1024_S128x8x2048_d2 : FVec Ideal S128x8x2048 .f32) (ix3 b l ⟨1024 + k.val, by omega⟩) = Q (ix3 b l k) := by
  pointwise

theorem finS_at (C : FVec Ideal S128x8x2048 .f32) (W : FVec Ideal S1x2048x2048 .f32) (X : FVec Ideal S128x8x2048 .f32) (H : FVec Ideal S128x2048 .f32)
    (b : Fin 128) (l : Fin 8) (j : Fin 2048) :
    (addf X (mulf (broadcastInDim S128x8x2048 ![0, 1, 2] bcast_S128x1x2048_S128x8x2048_0_1_2 (broadcastInDim S128x1x2048 ![0, 2] bcast_S128x2048_S128x1x2048_0_2 H)) (Host.dotGeneral dot_S128x8x2048_S2048x2048_S128x8x2048_2_0_01_1_n_n none C (shapeCast _ W shapeCasts_S1x2048x2048_S2048x2048))) : FVec Ideal S128x8x2048 .f32) (ix3 b l j)
      = X (ix3 b l j) + H (ix2 b j) * ∑ k, C (ix3 b l k) * W (ix3 0 k j) := by
  pointwise

theorem allS_at (A S : FVec Ideal S1024x1024 .f32) (Ga Gs : FVec Ideal S1x1024 .f32) (W : FVec Ideal S1x2048x2048 .f32) (X : FVec Ideal S128x8x2048 .f32)
    (H : FVec Ideal S128x2048 .f32) (b : Fin 128) (l : Fin 8) (j : Fin 2048) :
    mrgS (nrmS A Ga) (nrmS S Gs) W X H (ix3 b l j) = X (ix3 b l j) + H (ix2 b j)
      * merged (fun q => A (ix2 ⟨b.val * 8 + l.val, by omega⟩ q)) (fun q => S (ix2 ⟨b.val * 8 + l.val, by omega⟩ q)) (fun q => Ga (ix2 0 q))
          (fun q => Gs (ix2 0 q)) (fun q => W (ix3 0 ⟨q.val, by omega⟩ j)) (fun q => W (ix3 0 ⟨1024 + q.val, by omega⟩ j)) := by
  refine (finS_at _ W X H b l j).trans (congrArg (fun z => X (ix3 b l j) + H (ix2 b j) * z) ((sum_join _).trans ?_))
  refine congrArg₂ (· + ·) (Finset.sum_congr rfl fun k _ => congrArg (· * _) ?_) (Finset.sum_congr rfl fun k _ => congrArg (· * _) ?_)
  · exact (catS_lo _ _ b l k).trans (nrmS_at A Ga b l k)
  · exact (catS_hi _ _ b l k).trans (nrmS_at S Gs b l k)

end Cert.Reference3Ideal.Out
-- ==== Proof.Out.lean ====
/- The claims about the output projection: the frames, and the two results equal. -/
module

public import proofs.«01_k».proof.Defs
public import proofs.«01_k».proof.Proof.Gen.Kernel3.Frame
public import proofs.«01_k».proof.Proof.OutKernel
public import proofs.«01_k».proof.Proof.OutRef
public import Idealize.ShloMosaic.Lib.Quiescent

@[expose] public section

set_option maxRecDepth 16384

noncomputable section

namespace Cert.Merge

open Idealize.ShloMosaic Idealize.ShloMosaic.TcCoe Idealize.SL.Sem
open Cert.Kernel3Ideal Cert.Kernel3Ideal.Gen Cert.Kernel3Ideal.Out Cert.Reference3Ideal.Out

theorem ext3P (f g : S2x4096x2048.Idx → EReal) (e : ∀ (b : Fin 2) (l : Fin 4096) (j : Fin 2048), f (ix3 b l j) = g (ix3 b l j)) : f = g := by
  funext y
  idx_vars y
  exact e y0 y1 y2

theorem ext3S (f g : S128x8x2048.Idx → EReal) (e : ∀ (b : Fin 128) (l : Fin 8) (j : Fin 2048), f (ix3 b l j) = g (ix3 b l j)) : f = g := by
  funext y
  idx_vars y
  exact e y0 y1 y2

variable (m : (ℓ : Loc nD τ sig) → Buf (Elt Ideal) ℓ) (ρ : Dev nD → PrngReg)

theorem prompt_eq (c : Dev nD) : mrgP (nrmP (aAp m c) (aGa m c)) (nrmP (aSp m c) (aGs m c)) (aW m c) (aX m c) (aGp m c)
    = W5 m ρ c (Proc.devRef .tc main_v15) :=
  ext3P _ _ fun b l j => (allP_at (aAp m c) (aSp m c) (aGa m c) (aGs m c) (aW m c) (aX m c) (aGp m c) b l j).trans (prompt_at m ρ c b l j).symm

theorem sample_eq (c : Dev nD) : mrgS (nrmS (aAs m c) (aGa m c)) (nrmS (aSs m c) (aGs m c)) (aW m c) (aY m c) (aGq m c)
    = W5 m ρ c (Proc.devRef .tc main_v14) :=
  ext3S _ _ fun b l j => (allS_at (aAs m c) (aSs m c) (aGa m c) (aGs m c) (aW m c) (aY m c) (aGq m c) b l j).trans (sample_at m ρ c b l j).symm

/-! ## The claims -/

theorem frame_kernel3 : Cert.quiescent_Kernel3 (hKernel3 := Cert.Kernel3.Gen.facts) :=
  fun m ρ _ => Cert.Kernel3.Gen.frame m ρ

theorem frame_ideal3 : Cert.quiescent_Kernel3Ideal (hKernel3Ideal := Cert.Kernel3Ideal.Gen.facts) :=
  fun m ρ _ => Cert.Kernel3Ideal.Gen.frame m ρ

theorem frame_reference3 : Cert.quiescent_Reference3Ideal (hReference3Ideal := Cert.Reference3Ideal.Gen.facts) :=
  fun m ρ _ => (θ_run (Cert.Reference3Ideal.defs (F := Ideal)) _ _).mono
    (fun r h => ⟨fun c => (h c).2.2, sem_eq_zero_of_no_sems (by decide) r.2⟩)
    (Cert.Reference3Ideal.Value.run (F := Ideal) m ρ)

theorem preserves3 : Cert.preserves_Kernel3_Kernel3Ideal := trivial

theorem prompt_agree (m' : (ℓ : Loc Cert.Reference3Ideal.nD Cert.Reference3Ideal.τ Cert.Reference3Ideal.sig) → Buf (Elt Ideal) ℓ) (c : Dev nD)
    (e0 : m' ((c.tc : Thread Cert.Reference3Ideal.nD Cert.Reference3Ideal.τ).loc Cert.Reference3Ideal.main_arg0) = aAp m c)
    (e1 : m' ((c.tc : Thread Cert.Reference3Ideal.nD Cert.Reference3Ideal.τ).loc Cert.Reference3Ideal.main_arg1) = aSp m c)
    (e4 : m' ((c.tc : Thread Cert.Reference3Ideal.nD Cert.Reference3Ideal.τ).loc Cert.Reference3Ideal.main_arg4) = aGa m c)
    (e5 : m' ((c.tc : Thread Cert.Reference3Ideal.nD Cert.Reference3Ideal.τ).loc Cert.Reference3Ideal.main_arg5) = aGs m c)
    (e6 : m' ((c.tc : Thread Cert.Reference3Ideal.nD Cert.Reference3Ideal.τ).loc Cert.Reference3Ideal.main_arg6) = aW m c)
    (e7 : m' ((c.tc : Thread Cert.Reference3Ideal.nD Cert.Reference3Ideal.τ).loc Cert.Reference3Ideal.main_arg7) = aX m c)
    (e9 : m' ((c.tc : Thread Cert.Reference3Ideal.nD Cert.Reference3Ideal.τ).loc Cert.Reference3Ideal.main_arg9) = aGp m c) :
    mrgP (nrmP (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg4))) (nrmP (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg5))) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg9)) = W5 m ρ c (Proc.devRef .tc main_v15) := by
  rw [e0, e1, e4, e5, e6, e7, e9]
  exact prompt_eq m ρ c

theorem sample_agree (m' : (ℓ : Loc Cert.Reference3Ideal.nD Cert.Reference3Ideal.τ Cert.Reference3Ideal.sig) → Buf (Elt Ideal) ℓ) (c : Dev nD)
    (e2 : m' ((c.tc : Thread Cert.Reference3Ideal.nD Cert.Reference3Ideal.τ).loc Cert.Reference3Ideal.main_arg2) = aAs m c)
    (e3 : m' ((c.tc : Thread Cert.Reference3Ideal.nD Cert.Reference3Ideal.τ).loc Cert.Reference3Ideal.main_arg3) = aSs m c)
    (e4 : m' ((c.tc : Thread Cert.Reference3Ideal.nD Cert.Reference3Ideal.τ).loc Cert.Reference3Ideal.main_arg4) = aGa m c)
    (e5 : m' ((c.tc : Thread Cert.Reference3Ideal.nD Cert.Reference3Ideal.τ).loc Cert.Reference3Ideal.main_arg5) = aGs m c)
    (e6 : m' ((c.tc : Thread Cert.Reference3Ideal.nD Cert.Reference3Ideal.τ).loc Cert.Reference3Ideal.main_arg6) = aW m c)
    (e8 : m' ((c.tc : Thread Cert.Reference3Ideal.nD Cert.Reference3Ideal.τ).loc Cert.Reference3Ideal.main_arg8) = aY m c)
    (e10 : m' ((c.tc : Thread Cert.Reference3Ideal.nD Cert.Reference3Ideal.τ).loc Cert.Reference3Ideal.main_arg10) = aGq m c) :
    mrgS (nrmS (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4))) (nrmS (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5))) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg10)) = W5 m ρ c (Proc.devRef .tc main_v14) := by
  rw [e2, e3, e4, e5, e6, e8, e10]
  exact sample_eq m ρ c

theorem algebraic3 : Cert.algebraic_Kernel3Ideal_Reference3Ideal (hKernel3Ideal := Cert.Kernel3Ideal.Gen.facts)
    (hReference3Ideal := Cert.Reference3Ideal.Gen.facts) := by
  intro m ρ m' ρ' hpre hargs
  refine ⟨fun c => W5 m ρ c (Proc.devRef .tc main_v15), fun c => W5 m ρ c (Proc.devRef .tc main_v14), ?_, ?_⟩
  · exact Cert.Kernel3Ideal.Out.run m ρ
  · refine (θ_run _ _ _).mono (fun r h c => ?_) (Cert.Reference3Ideal.Value.run m' ρ')
    obtain ⟨e0, e1, e2, e3, e4, e5, e6, e7, e8, e9, e10⟩ := hargs c
    obtain ⟨h0, h1, h⟩ := h c
    exact ⟨h0.trans (prompt_agree m ρ m' c e0 e1 e4 e5 e6 e7 e9), h1.trans (sample_agree m ρ m' c e2 e3 e4 e5 e6 e8 e10), h⟩

end Cert.Merge
-- ==== Proof.Peer.lean ====
/- The gated expert layer of one token, over the extended reals: every expert's weight is its gate times the Gaussian error
   unit of the token's product with the expert's row, and the layer is the weighted sum of the experts' output rows. -/
module

public import Idealize.ShloMosaic.Lib.Pointwise

@[expose] public section

noncomputable section

namespace Cert.Peer

open Idealize.ShloMosaic

/-- The Gaussian error linear unit, by its approximation with the hyperbolic tangent. -/
def gelu (a : EReal) : EReal :=
  a * (Ideal.ofBits FTy.f32 0x3F000000#32
    * (Ideal.ofBits FTy.f32 0x3F800000#32
      + Ideal.tanh (Ideal.ofBits FTy.f32 0x3F4C422A#32 * (a + Ideal.ofBits FTy.f32 0x3D372713#32 * (a * (a * a))))))

/-- The weight of an expert with gate `g`: `h` is the token, `u` the expert's row. -/
def weight (g : EReal) (h u : Fin 2048 → EReal) : EReal := g * gelu (∑ q, h q * u q)

/-- The row `y` divided by the root of the mean of its squares, then scaled by `g`. -/
def normed (y : Fin 2048 → EReal) (g : Fin 2048 → EReal) (c : Fin 2048) : EReal :=
  y c * Ideal.rsqrt (Ideal.div (∑ q, y q * y q) (Ideal.ofBits FTy.f32 0x45000000#32) + Ideal.ofBits FTy.f32 0x358637BD#32) * g c

/-- A sum over all the experts, taken tile by tile. -/
theorem sum_tiles (f : Fin 16384 → EReal) :
    ∑ e, f e = ∑ j : Fin 16, ∑ r : Fin 1024, f ⟨j.val * 1024 + r.val, by omega⟩ := by
  rw [← Fintype.sum_prod_type' (f := fun (j : Fin 16) (r : Fin 1024) => f ⟨j.val * 1024 + r.val, by omega⟩)]
  refine (Fintype.sum_equiv (finProdFinEquiv (m := 16) (n := 1024)) _ _ fun p => ?_).symm
  refine congrArg f (Fin.ext ?_)
  show p.1.val * 1024 + p.2.val = p.2.val + 1024 * p.1.val
  omega

/-- The weighted sum of the experts' output rows for token `R`, at channel `k`: `M` holds the gates (`16` blocks of a thousand
    experts, `8` rows of `128` gates a token), `H` the tokens, `U` and `W` the experts' rows. -/
def experts {T N : ℕ} (H : (⟨2, ![T, 2048]⟩ : Shape).Idx → EReal) (M : (⟨3, ![16, N, 128]⟩ : Shape).Idx → EReal)
    (U W : (⟨3, ![1, 16384, 2048]⟩ : Shape).Idx → EReal) (hN : N = 8 * T) (R : Fin T) (k : Fin 2048) : EReal :=
  ∑ e : Fin 16384, weight (M (ix3 ⟨e.val / 1024, by omega⟩ ⟨R.val * 8 + e.val % 1024 / 128, by omega⟩ ⟨e.val % 128, Nat.mod_lt _ (by decide)⟩))
    (fun q => H (ix2 R q)) (fun q => U (ix3 0 e q)) * W (ix3 0 e k)

end Cert.Peer
-- ==== Proof.Pay4.lean ====
/- What one step over a tile of experts adds to the running sums, and the end of the layer, at an index: the values the body
   stores, as functions of the values it reads. -/
module

public import proofs.«01_k».proof.Proof.Peer
public import proofs.«01_k».proof.Proof.Gen.Kernel4Ideal.Skeleton
public import Idealize.ShloMosaic.Lib.Pipeline.ValueKit
public import Idealize.ShloMosaic.Lib.Pointwise

@[expose] public section

set_option maxRecDepth 16384

noncomputable section

namespace Cert.Kernel4Ideal.Exp

open Idealize.ShloMosaic Idealize.ShloMosaic.TcCoe Idealize.SL.Sem
open Cert.Kernel4Ideal Cert.Kernel4Ideal.Gen Cert.Peer

theorem dots (h : S512x2048.Idx → EReal) (u : S1024x2048.Idx → EReal) (r : Fin 512) (e : Fin 1024) :
    (k0_pay4 (F := Ideal) h u : S512x1024.Idx → EReal) (ix2 r e) = ∑ q, h (ix2 r q) * u (ix2 e q) := by
  pointwise [k0_pay4]

section pieces

variable (h : S512x2048.Idx → EReal) (u : S1024x2048.Idx → EReal) (P : S512x1024.Idx → EReal) (g : S512x128.Idx → EReal) (r : Fin 512) (c : Fin 128)

theorem piece0 : (k0_pay5 (F := Ideal) h u g : S512x128.Idx → EReal) (ix2 r c)
    = g (ix2 r c) * gelu ((k0_pay4 (F := Ideal) h u : S512x1024.Idx → EReal) (ix2 r ⟨0 * 128 + c.val, by omega⟩)) := by
  unfold k0_pay5
  generalize k0_pay4 (F := Ideal) h u = Q
  pointwise [gelu]

theorem piece1 : (k0_pay8 (F := Ideal) g (k0_pay6 h u) (k0_pay7 h u) : S512x128.Idx → EReal) (ix2 r c)
    = g (ix2 r c) * gelu ((k0_pay4 (F := Ideal) h u : S512x1024.Idx → EReal) (ix2 r ⟨1 * 128 + c.val, by omega⟩)) := by
  unfold k0_pay8 k0_pay7 k0_pay6
  generalize k0_pay4 (F := Ideal) h u = Q
  pointwise [gelu]

theorem piece2 : (k0_pay9 (F := Ideal) P g : S512x128.Idx → EReal) (ix2 r c)
    = g (ix2 r c) * gelu (P (ix2 r ⟨2 * 128 + c.val, by omega⟩)) := by
  pointwise [k0_pay9, gelu]

theorem piece3 : (k0_pay12 (F := Ideal) g (k0_pay10 P) (k0_pay11 P) : S512x128.Idx → EReal) (ix2 r c)
    = g (ix2 r c) * gelu (P (ix2 r ⟨3 * 128 + c.val, by omega⟩)) := by
  pointwise [k0_pay12, k0_pay11, k0_pay10, gelu]

theorem piece4 : (k0_pay13 (F := Ideal) P g : S512x128.Idx → EReal) (ix2 r c)
    = g (ix2 r c) * gelu (P (ix2 r ⟨4 * 128 + c.val, by omega⟩)) := by
  pointwise [k0_pay13, gelu]

theorem piece5 : (k0_pay16 (F := Ideal) g (k0_pay14 P) (k0_pay15 P) : S512x128.Idx → EReal) (ix2 r c)
    = g (ix2 r c) * gelu (P (ix2 r ⟨5 * 128 + c.val, by omega⟩)) := by
  pointwise [k0_pay16, k0_pay15, k0_pay14, gelu]

theorem piece6 : (k0_pay17 (F := Ideal) P g : S512x128.Idx → EReal) (ix2 r c)
    = g (ix2 r c) * gelu (P (ix2 r ⟨6 * 128 + c.val, by omega⟩)) := by
  pointwise [k0_pay17, gelu]

theorem piece7 : (truncf .bf16 (mulf g (k0_pay18 P)) bitsLt_bf16_f32 : FVec Ideal S512x128 .bf16) (ix2 r c)
    = g (ix2 r c) * gelu (P (ix2 r ⟨7 * 128 + c.val, by omega⟩)) := by
  pointwise [k0_pay18, gelu]

end pieces

/-- Eight pieces side by side, at an index. -/
theorem joined (p : Fin 8 → S512x128.Idx → EReal) (r : Fin 512) (e : Fin 1024) :
    (concatenate S512x1024 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
        concatenates_S512x128_S512x128_S512x128_S512x128_S512x128_S512x128_S512x128_S512x128_S512x1024_d1 : S512x1024.Idx → EReal) (ix2 r e)
      = p ⟨e.val / 128, by omega⟩ (ix2 r ⟨e.val % 128, Nat.mod_lt _ (by decide)⟩) := by
  refine concatenate_ofFn_apply (t := S512x1024) (s₁ := S512x128) 1 p
    concatenates_S512x128_S512x128_S512x128_S512x128_S512x128_S512x128_S512x128_S512x128_S512x1024_d1 rfl 128 rfl (ix2 r e) ⟨e.val / 128, by omega⟩ rfl
    (ix2 r ⟨e.val % 128, Nat.mod_lt _ (by decide)⟩) rfl ?_
  intro b hb
  match b, hb with
  | ⟨0, _⟩, _ => rfl
  | ⟨1, _⟩, hb => exact absurd rfl hb

/-- The sums `s` plus the product of the weights `C` with the experts' output rows. -/
theorem prod (C : FVec Ideal S512x1024 .bf16) (v : FVec Ideal S1024x2048 .bf16) (s : FVec Ideal S512x2048 .f32) (r : Fin 512) (j : Fin 2048) :
    (shapeCast S512x2048 (addf s (matmul dot_S512x1024_S1024x2048_S512x2048_1_0_0_1_n_n none C
        (shapeCast S1024x2048 v shapeCasts_S1024x2048_S1024x2048) (constant S512x2048 .f32 0x00000000#32)))
      shapeCasts_S512x2048_S512x2048 : FVec Ideal S512x2048 .f32) (ix2 r j) = s (ix2 r j) + ∑ e : Fin 1024, C (ix2 r e) * v (ix2 e j) := by
  pointwise

/-- The step over a tile: what it stores over the old sums `s`. -/
theorem step (h : S512x2048.Idx → EReal) (u v : S1024x2048.Idx → EReal) (g : Fin 8 → S512x128.Idx → EReal) (s : S512x2048.Idx → EReal)
    (r : Fin 512) (j : Fin 2048) :
    (k0_pay1 (F := Ideal) (k0_pay5 h u (g 0)) (k0_pay8 (g 1) (k0_pay6 h u) (k0_pay7 h u)) (k0_pay9 (k0_pay4 h u) (g 2))
        (k0_pay12 (g 3) (k0_pay10 (k0_pay4 h u)) (k0_pay11 (k0_pay4 h u))) (k0_pay13 (k0_pay4 h u) (g 4))
        (k0_pay16 (g 5) (k0_pay14 (k0_pay4 h u)) (k0_pay15 (k0_pay4 h u))) (k0_pay17 (k0_pay4 h u) (g 6)) (g 7) (k0_pay18 (k0_pay4 h u)) s v
        : S512x2048.Idx → EReal) (ix2 r j)
      = s (ix2 r j) + ∑ e : Fin 1024, weight (g ⟨e.val / 128, by omega⟩ (ix2 r ⟨e.val % 128, Nat.mod_lt _ (by decide)⟩))
          (fun q => h (ix2 r q)) (fun q => u (ix2 e q)) * v (ix2 e j) := by
  have key : ∀ (n : Fin 8) (c : Fin 128), (![(k0_pay5 (F := Ideal) h u (g 0) : S512x128.Idx → EReal), k0_pay8 (F := Ideal) (g 1) (k0_pay6 h u) (k0_pay7 h u),
      k0_pay9 (F := Ideal) (k0_pay4 h u) (g 2), k0_pay12 (F := Ideal) (g 3) (k0_pay10 (k0_pay4 h u)) (k0_pay11 (k0_pay4 h u)), k0_pay13 (F := Ideal) (k0_pay4 h u) (g 4),
      k0_pay16 (F := Ideal) (g 5) (k0_pay14 (k0_pay4 h u)) (k0_pay15 (k0_pay4 h u)), k0_pay17 (F := Ideal) (k0_pay4 h u) (g 6),
      (truncf .bf16 (mulf (g 7) (k0_pay18 (k0_pay4 h u))) bitsLt_bf16_f32 : FVec Ideal S512x128 .bf16)] : Fin 8 → S512x128.Idx → EReal) n (ix2 r c)
        = weight (g n (ix2 r c)) (fun q => h (ix2 r q)) (fun q => u (ix2 ⟨n.val * 128 + c.val, by omega⟩ q)) := by
    intro n c
    unfold weight
    match n with
    | ⟨0, _⟩ => exact (piece0 h u _ r c).trans (congrArg (fun z => _ * gelu z) (dots h u r _))
    | ⟨1, _⟩ => exact (piece1 h u _ r c).trans (congrArg (fun z => _ * gelu z) (dots h u r _))
    | ⟨2, _⟩ => exact (piece2 _ _ r c).trans (congrArg (fun z => _ * gelu z) (dots h u r _))
    | ⟨3, _⟩ => exact (piece3 _ _ r c).trans (congrArg (fun z => _ * gelu z) (dots h u r _))
    | ⟨4, _⟩ => exact (piece4 _ _ r c).trans (congrArg (fun z => _ * gelu z) (dots h u r _))
    | ⟨5, _⟩ => exact (piece5 _ _ r c).trans (congrArg (fun z => _ * gelu z) (dots h u r _))
    | ⟨6, _⟩ => exact (piece6 _ _ r c).trans (congrArg (fun z => _ * gelu z) (dots h u r _))
    | ⟨7, _⟩ => exact (piece7 _ _ r c).trans (congrArg (fun z => _ * gelu z) (dots h u r _))
  refine (prod _ v s r j).trans (congrArg (s (ix2 r j) + ·) (Finset.sum_congr rfl fun e _ => congrArg (· * _) ?_))
  refine (joined _ r e).trans ((key _ _).trans ?_)
  refine congrArg (weight _ _) (funext fun q => congrArg u ?_)
  exact congrArg (fun z => ix2 z q) (Fin.ext (Nat.div_add_mod' e.val 128))

theorem zeros (r : Fin 512) (j : Fin 2048) : (k0_pay3 (F := Ideal) : S512x2048.Idx → EReal) (ix2 r j) = 0 := by
  pointwise [k0_pay3]

/-- The end of the layer: the residual plus the gated sums, normed. -/
theorem ended (x : S64x8x2048.Idx → EReal) (a : S1x1x2048.Idx → EReal) (s : S512x2048.Idx → EReal) (w : S1x2048.Idx → EReal) (i : Fin 64) (b : Fin 8) (j : Fin 2048) :
    (k0_pay2 (F := Ideal) x a s w : S64x8x2048.Idx → EReal) (ix3 i b j)
      = normed (fun c => x (ix3 i b c) + a (ix3 0 0 c) * s (ix2 ⟨i.val * 8 + b.val, by omega⟩ c)) (fun c => w (ix2 0 c)) j := by
  pointwise [k0_pay2, normed]

end Cert.Kernel4Ideal.Exp
-- ==== Proof.Body4.lean ====
/- The running sums a grid point leaves, and the block the last point of a row of tiles writes, at an index. -/
module

public import proofs.«01_k».proof.Proof.Pay4
public import proofs.«01_k».proof.Proof.Gen.Kernel4Ideal.Frame
public import Idealize.ShloMosaic.Lib.VecWindow
public import Idealize.ShloMosaic.Lib.Pipeline.Value

@[expose] public section

set_option maxRecDepth 16384

noncomputable section

namespace Cert.Kernel4Ideal.Exp

open Idealize.ShloMosaic Idealize.ShloMosaic.TcCoe Idealize.SL.Sem
open Cert.Kernel4Ideal Cert.Kernel4Ideal.Gen Cert.Peer

/-- What a tile of experts adds, at row `r` and column `j` of the block. -/
def tile (x0 : S512x2048.Idx → EReal) (x1 x2 : S1024x2048.Idx → EReal) (x3 : S1x4096x128.Idx → EReal) (r : Fin 512) (j : Fin 2048) : EReal :=
  ∑ e : Fin 1024, weight (x3 (ix3 0 ⟨r.val * 8 + e.val / 128, by omega⟩ ⟨e.val % 128, Nat.mod_lt _ (by decide)⟩))
    (fun q => x0 (ix2 r q)) (fun q => x1 (ix2 e q)) * x2 (ix2 e j)

/-- The block of the gates as a matrix: row `8 r + n` has the gates of row `r` in the `n`-th group of the tile. -/
theorem flatGate (x3 : Vec Ideal S1x4096x128 .f32) (h : S1x4096x128.ShapeCasts S4096x128) (r : Fin 4096) (c : Fin 128) :
    (shapeCast S4096x128 x3 h : S4096x128.Idx → EReal) (ix2 r c) = x3 (ix3 0 r c) := by
  pointwise

section loads

variable (arg2 : Memref sig .tc .vmem S512x2048 .bf16) (harg2 : arg2.IsWhole) (arg3 : Memref sig .tc .vmem S1024x2048 .bf16) (harg3 : arg3.IsWhole) (arg5 : Memref sig .tc .vmem S1x4096x128 .f32) (harg5 : arg5.IsWhole) (arg10 : Memref sig .tc .vmem S512x2048 .f32) (harg10 : arg10.IsWhole)
  (x0 : Vec Ideal S512x2048 .bf16) (x1 : Vec Ideal S1024x2048 .bf16) (x3 : Vec Ideal S1x4096x128 .f32) (xs : Vec Ideal S512x2048 .f32)

abbrev ldH : S512x2048.Idx → EReal :=
  View.readAt (Elt Ideal) arg2.view (Rect.unit (s := S512x2048) ![0, 0] S512x2048.size inb_S512x2048_S512x2048_0_0).toLoadRect (harg2.unread x0)

abbrev ldE : S1024x2048.Idx → EReal :=
  View.readAt (Elt Ideal) arg3.view (Rect.unit (s := S1024x2048) ![0, 0] S1024x2048.size inb_S1024x2048_S1024x2048_0_0).toLoadRect (harg3.unread x1)

abbrev ldS : S512x2048.Idx → EReal :=
  View.readAt (Elt Ideal) arg10.view (Rect.unit (s := S512x2048) ![0, 0] S512x2048.size inb_S512x2048_S512x2048_0_0).toLoadRect (harg10.unread xs)

/-- The gates of the block's rows in one of the eight groups of the tile, read by steps of eight rows. -/
abbrev ldG (o : Fin 2 → ℕ) (h : ∀ a, S512x128.size a = 0 ∨ o a + (![8, 1] : Fin 2 → ℕ) a * (S512x128.size a - 1) < S4096x128.size a) : S512x128.Idx → EReal :=
  View.readAt (Elt Ideal) ((arg5.slice (Rect.unit (s := S1x4096x128) ![0, 0, 0] S1x4096x128.size inb_S1x4096x128_S1x4096x128_0_0_0) (fun _ => rfl)).squeeze S4096x128 squeezes_S1x4096x128_S4096x128).view
    (⟨o, S512x128.size, ![8, 1], h⟩ : LoadRect S4096x128) (harg5.unread x3)

theorem ldH_eq : ldH arg2 harg2 x0 = x0 := (View.readAt_full _ _ _).trans (harg2.read_unread x0)
theorem ldE_eq : ldE arg3 harg3 x1 = x1 := (View.readAt_full _ _ _).trans (harg3.read_unread x1)
theorem ldS_eq : ldS arg10 harg10 xs = xs := (View.readAt_full _ _ _).trans (harg10.read_unread xs)

theorem ldX_eq (arg6 : Memref sig .tc .vmem S64x8x2048 .f32) (harg6 : arg6.IsWhole) (x4 : Vec Ideal S64x8x2048 .f32) :
    View.readAt (Elt Ideal) arg6.view (Rect.unit (s := S64x8x2048) ![0, 0, 0] ![64, 8, 2048] inb_S64x8x2048_S64x8x2048_0_0_0).toLoadRect (harg6.unread x4) = x4 :=
  (View.readAt_full _ _ _).trans (harg6.read_unread x4)

theorem ldA_eq (arg7 : Memref sig .tc .vmem S1x1x2048 .f32) (harg7 : arg7.IsWhole) (x5 : Vec Ideal S1x1x2048 .f32) :
    View.readAt (Elt Ideal) arg7.view (Rect.unit (s := S1x1x2048) ![0, 0, 0] ![1, 1, 2048] inb_S1x1x2048_S1x1x2048_0_0_0).toLoadRect (harg7.unread x5) = x5 :=
  (View.readAt_full _ _ _).trans (harg7.read_unread x5)

theorem ldW_eq (arg8 : Memref sig .tc .vmem S1x2048 .f32) (harg8 : arg8.IsWhole) (x6 : Vec Ideal S1x2048 .f32) :
    View.readAt (Elt Ideal) arg8.view (Rect.unit (s := S1x2048) ![0, 0] ![1, 2048] inb_S1x2048_S1x2048_0_0).toLoadRect (harg8.unread x6) = x6 :=
  (View.readAt_full _ _ _).trans (harg8.read_unread x6)

theorem ldG_at (n : Fin 8) (h) (r : Fin 512) (c : Fin 128) :
    ldG arg5 harg5 x3 ![n.val, 0] h (ix2 r c) = x3 (ix3 0 ⟨r.val * 8 + n.val, by omega⟩ c) := by
  refine Eq.trans ?_ (flatGate x3 (by decide) ⟨r.val * 8 + n.val, by omega⟩ c)
  refine (congrFun (Memref.read_squeeze_full arg5 inb_S1x4096x128_S1x4096x128_0_0_0 squeezes_S1x4096x128_S4096x128 (harg5.unread x3)) _).trans ?_
  dsimp only
  rw [harg5.read_unread]
  refine congrArg (fun y => x3 (Shape.reshapeEquiv _ y)) ?_
  funext a
  match a with
  | ⟨0, _⟩ => exact Fin.ext (by show n.val + 8 * r.val = r.val * 8 + n.val; omega)
  | ⟨1, _⟩ => exact Fin.ext (by show 0 + 1 * c.val = c.val; omega)

/-- The eight groups. -/
abbrev ldGs : Fin 8 → S512x128.Idx → EReal :=
  ![ldG arg5 harg5 x3 ![0, 0] inb_S4096x128_S512x128_0_0_s_8_1, ldG arg5 harg5 x3 ![1, 0] inb_S4096x128_S512x128_1_0_s_8_1,
    ldG arg5 harg5 x3 ![2, 0] inb_S4096x128_S512x128_2_0_s_8_1, ldG arg5 harg5 x3 ![3, 0] inb_S4096x128_S512x128_3_0_s_8_1,
    ldG arg5 harg5 x3 ![4, 0] inb_S4096x128_S512x128_4_0_s_8_1, ldG arg5 harg5 x3 ![5, 0] inb_S4096x128_S512x128_5_0_s_8_1,
    ldG arg5 harg5 x3 ![6, 0] inb_S4096x128_S512x128_6_0_s_8_1, ldG arg5 harg5 x3 ![7, 0] inb_S4096x128_S512x128_7_0_s_8_1]

theorem ldGs_at (n : Fin 8) (r : Fin 512) (c : Fin 128) : ldGs arg5 harg5 x3 n (ix2 r c) = x3 (ix3 0 ⟨r.val * 8 + n.val, by omega⟩ c) := by
  match n with
  | ⟨0, _⟩ => exact ldG_at arg5 harg5 x3 0 _ r c
  | ⟨1, _⟩ => exact ldG_at arg5 harg5 x3 1 _ r c
  | ⟨2, _⟩ => exact ldG_at arg5 harg5 x3 2 _ r c
  | ⟨3, _⟩ => exact ldG_at arg5 harg5 x3 3 _ r c
  | ⟨4, _⟩ => exact ldG_at arg5 harg5 x3 4 _ r c
  | ⟨5, _⟩ => exact ldG_at arg5 harg5 x3 5 _ r c
  | ⟨6, _⟩ => exact ldG_at arg5 harg5 x3 6 _ r c
  | ⟨7, _⟩ => exact ldG_at arg5 harg5 x3 7 _ r c

/-- The step on the loaded blocks. -/
theorem stepped (arg4 : Memref sig .tc .vmem S1024x2048 .bf16) (harg4 : arg4.IsWhole) (x2 : Vec Ideal S1024x2048 .bf16) (s : S512x2048.Idx → EReal) (r : Fin 512) (j : Fin 2048) :
    s (ix2 r j) + ∑ e : Fin 1024, weight (ldGs arg5 harg5 x3 ⟨e.val / 128, by omega⟩ (ix2 r ⟨e.val % 128, Nat.mod_lt _ (by decide)⟩))
          (fun q => ldH arg2 harg2 x0 (ix2 r q)) (fun q => ldE arg3 harg3 x1 (ix2 e q)) * ldE arg4 harg4 x2 (ix2 e j)
      = s (ix2 r j) + tile x0 x1 x2 x3 r j := by
  rw [ldH_eq, ldE_eq, ldE_eq]
  exact congrArg (s (ix2 r j) + ·) (Finset.sum_congr rfl fun e _ => by rw [ldGs_at])

end loads

theorem soutB (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : ¬cond0_0 i) (hc1 : ¬cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S1x1x2048 .f32) (x6 : Vec Ideal S1x2048 .f32) (xs0 : Vec Ideal S512x2048 .f32) (r : Fin 512) (j : Fin 2048) :
    (sout0_B_0 (F := Ideal) c i arg2 harg2 arg3 harg3 arg4 harg4 arg5 harg5 arg6 harg6 arg7 harg7 arg8 harg8 arg9 harg9 arg10 harg10 hc0 hc1 x0 x1 x2 x3 x4 x5 x6 xs0 : S512x2048.Idx → EReal) (ix2 r j)
      = xs0 (ix2 r j) + tile x0 x1 x2 x3 r j := by
  unfold sout0_B_0
  rw [View.read_writes_junk_eq_canon]
  unfold kernelRun0_B
  dsimp only

  simp (disch := decide) only [View.canon_cons_unit_lit', View.ld_unit_lit']
  refine (step (ldH arg2 harg2 x0) (ldE arg3 harg3 x1) (ldE arg4 harg4 x2) (ldGs arg5 harg5 x3) (ldS arg10 harg10 xs0) r j).trans ?_
  refine (stepped arg2 harg2 arg3 harg3 arg5 harg5 x0 x1 x3 arg4 harg4 x2 _ r j).trans ?_
  rw [ldS_eq]

theorem soutC (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : ¬cond0_0 i) (hc1 : cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S1x1x2048 .f32) (x6 : Vec Ideal S1x2048 .f32) (xs0 : Vec Ideal S512x2048 .f32) (r : Fin 512) (j : Fin 2048) :
    (sout0_C_0 (F := Ideal) c i arg2 harg2 arg3 harg3 arg4 harg4 arg5 harg5 arg6 harg6 arg7 harg7 arg8 harg8 arg9 harg9 arg10 harg10 hc0 hc1 x0 x1 x2 x3 x4 x5 x6 xs0 : S512x2048.Idx → EReal) (ix2 r j)
      = xs0 (ix2 r j) + tile x0 x1 x2 x3 r j := by
  unfold sout0_C_0
  rw [View.read_writes_junk_eq_canon]
  unfold kernelRun0_C
  dsimp only
  unfold kernelRun0_C.sl.HS0_1
  simp (disch := decide) only [View.canon_cons_unit_lit', View.ld_unit_lit']
  refine (step (ldH arg2 harg2 x0) (ldE arg3 harg3 x1) (ldE arg4 harg4 x2) (ldGs arg5 harg5 x3) (ldS arg10 harg10 xs0) r j).trans ?_
  refine (stepped arg2 harg2 arg3 harg3 arg5 harg5 x0 x1 x3 arg4 harg4 x2 _ r j).trans ?_
  rw [ldS_eq]

theorem soutA (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : cond0_0 i) (hc1 : ¬cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S1x1x2048 .f32) (x6 : Vec Ideal S1x2048 .f32) (r : Fin 512) (j : Fin 2048) :
    (sout0_A_0 (F := Ideal) c i arg2 harg2 arg3 harg3 arg4 harg4 arg5 harg5 arg6 harg6 arg7 harg7 arg8 harg8 arg9 harg9 arg10 harg10 hc0 hc1 x0 x1 x2 x3 x4 x5 x6 : S512x2048.Idx → EReal) (ix2 r j)
      = 0 + tile x0 x1 x2 x3 r j := by
  unfold sout0_A_0
  rw [View.read_writes_junk_eq_canon]
  unfold kernelRun0_A
  dsimp only

  simp (disch := decide) only [View.canon_cons_unit_lit', View.ld_unit_lit']
  unfold kernelRun0_A.sl.v160 kernelRun0_A.sl.HS0_1
  simp (disch := decide) only [View.readCov_unit_lit']
  refine (step (ldH arg2 harg2 x0) (ldE arg3 harg3 x1) (ldE arg4 harg4 x2) (ldGs arg5 harg5 x3) (k0_pay3 (F := Ideal)) r j).trans ?_
  refine (stepped arg2 harg2 arg3 harg3 arg5 harg5 x0 x1 x3 arg4 harg4 x2 _ r j).trans ?_
  rw [zeros]

theorem outC (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : ¬cond0_0 i) (hc1 : cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S1x1x2048 .f32) (x6 : Vec Ideal S1x2048 .f32) (xs0 : Vec Ideal S512x2048 .f32) (a : Fin 64) (b : Fin 8) (j : Fin 2048) :
    (out0_C_7 (F := Ideal) c i arg2 harg2 arg3 harg3 arg4 harg4 arg5 harg5 arg6 harg6 arg7 harg7 arg8 harg8 arg9 harg9 arg10 harg10 hc0 hc1 x0 x1 x2 x3 x4 x5 x6 xs0 : S64x8x2048.Idx → EReal) (ix3 a b j)
      = normed (fun k => x4 (ix3 a b k) + x5 (ix3 0 0 k) * (xs0 (ix2 ⟨a.val * 8 + b.val, by omega⟩ k) + tile x0 x1 x2 x3 ⟨a.val * 8 + b.val, by omega⟩ k)) (fun k => x6 (ix2 0 k)) j := by
  unfold out0_C_7
  rw [View.read_writes_junk_eq_canon]
  unfold kernelRun0_C
  dsimp only
  simp (disch := decide) only [View.canon_cons_unit_lit', View.ld_unit_lit']
  unfold kernelRun0_C.sl.v176 kernelRun0_C.sl.HS0_1
  simp (disch := decide) only [View.readCov_unit_lit']
  refine (ended _ _ _ _ a b j).trans ?_
  rw [ldX_eq, ldA_eq, ldW_eq]
  refine congrArg (fun y => normed y _ j) (funext fun k => congrArg (fun z => x4 (ix3 a b k) + x5 (ix3 0 0 k) * z) ?_)
  refine (step (ldH arg2 harg2 x0) (ldE arg3 harg3 x1) (ldE arg4 harg4 x2) (ldGs arg5 harg5 x3) (ldS arg10 harg10 xs0) _ k).trans ?_
  refine (stepped arg2 harg2 arg3 harg3 arg5 harg5 x0 x1 x3 arg4 harg4 x2 _ _ k).trans ?_
  rw [ldS_eq]

end Cert.Kernel4Ideal.Exp
-- ==== Proof.Arr4.lean ====
/- The array the expert call leaves, at an index, from the arrays it is called with. -/
module

public import proofs.«01_k».proof.Proof.Body4
public import proofs.«01_k».proof.Proof.Gen.Kernel4Ideal.Value
public import Idealize.ShloMosaic.Lib.Claim

@[expose] public section

set_option maxRecDepth 16384

noncomputable section

namespace Cert.Kernel4Ideal.Exp

open Idealize.ShloMosaic Idealize.ShloMosaic.TcCoe Idealize.SL.Sem
open Cert.Kernel4Ideal Cert.Kernel4Ideal.Gen Cert.Peer

/-- Which block of each array a grid point reads or writes. -/
theorem idx : ∀ t : Fin cfg0.N,
    win0_0.index t = ![t.val / 16, 0]
    ∧ win0_1.index t = ![t.val % 16, 0]
    ∧ win0_2.index t = ![t.val % 16, 0]
    ∧ win0_3.index t = ![t.val % 16, t.val / 16, 0]
    ∧ win0_4.index t = ![t.val / 16, 0, 0]
    ∧ win0_5.index t = ![t.val / 16 / 8, 0, 0]
    ∧ win0_6.index t = ![0, 0]
    ∧ win0_7.index t = ![t.val / 16, 0, 0] :=
  (by decide +kernel : ∀ t : Fin grid0.N, _)

theorem lt_points (t : Fin cfg0.N) : t.val < 256 := lt_of_lt_of_eq t.isLt N_0

theorem emb0 (t : Fin cfg0.N) (r : Fin 512) (q : Fin 2048) : ((win0_0.blk t).view.emb (ix2 r q) : S8192x2048.Idx)
    = ix2 ⟨t.val / 16 * 512 + r.val, by have := lt_points t; omega⟩ q := by
  blk_ext [idx t] <;> rfl

theorem emb1 (t : Fin cfg0.N) (e : Fin 1024) (q : Fin 2048) : ((win0_1.blk t).view.emb (ix2 e q) : S16384x2048.Idx)
    = ix2 ⟨t.val % 16 * 1024 + e.val, by omega⟩ q := by
  blk_ext [idx t] <;> rfl

theorem emb2 (t : Fin cfg0.N) (e : Fin 1024) (q : Fin 2048) : ((win0_2.blk t).view.emb (ix2 e q) : S16384x2048.Idx)
    = ix2 ⟨t.val % 16 * 1024 + e.val, by omega⟩ q := by
  blk_ext [idx t] <;> rfl

theorem emb3 (t : Fin cfg0.N) (r : Fin 4096) (q : Fin 128) : ((win0_3.blk t).view.emb (ix3 0 r q) : S16x65536x128.Idx)
    = ix3 ⟨t.val % 16, by omega⟩ ⟨t.val / 16 * 4096 + r.val, by have := lt_points t; omega⟩ q := by
  blk_ext [idx t] <;> rfl

theorem emb4 (t : Fin cfg0.N) (a : Fin 64) (b : Fin 8) (q : Fin 2048) : ((win0_4.blk t).view.emb (ix3 a b q) : S1024x8x2048.Idx)
    = ix3 ⟨t.val / 16 * 64 + a.val, by have := lt_points t; omega⟩ b q := by
  blk_ext [idx t] <;> rfl

theorem emb5 (t : Fin cfg0.N) (q : Fin 2048) : ((win0_5.blk t).view.emb (ix3 0 0 q) : S2x1x2048.Idx)
    = ix3 ⟨t.val / 16 / 8, by have := lt_points t; omega⟩ 0 q := by
  blk_ext [idx t] <;> rfl

theorem emb6 (t : Fin cfg0.N) (q : Fin 2048) : ((win0_6.blk t).view.emb (ix2 0 q) : S1x2048.Idx) = ix2 0 q := by
  blk_ext [idx t] <;> rfl

theorem emb7 (t : Fin cfg0.N) (a : Fin 64) (b : Fin 8) (q : Fin 2048) : ((win0_7.blk t).view.emb (ix3 a b q) : S1024x8x2048.Idx)
    = ix3 ⟨t.val / 16 * 64 + a.val, by have := lt_points t; omega⟩ b q := by
  blk_ext [idx t] <;> rfl

variable (m : (ℓ : Loc nD τ sig) → Buf (Elt Ideal) ℓ)

abbrev aH (c : Dev nD) : S8192x2048.Idx → EReal := m ((c : Thread nD τ).loc main_arg0)
abbrev aM (c : Dev nD) : S16x65536x128.Idx → EReal := m ((c : Thread nD τ).loc main_arg1)
abbrev aX (c : Dev nD) : S2x4096x2048.Idx → EReal := m ((c : Thread nD τ).loc main_arg2)
abbrev aG (c : Dev nD) : S2x2048.Idx → EReal := m ((c : Thread nD τ).loc main_arg3)
abbrev aU (c : Dev nD) : S1x16384x2048.Idx → EReal := m ((c : Thread nD τ).loc main_arg4)
abbrev aW (c : Dev nD) : S1x16384x2048.Idx → EReal := m ((c : Thread nD τ).loc main_arg5)
abbrev aN (c : Dev nD) : S2048.Idx → EReal := m ((c : Thread nD τ).loc main_arg6)

theorem h_at (c : Dev nD) (r : Fin 8192) (q : Fin 2048) : (V m c main_v1 : S8192x2048.Idx → EReal) (ix2 r q) = aH m c (ix2 r q) := by
  entry_read
  pointwise

theorem u_at (c : Dev nD) (e : Fin 16384) (q : Fin 2048) : (V m c main_v3 : S16384x2048.Idx → EReal) (ix2 e q) = aU m c (ix3 0 e q) := by
  entry_read
  pointwise

theorem w_at (c : Dev nD) (e : Fin 16384) (q : Fin 2048) : (V m c main_v5 : S16384x2048.Idx → EReal) (ix2 e q) = aW m c (ix3 0 e q) := by
  entry_read
  pointwise

theorem x_at (c : Dev nD) (a : Fin 1024) (b : Fin 8) (q : Fin 2048) : (V m c main_v0 : S1024x8x2048.Idx → EReal) (ix3 a b q)
    = aX m c (ix3 ⟨a.val / 512, by omega⟩ ⟨a.val % 512 * 8 + b.val, by omega⟩ q) := by
  entry_read
  pointwise

theorem g_at (c : Dev nD) (p : Fin 2) (q : Fin 2048) : (V m c main_v6 : S2x1x2048.Idx → EReal) (ix3 p 0 q) = aG m c (ix2 p q) := by
  entry_read
  pointwise

theorem n_at (c : Dev nD) (q : Fin 2048) : (V m c main_v7 : S1x2048.Idx → EReal) (ix2 0 q) = aN m c (ix1 q) := by
  entry_read
  pointwise

theorem blk0 (c : Dev nD) (t : Fin cfg0.N) (r : Fin 512) (q : Fin 2048) : (iblk m c 0 t : S512x2048.Idx → EReal) (ix2 r q)
    = aH m c (ix2 ⟨t.val / 16 * 512 + r.val, by have := lt_points t; omega⟩ q) :=
  (congrArg (V m c main_v1 : S8192x2048.Idx → EReal) (emb0 t r q)).trans (h_at m c _ _)

theorem blk1 (c : Dev nD) (t : Fin cfg0.N) (e : Fin 1024) (q : Fin 2048) : (iblk m c 1 t : S1024x2048.Idx → EReal) (ix2 e q)
    = aU m c (ix3 0 ⟨t.val % 16 * 1024 + e.val, by omega⟩ q) :=
  (congrArg (V m c main_v3 : S16384x2048.Idx → EReal) (emb1 t e q)).trans (u_at m c _ _)

theorem blk2 (c : Dev nD) (t : Fin cfg0.N) (e : Fin 1024) (q : Fin 2048) : (iblk m c 2 t : S1024x2048.Idx → EReal) (ix2 e q)
    = aW m c (ix3 0 ⟨t.val % 16 * 1024 + e.val, by omega⟩ q) :=
  (congrArg (V m c main_v5 : S16384x2048.Idx → EReal) (emb2 t e q)).trans (w_at m c _ _)

theorem blk3 (c : Dev nD) (t : Fin cfg0.N) (r : Fin 4096) (q : Fin 128) : (iblk m c 3 t : S1x4096x128.Idx → EReal) (ix3 0 r q)
    = aM m c (ix3 ⟨t.val % 16, by omega⟩ ⟨t.val / 16 * 4096 + r.val, by have := lt_points t; omega⟩ q) :=
  (congrArg (V m c main_arg1 : S16x65536x128.Idx → EReal) (emb3 t r q)).trans (congrFun (V_main_arg1 m c) _)

theorem blk4 (c : Dev nD) (t : Fin cfg0.N) (a : Fin 64) (b : Fin 8) (q : Fin 2048) : (iblk m c 4 t : S64x8x2048.Idx → EReal) (ix3 a b q)
    = (V m c main_v0 : S1024x8x2048.Idx → EReal) (ix3 ⟨t.val / 16 * 64 + a.val, by have := lt_points t; omega⟩ b q) :=
  congrArg (V m c main_v0 : S1024x8x2048.Idx → EReal) (emb4 t a b q)

theorem blk5 (c : Dev nD) (t : Fin cfg0.N) (q : Fin 2048) : (iblk m c 5 t : S1x1x2048.Idx → EReal) (ix3 0 0 q)
    = aG m c (ix2 ⟨t.val / 16 / 8, by have := lt_points t; omega⟩ q) :=
  (congrArg (V m c main_v6 : S2x1x2048.Idx → EReal) (emb5 t q)).trans (g_at m c _ _)

theorem blk6 (c : Dev nD) (t : Fin cfg0.N) (q : Fin 2048) : (iblk m c 6 t : S1x2048.Idx → EReal) (ix2 0 q) = aN m c (ix1 q) :=
  (congrArg (V m c main_v7 : S1x2048.Idx → EReal) (emb6 t q)).trans (n_at m c _)

/-- What point `n` of the grid adds to the running sums (nothing past the grid). -/
def adds (c : Dev nD) (n : ℕ) (y : S512x2048.Idx) : EReal :=
  if h : n < cfg0.N then tile (iblk m c 0 ⟨n, h⟩) (iblk m c 1 ⟨n, h⟩) (iblk m c 2 ⟨n, h⟩) (iblk m c 3 ⟨n, h⟩) (y 0) (y 1) else 0

/-- The weighted sum of the experts' rows over one tile `j`. -/
def part (c : Dev nD) (R : Fin 8192) (k : Fin 2048) (j : Fin 16) : EReal :=
  ∑ r : Fin 1024, weight (aM m c (ix3 j ⟨R.val * 8 + r.val / 128, by omega⟩ ⟨r.val % 128, Nat.mod_lt _ (by decide)⟩))
    (fun q => aH m c (ix2 R q)) (fun q => aU m c (ix3 0 ⟨j.val * 1024 + r.val, by omega⟩ q)) * aW m c (ix3 0 ⟨j.val * 1024 + r.val, by omega⟩ k)

theorem experts_parts (c : Dev nD) (R : Fin 8192) (k : Fin 2048) :
    experts (aH m c) (aM m c) (aU m c) (aW m c) (by decide) R k = ∑ j : Fin 16, part m c R k j := by
  refine (sum_tiles _).trans (Finset.sum_congr rfl fun j _ => Finset.sum_congr rfl fun r _ => ?_)
  refine congrArg (fun z => weight z _ _ * _) (congrArg (aM m c) ?_)
  funext a
  match a with
  | ⟨0, _⟩ => exact Fin.ext (by show (j.val * 1024 + r.val) / 1024 = j.val; omega)
  | ⟨1, _⟩ => exact Fin.ext (by show R.val * 8 + (j.val * 1024 + r.val) % 1024 / 128 = R.val * 8 + r.val / 128; omega)
  | ⟨2, _⟩ => exact Fin.ext (by show (j.val * 1024 + r.val) % 128 = r.val % 128; omega)

theorem adds_eq (c : Dev nD) (n : ℕ) (h : n < 256) (r : Fin 512) (k : Fin 2048) :
    adds m c n (ix2 r k) = part m c ⟨n / 16 * 512 + r.val, by omega⟩ k ⟨n % 16, by omega⟩ := by
  have hn : n < cfg0.N := lt_of_lt_of_eq h N_0.symm
  unfold adds
  rw [dif_pos hn]
  refine Finset.sum_congr rfl fun e _ => ?_
  refine congrArg₂ (· * ·) ?_ (blk2 m c ⟨n, hn⟩ e k)
  refine (congrArg (fun z => weight z _ _) ((blk3 m c ⟨n, hn⟩ _ _).trans (congrArg (aM m c) ?_))).trans
    (congrArg₂ (fun z w => weight _ z w) (funext fun q => blk0 m c ⟨n, hn⟩ r q) (funext fun q => blk1 m c ⟨n, hn⟩ e q))
  funext a
  match a with
  | ⟨0, _⟩ => rfl
  | ⟨1, _⟩ => exact Fin.ext (by show n / 16 * 4096 + (r.val * 8 + e.val / 128) = (n / 16 * 512 + r.val) * 8 + e.val / 128; omega)
  | ⟨2, _⟩ => rfl

/-- The running sums after point `t`: what the points of its row of tiles up to it have added. -/
theorem sums_at (c : Dev nD) (t : Fin cfg0.N) (y : S512x2048.Idx) :
    ((outsAt0 m c t.val t.isLt).2 : S512x2048.Idx → EReal) y = ∑ s ∈ Finset.range (t.val % 16 + 1), adds m c (16 * (t.val / 16) + s) y := by
  have ht := lt_points t
  rw [Value.soutsAt0_0_eq]
  refine (Pipeline.accAt_add_apply (ι := S512x2048.Idx) (β := EReal) _ _ (fun _ => 0) (adds m c) (16 * (t.val / 16)) (t.val % 16) ?_ ?_ (t.val % 16) le_rfl _ y).trans (zero_add _)
  · intro h i
    idx_vars i
    unfold Value.scAt0_0 adds
    rw [dif_pos (by omega : 16 * (t.val / 16) % 16 = 0), dif_neg (by omega), dif_pos h]
    exact soutA c _ _ _ _ _ _ _ _ _ _ _ _ _ _ _ _ _ _ _ _ _ _ _ _ _ _ _ _ i0 i1
  · intro n h acc i h1 h2
    idx_vars i
    unfold Value.scAt0_0 adds
    rw [dif_neg (by omega : ¬n % 16 = 0), dif_pos h]
    by_cases h3 : n % 16 = 15
    · rw [dif_pos h3]
      exact soutC c _ _ _ _ _ _ _ _ _ _ _ _ _ _ _ _ _ _ _ _ _ _ _ _ _ _ _ _ _ i0 i1
    · rw [dif_neg h3]
      exact soutB c _ _ _ _ _ _ _ _ _ _ _ _ _ _ _ _ _ _ _ _ _ _ _ _ _ _ _ _ _ i0 i1

/-- The result at token `8 a + b` and channel `k`. -/
def res (c : Dev nD) (a : Fin 1024) (b : Fin 8) (k : Fin 2048) : EReal :=
  normed (fun q => aX m c (ix3 ⟨a.val / 512, by omega⟩ ⟨a.val % 512 * 8 + b.val, by omega⟩ q)
    + aG m c (ix2 ⟨a.val / 512, by omega⟩ q) * experts (aH m c) (aM m c) (aU m c) (aW m c) (by decide) ⟨a.val * 8 + b.val, by omega⟩ q)
    (fun q => aN m c (ix1 q)) k

def result (c : Dev nD) : S1024x8x2048.Idx → EReal := fun y => res m c (y 0) (y 1) (y 2)

theorem normed_congr {y g y' g' : Fin 2048 → EReal} (h : ∀ q, y q = y' q) (h' : ∀ q, g q = g' q) (k : Fin 2048) : normed y g k = normed y' g' k := by
  rw [funext h, funext h']

theorem final (c : Dev nD) : (dats m 0 c).arrAt 7 cfg0.N = result m c := by
  refine (dats m 0 c).arrAt_eq_of_covers 7 _ (by decide +kernel) fun t hf y => ?_
  have h15 : t.val % 16 = 15 := (flush0_7 t).mp hf
  have ht := lt_points t
  blk_simp
  rw [after0_7, outsAt0_C m c t (by omega) h15]
  idx_vars y
  refine (outC c _ _ _ _ _ _ _ _ _ _ _ _ _ _ _ _ _ _ _ _ _ _ _ _ _ _ _ _ _ y0 y1 y2).trans ?_
  refine Eq.trans ?_ (congrArg (result m c) (emb7 t y0 y1 y2)).symm
  show _ = res m c ⟨t.val / 16 * 64 + y0.val, _⟩ y1 y2
  unfold res
  refine normed_congr (fun q => ?_) (fun q => blk6 m c t q) y2
  refine congrArg₂ (· + ·) ((blk4 m c t y0 y1 q).trans (x_at m c _ _ _)) (congrArg₂ (· * ·) ((blk5 m c t q).trans ?_) ?_)
  · refine congrArg (aG m c) (congrArg (fun z => ix2 z q) (Fin.ext ?_))
    show t.val / 16 / 8 = (t.val / 16 * 64 + y0.val) / 512
    omega
  · rw [experts_parts]
    have e : ∀ s : ℕ, s < 16 → adds m c (16 * (t.val / 16) + s) (ix2 ⟨y0.val * 8 + y1.val, by omega⟩ q)
        = if h : s < 16 then part m c ⟨(t.val / 16 * 64 + y0.val) * 8 + y1.val, by omega⟩ q ⟨s, h⟩ else 0 := by
      intro s hs
      rw [dif_pos hs, adds_eq m c _ (by omega)]
      have e1 : (⟨(16 * (t.val / 16) + s) / 16 * 512 + (y0.val * 8 + y1.val), by omega⟩ : Fin 8192) = ⟨(t.val / 16 * 64 + y0.val) * 8 + y1.val, by omega⟩ :=
        Fin.ext (by show (16 * (t.val / 16) + s) / 16 * 512 + (y0.val * 8 + y1.val) = (t.val / 16 * 64 + y0.val) * 8 + y1.val; omega)
      have e2 : (⟨(16 * (t.val / 16) + s) % 16, by omega⟩ : Fin 16) = ⟨s, hs⟩ := Fin.ext (by show (16 * (t.val / 16) + s) % 16 = s; omega)
      exact congrArg₂ (fun z w => part m c z q w) e1 e2
    have hl := sums_at m c ⟨t.val - 1, lt_of_lt_of_eq (by omega : t.val - 1 < 256) N_0.symm⟩ (ix2 ⟨y0.val * 8 + y1.val, by omega⟩ q)
    have r1 : (t.val - 1) % 16 + 1 = 15 := by omega
    have r2 : (t.val - 1) / 16 = t.val / 16 := by omega
    dsimp only at hl
    rw [r1, r2] at hl
    have hlast : tile (iblk m c 0 t) (iblk m c 1 t) (iblk m c 2 t) (iblk m c 3 t) ⟨y0.val * 8 + y1.val, by omega⟩ q
        = adds m c (16 * (t.val / 16) + 15) (ix2 ⟨y0.val * 8 + y1.val, by omega⟩ q) := by
      have e3 : 16 * (t.val / 16) + 15 = t.val := by omega
      rw [e3]
      unfold adds
      rw [dif_pos t.isLt]
      rfl
    refine (congrArg₂ (· + ·) hl hlast).trans ?_
    rw [← Finset.sum_range_succ (fun s => adds m c (16 * (t.val / 16) + s) (ix2 ⟨y0.val * 8 + y1.val, by omega⟩ q)) 15,
      Finset.sum_congr rfl (fun s hs => e s (Finset.mem_range.mp hs)), Fin.sum_univ_eq_sum_range (fun s => if h : s < 16 then part m c ⟨(t.val / 16 * 64 + y0.val) * 8 + y1.val, by omega⟩ q ⟨s, h⟩ else 0) 16 |>.symm]
    exact Finset.sum_congr rfl fun j _ => dif_pos j.isLt

end Cert.Kernel4Ideal.Exp
-- ==== Proof.Ref4.lean ====
/- The reference of the expert layer at an index: its own terms, cut at the products, the gates, the activation and the
   residual. -/
module

public import proofs.«01_k».proof.Proof.Peer
public import proofs.«01_k».proof.Proof.Gen.Reference4Ideal.Run
public import Idealize.ShloMosaic.Lib.Pointwise
public import Idealize.ShloMosaic.Lib.IdealHost

@[expose] public section

set_option maxRecDepth 16384

noncomputable section

namespace Cert.Reference4Ideal.Exp

open Idealize.ShloMosaic Idealize.ShloMosaic.TcCoe Idealize.SL.Sem
open Cert.Reference4Ideal Cert.Reference4Ideal.Gen Cert.Peer

/-- The products of the tokens with the experts' input rows. -/
def dots (H : FVec Ideal S8192x2048 .f32) (U : FVec Ideal S1x16384x2048 .f32) : FVec Ideal S8192x16384 .f32 :=
  (Host.dotGeneral dot_S8192x2048_S16384x2048_S8192x16384_1_1_0_0_n_n none H (shapeCast _ U shapeCasts_S1x16384x2048_S16384x2048))

/-- The activation. -/
def act (A : FVec Ideal S8192x16384 .f32) : FVec Ideal S8192x16384 .f32 :=
  (mulf A (mulf (broadcastInDim S8192x16384 ![] bcast_S_S8192x16384 (constant S_ .f32 0x3F000000#32)) (addf (broadcastInDim S8192x16384 ![] bcast_S_S8192x16384 (constant S_ .f32 0x3F800000#32)) (Host.tanh (mulf (broadcastInDim S8192x16384 ![] bcast_S_S8192x16384 (constant S_ .f32 0x3F4C422A#32)) (addf A (mulf (broadcastInDim S8192x16384 ![] bcast_S_S8192x16384 (constant S_ .f32 0x3D372713#32)) (mulf (mulf A A) A))))))))

/-- The gates as a matrix of tokens by experts. -/
def gates (M : FVec Ideal S16x65536x128 .f32) : FVec Ideal S8192x16384 .f32 :=
  (shapeCast _ (transpose S8192x16x8x128 [1, 0, 2, 3] (shapeCast _ M shapeCasts_S16x65536x128_S16x8192x8x128) transposes_S16x8192x8x128_S8192x16x8x128_1_0_2_3) shapeCasts_S8192x16x8x128_S8192x16384)

/-- The gated products with the experts' output rows. -/
def outs (Q L : FVec Ideal S8192x16384 .f32) (W : FVec Ideal S1x16384x2048 .f32) : FVec Ideal S8192x2048 .f32 :=
  (Host.dotGeneral dot_S8192x16384_S16384x2048_S8192x2048_1_0_0_1_n_n none (mulf Q L) (shapeCast _ W shapeCasts_S1x16384x2048_S16384x2048))

/-- The residual plus the gated sums. -/
def resid (X : FVec Ideal S2x4096x2048 .f32) (G : FVec Ideal S2x2048 .f32) (O : FVec Ideal S8192x2048 .f32) : FVec Ideal S2x4096x2048 .f32 :=
  (addf X (mulf (broadcastInDim S2x4096x2048 ![0, 1, 2] bcast_S2x1x2048_S2x4096x2048_0_1_2 (broadcastInDim S2x1x2048 ![0, 2] bcast_S2x2048_S2x1x2048_0_2 G)) (shapeCast _ O shapeCasts_S8192x2048_S2x4096x2048)))

/-- The root mean square norm, and the result's layout. -/
def ends (Y : FVec Ideal S2x4096x2048 .f32) (N : FVec Ideal S2048 .f32) : FVec Ideal S1024x8x2048 .f32 :=
  shapeCast _ (mulf (mulf Y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf Y Y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 N))) shapeCasts_S2x4096x2048_S1024x8x2048

def whole (H : FVec Ideal S8192x2048 .f32) (M : FVec Ideal S16x65536x128 .f32) (X : FVec Ideal S2x4096x2048 .f32) (G : FVec Ideal S2x2048 .f32)
    (U W : FVec Ideal S1x16384x2048 .f32) (N : FVec Ideal S2048 .f32) : FVec Ideal S1024x8x2048 .f32 :=
  ends (resid X G (outs (gates M) (act (dots H U)) W)) N

theorem dots_at (H : FVec Ideal S8192x2048 .f32) (U : FVec Ideal S1x16384x2048 .f32) (r : Fin 8192) (e : Fin 16384) :
    dots H U (ix2 r e) = ∑ q, H (ix2 r q) * U (ix3 0 e q) := by
  pointwise [dots]

theorem act_at (A : FVec Ideal S8192x16384 .f32) (r : Fin 8192) (e : Fin 16384) : act A (ix2 r e) = gelu (A (ix2 r e)) := by
  pointwise [act, gelu]
  rw [mul_comm (A (ix2 r e) * A (ix2 r e)) (A (ix2 r e))]

theorem gates_at (M : FVec Ideal S16x65536x128 .f32) (r : Fin 8192) (e : Fin 16384) :
    gates M (ix2 r e) = M (ix3 ⟨e.val / 1024, by omega⟩ ⟨r.val * 8 + e.val % 1024 / 128, by omega⟩ ⟨e.val % 128, Nat.mod_lt _ (by decide)⟩) := by
  pointwise [gates]
  exact congrArg (fun z => M (ix3 _ z _)) (Fin.ext (by show r.val * 8 + e.val / 128 % 8 = r.val * 8 + e.val % 1024 / 128; omega))

theorem outs_at (Q L : FVec Ideal S8192x16384 .f32) (W : FVec Ideal S1x16384x2048 .f32) (r : Fin 8192) (k : Fin 2048) :
    outs Q L W (ix2 r k) = ∑ e, Q (ix2 r e) * L (ix2 r e) * W (ix3 0 e k) := by
  pointwise [outs]

theorem outs_eq (H : FVec Ideal S8192x2048 .f32) (M : FVec Ideal S16x65536x128 .f32) (U W : FVec Ideal S1x16384x2048 .f32) (r : Fin 8192) (k : Fin 2048) :
    outs (gates M) (act (dots H U)) W (ix2 r k) = experts H M U W (by decide) r k := by
  refine (outs_at _ _ W r k).trans (Finset.sum_congr rfl fun e _ => congrArg (· * _) ?_)
  exact congrArg₂ (· * ·) (gates_at M r e) ((act_at _ r e).trans (congrArg gelu (dots_at H U r e)))

theorem resid_at (X : FVec Ideal S2x4096x2048 .f32) (G : FVec Ideal S2x2048 .f32) (O : FVec Ideal S8192x2048 .f32) (p : Fin 2) (l : Fin 4096) (k : Fin 2048) :
    resid X G O (ix3 p l k) = X (ix3 p l k) + G (ix2 p k) * O (ix2 ⟨p.val * 4096 + l.val, by omega⟩ k) := by
  pointwise [resid]

theorem ends_at (Y : FVec Ideal S2x4096x2048 .f32) (N : FVec Ideal S2048 .f32) (a : Fin 1024) (b : Fin 8) (k : Fin 2048) :
    ends Y N (ix3 a b k) = normed (fun q => Y (ix3 ⟨a.val / 512, by omega⟩ ⟨a.val % 512 * 8 + b.val, by omega⟩ q)) (fun q => N (ix1 q)) k := by
  pointwise [ends, normed]

/-- The result at an index. -/
theorem whole_at (H : FVec Ideal S8192x2048 .f32) (M : FVec Ideal S16x65536x128 .f32) (X : FVec Ideal S2x4096x2048 .f32) (G : FVec Ideal S2x2048 .f32)
    (U W : FVec Ideal S1x16384x2048 .f32) (N : FVec Ideal S2048 .f32) (a : Fin 1024) (b : Fin 8) (k : Fin 2048) :
    whole H M X G U W N (ix3 a b k) = normed (fun q => X (ix3 ⟨a.val / 512, by omega⟩ ⟨a.val % 512 * 8 + b.val, by omega⟩ q)
      + G (ix2 ⟨a.val / 512, by omega⟩ q) * experts H M U W (by decide) ⟨a.val * 8 + b.val, by omega⟩ q) (fun q => N (ix1 q)) k := by
  refine (ends_at _ N a b k).trans (congrArg (fun y => normed y _ k) (funext fun q => ?_))
  refine (resid_at X G _ _ _ q).trans ?_
  rw [outs_eq]
  exact congrArg (fun r : Fin 8192 => X (ix3 ⟨a.val / 512, by omega⟩ ⟨a.val % 512 * 8 + b.val, by omega⟩ q) + G (ix2 ⟨a.val / 512, by omega⟩ q) * experts H M U W (by decide) r q) (Fin.ext (by show a.val / 512 * 4096 + (a.val % 512 * 8 + b.val) = a.val * 8 + b.val; omega))

theorem result_eq (m : (ℓ : Loc nD τ sig) → Buf (Elt Ideal) ℓ) (c : Dev nD) :
    (Value.res_out0 m c : FVec Ideal S1024x8x2048 .f32) = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  dsimp only [Value.res_out0]
  unfold Value.res_main_v39 whole ends resid outs act gates dots
  rfl

end Cert.Reference4Ideal.Exp
-- ==== Proof.Exp4.lean ====
/- The claims about the expert layer on the prompt: the frames, and the result equal. -/
module

public import proofs.«01_k».proof.Defs
public import proofs.«01_k».proof.Proof.Gen.Kernel4.Frame
public import proofs.«01_k».proof.Proof.Arr4
public import proofs.«01_k».proof.Proof.Ref4
public import Idealize.ShloMosaic.Lib.Quiescent

@[expose] public section

set_option maxRecDepth 16384

noncomputable section

namespace Cert.Expert4

open Idealize.ShloMosaic Idealize.ShloMosaic.TcCoe Idealize.SL.Sem
open Cert.Kernel4Ideal Cert.Kernel4Ideal.Gen Cert.Kernel4Ideal.Exp

theorem ext3 (f g : S1024x8x2048.Idx → EReal) (e : ∀ (a : Fin 1024) (b : Fin 8) (k : Fin 2048), f (ix3 a b k) = g (ix3 a b k)) : f = g := by
  funext y
  idx_vars y
  exact e y0 y1 y2

variable (m : (ℓ : Loc nD τ sig) → Buf (Elt Ideal) ℓ) (ρ : Dev nD → PrngReg)

theorem whole_eq (c : Dev nD) :
    Cert.Reference4Ideal.Exp.whole (aH m c) (aM m c) (aX m c) (aG m c) (aU m c) (aW m c) (aN m c) = result m c :=
  ext3 _ _ fun a b k => Cert.Reference4Ideal.Exp.whole_at (aH m c) (aM m c) (aX m c) (aG m c) (aU m c) (aW m c) (aN m c) a b k

theorem agree (m' : (ℓ : Loc Cert.Reference4Ideal.nD Cert.Reference4Ideal.τ Cert.Reference4Ideal.sig) → Buf (Elt Ideal) ℓ) (c : Dev nD)
    (e0 : m' ((c.tc : Thread Cert.Reference4Ideal.nD Cert.Reference4Ideal.τ).loc Cert.Reference4Ideal.main_arg0) = aH m c)
    (e1 : m' ((c.tc : Thread Cert.Reference4Ideal.nD Cert.Reference4Ideal.τ).loc Cert.Reference4Ideal.main_arg1) = aM m c)
    (e2 : m' ((c.tc : Thread Cert.Reference4Ideal.nD Cert.Reference4Ideal.τ).loc Cert.Reference4Ideal.main_arg2) = aX m c)
    (e3 : m' ((c.tc : Thread Cert.Reference4Ideal.nD Cert.Reference4Ideal.τ).loc Cert.Reference4Ideal.main_arg3) = aG m c)
    (e4 : m' ((c.tc : Thread Cert.Reference4Ideal.nD Cert.Reference4Ideal.τ).loc Cert.Reference4Ideal.main_arg4) = aU m c)
    (e5 : m' ((c.tc : Thread Cert.Reference4Ideal.nD Cert.Reference4Ideal.τ).loc Cert.Reference4Ideal.main_arg5) = aW m c)
    (e6 : m' ((c.tc : Thread Cert.Reference4Ideal.nD Cert.Reference4Ideal.τ).loc Cert.Reference4Ideal.main_arg6) = aN m c) :
    Cert.Reference4Ideal.Value.res_out0 m' c = result m c := by
  refine (Cert.Reference4Ideal.Exp.result_eq m' c).trans ?_
  rw [e0, e1, e2, e3, e4, e5, e6]
  exact whole_eq m c

theorem frame_kernel4 : Cert.quiescent_Kernel4 (hKernel4 := Cert.Kernel4.Gen.facts) :=
  fun m ρ _ => Cert.Kernel4.Gen.frame m ρ

theorem frame_ideal4 : Cert.quiescent_Kernel4Ideal (hKernel4Ideal := Cert.Kernel4Ideal.Gen.facts) :=
  fun m ρ _ => Cert.Kernel4Ideal.Gen.frame m ρ

theorem frame_reference4 : Cert.quiescent_Reference4Ideal (hReference4Ideal := Cert.Reference4Ideal.Gen.facts) :=
  fun m ρ _ => (θ_run (Cert.Reference4Ideal.defs (F := Ideal)) _ _).mono
    (fun r h => ⟨fun c => (h c).2, sem_eq_zero_of_no_sems (by decide) r.2⟩)
    (Cert.Reference4Ideal.Value.run (F := Ideal) m ρ)

theorem preserves4 : Cert.preserves_Kernel4_Kernel4Ideal := trivial

theorem algebraic4 : Cert.algebraic_Kernel4Ideal_Reference4Ideal (hKernel4Ideal := Cert.Kernel4Ideal.Gen.facts)
    (hReference4Ideal := Cert.Reference4Ideal.Gen.facts) := by
  intro m ρ m' ρ' hpre hargs
  refine ⟨fun c => result m c, ?_, ?_⟩
  · exact (θ_run _ _ _).mono (fun r h c => ⟨(h c).1.trans (final m c), (h c).2⟩) (Value.run_blocks m ρ)
  · refine (θ_run _ _ _).mono (fun r h c => ?_) (Cert.Reference4Ideal.Value.run m' ρ')
    obtain ⟨e0, e1, e2, e3, e4, e5, e6⟩ := hargs c
    exact ⟨(h c).1.trans (agree m m' c e0 e1 e2 e3 e4 e5 e6), (h c).2⟩

end Cert.Expert4
-- ==== Proof.Pay5.lean ====
/- What one step over a tile of experts adds to the running sums, and the end of the layer, at an index: the values the body
   stores, as functions of the values it reads. -/
module

public import proofs.«01_k».proof.Proof.Peer
public import proofs.«01_k».proof.Proof.Gen.Kernel5Ideal.Skeleton
public import Idealize.ShloMosaic.Lib.Pipeline.ValueKit
public import Idealize.ShloMosaic.Lib.Pointwise

@[expose] public section

set_option maxRecDepth 16384

noncomputable section

namespace Cert.Kernel5Ideal.Exp

open Idealize.ShloMosaic Idealize.ShloMosaic.TcCoe Idealize.SL.Sem
open Cert.Kernel5Ideal Cert.Kernel5Ideal.Gen Cert.Peer

theorem dots (h : S512x2048.Idx → EReal) (u : S1024x2048.Idx → EReal) (r : Fin 512) (e : Fin 1024) :
    (k0_pay4 (F := Ideal) h u : S512x1024.Idx → EReal) (ix2 r e) = ∑ q, h (ix2 r q) * u (ix2 e q) := by
  pointwise [k0_pay4]

section pieces

variable (h : S512x2048.Idx → EReal) (u : S1024x2048.Idx → EReal) (P : S512x1024.Idx → EReal) (g : S512x128.Idx → EReal) (r : Fin 512) (c : Fin 128)

theorem piece0 : (k0_pay5 (F := Ideal) h u g : S512x128.Idx → EReal) (ix2 r c)
    = g (ix2 r c) * gelu ((k0_pay4 (F := Ideal) h u : S512x1024.Idx → EReal) (ix2 r ⟨0 * 128 + c.val, by omega⟩)) := by
  unfold k0_pay5
  generalize k0_pay4 (F := Ideal) h u = Q
  pointwise [gelu]

theorem piece1 : (k0_pay8 (F := Ideal) g (k0_pay6 h u) (k0_pay7 h u) : S512x128.Idx → EReal) (ix2 r c)
    = g (ix2 r c) * gelu ((k0_pay4 (F := Ideal) h u : S512x1024.Idx → EReal) (ix2 r ⟨1 * 128 + c.val, by omega⟩)) := by
  unfold k0_pay8 k0_pay7 k0_pay6
  generalize k0_pay4 (F := Ideal) h u = Q
  pointwise [gelu]

theorem piece2 : (k0_pay9 (F := Ideal) P g : S512x128.Idx → EReal) (ix2 r c)
    = g (ix2 r c) * gelu (P (ix2 r ⟨2 * 128 + c.val, by omega⟩)) := by
  pointwise [k0_pay9, gelu]

theorem piece3 : (k0_pay12 (F := Ideal) g (k0_pay10 P) (k0_pay11 P) : S512x128.Idx → EReal) (ix2 r c)
    = g (ix2 r c) * gelu (P (ix2 r ⟨3 * 128 + c.val, by omega⟩)) := by
  pointwise [k0_pay12, k0_pay11, k0_pay10, gelu]

theorem piece4 : (k0_pay13 (F := Ideal) P g : S512x128.Idx → EReal) (ix2 r c)
    = g (ix2 r c) * gelu (P (ix2 r ⟨4 * 128 + c.val, by omega⟩)) := by
  pointwise [k0_pay13, gelu]

theorem piece5 : (k0_pay16 (F := Ideal) g (k0_pay14 P) (k0_pay15 P) : S512x128.Idx → EReal) (ix2 r c)
    = g (ix2 r c) * gelu (P (ix2 r ⟨5 * 128 + c.val, by omega⟩)) := by
  pointwise [k0_pay16, k0_pay15, k0_pay14, gelu]

theorem piece6 : (k0_pay17 (F := Ideal) P g : S512x128.Idx → EReal) (ix2 r c)
    = g (ix2 r c) * gelu (P (ix2 r ⟨6 * 128 + c.val, by omega⟩)) := by
  pointwise [k0_pay17, gelu]

theorem piece7 : (truncf .bf16 (mulf g (k0_pay18 P)) bitsLt_bf16_f32 : FVec Ideal S512x128 .bf16) (ix2 r c)
    = g (ix2 r c) * gelu (P (ix2 r ⟨7 * 128 + c.val, by omega⟩)) := by
  pointwise [k0_pay18, gelu]

end pieces

/-- Eight pieces side by side, at an index. -/
theorem joined (p : Fin 8 → S512x128.Idx → EReal) (r : Fin 512) (e : Fin 1024) :
    (concatenate S512x1024 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩]
        concatenates_S512x128_S512x128_S512x128_S512x128_S512x128_S512x128_S512x128_S512x128_S512x1024_d1 : S512x1024.Idx → EReal) (ix2 r e)
      = p ⟨e.val / 128, by omega⟩ (ix2 r ⟨e.val % 128, Nat.mod_lt _ (by decide)⟩) := by
  refine concatenate_ofFn_apply (t := S512x1024) (s₁ := S512x128) 1 p
    concatenates_S512x128_S512x128_S512x128_S512x128_S512x128_S512x128_S512x128_S512x128_S512x1024_d1 rfl 128 rfl (ix2 r e) ⟨e.val / 128, by omega⟩ rfl
    (ix2 r ⟨e.val % 128, Nat.mod_lt _ (by decide)⟩) rfl ?_
  intro b hb
  match b, hb with
  | ⟨0, _⟩, _ => rfl
  | ⟨1, _⟩, hb => exact absurd rfl hb

/-- The sums `s` plus the product of the weights `C` with the experts' output rows. -/
theorem prod (C : FVec Ideal S512x1024 .bf16) (v : FVec Ideal S1024x2048 .bf16) (s : FVec Ideal S512x2048 .f32) (r : Fin 512) (j : Fin 2048) :
    (shapeCast S512x2048 (addf s (matmul dot_S512x1024_S1024x2048_S512x2048_1_0_0_1_n_n none C
        (shapeCast S1024x2048 v shapeCasts_S1024x2048_S1024x2048) (constant S512x2048 .f32 0x00000000#32)))
      shapeCasts_S512x2048_S512x2048 : FVec Ideal S512x2048 .f32) (ix2 r j) = s (ix2 r j) + ∑ e : Fin 1024, C (ix2 r e) * v (ix2 e j) := by
  pointwise

/-- The step over a tile: what it stores over the old sums `s`. -/
theorem step (h : S512x2048.Idx → EReal) (u v : S1024x2048.Idx → EReal) (g : Fin 8 → S512x128.Idx → EReal) (s : S512x2048.Idx → EReal)
    (r : Fin 512) (j : Fin 2048) :
    (k0_pay1 (F := Ideal) (k0_pay5 h u (g 0)) (k0_pay8 (g 1) (k0_pay6 h u) (k0_pay7 h u)) (k0_pay9 (k0_pay4 h u) (g 2))
        (k0_pay12 (g 3) (k0_pay10 (k0_pay4 h u)) (k0_pay11 (k0_pay4 h u))) (k0_pay13 (k0_pay4 h u) (g 4))
        (k0_pay16 (g 5) (k0_pay14 (k0_pay4 h u)) (k0_pay15 (k0_pay4 h u))) (k0_pay17 (k0_pay4 h u) (g 6)) (g 7) (k0_pay18 (k0_pay4 h u)) s v
        : S512x2048.Idx → EReal) (ix2 r j)
      = s (ix2 r j) + ∑ e : Fin 1024, weight (g ⟨e.val / 128, by omega⟩ (ix2 r ⟨e.val % 128, Nat.mod_lt _ (by decide)⟩))
          (fun q => h (ix2 r q)) (fun q => u (ix2 e q)) * v (ix2 e j) := by
  have key : ∀ (n : Fin 8) (c : Fin 128), (![(k0_pay5 (F := Ideal) h u (g 0) : S512x128.Idx → EReal), k0_pay8 (F := Ideal) (g 1) (k0_pay6 h u) (k0_pay7 h u),
      k0_pay9 (F := Ideal) (k0_pay4 h u) (g 2), k0_pay12 (F := Ideal) (g 3) (k0_pay10 (k0_pay4 h u)) (k0_pay11 (k0_pay4 h u)), k0_pay13 (F := Ideal) (k0_pay4 h u) (g 4),
      k0_pay16 (F := Ideal) (g 5) (k0_pay14 (k0_pay4 h u)) (k0_pay15 (k0_pay4 h u)), k0_pay17 (F := Ideal) (k0_pay4 h u) (g 6),
      (truncf .bf16 (mulf (g 7) (k0_pay18 (k0_pay4 h u))) bitsLt_bf16_f32 : FVec Ideal S512x128 .bf16)] : Fin 8 → S512x128.Idx → EReal) n (ix2 r c)
        = weight (g n (ix2 r c)) (fun q => h (ix2 r q)) (fun q => u (ix2 ⟨n.val * 128 + c.val, by omega⟩ q)) := by
    intro n c
    unfold weight
    match n with
    | ⟨0, _⟩ => exact (piece0 h u _ r c).trans (congrArg (fun z => _ * gelu z) (dots h u r _))
    | ⟨1, _⟩ => exact (piece1 h u _ r c).trans (congrArg (fun z => _ * gelu z) (dots h u r _))
    | ⟨2, _⟩ => exact (piece2 _ _ r c).trans (congrArg (fun z => _ * gelu z) (dots h u r _))
    | ⟨3, _⟩ => exact (piece3 _ _ r c).trans (congrArg (fun z => _ * gelu z) (dots h u r _))
    | ⟨4, _⟩ => exact (piece4 _ _ r c).trans (congrArg (fun z => _ * gelu z) (dots h u r _))
    | ⟨5, _⟩ => exact (piece5 _ _ r c).trans (congrArg (fun z => _ * gelu z) (dots h u r _))
    | ⟨6, _⟩ => exact (piece6 _ _ r c).trans (congrArg (fun z => _ * gelu z) (dots h u r _))
    | ⟨7, _⟩ => exact (piece7 _ _ r c).trans (congrArg (fun z => _ * gelu z) (dots h u r _))
  refine (prod _ v s r j).trans (congrArg (s (ix2 r j) + ·) (Finset.sum_congr rfl fun e _ => congrArg (· * _) ?_))
  refine (joined _ r e).trans ((key _ _).trans ?_)
  refine congrArg (weight _ _) (funext fun q => congrArg u ?_)
  exact congrArg (fun z => ix2 z q) (Fin.ext (Nat.div_add_mod' e.val 128))

theorem zeros (r : Fin 512) (j : Fin 2048) : (k0_pay3 (F := Ideal) : S512x2048.Idx → EReal) (ix2 r j) = 0 := by
  pointwise [k0_pay3]

/-- The end of the layer: the residual plus the gated sums, normed. -/
theorem ended (x : S64x8x2048.Idx → EReal) (a : S64x1x2048.Idx → EReal) (s : S512x2048.Idx → EReal) (w : S1x2048.Idx → EReal) (i : Fin 64) (b : Fin 8) (j : Fin 2048) :
    (k0_pay2 (F := Ideal) x a s w : S64x8x2048.Idx → EReal) (ix3 i b j)
      = normed (fun c => x (ix3 i b c) + a (ix3 i 0 c) * s (ix2 ⟨i.val * 8 + b.val, by omega⟩ c)) (fun c => w (ix2 0 c)) j := by
  pointwise [k0_pay2, normed]

end Cert.Kernel5Ideal.Exp
-- ==== Proof.Body5.lean ====
/- The running sums a grid point leaves, and the block the last point of a row of tiles writes, at an index. -/
module

public import proofs.«01_k».proof.Proof.Pay5
public import proofs.«01_k».proof.Proof.Gen.Kernel5Ideal.Frame
public import Idealize.ShloMosaic.Lib.VecWindow
public import Idealize.ShloMosaic.Lib.Pipeline.Value

@[expose] public section

set_option maxRecDepth 16384

noncomputable section

namespace Cert.Kernel5Ideal.Exp

open Idealize.ShloMosaic Idealize.ShloMosaic.TcCoe Idealize.SL.Sem
open Cert.Kernel5Ideal Cert.Kernel5Ideal.Gen Cert.Peer

/-- What a tile of experts adds, at row `r` and column `j` of the block. -/
def tile (x0 : S512x2048.Idx → EReal) (x1 x2 : S1024x2048.Idx → EReal) (x3 : S1x4096x128.Idx → EReal) (r : Fin 512) (j : Fin 2048) : EReal :=
  ∑ e : Fin 1024, weight (x3 (ix3 0 ⟨r.val * 8 + e.val / 128, by omega⟩ ⟨e.val % 128, Nat.mod_lt _ (by decide)⟩))
    (fun q => x0 (ix2 r q)) (fun q => x1 (ix2 e q)) * x2 (ix2 e j)

/-- The block of the gates as a matrix: row `8 r + n` has the gates of row `r` in the `n`-th group of the tile. -/
theorem flatGate (x3 : Vec Ideal S1x4096x128 .f32) (h : S1x4096x128.ShapeCasts S4096x128) (r : Fin 4096) (c : Fin 128) :
    (shapeCast S4096x128 x3 h : S4096x128.Idx → EReal) (ix2 r c) = x3 (ix3 0 r c) := by
  pointwise

section loads

variable (arg2 : Memref sig .tc .vmem S512x2048 .bf16) (harg2 : arg2.IsWhole) (arg3 : Memref sig .tc .vmem S1024x2048 .bf16) (harg3 : arg3.IsWhole) (arg5 : Memref sig .tc .vmem S1x4096x128 .f32) (harg5 : arg5.IsWhole) (arg10 : Memref sig .tc .vmem S512x2048 .f32) (harg10 : arg10.IsWhole)
  (x0 : Vec Ideal S512x2048 .bf16) (x1 : Vec Ideal S1024x2048 .bf16) (x3 : Vec Ideal S1x4096x128 .f32) (xs : Vec Ideal S512x2048 .f32)

abbrev ldH : S512x2048.Idx → EReal :=
  View.readAt (Elt Ideal) arg2.view (Rect.unit (s := S512x2048) ![0, 0] S512x2048.size inb_S512x2048_S512x2048_0_0).toLoadRect (harg2.unread x0)

abbrev ldE : S1024x2048.Idx → EReal :=
  View.readAt (Elt Ideal) arg3.view (Rect.unit (s := S1024x2048) ![0, 0] S1024x2048.size inb_S1024x2048_S1024x2048_0_0).toLoadRect (harg3.unread x1)

abbrev ldS : S512x2048.Idx → EReal :=
  View.readAt (Elt Ideal) arg10.view (Rect.unit (s := S512x2048) ![0, 0] S512x2048.size inb_S512x2048_S512x2048_0_0).toLoadRect (harg10.unread xs)

/-- The gates of the block's rows in one of the eight groups of the tile, read by steps of eight rows. -/
abbrev ldG (o : Fin 2 → ℕ) (h : ∀ a, S512x128.size a = 0 ∨ o a + (![8, 1] : Fin 2 → ℕ) a * (S512x128.size a - 1) < S4096x128.size a) : S512x128.Idx → EReal :=
  View.readAt (Elt Ideal) ((arg5.slice (Rect.unit (s := S1x4096x128) ![0, 0, 0] S1x4096x128.size inb_S1x4096x128_S1x4096x128_0_0_0) (fun _ => rfl)).squeeze S4096x128 squeezes_S1x4096x128_S4096x128).view
    (⟨o, S512x128.size, ![8, 1], h⟩ : LoadRect S4096x128) (harg5.unread x3)

theorem ldH_eq : ldH arg2 harg2 x0 = x0 := (View.readAt_full _ _ _).trans (harg2.read_unread x0)
theorem ldE_eq : ldE arg3 harg3 x1 = x1 := (View.readAt_full _ _ _).trans (harg3.read_unread x1)
theorem ldS_eq : ldS arg10 harg10 xs = xs := (View.readAt_full _ _ _).trans (harg10.read_unread xs)

theorem ldX_eq (arg6 : Memref sig .tc .vmem S64x8x2048 .f32) (harg6 : arg6.IsWhole) (x4 : Vec Ideal S64x8x2048 .f32) :
    View.readAt (Elt Ideal) arg6.view (Rect.unit (s := S64x8x2048) ![0, 0, 0] ![64, 8, 2048] inb_S64x8x2048_S64x8x2048_0_0_0).toLoadRect (harg6.unread x4) = x4 :=
  (View.readAt_full _ _ _).trans (harg6.read_unread x4)

theorem ldA_eq (arg7 : Memref sig .tc .vmem S64x1x2048 .f32) (harg7 : arg7.IsWhole) (x5 : Vec Ideal S64x1x2048 .f32) :
    View.readAt (Elt Ideal) arg7.view (Rect.unit (s := S64x1x2048) ![0, 0, 0] ![64, 1, 2048] inb_S64x1x2048_S64x1x2048_0_0_0).toLoadRect (harg7.unread x5) = x5 :=
  (View.readAt_full _ _ _).trans (harg7.read_unread x5)

theorem ldW_eq (arg8 : Memref sig .tc .vmem S1x2048 .f32) (harg8 : arg8.IsWhole) (x6 : Vec Ideal S1x2048 .f32) :
    View.readAt (Elt Ideal) arg8.view (Rect.unit (s := S1x2048) ![0, 0] ![1, 2048] inb_S1x2048_S1x2048_0_0).toLoadRect (harg8.unread x6) = x6 :=
  (View.readAt_full _ _ _).trans (harg8.read_unread x6)

theorem ldG_at (n : Fin 8) (h) (r : Fin 512) (c : Fin 128) :
    ldG arg5 harg5 x3 ![n.val, 0] h (ix2 r c) = x3 (ix3 0 ⟨r.val * 8 + n.val, by omega⟩ c) := by
  refine Eq.trans ?_ (flatGate x3 (by decide) ⟨r.val * 8 + n.val, by omega⟩ c)
  refine (congrFun (Memref.read_squeeze_full arg5 inb_S1x4096x128_S1x4096x128_0_0_0 squeezes_S1x4096x128_S4096x128 (harg5.unread x3)) _).trans ?_
  dsimp only
  rw [harg5.read_unread]
  refine congrArg (fun y => x3 (Shape.reshapeEquiv _ y)) ?_
  funext a
  match a with
  | ⟨0, _⟩ => exact Fin.ext (by show n.val + 8 * r.val = r.val * 8 + n.val; omega)
  | ⟨1, _⟩ => exact Fin.ext (by show 0 + 1 * c.val = c.val; omega)

/-- The eight groups. -/
abbrev ldGs : Fin 8 → S512x128.Idx → EReal :=
  ![ldG arg5 harg5 x3 ![0, 0] inb_S4096x128_S512x128_0_0_s_8_1, ldG arg5 harg5 x3 ![1, 0] inb_S4096x128_S512x128_1_0_s_8_1,
    ldG arg5 harg5 x3 ![2, 0] inb_S4096x128_S512x128_2_0_s_8_1, ldG arg5 harg5 x3 ![3, 0] inb_S4096x128_S512x128_3_0_s_8_1,
    ldG arg5 harg5 x3 ![4, 0] inb_S4096x128_S512x128_4_0_s_8_1, ldG arg5 harg5 x3 ![5, 0] inb_S4096x128_S512x128_5_0_s_8_1,
    ldG arg5 harg5 x3 ![6, 0] inb_S4096x128_S512x128_6_0_s_8_1, ldG arg5 harg5 x3 ![7, 0] inb_S4096x128_S512x128_7_0_s_8_1]

theorem ldGs_at (n : Fin 8) (r : Fin 512) (c : Fin 128) : ldGs arg5 harg5 x3 n (ix2 r c) = x3 (ix3 0 ⟨r.val * 8 + n.val, by omega⟩ c) := by
  match n with
  | ⟨0, _⟩ => exact ldG_at arg5 harg5 x3 0 _ r c
  | ⟨1, _⟩ => exact ldG_at arg5 harg5 x3 1 _ r c
  | ⟨2, _⟩ => exact ldG_at arg5 harg5 x3 2 _ r c
  | ⟨3, _⟩ => exact ldG_at arg5 harg5 x3 3 _ r c
  | ⟨4, _⟩ => exact ldG_at arg5 harg5 x3 4 _ r c
  | ⟨5, _⟩ => exact ldG_at arg5 harg5 x3 5 _ r c
  | ⟨6, _⟩ => exact ldG_at arg5 harg5 x3 6 _ r c
  | ⟨7, _⟩ => exact ldG_at arg5 harg5 x3 7 _ r c

/-- The step on the loaded blocks. -/
theorem stepped (arg4 : Memref sig .tc .vmem S1024x2048 .bf16) (harg4 : arg4.IsWhole) (x2 : Vec Ideal S1024x2048 .bf16) (s : S512x2048.Idx → EReal) (r : Fin 512) (j : Fin 2048) :
    s (ix2 r j) + ∑ e : Fin 1024, weight (ldGs arg5 harg5 x3 ⟨e.val / 128, by omega⟩ (ix2 r ⟨e.val % 128, Nat.mod_lt _ (by decide)⟩))
          (fun q => ldH arg2 harg2 x0 (ix2 r q)) (fun q => ldE arg3 harg3 x1 (ix2 e q)) * ldE arg4 harg4 x2 (ix2 e j)
      = s (ix2 r j) + tile x0 x1 x2 x3 r j := by
  rw [ldH_eq, ldE_eq, ldE_eq]
  exact congrArg (s (ix2 r j) + ·) (Finset.sum_congr rfl fun e _ => by rw [ldGs_at])

end loads

theorem soutB (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S64x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : ¬cond0_0 i) (hc1 : ¬cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S64x1x2048 .f32) (x6 : Vec Ideal S1x2048 .f32) (xs0 : Vec Ideal S512x2048 .f32) (r : Fin 512) (j : Fin 2048) :
    (sout0_B_0 (F := Ideal) c i arg2 harg2 arg3 harg3 arg4 harg4 arg5 harg5 arg6 harg6 arg7 harg7 arg8 harg8 arg9 harg9 arg10 harg10 hc0 hc1 x0 x1 x2 x3 x4 x5 x6 xs0 : S512x2048.Idx → EReal) (ix2 r j)
      = xs0 (ix2 r j) + tile x0 x1 x2 x3 r j := by
  unfold sout0_B_0
  rw [View.read_writes_junk_eq_canon]
  unfold kernelRun0_B
  dsimp only

  simp (disch := decide) only [View.canon_cons_unit_lit', View.ld_unit_lit']
  refine (step (ldH arg2 harg2 x0) (ldE arg3 harg3 x1) (ldE arg4 harg4 x2) (ldGs arg5 harg5 x3) (ldS arg10 harg10 xs0) r j).trans ?_
  refine (stepped arg2 harg2 arg3 harg3 arg5 harg5 x0 x1 x3 arg4 harg4 x2 _ r j).trans ?_
  rw [ldS_eq]

theorem soutC (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S64x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : ¬cond0_0 i) (hc1 : cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S64x1x2048 .f32) (x6 : Vec Ideal S1x2048 .f32) (xs0 : Vec Ideal S512x2048 .f32) (r : Fin 512) (j : Fin 2048) :
    (sout0_C_0 (F := Ideal) c i arg2 harg2 arg3 harg3 arg4 harg4 arg5 harg5 arg6 harg6 arg7 harg7 arg8 harg8 arg9 harg9 arg10 harg10 hc0 hc1 x0 x1 x2 x3 x4 x5 x6 xs0 : S512x2048.Idx → EReal) (ix2 r j)
      = xs0 (ix2 r j) + tile x0 x1 x2 x3 r j := by
  unfold sout0_C_0
  rw [View.read_writes_junk_eq_canon]
  unfold kernelRun0_C
  dsimp only
  unfold kernelRun0_C.sl.HS0_1
  simp (disch := decide) only [View.canon_cons_unit_lit', View.ld_unit_lit']
  refine (step (ldH arg2 harg2 x0) (ldE arg3 harg3 x1) (ldE arg4 harg4 x2) (ldGs arg5 harg5 x3) (ldS arg10 harg10 xs0) r j).trans ?_
  refine (stepped arg2 harg2 arg3 harg3 arg5 harg5 x0 x1 x3 arg4 harg4 x2 _ r j).trans ?_
  rw [ldS_eq]

theorem soutA (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S64x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : cond0_0 i) (hc1 : ¬cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S64x1x2048 .f32) (x6 : Vec Ideal S1x2048 .f32) (r : Fin 512) (j : Fin 2048) :
    (sout0_A_0 (F := Ideal) c i arg2 harg2 arg3 harg3 arg4 harg4 arg5 harg5 arg6 harg6 arg7 harg7 arg8 harg8 arg9 harg9 arg10 harg10 hc0 hc1 x0 x1 x2 x3 x4 x5 x6 : S512x2048.Idx → EReal) (ix2 r j)
      = 0 + tile x0 x1 x2 x3 r j := by
  unfold sout0_A_0
  rw [View.read_writes_junk_eq_canon]
  unfold kernelRun0_A
  dsimp only

  simp (disch := decide) only [View.canon_cons_unit_lit', View.ld_unit_lit']
  unfold kernelRun0_A.sl.v160 kernelRun0_A.sl.HS0_1
  simp (disch := decide) only [View.readCov_unit_lit']
  refine (step (ldH arg2 harg2 x0) (ldE arg3 harg3 x1) (ldE arg4 harg4 x2) (ldGs arg5 harg5 x3) (k0_pay3 (F := Ideal)) r j).trans ?_
  refine (stepped arg2 harg2 arg3 harg3 arg5 harg5 x0 x1 x3 arg4 harg4 x2 _ r j).trans ?_
  rw [zeros]

theorem outC (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S1x4096x128 .f32) (harg5 : arg5.IsWhole)
    (arg6 : Memref sig .tc .vmem S64x8x2048 .f32) (harg6 : arg6.IsWhole) (arg7 : Memref sig .tc .vmem S64x1x2048 .f32) (harg7 : arg7.IsWhole) (arg8 : Memref sig .tc .vmem S1x2048 .f32) (harg8 : arg8.IsWhole) (arg9 : Memref sig .tc .vmem S64x8x2048 .f32) (harg9 : arg9.IsWhole) (arg10 : Memref sig .tc .vmem S512x2048 .f32) (harg10 : arg10.IsWhole) (hc0 : ¬cond0_0 i) (hc1 : cond0_1 i)
    (x0 : Vec Ideal S512x2048 .bf16) (x1 : Vec Ideal S1024x2048 .bf16) (x2 : Vec Ideal S1024x2048 .bf16) (x3 : Vec Ideal S1x4096x128 .f32) (x4 : Vec Ideal S64x8x2048 .f32) (x5 : Vec Ideal S64x1x2048 .f32) (x6 : Vec Ideal S1x2048 .f32) (xs0 : Vec Ideal S512x2048 .f32) (a : Fin 64) (b : Fin 8) (j : Fin 2048) :
    (out0_C_7 (F := Ideal) c i arg2 harg2 arg3 harg3 arg4 harg4 arg5 harg5 arg6 harg6 arg7 harg7 arg8 harg8 arg9 harg9 arg10 harg10 hc0 hc1 x0 x1 x2 x3 x4 x5 x6 xs0 : S64x8x2048.Idx → EReal) (ix3 a b j)
      = normed (fun k => x4 (ix3 a b k) + x5 (ix3 a 0 k) * (xs0 (ix2 ⟨a.val * 8 + b.val, by omega⟩ k) + tile x0 x1 x2 x3 ⟨a.val * 8 + b.val, by omega⟩ k)) (fun k => x6 (ix2 0 k)) j := by
  unfold out0_C_7
  rw [View.read_writes_junk_eq_canon]
  unfold kernelRun0_C
  dsimp only
  simp (disch := decide) only [View.canon_cons_unit_lit', View.ld_unit_lit']
  unfold kernelRun0_C.sl.v175 kernelRun0_C.sl.HS0_1
  simp (disch := decide) only [View.readCov_unit_lit']
  refine (ended _ _ _ _ a b j).trans ?_
  rw [ldX_eq, ldA_eq, ldW_eq]
  refine congrArg (fun y => normed y _ j) (funext fun k => congrArg (fun z => x4 (ix3 a b k) + x5 (ix3 a 0 k) * z) ?_)
  refine (step (ldH arg2 harg2 x0) (ldE arg3 harg3 x1) (ldE arg4 harg4 x2) (ldGs arg5 harg5 x3) (ldS arg10 harg10 xs0) _ k).trans ?_
  refine (stepped arg2 harg2 arg3 harg3 arg5 harg5 x0 x1 x3 arg4 harg4 x2 _ _ k).trans ?_
  rw [ldS_eq]

end Cert.Kernel5Ideal.Exp
-- ==== Proof.Arr5.lean ====
/- The array the expert call leaves, at an index, from the arrays it is called with. -/
module

public import proofs.«01_k».proof.Proof.Body5
public import proofs.«01_k».proof.Proof.Gen.Kernel5Ideal.Value
public import Idealize.ShloMosaic.Lib.Claim

@[expose] public section

set_option maxRecDepth 16384

noncomputable section

namespace Cert.Kernel5Ideal.Exp

open Idealize.ShloMosaic Idealize.ShloMosaic.TcCoe Idealize.SL.Sem
open Cert.Kernel5Ideal Cert.Kernel5Ideal.Gen Cert.Peer

/-- Which block of each array a grid point reads or writes. -/
theorem idx : ∀ t : Fin cfg0.N,
    win0_0.index t = ![t.val / 16, 0]
    ∧ win0_1.index t = ![t.val % 16, 0]
    ∧ win0_2.index t = ![t.val % 16, 0]
    ∧ win0_3.index t = ![t.val % 16, t.val / 16, 0]
    ∧ win0_4.index t = ![t.val / 16, 0, 0]
    ∧ win0_5.index t = ![t.val / 16, 0, 0]
    ∧ win0_6.index t = ![0, 0]
    ∧ win0_7.index t = ![t.val / 16, 0, 0] :=
  (by decide +kernel : ∀ t : Fin grid0.N, _)

theorem lt_points (t : Fin cfg0.N) : t.val < 32 := lt_of_lt_of_eq t.isLt N_0

theorem emb0 (t : Fin cfg0.N) (r : Fin 512) (q : Fin 2048) : ((win0_0.blk t).view.emb (ix2 r q) : S1024x2048.Idx)
    = ix2 ⟨t.val / 16 * 512 + r.val, by have := lt_points t; omega⟩ q := by
  blk_ext [idx t] <;> rfl

theorem emb1 (t : Fin cfg0.N) (e : Fin 1024) (q : Fin 2048) : ((win0_1.blk t).view.emb (ix2 e q) : S16384x2048.Idx)
    = ix2 ⟨t.val % 16 * 1024 + e.val, by omega⟩ q := by
  blk_ext [idx t] <;> rfl

theorem emb2 (t : Fin cfg0.N) (e : Fin 1024) (q : Fin 2048) : ((win0_2.blk t).view.emb (ix2 e q) : S16384x2048.Idx)
    = ix2 ⟨t.val % 16 * 1024 + e.val, by omega⟩ q := by
  blk_ext [idx t] <;> rfl

theorem emb3 (t : Fin cfg0.N) (r : Fin 4096) (q : Fin 128) : ((win0_3.blk t).view.emb (ix3 0 r q) : S16x8192x128.Idx)
    = ix3 ⟨t.val % 16, by omega⟩ ⟨t.val / 16 * 4096 + r.val, by have := lt_points t; omega⟩ q := by
  blk_ext [idx t] <;> rfl

theorem emb4 (t : Fin cfg0.N) (a : Fin 64) (b : Fin 8) (q : Fin 2048) : ((win0_4.blk t).view.emb (ix3 a b q) : S128x8x2048.Idx)
    = ix3 ⟨t.val / 16 * 64 + a.val, by have := lt_points t; omega⟩ b q := by
  blk_ext [idx t] <;> rfl

theorem emb5 (t : Fin cfg0.N) (a : Fin 64) (q : Fin 2048) : ((win0_5.blk t).view.emb (ix3 a 0 q) : S128x1x2048.Idx)
    = ix3 ⟨t.val / 16 * 64 + a.val, by have := lt_points t; omega⟩ 0 q := by
  blk_ext [idx t] <;> rfl

theorem emb6 (t : Fin cfg0.N) (q : Fin 2048) : ((win0_6.blk t).view.emb (ix2 0 q) : S1x2048.Idx) = ix2 0 q := by
  blk_ext [idx t] <;> rfl

theorem emb7 (t : Fin cfg0.N) (a : Fin 64) (b : Fin 8) (q : Fin 2048) : ((win0_7.blk t).view.emb (ix3 a b q) : S128x8x2048.Idx)
    = ix3 ⟨t.val / 16 * 64 + a.val, by have := lt_points t; omega⟩ b q := by
  blk_ext [idx t] <;> rfl

variable (m : (ℓ : Loc nD τ sig) → Buf (Elt Ideal) ℓ)

abbrev aH (c : Dev nD) : S1024x2048.Idx → EReal := m ((c : Thread nD τ).loc main_arg0)
abbrev aM (c : Dev nD) : S16x8192x128.Idx → EReal := m ((c : Thread nD τ).loc main_arg1)
abbrev aX (c : Dev nD) : S128x8x2048.Idx → EReal := m ((c : Thread nD τ).loc main_arg2)
abbrev aG (c : Dev nD) : S128x2048.Idx → EReal := m ((c : Thread nD τ).loc main_arg3)
abbrev aU (c : Dev nD) : S1x16384x2048.Idx → EReal := m ((c : Thread nD τ).loc main_arg4)
abbrev aW (c : Dev nD) : S1x16384x2048.Idx → EReal := m ((c : Thread nD τ).loc main_arg5)
abbrev aN (c : Dev nD) : S2048.Idx → EReal := m ((c : Thread nD τ).loc main_arg6)

theorem h_at (c : Dev nD) (r : Fin 1024) (q : Fin 2048) : (V m c main_v0 : S1024x2048.Idx → EReal) (ix2 r q) = aH m c (ix2 r q) := by
  entry_read
  pointwise

theorem u_at (c : Dev nD) (e : Fin 16384) (q : Fin 2048) : (V m c main_v2 : S16384x2048.Idx → EReal) (ix2 e q) = aU m c (ix3 0 e q) := by
  entry_read
  pointwise

theorem w_at (c : Dev nD) (e : Fin 16384) (q : Fin 2048) : (V m c main_v4 : S16384x2048.Idx → EReal) (ix2 e q) = aW m c (ix3 0 e q) := by
  entry_read
  pointwise

theorem g_at (c : Dev nD) (p : Fin 128) (q : Fin 2048) : (V m c main_v5 : S128x1x2048.Idx → EReal) (ix3 p 0 q) = aG m c (ix2 p q) := by
  entry_read
  pointwise

theorem n_at (c : Dev nD) (q : Fin 2048) : (V m c main_v6 : S1x2048.Idx → EReal) (ix2 0 q) = aN m c (ix1 q) := by
  entry_read
  pointwise

theorem blk0 (c : Dev nD) (t : Fin cfg0.N) (r : Fin 512) (q : Fin 2048) : (iblk m c 0 t : S512x2048.Idx → EReal) (ix2 r q)
    = aH m c (ix2 ⟨t.val / 16 * 512 + r.val, by have := lt_points t; omega⟩ q) :=
  (congrArg (V m c main_v0 : S1024x2048.Idx → EReal) (emb0 t r q)).trans (h_at m c _ _)

theorem blk1 (c : Dev nD) (t : Fin cfg0.N) (e : Fin 1024) (q : Fin 2048) : (iblk m c 1 t : S1024x2048.Idx → EReal) (ix2 e q)
    = aU m c (ix3 0 ⟨t.val % 16 * 1024 + e.val, by omega⟩ q) :=
  (congrArg (V m c main_v2 : S16384x2048.Idx → EReal) (emb1 t e q)).trans (u_at m c _ _)

theorem blk2 (c : Dev nD) (t : Fin cfg0.N) (e : Fin 1024) (q : Fin 2048) : (iblk m c 2 t : S1024x2048.Idx → EReal) (ix2 e q)
    = aW m c (ix3 0 ⟨t.val % 16 * 1024 + e.val, by omega⟩ q) :=
  (congrArg (V m c main_v4 : S16384x2048.Idx → EReal) (emb2 t e q)).trans (w_at m c _ _)

theorem blk3 (c : Dev nD) (t : Fin cfg0.N) (r : Fin 4096) (q : Fin 128) : (iblk m c 3 t : S1x4096x128.Idx → EReal) (ix3 0 r q)
    = aM m c (ix3 ⟨t.val % 16, by omega⟩ ⟨t.val / 16 * 4096 + r.val, by have := lt_points t; omega⟩ q) :=
  (congrArg (V m c main_arg1 : S16x8192x128.Idx → EReal) (emb3 t r q)).trans (congrFun (V_main_arg1 m c) _)

theorem blk4 (c : Dev nD) (t : Fin cfg0.N) (a : Fin 64) (b : Fin 8) (q : Fin 2048) : (iblk m c 4 t : S64x8x2048.Idx → EReal) (ix3 a b q)
    = aX m c (ix3 ⟨t.val / 16 * 64 + a.val, by have := lt_points t; omega⟩ b q) :=
  (congrArg (V m c main_arg2 : S128x8x2048.Idx → EReal) (emb4 t a b q)).trans (congrFun (V_main_arg2 m c) _)

theorem blk5 (c : Dev nD) (t : Fin cfg0.N) (a : Fin 64) (q : Fin 2048) : (iblk m c 5 t : S64x1x2048.Idx → EReal) (ix3 a 0 q)
    = aG m c (ix2 ⟨t.val / 16 * 64 + a.val, by have := lt_points t; omega⟩ q) :=
  (congrArg (V m c main_v5 : S128x1x2048.Idx → EReal) (emb5 t a q)).trans (g_at m c _ _)

theorem blk6 (c : Dev nD) (t : Fin cfg0.N) (q : Fin 2048) : (iblk m c 6 t : S1x2048.Idx → EReal) (ix2 0 q) = aN m c (ix1 q) :=
  (congrArg (V m c main_v6 : S1x2048.Idx → EReal) (emb6 t q)).trans (n_at m c _)

/-- What point `n` of the grid adds to the running sums (nothing past the grid). -/
def adds (c : Dev nD) (n : ℕ) (y : S512x2048.Idx) : EReal :=
  if h : n < cfg0.N then tile (iblk m c 0 ⟨n, h⟩) (iblk m c 1 ⟨n, h⟩) (iblk m c 2 ⟨n, h⟩) (iblk m c 3 ⟨n, h⟩) (y 0) (y 1) else 0

/-- The weighted sum of the experts' rows over one tile `j`. -/
def part (c : Dev nD) (R : Fin 1024) (k : Fin 2048) (j : Fin 16) : EReal :=
  ∑ r : Fin 1024, weight (aM m c (ix3 j ⟨R.val * 8 + r.val / 128, by omega⟩ ⟨r.val % 128, Nat.mod_lt _ (by decide)⟩))
    (fun q => aH m c (ix2 R q)) (fun q => aU m c (ix3 0 ⟨j.val * 1024 + r.val, by omega⟩ q)) * aW m c (ix3 0 ⟨j.val * 1024 + r.val, by omega⟩ k)

theorem experts_parts (c : Dev nD) (R : Fin 1024) (k : Fin 2048) :
    experts (aH m c) (aM m c) (aU m c) (aW m c) (by decide) R k = ∑ j : Fin 16, part m c R k j := by
  refine (sum_tiles _).trans (Finset.sum_congr rfl fun j _ => Finset.sum_congr rfl fun r _ => ?_)
  refine congrArg (fun z => weight z _ _ * _) (congrArg (aM m c) ?_)
  funext a
  match a with
  | ⟨0, _⟩ => exact Fin.ext (by show (j.val * 1024 + r.val) / 1024 = j.val; omega)
  | ⟨1, _⟩ => exact Fin.ext (by show R.val * 8 + (j.val * 1024 + r.val) % 1024 / 128 = R.val * 8 + r.val / 128; omega)
  | ⟨2, _⟩ => exact Fin.ext (by show (j.val * 1024 + r.val) % 128 = r.val % 128; omega)

theorem adds_eq (c : Dev nD) (n : ℕ) (h : n < 32) (r : Fin 512) (k : Fin 2048) :
    adds m c n (ix2 r k) = part m c ⟨n / 16 * 512 + r.val, by omega⟩ k ⟨n % 16, by omega⟩ := by
  have hn : n < cfg0.N := lt_of_lt_of_eq h N_0.symm
  unfold adds
  rw [dif_pos hn]
  refine Finset.sum_congr rfl fun e _ => ?_
  refine congrArg₂ (· * ·) ?_ (blk2 m c ⟨n, hn⟩ e k)
  refine (congrArg (fun z => weight z _ _) ((blk3 m c ⟨n, hn⟩ _ _).trans (congrArg (aM m c) ?_))).trans
    (congrArg₂ (fun z w => weight _ z w) (funext fun q => blk0 m c ⟨n, hn⟩ r q) (funext fun q => blk1 m c ⟨n, hn⟩ e q))
  funext a
  match a with
  | ⟨0, _⟩ => rfl
  | ⟨1, _⟩ => exact Fin.ext (by show n / 16 * 4096 + (r.val * 8 + e.val / 128) = (n / 16 * 512 + r.val) * 8 + e.val / 128; omega)
  | ⟨2, _⟩ => rfl

/-- The running sums after point `t`: what the points of its row of tiles up to it have added. -/
theorem sums_at (c : Dev nD) (t : Fin cfg0.N) (y : S512x2048.Idx) :
    ((outsAt0 m c t.val t.isLt).2 : S512x2048.Idx → EReal) y = ∑ s ∈ Finset.range (t.val % 16 + 1), adds m c (16 * (t.val / 16) + s) y := by
  have ht := lt_points t
  rw [Value.soutsAt0_0_eq]
  refine (Pipeline.accAt_add_apply (ι := S512x2048.Idx) (β := EReal) _ _ (fun _ => 0) (adds m c) (16 * (t.val / 16)) (t.val % 16) ?_ ?_ (t.val % 16) le_rfl _ y).trans (zero_add _)
  · intro h i
    idx_vars i
    unfold Value.scAt0_0 adds
    rw [dif_pos (by omega : 16 * (t.val / 16) % 16 = 0), dif_neg (by omega), dif_pos h]
    exact soutA c _ _ _ _ _ _ _ _ _ _ _ _ _ _ _ _ _ _ _ _ _ _ _ _ _ _ _ _ i0 i1
  · intro n h acc i h1 h2
    idx_vars i
    unfold Value.scAt0_0 adds
    rw [dif_neg (by omega : ¬n % 16 = 0), dif_pos h]
    by_cases h3 : n % 16 = 15
    · rw [dif_pos h3]
      exact soutC c _ _ _ _ _ _ _ _ _ _ _ _ _ _ _ _ _ _ _ _ _ _ _ _ _ _ _ _ _ i0 i1
    · rw [dif_neg h3]
      exact soutB c _ _ _ _ _ _ _ _ _ _ _ _ _ _ _ _ _ _ _ _ _ _ _ _ _ _ _ _ _ i0 i1

/-- The result at token `8 a + b` and channel `k`. -/
def res (c : Dev nD) (a : Fin 128) (b : Fin 8) (k : Fin 2048) : EReal :=
  normed (fun q => aX m c (ix3 a b q)
    + aG m c (ix2 a q) * experts (aH m c) (aM m c) (aU m c) (aW m c) (by decide) ⟨a.val * 8 + b.val, by omega⟩ q)
    (fun q => aN m c (ix1 q)) k

def result (c : Dev nD) : S128x8x2048.Idx → EReal := fun y => res m c (y 0) (y 1) (y 2)

theorem normed_congr {y g y' g' : Fin 2048 → EReal} (h : ∀ q, y q = y' q) (h' : ∀ q, g q = g' q) (k : Fin 2048) : normed y g k = normed y' g' k := by
  rw [funext h, funext h']

theorem final (c : Dev nD) : (dats m 0 c).arrAt 7 cfg0.N = result m c := by
  refine (dats m 0 c).arrAt_eq_of_covers 7 _ (by decide +kernel) fun t hf y => ?_
  have h15 : t.val % 16 = 15 := (flush0_7 t).mp hf
  have ht := lt_points t
  blk_simp
  rw [after0_7, outsAt0_C m c t (by omega) h15]
  idx_vars y
  refine (outC c _ _ _ _ _ _ _ _ _ _ _ _ _ _ _ _ _ _ _ _ _ _ _ _ _ _ _ _ _ y0 y1 y2).trans ?_
  refine Eq.trans ?_ (congrArg (result m c) (emb7 t y0 y1 y2)).symm
  show _ = res m c ⟨t.val / 16 * 64 + y0.val, _⟩ y1 y2
  unfold res
  refine normed_congr (fun q => ?_) (fun q => blk6 m c t q) y2
  refine congrArg₂ (· + ·) (blk4 m c t y0 y1 q) (congrArg₂ (· * ·) (blk5 m c t y0 q) ?_)
  · rw [experts_parts]
    have e : ∀ s : ℕ, s < 16 → adds m c (16 * (t.val / 16) + s) (ix2 ⟨y0.val * 8 + y1.val, by omega⟩ q)
        = if h : s < 16 then part m c ⟨(t.val / 16 * 64 + y0.val) * 8 + y1.val, by omega⟩ q ⟨s, h⟩ else 0 := by
      intro s hs
      rw [dif_pos hs, adds_eq m c _ (by omega)]
      have e1 : (⟨(16 * (t.val / 16) + s) / 16 * 512 + (y0.val * 8 + y1.val), by omega⟩ : Fin 1024) = ⟨(t.val / 16 * 64 + y0.val) * 8 + y1.val, by omega⟩ :=
        Fin.ext (by show (16 * (t.val / 16) + s) / 16 * 512 + (y0.val * 8 + y1.val) = (t.val / 16 * 64 + y0.val) * 8 + y1.val; omega)
      have e2 : (⟨(16 * (t.val / 16) + s) % 16, by omega⟩ : Fin 16) = ⟨s, hs⟩ := Fin.ext (by show (16 * (t.val / 16) + s) % 16 = s; omega)
      exact congrArg₂ (fun z w => part m c z q w) e1 e2
    have hl := sums_at m c ⟨t.val - 1, lt_of_lt_of_eq (by omega : t.val - 1 < 32) N_0.symm⟩ (ix2 ⟨y0.val * 8 + y1.val, by omega⟩ q)
    have r1 : (t.val - 1) % 16 + 1 = 15 := by omega
    have r2 : (t.val - 1) / 16 = t.val / 16 := by omega
    dsimp only at hl
    rw [r1, r2] at hl
    have hlast : tile (iblk m c 0 t) (iblk m c 1 t) (iblk m c 2 t) (iblk m c 3 t) ⟨y0.val * 8 + y1.val, by omega⟩ q
        = adds m c (16 * (t.val / 16) + 15) (ix2 ⟨y0.val * 8 + y1.val, by omega⟩ q) := by
      have e3 : 16 * (t.val / 16) + 15 = t.val := by omega
      rw [e3]
      unfold adds
      rw [dif_pos t.isLt]
      rfl
    refine (congrArg₂ (· + ·) hl hlast).trans ?_
    rw [← Finset.sum_range_succ (fun s => adds m c (16 * (t.val / 16) + s) (ix2 ⟨y0.val * 8 + y1.val, by omega⟩ q)) 15,
      Finset.sum_congr rfl (fun s hs => e s (Finset.mem_range.mp hs)), Fin.sum_univ_eq_sum_range (fun s => if h : s < 16 then part m c ⟨(t.val / 16 * 64 + y0.val) * 8 + y1.val, by omega⟩ q ⟨s, h⟩ else 0) 16 |>.symm]
    exact Finset.sum_congr rfl fun j _ => dif_pos j.isLt

end Cert.Kernel5Ideal.Exp
-- ==== Proof.Ref5.lean ====
/- The reference of the expert layer at an index: its own terms, cut at the products, the gates, the activation and the
   residual. -/
module

public import proofs.«01_k».proof.Proof.Peer
public import proofs.«01_k».proof.Proof.Gen.Reference5Ideal.Run
public import Idealize.ShloMosaic.Lib.Pointwise
public import Idealize.ShloMosaic.Lib.IdealHost

@[expose] public section

set_option maxRecDepth 16384

noncomputable section

namespace Cert.Reference5Ideal.Exp

open Idealize.ShloMosaic Idealize.ShloMosaic.TcCoe Idealize.SL.Sem
open Cert.Reference5Ideal Cert.Reference5Ideal.Gen Cert.Peer

/-- The products of the tokens with the experts' input rows. -/
def dots (H : FVec Ideal S1024x2048 .f32) (U : FVec Ideal S1x16384x2048 .f32) : FVec Ideal S1024x16384 .f32 :=
  (Host.dotGeneral dot_S1024x2048_S16384x2048_S1024x16384_1_1_0_0_n_n none H (shapeCast _ U shapeCasts_S1x16384x2048_S16384x2048))

/-- The activation. -/
def act (A : FVec Ideal S1024x16384 .f32) : FVec Ideal S1024x16384 .f32 :=
  (mulf A (mulf (broadcastInDim S1024x16384 ![] bcast_S_S1024x16384 (constant S_ .f32 0x3F000000#32)) (addf (broadcastInDim S1024x16384 ![] bcast_S_S1024x16384 (constant S_ .f32 0x3F800000#32)) (Host.tanh (mulf (broadcastInDim S1024x16384 ![] bcast_S_S1024x16384 (constant S_ .f32 0x3F4C422A#32)) (addf A (mulf (broadcastInDim S1024x16384 ![] bcast_S_S1024x16384 (constant S_ .f32 0x3D372713#32)) (mulf (mulf A A) A))))))))

/-- The gates as a matrix of tokens by experts. -/
def gates (M : FVec Ideal S16x8192x128 .f32) : FVec Ideal S1024x16384 .f32 :=
  (shapeCast _ (transpose S1024x16x8x128 [1, 0, 2, 3] (shapeCast _ M shapeCasts_S16x8192x128_S16x1024x8x128) transposes_S16x1024x8x128_S1024x16x8x128_1_0_2_3) shapeCasts_S1024x16x8x128_S1024x16384)

/-- The gated products with the experts' output rows. -/
def outs (Q L : FVec Ideal S1024x16384 .f32) (W : FVec Ideal S1x16384x2048 .f32) : FVec Ideal S1024x2048 .f32 :=
  (Host.dotGeneral dot_S1024x16384_S16384x2048_S1024x2048_1_0_0_1_n_n none (mulf Q L) (shapeCast _ W shapeCasts_S1x16384x2048_S16384x2048))

/-- The residual plus the gated sums. -/
def resid (X : FVec Ideal S128x8x2048 .f32) (G : FVec Ideal S128x2048 .f32) (O : FVec Ideal S1024x2048 .f32) : FVec Ideal S128x8x2048 .f32 :=
  (addf X (mulf (broadcastInDim S128x8x2048 ![0, 1, 2] bcast_S128x1x2048_S128x8x2048_0_1_2 (broadcastInDim S128x1x2048 ![0, 2] bcast_S128x2048_S128x1x2048_0_2 G)) (shapeCast _ O shapeCasts_S1024x2048_S128x8x2048)))

/-- The root mean square norm. -/
def ends (Y : FVec Ideal S128x8x2048 .f32) (N : FVec Ideal S2048 .f32) : FVec Ideal S128x8x2048 .f32 :=
  mulf (mulf Y (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf Y Y) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 N))

def whole (H : FVec Ideal S1024x2048 .f32) (M : FVec Ideal S16x8192x128 .f32) (X : FVec Ideal S128x8x2048 .f32) (G : FVec Ideal S128x2048 .f32)
    (U W : FVec Ideal S1x16384x2048 .f32) (N : FVec Ideal S2048 .f32) : FVec Ideal S128x8x2048 .f32 :=
  ends (resid X G (outs (gates M) (act (dots H U)) W)) N

theorem dots_at (H : FVec Ideal S1024x2048 .f32) (U : FVec Ideal S1x16384x2048 .f32) (r : Fin 1024) (e : Fin 16384) :
    dots H U (ix2 r e) = ∑ q, H (ix2 r q) * U (ix3 0 e q) := by
  pointwise [dots]

theorem act_at (A : FVec Ideal S1024x16384 .f32) (r : Fin 1024) (e : Fin 16384) : act A (ix2 r e) = gelu (A (ix2 r e)) := by
  pointwise [act, gelu]
  rw [mul_comm (A (ix2 r e) * A (ix2 r e)) (A (ix2 r e))]

theorem gates_at (M : FVec Ideal S16x8192x128 .f32) (r : Fin 1024) (e : Fin 16384) :
    gates M (ix2 r e) = M (ix3 ⟨e.val / 1024, by omega⟩ ⟨r.val * 8 + e.val % 1024 / 128, by omega⟩ ⟨e.val % 128, Nat.mod_lt _ (by decide)⟩) := by
  pointwise [gates]
  exact congrArg (fun z => M (ix3 _ z _)) (Fin.ext (by show r.val * 8 + e.val / 128 % 8 = r.val * 8 + e.val % 1024 / 128; omega))

theorem outs_at (Q L : FVec Ideal S1024x16384 .f32) (W : FVec Ideal S1x16384x2048 .f32) (r : Fin 1024) (k : Fin 2048) :
    outs Q L W (ix2 r k) = ∑ e, Q (ix2 r e) * L (ix2 r e) * W (ix3 0 e k) := by
  pointwise [outs]

theorem outs_eq (H : FVec Ideal S1024x2048 .f32) (M : FVec Ideal S16x8192x128 .f32) (U W : FVec Ideal S1x16384x2048 .f32) (r : Fin 1024) (k : Fin 2048) :
    outs (gates M) (act (dots H U)) W (ix2 r k) = experts H M U W (by decide) r k := by
  refine (outs_at _ _ W r k).trans (Finset.sum_congr rfl fun e _ => congrArg (· * _) ?_)
  exact congrArg₂ (· * ·) (gates_at M r e) ((act_at _ r e).trans (congrArg gelu (dots_at H U r e)))

theorem resid_at (X : FVec Ideal S128x8x2048 .f32) (G : FVec Ideal S128x2048 .f32) (O : FVec Ideal S1024x2048 .f32) (p : Fin 128) (l : Fin 8) (k : Fin 2048) :
    resid X G O (ix3 p l k) = X (ix3 p l k) + G (ix2 p k) * O (ix2 ⟨p.val * 8 + l.val, by omega⟩ k) := by
  pointwise [resid]

theorem ends_at (Y : FVec Ideal S128x8x2048 .f32) (N : FVec Ideal S2048 .f32) (a : Fin 128) (b : Fin 8) (k : Fin 2048) :
    ends Y N (ix3 a b k) = normed (fun q => Y (ix3 a b q)) (fun q => N (ix1 q)) k := by
  pointwise [ends, normed]

/-- The result at an index. -/
theorem whole_at (H : FVec Ideal S1024x2048 .f32) (M : FVec Ideal S16x8192x128 .f32) (X : FVec Ideal S128x8x2048 .f32) (G : FVec Ideal S128x2048 .f32)
    (U W : FVec Ideal S1x16384x2048 .f32) (N : FVec Ideal S2048 .f32) (a : Fin 128) (b : Fin 8) (k : Fin 2048) :
    whole H M X G U W N (ix3 a b k) = normed (fun q => X (ix3 a b q)
      + G (ix2 a q) * experts H M U W (by decide) ⟨a.val * 8 + b.val, by omega⟩ q) (fun q => N (ix1 q)) k := by
  refine (ends_at _ N a b k).trans (congrArg (fun y => normed y _ k) (funext fun q => ?_))
  refine (resid_at X G _ _ _ q).trans ?_
  rw [outs_eq]

theorem result_eq (m : (ℓ : Loc nD τ sig) → Buf (Elt Ideal) ℓ) (c : Dev nD) :
    (Value.res_out0 m c : FVec Ideal S128x8x2048 .f32) = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  dsimp only [Value.res_out0]
  unfold Value.res_main_v38 whole ends resid outs act gates dots
  rfl

end Cert.Reference5Ideal.Exp
-- ==== Proof.Exp5.lean ====
/- The claims about the expert layer on the samples: the frames, and the result equal. -/
module

public import proofs.«01_k».proof.Defs
public import proofs.«01_k».proof.Proof.Gen.Kernel5.Frame
public import proofs.«01_k».proof.Proof.Arr5
public import proofs.«01_k».proof.Proof.Ref5
public import Idealize.ShloMosaic.Lib.Quiescent

@[expose] public section

set_option maxRecDepth 16384

noncomputable section

namespace Cert.Expert5

open Idealize.ShloMosaic Idealize.ShloMosaic.TcCoe Idealize.SL.Sem
open Cert.Kernel5Ideal Cert.Kernel5Ideal.Gen Cert.Kernel5Ideal.Exp

theorem ext3 (f g : S128x8x2048.Idx → EReal) (e : ∀ (a : Fin 128) (b : Fin 8) (k : Fin 2048), f (ix3 a b k) = g (ix3 a b k)) : f = g := by
  funext y
  idx_vars y
  exact e y0 y1 y2

variable (m : (ℓ : Loc nD τ sig) → Buf (Elt Ideal) ℓ) (ρ : Dev nD → PrngReg)

theorem whole_eq (c : Dev nD) :
    Cert.Reference5Ideal.Exp.whole (aH m c) (aM m c) (aX m c) (aG m c) (aU m c) (aW m c) (aN m c) = result m c :=
  ext3 _ _ fun a b k => Cert.Reference5Ideal.Exp.whole_at (aH m c) (aM m c) (aX m c) (aG m c) (aU m c) (aW m c) (aN m c) a b k

theorem agree (m' : (ℓ : Loc Cert.Reference5Ideal.nD Cert.Reference5Ideal.τ Cert.Reference5Ideal.sig) → Buf (Elt Ideal) ℓ) (c : Dev nD)
    (e0 : m' ((c.tc : Thread Cert.Reference5Ideal.nD Cert.Reference5Ideal.τ).loc Cert.Reference5Ideal.main_arg0) = aH m c)
    (e1 : m' ((c.tc : Thread Cert.Reference5Ideal.nD Cert.Reference5Ideal.τ).loc Cert.Reference5Ideal.main_arg1) = aM m c)
    (e2 : m' ((c.tc : Thread Cert.Reference5Ideal.nD Cert.Reference5Ideal.τ).loc Cert.Reference5Ideal.main_arg2) = aX m c)
    (e3 : m' ((c.tc : Thread Cert.Reference5Ideal.nD Cert.Reference5Ideal.τ).loc Cert.Reference5Ideal.main_arg3) = aG m c)
    (e4 : m' ((c.tc : Thread Cert.Reference5Ideal.nD Cert.Reference5Ideal.τ).loc Cert.Reference5Ideal.main_arg4) = aU m c)
    (e5 : m' ((c.tc : Thread Cert.Reference5Ideal.nD Cert.Reference5Ideal.τ).loc Cert.Reference5Ideal.main_arg5) = aW m c)
    (e6 : m' ((c.tc : Thread Cert.Reference5Ideal.nD Cert.Reference5Ideal.τ).loc Cert.Reference5Ideal.main_arg6) = aN m c) :
    Cert.Reference5Ideal.Value.res_out0 m' c = result m c := by
  refine (Cert.Reference5Ideal.Exp.result_eq m' c).trans ?_
  rw [e0, e1, e2, e3, e4, e5, e6]
  exact whole_eq m c

theorem frame_kernel5 : Cert.quiescent_Kernel5 (hKernel5 := Cert.Kernel5.Gen.facts) :=
  fun m ρ _ => Cert.Kernel5.Gen.frame m ρ

theorem frame_ideal5 : Cert.quiescent_Kernel5Ideal (hKernel5Ideal := Cert.Kernel5Ideal.Gen.facts) :=
  fun m ρ _ => Cert.Kernel5Ideal.Gen.frame m ρ

theorem frame_reference5 : Cert.quiescent_Reference5Ideal (hReference5Ideal := Cert.Reference5Ideal.Gen.facts) :=
  fun m ρ _ => (θ_run (Cert.Reference5Ideal.defs (F := Ideal)) _ _).mono
    (fun r h => ⟨fun c => (h c).2, sem_eq_zero_of_no_sems (by decide) r.2⟩)
    (Cert.Reference5Ideal.Value.run (F := Ideal) m ρ)

theorem preserves5 : Cert.preserves_Kernel5_Kernel5Ideal := trivial

theorem algebraic5 : Cert.algebraic_Kernel5Ideal_Reference5Ideal (hKernel5Ideal := Cert.Kernel5Ideal.Gen.facts)
    (hReference5Ideal := Cert.Reference5Ideal.Gen.facts) := by
  intro m ρ m' ρ' hpre hargs
  refine ⟨fun c => result m c, ?_, ?_⟩
  · exact (θ_run _ _ _).mono (fun r h c => ⟨(h c).1.trans (final m c), (h c).2⟩) (Value.run_blocks m ρ)
  · refine (θ_run _ _ _).mono (fun r h c => ?_) (Cert.Reference5Ideal.Value.run m' ρ')
    obtain ⟨e0, e1, e2, e3, e4, e5, e6⟩ := hargs c
    exact ⟨(h c).1.trans (agree m m' c e0 e1 e2 e3 e4 e5 e6), (h c).2⟩

end Cert.Expert5
-- ==== Proof.MaskBody.lean ====
/- The gates of all experts: the body of the call. A trip of its loop writes, for one token, the gate of every expert as
   16 slabs of 8 first keys by 128 second keys. -/
module

public import proofs.«01_k».proof.Defs
public import proofs.«01_k».proof.Proof.Gen.Kernel6Ideal.Value
public import Idealize.ShloMosaic.Lib.Pipeline.ValueKit
public import Idealize.ShloMosaic.Lib.Pointwise
public import Idealize.ShloMosaic.Lib.WholeRead
public import Idealize.ShloMosaic.Lib.IdealHost
public import Idealize.ShloMosaic.Lib.Claim

@[expose] public section

set_option maxRecDepth 16384

noncomputable section

namespace Cert.Gates

open Idealize.ShloMosaic

/-- The gate of expert `n`: the sum of the gates of the picks that are this expert. -/
def cell (e : Fin 128 → BitVec 32) (g : Fin 128 → EReal) (n : ℕ) : EReal := ∑ p, if e p = BitVec.ofNat 32 n then g p else 0

/-- The two halves of a word below 2 ^ 14. -/
theorem halves (e : BitVec 32) (i j : ℕ) (hi : i < 128) (hj : j < 128) :
    (BitVec.ofNat 32 i = e.sshiftRight 7 ∧ BitVec.ofNat 32 j = e &&& 127#32) ↔ e = BitVec.ofNat 32 (i * 128 + j) := by
  have h1 : (e &&& 127#32).toNat = e.toNat % 128 := by
    rw [BitVec.toNat_and]
    exact Nat.and_two_pow_sub_one_eq_mod e.toNat 7
  have h2 : (e.sshiftRight 7).toInt = e.toInt / 128 := by
    rw [BitVec.toInt_sshiftRight, Int.shiftRight_eq_div_pow]
    rfl
  have h3 : (BitVec.ofNat 32 i).toInt = i := by
    rw [BitVec.toInt_eq_toNat_cond, BitVec.toNat_ofNat]
    split <;> omega
  have h4 := e.toInt_eq_toNat_cond
  have h5 := e.isLt
  rw [← BitVec.toInt_inj, ← BitVec.toNat_inj, ← BitVec.toNat_inj, h1, h2, h3, BitVec.toNat_ofNat, BitVec.toNat_ofNat]
  split at h4 <;> omega

theorem pick {α : Type} (a b : BitVec 32) (u v : α) : Scalar.select (IntOp.cmpi .eq a b) u v = if a = b then u else v := by
  unfold Scalar.select IntOp.cmpi
  by_cases h : a = b
  · subst h
    simp
  · have h' : (a == b) = false := beq_eq_false_iff_ne.mpr h
    simp [h, h']

/-- A value that isn't plus infinity, plus what is left of it after taking it away, is itself. -/
theorem add_rest (x : EReal) (h : x ≠ ⊤) : x + (x - x) = x := by
  induction x with
  | bot => simp
  | coe r => rw [← EReal.coe_sub, sub_self, EReal.coe_zero, add_zero]
  | top => exact absurd rfl h

theorem shift (e : BitVec 32) : IntOp.shrsi .vector e 7#32 = e.sshiftRight 7 := by
  simp [IntOp.shrsi]

end Cert.Gates

namespace Cert.Kernel6Ideal.Mask

open Idealize.ShloMosaic Idealize.ShloMosaic.TcCoe Idealize.SL.Sem
open Cert.Kernel6Ideal Cert.Kernel6Ideal.Gen Cert.Gates

/-- The products of one token: the gate of expert `128 i + j`. -/
theorem pay7_at (v : IVec S128x128 32) (hv : v = iota .tc S128x128 32 [0] iota_S128x128_d0_w32) (x : Vec Ideal S1x128 .i32) (g : Vec Ideal S1x128 .f32)
    (hg : ∀ p : Fin 128, (g (ix2 0 p) : EReal) ≠ ⊤) (i j : Fin 128) :
    k0_pay7 v v x g (ix2 i j) = cell (fun p => x (ix2 0 p)) (fun p => g (ix2 0 p)) (i.val * 128 + j.val) := by
  subst hv
  pointwise [k0_pay7]
  simp only [pick, shift]
  refine (Finset.sum_add_distrib).symm.trans (Finset.sum_congr rfl fun p _ => ?_)
  have h := halves (x (ix2 0 p)) i.val j.val i.isLt j.isLt
  have hr := add_rest _ (hg p)
  by_cases h1 : BitVec.ofNat 32 i.val = (x (ix2 0 p)).sshiftRight 7 <;>
    by_cases h2 : BitVec.ofNat 32 j.val = x (ix2 0 p) &&& 127#32 <;> simp_all [IntOp.andi]

/-! ## The slabs of the products -/

theorem cut0 (v : IVec S128x128 32) (x g) (b : Fin 8) (q : Fin 128) :
    k0_pay8 (F := Ideal) v v x g (ix3 0 b q) = k0_pay7 v v x g (ix2 ⟨0 * 8 + b.val, by omega⟩ q) := by
  pointwise [k0_pay8]
theorem cut1 (v : IVec S128x128 32) (x g) (b : Fin 8) (q : Fin 128) :
    k0_pay9 (F := Ideal) v v x g (ix3 0 b q) = k0_pay7 v v x g (ix2 ⟨1 * 8 + b.val, by omega⟩ q) := by
  pointwise [k0_pay9]
theorem cut2 (v : IVec S128x128 32) (x g) (b : Fin 8) (q : Fin 128) :
    k0_pay11 (F := Ideal) (k0_pay10 v v x g) (ix3 0 b q) = k0_pay7 v v x g (ix2 ⟨2 * 8 + b.val, by omega⟩ q) := by
  pointwise [k0_pay11, k0_pay10]
theorem cut3 (M : FVec Ideal S128x128 .f32) (b : Fin 8) (q : Fin 128) : k0_pay12 M (ix3 0 b q) = M (ix2 ⟨3 * 8 + b.val, by omega⟩ q) := by
  pointwise [k0_pay12]
theorem cut4 (M : FVec Ideal S128x128 .f32) (b : Fin 8) (q : Fin 128) : k0_pay13 M (ix3 0 b q) = M (ix2 ⟨4 * 8 + b.val, by omega⟩ q) := by
  pointwise [k0_pay13]
theorem cut5 (M : FVec Ideal S128x128 .f32) (b : Fin 8) (q : Fin 128) : k0_pay14 M (ix3 0 b q) = M (ix2 ⟨5 * 8 + b.val, by omega⟩ q) := by
  pointwise [k0_pay14]
theorem cut6 (M : FVec Ideal S128x128 .f32) (b : Fin 8) (q : Fin 128) : k0_pay15 M (ix3 0 b q) = M (ix2 ⟨6 * 8 + b.val, by omega⟩ q) := by
  pointwise [k0_pay15]
theorem cut7 (M : FVec Ideal S128x128 .f32) (b : Fin 8) (q : Fin 128) : k0_pay16 M (ix3 0 b q) = M (ix2 ⟨7 * 8 + b.val, by omega⟩ q) := by
  pointwise [k0_pay16]
theorem cut8 (M : FVec Ideal S128x128 .f32) (b : Fin 8) (q : Fin 128) : k0_pay17 M (ix3 0 b q) = M (ix2 ⟨8 * 8 + b.val, by omega⟩ q) := by
  pointwise [k0_pay17]
theorem cut9 (M : FVec Ideal S128x128 .f32) (b : Fin 8) (q : Fin 128) : k0_pay18 M (ix3 0 b q) = M (ix2 ⟨9 * 8 + b.val, by omega⟩ q) := by
  pointwise [k0_pay18]
theorem cut10 (M : FVec Ideal S128x128 .f32) (b : Fin 8) (q : Fin 128) : k0_pay1 M (ix3 0 b q) = M (ix2 ⟨10 * 8 + b.val, by omega⟩ q) := by
  pointwise [k0_pay1]
theorem cut11 (M : FVec Ideal S128x128 .f32) (b : Fin 8) (q : Fin 128) : k0_pay2 M (ix3 0 b q) = M (ix2 ⟨11 * 8 + b.val, by omega⟩ q) := by
  pointwise [k0_pay2]
theorem cut12 (M : FVec Ideal S128x128 .f32) (b : Fin 8) (q : Fin 128) : k0_pay3 M (ix3 0 b q) = M (ix2 ⟨12 * 8 + b.val, by omega⟩ q) := by
  pointwise [k0_pay3]
theorem cut13 (M : FVec Ideal S128x128 .f32) (b : Fin 8) (q : Fin 128) : k0_pay4 M (ix3 0 b q) = M (ix2 ⟨13 * 8 + b.val, by omega⟩ q) := by
  pointwise [k0_pay4]
theorem cut14 (M : FVec Ideal S128x128 .f32) (b : Fin 8) (q : Fin 128) : k0_pay5 M (ix3 0 b q) = M (ix2 ⟨14 * 8 + b.val, by omega⟩ q) := by
  pointwise [k0_pay5]
theorem cut15 (M : FVec Ideal S128x128 .f32) (b : Fin 8) (q : Fin 128) : k0_pay6 M (ix3 0 b q) = M (ix2 ⟨15 * 8 + b.val, by omega⟩ q) := by
  pointwise [k0_pay6]

/-! ## The trips -/

/-- What the body leaves at an index of the block. -/
def tgt (x0 : Vec Ideal S64x128 .i32) (x1 : Vec Ideal S64x128 .f32) (y : S16x512x128.Idx) : EReal :=
  cell (fun p => x0 (ix2 ⟨(y 1).val / 8, Nat.div_lt_of_lt_mul (y 1).isLt⟩ p)) (fun p => x1 (ix2 ⟨(y 1).val / 8, Nat.div_lt_of_lt_mul (y 1).isLt⟩ p))
    (((y 0).val * 8 + (y 1).val % 8) * 128 + (y 2).val)

theorem tgt_at (x0 : Vec Ideal S64x128 .i32) (x1 : Vec Ideal S64x128 .f32) (k : ℕ) (hk : k < 64) (a : ℕ) (ha : a < 16) (b : Fin 8) (q : Fin 128) :
    tgt x0 x1 (ix3 ⟨a, ha⟩ ⟨8 * k + b.val, by omega⟩ q)
      = cell (fun p => x0 (ix2 ⟨k, hk⟩ p)) (fun p => x1 (ix2 ⟨k, hk⟩ p)) ((a * 8 + b.val) * 128 + q.val) := by
  have h1 : (8 * k + b.val) / 8 = k := by omega
  have h2 : (8 * k + b.val) % 8 = b.val := by omega
  have hr : (⟨(8 * k + b.val) / 8, by omega⟩ : Fin 64) = ⟨k, hk⟩ := Fin.ext h1
  show cell (fun p => x0 (ix2 (⟨(8 * k + b.val) / 8, _⟩ : Fin 64) p)) (fun p => x1 (ix2 (⟨(8 * k + b.val) / 8, _⟩ : Fin 64) p))
    ((a * 8 + (8 * k + b.val) % 8) * 128 + q.val) = _
  rw [hr, h2]

/-- A slab that agrees with the target. -/
theorem slab (k : ℕ) (hk : k < 64) (a : ℕ) (ha : a < 16) (T : S16x512x128.Idx → EReal) {off : Fin 3 → ℕ} (hoff : off = ![a, 8 * k, 0])
    {inb : ∀ i, off i + S1x8x128.size i ≤ S16x512x128.size i} {w : S1x8x128.Idx → EReal}
    (h : ∀ (b : Fin 8) (q : Fin 128), w (ix3 0 b q) = T (ix3 ⟨a, ha⟩ ⟨8 * k + b.val, by omega⟩ q))
    {p : View.Piece (Elt Ideal) S16x512x128 .f32} (hp : p = ⟨Rect.unit (s := S16x512x128) off S1x8x128.size inb, w⟩) :
    ∀ x, p.2 x = T (p.1.emb x) := by
  subst hp
  subst hoff
  intro (x : S1x8x128.Idx)
  idx_vars x
  have h0 : x0 = 0 := Subsingleton.elim _ _
  subst h0
  refine (h x1 x2).trans (congrArg T ?_)
  funext i
  match i with
  | ⟨0, _⟩ => exact Fin.ext (by show a = a + 1 * 0; omega)
  | ⟨1, _⟩ => exact Fin.ext (by show 8 * k + x1.val = 8 * k + 1 * x1.val; omega)
  | ⟨2, _⟩ => exact Fin.ext (by show x2.val = 0 + 1 * x2.val; omega)

/-- The row a trip loads. -/
theorem ld_row {φ : EltTy} (X : S64x128.Idx → Elt Ideal φ) (k : ℕ) (hk : k < 64) {off : Fin 2 → ℕ} (hoff : off = ![k, 0])
    (inb : ∀ i, off i + S1x128.size i ≤ S64x128.size i) (p : Fin 128) :
    View.ld X (Rect.unit (s := S64x128) off S1x128.size inb) (ix2 0 p) = X (ix2 ⟨k, hk⟩ p) := by
  subst hoff
  refine congrArg X ?_
  funext i
  match i with
  | ⟨0, _⟩ => exact Fin.ext (by show k + 1 * 0 = k; omega)
  | ⟨1, _⟩ => exact Fin.ext (by show 0 + 1 * p.val = p.val; omega)

section Launch

variable (c : Dev nD) (i : grid0.Coords) (arg1 : Memref sig .tc .vmem S64x128 .i32) (harg1 : arg1.IsWhole) (arg2 : Memref sig .tc .vmem S64x128 .f32) (harg2 : arg2.IsWhole) (arg3 : Memref sig .tc .vmem S16x512x128 .f32) (harg3 : arg3.IsWhole)
    (x0 : Vec Ideal S64x128 .i32) (x1 : Vec Ideal S64x128 .f32)

theorem trips_eq : k0_t1_loop.trips = 64 := by decide

/-- The products of trip `k`. -/
theorem row_at (hx : ∀ y, (x1 y : EReal) ≠ ⊤) (v : IVec S128x128 32) (hv : v = iota .tc S128x128 32 [0] iota_S128x128_d0_w32)
    (k : Fin k0_t1_loop.trips) (hk : k.val < 64) (inb) (i j : Fin 128) :
    k0_pay7 (F := Ideal) v v (View.readAt (Elt Ideal) arg1.view (Rect.unit (s := S64x128) (k0_off1 k) S1x128.size inb).toLoadRect (harg1.unread x0))
      (View.readAt (Elt Ideal) arg2.view (Rect.unit (s := S64x128) (k0_off1 k) S1x128.size inb).toLoadRect (harg2.unread x1)) (ix2 i j)
      = cell (fun p => x0 (ix2 ⟨k.val, hk⟩ p)) (fun p => x1 (ix2 ⟨k.val, hk⟩ p)) (i.val * 128 + j.val) := by
  have e0 : ∀ p : Fin 128, View.readAt (Elt Ideal) arg1.view (Rect.unit (s := S64x128) (k0_off1 k) S1x128.size inb).toLoadRect (harg1.unread x0) (ix2 0 p)
      = x0 (ix2 ⟨k.val, hk⟩ p) := fun p =>
    (Memref.IsWhole.readAt_unread harg1 _ _ _).trans (ld_row x0 k.val hk (k0_off1_eq k) inb p)
  have e1 : ∀ p : Fin 128, View.readAt (Elt Ideal) arg2.view (Rect.unit (s := S64x128) (k0_off1 k) S1x128.size inb).toLoadRect (harg2.unread x1) (ix2 0 p)
      = x1 (ix2 ⟨k.val, hk⟩ p) := fun p =>
    (Memref.IsWhole.readAt_unread harg2 _ _ _).trans (ld_row x1 k.val hk (k0_off1_eq k) inb p)
  refine (pay7_at v hv _ _ (fun p => ?_) i j).trans (congrArg₂ (fun a b => cell a b _) (funext e0) (funext e1))
  exact Eq.subst (motive := fun z : EReal => z ≠ ⊤) (e1 p).symm (hx _)

theorem trip_ok (hx : ∀ y, (x1 y : EReal) ≠ ⊤) (v : IVec S128x128 32) (hv : v = iota .tc S128x128 32 [0] iota_S128x128_d0_w32)
    (k : Fin k0_t1_loop.trips) (p : View.Piece (Elt Ideal) S16x512x128 .f32)
    (hp : p ∈ tripL_k0_t1 (F := Ideal) Variants.none c none i arg1 harg1 arg2 harg2 arg3 harg3 v v (harg1.unread x0) (harg2.unread x1) k) :
    ∀ x, p.2 x = tgt x0 x1 (p.1.emb x) := by
  have hk : k.val < 64 := lt_of_lt_of_eq k.isLt trips_eq
  unfold tripL_k0_t1 trip_k0_t1 at hp
  dsimp only at hp
  simp only [List.mem_cons, List.not_mem_nil, or_false] at hp
  have row := row_at arg1 harg1 arg2 harg2 x0 x1 hx v hv k hk (k0_off1_inb k)
  rcases hp with h | h | h | h | h | h | h | h | h | h | h | h | h | h | h | h
  · exact slab k.val hk 15 (by decide) _ (k0_off17_eq k) (fun b q => (cut15 _ b q).trans ((row _ q).trans (tgt_at x0 x1 k.val hk 15 (by decide) b q).symm)) h
  · exact slab k.val hk 14 (by decide) _ (k0_off16_eq k) (fun b q => (cut14 _ b q).trans ((row _ q).trans (tgt_at x0 x1 k.val hk 14 (by decide) b q).symm)) h
  · exact slab k.val hk 13 (by decide) _ (k0_off15_eq k) (fun b q => (cut13 _ b q).trans ((row _ q).trans (tgt_at x0 x1 k.val hk 13 (by decide) b q).symm)) h
  · exact slab k.val hk 12 (by decide) _ (k0_off14_eq k) (fun b q => (cut12 _ b q).trans ((row _ q).trans (tgt_at x0 x1 k.val hk 12 (by decide) b q).symm)) h
  · exact slab k.val hk 11 (by decide) _ (k0_off13_eq k) (fun b q => (cut11 _ b q).trans ((row _ q).trans (tgt_at x0 x1 k.val hk 11 (by decide) b q).symm)) h
  · exact slab k.val hk 10 (by decide) _ (k0_off12_eq k) (fun b q => (cut10 _ b q).trans ((row _ q).trans (tgt_at x0 x1 k.val hk 10 (by decide) b q).symm)) h
  · exact slab k.val hk 9 (by decide) _ (k0_off11_eq k) (fun b q => (cut9 _ b q).trans ((row _ q).trans (tgt_at x0 x1 k.val hk 9 (by decide) b q).symm)) h
  · exact slab k.val hk 8 (by decide) _ (k0_off10_eq k) (fun b q => (cut8 _ b q).trans ((row _ q).trans (tgt_at x0 x1 k.val hk 8 (by decide) b q).symm)) h
  · exact slab k.val hk 7 (by decide) _ (k0_off9_eq k) (fun b q => (cut7 _ b q).trans ((row _ q).trans (tgt_at x0 x1 k.val hk 7 (by decide) b q).symm)) h
  · exact slab k.val hk 6 (by decide) _ (k0_off8_eq k) (fun b q => (cut6 _ b q).trans ((row _ q).trans (tgt_at x0 x1 k.val hk 6 (by decide) b q).symm)) h
  · exact slab k.val hk 5 (by decide) _ (k0_off7_eq k) (fun b q => (cut5 _ b q).trans ((row _ q).trans (tgt_at x0 x1 k.val hk 5 (by decide) b q).symm)) h
  · exact slab k.val hk 4 (by decide) _ (k0_off6_eq k) (fun b q => (cut4 _ b q).trans ((row _ q).trans (tgt_at x0 x1 k.val hk 4 (by decide) b q).symm)) h
  · exact slab k.val hk 3 (by decide) _ (k0_off5_eq k) (fun b q => (cut3 _ b q).trans ((row _ q).trans (tgt_at x0 x1 k.val hk 3 (by decide) b q).symm)) h
  · exact slab k.val hk 2 (by decide) _ (k0_off4_eq k) (fun b q => (cut2 v _ _ b q).trans ((row _ q).trans (tgt_at x0 x1 k.val hk 2 (by decide) b q).symm)) h
  · exact slab k.val hk 1 (by decide) _ (k0_off3_eq k) (fun b q => (cut1 v _ _ b q).trans ((row _ q).trans (tgt_at x0 x1 k.val hk 1 (by decide) b q).symm)) h
  · exact slab k.val hk 0 (by decide) _ (k0_off2_eq k) (fun b q => (cut0 v _ _ b q).trans ((row _ q).trans (tgt_at x0 x1 k.val hk 0 (by decide) b q).symm)) h

/-- Every slab of the first `n` trips agrees with the target. -/
theorem pieces_ok (hx : ∀ y, (x1 y : EReal) ≠ ⊤) (v : IVec S128x128 32) (hv : v = iota .tc S128x128 32 [0] iota_S128x128_d0_w32)
    (n : ℕ) (hn : n ≤ 64) (p : View.Piece (Elt Ideal) S16x512x128 .f32)
    (hp : p ∈ pb_k0_t1 (F := Ideal) Variants.none c none i arg1 harg1 arg2 harg2 arg3 harg3 v v (harg1.unread x0) (harg2.unread x1) n) :
    ∀ x, p.2 x = tgt x0 x1 (p.1.emb x) := by
  induction n with
  | zero => exact absurd hp List.not_mem_nil
  | succ n ih =>
    have ht : n < k0_t1_loop.trips := lt_of_lt_of_eq (by omega) trips_eq.symm
    rw [pb_k0_t1_succ Variants.none c none i arg1 harg1 arg2 harg2 arg3 harg3 v v (harg1.unread x0) (harg2.unread x1) ⟨n, ht⟩] at hp
    rcases List.mem_append.mp hp with h | h
    · exact trip_ok c i arg1 harg1 arg2 harg2 arg3 harg3 x0 x1 hx v hv ⟨n, ht⟩ p h
    · exact ih (by omega) h

/-- A trip writes the eight rows of its token in each of the 16 slabs. -/
theorem trip_mem (v : IVec S128x128 32) (k : Fin k0_t1_loop.trips) (y : S16x512x128.Idx) (hy : (y 1).val / 8 = k.val) :
    ∃ p ∈ tripL_k0_t1 (F := Ideal) Variants.none c none i arg1 harg1 arg2 harg2 arg3 harg3 v v (harg1.unread x0) (harg2.unread x1) k, y ∈ p.1.set := by
  unfold tripL_k0_t1 trip_k0_t1
  dsimp only
  have h0 : (y 0).val < 16 := (y 0).isLt
  have h2 : (y 2).val < 128 := (y 2).isLt
  have key : ∀ (a : ℕ) (ha : (y 0).val = a) (off : Fin 3 → ℕ) (hoff : off = ![a, 8 * k.val, 0]) (inb : ∀ i, off i + S1x8x128.size i ≤ S16x512x128.size i),
      y ∈ (Rect.unit (s := S16x512x128) off S1x8x128.size inb).set := by
    intro a ha off hoff inb
    subst hoff
    rw [Rect.mem_set_unit]
    intro j
    match j with
    | ⟨0, _⟩ => exact ⟨by show a ≤ (y 0).val; omega, by show (y 0).val < a + 1; omega⟩
    | ⟨1, _⟩ => exact ⟨by show 8 * k.val ≤ (y 1).val; omega, by show (y 1).val < 8 * k.val + 8; omega⟩
    | ⟨2, _⟩ => exact ⟨by show 0 ≤ (y 2).val; omega, by show (y 2).val < 0 + 128; omega⟩
  simp only [List.exists_mem_cons_iff, List.not_mem_nil, false_and, exists_false, or_false]
  have hc : (y 0).val = 15 ∨ (y 0).val = 14 ∨ (y 0).val = 13 ∨ (y 0).val = 12 ∨ (y 0).val = 11 ∨ (y 0).val = 10 ∨ (y 0).val = 9 ∨ (y 0).val = 8
      ∨ (y 0).val = 7 ∨ (y 0).val = 6 ∨ (y 0).val = 5 ∨ (y 0).val = 4 ∨ (y 0).val = 3 ∨ (y 0).val = 2 ∨ (y 0).val = 1 ∨ (y 0).val = 0 := by omega
  exact hc.imp (key _ · _ (k0_off17_eq k) _) <| Or.imp (key _ · _ (k0_off16_eq k) _) <| Or.imp (key _ · _ (k0_off15_eq k) _) <|
    Or.imp (key _ · _ (k0_off14_eq k) _) <| Or.imp (key _ · _ (k0_off13_eq k) _) <| Or.imp (key _ · _ (k0_off12_eq k) _) <|
    Or.imp (key _ · _ (k0_off11_eq k) _) <| Or.imp (key _ · _ (k0_off10_eq k) _) <| Or.imp (key _ · _ (k0_off9_eq k) _) <|
    Or.imp (key _ · _ (k0_off8_eq k) _) <| Or.imp (key _ · _ (k0_off7_eq k) _) <| Or.imp (key _ · _ (k0_off6_eq k) _) <|
    Or.imp (key _ · _ (k0_off5_eq k) _) <| Or.imp (key _ · _ (k0_off4_eq k) _) <| Or.imp (key _ · _ (k0_off3_eq k) _) (key _ · _ (k0_off2_eq k) _)

theorem pieces_mem (v : IVec S128x128 32) (y : S16x512x128.Idx) (n : ℕ) (hn : n ≤ 64) (hy : (y 1).val / 8 < n) :
    ∃ p ∈ pb_k0_t1 (F := Ideal) Variants.none c none i arg1 harg1 arg2 harg2 arg3 harg3 v v (harg1.unread x0) (harg2.unread x1) n, y ∈ p.1.set := by
  induction n with
  | zero => omega
  | succ n ih =>
    have ht : n < k0_t1_loop.trips := lt_of_lt_of_eq (by omega) trips_eq.symm
    rw [pb_k0_t1_succ Variants.none c none i arg1 harg1 arg2 harg2 arg3 harg3 v v (harg1.unread x0) (harg2.unread x1) ⟨n, ht⟩]
    by_cases h : (y 1).val / 8 = n
    · obtain ⟨p, hp, hm⟩ := trip_mem c i arg1 harg1 arg2 harg2 arg3 harg3 x0 x1 v ⟨n, ht⟩ y h
      exact ⟨p, List.mem_append_left _ hp, hm⟩
    · obtain ⟨p, hp, hm⟩ := ih (by omega) (by omega)
      exact ⟨p, List.mem_append_right _ hp, hm⟩

/-- What the grid point leaves in its block. -/
theorem out_at (hx : ∀ y, (x1 y : EReal) ≠ ⊤) (y : S16x512x128.Idx) :
    out0_A_2 c i arg1 harg1 arg2 harg2 arg3 harg3 x0 x1 y = tgt x0 x1 y := by
  have h1 : (y 1).val < 512 := (y 1).isLt
  have hm : ∀ v : IVec S128x128 32, _ := fun v => pieces_mem c i arg1 harg1 arg2 harg2 arg3 harg3 x0 x1 v y 64 le_rfl (by omega)
  unfold out0_A_2 kernelRun0_A
  dsimp only
  have h64 : Scf.trips (0#32) (Scalar.addi 0#32 64#32) 1#32 = 64 := by decide
  rw [h64]
  refine (View.read_writes_apply_eq_canon _ _ y _ (hm _)).trans (View.canon_eq_of_allAt _ y _ (hm _) ?_)
  intro p hp x e
  rw [← e]
  exact pieces_ok c i arg1 harg1 arg2 harg2 arg3 harg3 x0 x1 hx _ rfl 64 le_rfl p hp x

end Launch

end Cert.Kernel6Ideal.Mask
-- ==== Proof.MaskArr.lean ====
/- The gates of all experts: the array the call leaves. -/
module

public import proofs.«01_k».proof.Proof.MaskBody

@[expose] public section

set_option maxRecDepth 16384

noncomputable section

namespace Cert.Kernel6Ideal.Mask

open Idealize.ShloMosaic Idealize.ShloMosaic.TcCoe Idealize.SL.Sem
open Cert.Kernel6Ideal Cert.Kernel6Ideal.Gen Cert.Gates

/-- Which block of each array a grid point reads or writes. -/
theorem idx : ∀ t : Fin cfg0.N,
    win0_0.index t = ![t.val, 0] ∧ win0_1.index t = ![t.val, 0] ∧ win0_2.index t = ![0, t.val, 0] :=
  (by decide +kernel : ∀ t : Fin grid0.N, _)

theorem lt_points (t : Fin cfg0.N) : t.val < 128 := lt_of_lt_of_eq t.isLt N_0

theorem emb0 (t : Fin cfg0.N) (r : Fin 64) (q : Fin 128) : ((win0_0.blk t).view.emb (ix2 r q) : S8192x128.Idx)
    = ix2 ⟨t.val * 64 + r.val, by have := lt_points t; omega⟩ q := by
  blk_ext [idx t] <;> rfl

theorem emb1 (t : Fin cfg0.N) (r : Fin 64) (q : Fin 128) : ((win0_1.blk t).view.emb (ix2 r q) : S8192x128.Idx)
    = ix2 ⟨t.val * 64 + r.val, by have := lt_points t; omega⟩ q := by
  blk_ext [idx t] <;> rfl

theorem emb2 (t : Fin cfg0.N) (a : Fin 16) (r : Fin 512) (q : Fin 128) : ((win0_2.blk t).view.emb (ix3 a r q) : S16x65536x128.Idx)
    = ix3 a ⟨t.val * 512 + r.val, by have := lt_points t; omega⟩ q := by
  blk_ext [idx t] <;> rfl

variable (m : (ℓ : Loc nD τ sig) → Buf (Elt Ideal) ℓ)

abbrev aE (c : Dev nD) : S8192x128.Idx → BitVec 32 := m ((c : Thread nD τ).loc main_arg0)
abbrev aG (c : Dev nD) : S8192x128.Idx → EReal := m ((c : Thread nD τ).loc main_arg1)

theorem blk0 (c : Dev nD) (t : Fin cfg0.N) (r : Fin 64) (q : Fin 128) : (iblk m c 0 t : S64x128.Idx → BitVec 32) (ix2 r q)
    = aE m c (ix2 ⟨t.val * 64 + r.val, by have := lt_points t; omega⟩ q) :=
  (congrArg (V m c main_arg0 : S8192x128.Idx → BitVec 32) (emb0 t r q)).trans (congrFun (V_main_arg0 m c) _)

theorem blk1 (c : Dev nD) (t : Fin cfg0.N) (r : Fin 64) (q : Fin 128) : (iblk m c 1 t : S64x128.Idx → EReal) (ix2 r q)
    = aG m c (ix2 ⟨t.val * 64 + r.val, by have := lt_points t; omega⟩ q) :=
  (congrArg (V m c main_arg1 : S8192x128.Idx → EReal) (emb1 t r q)).trans (congrFun (V_main_arg1 m c) _)

/-- The gates a grid point reads. -/
abbrev gates (c : Dev nD) (t : Fin cfg0.N) : S64x128.Idx → EReal := iblk m c 1 t

/-- The result at a block of first keys `a`, a row `r` (token and first key in the block) and a second key `q`. -/
def res (c : Dev nD) (a : Fin 16) (r : Fin 65536) (q : Fin 128) : EReal :=
  cell (fun p => aE m c (ix2 ⟨r.val / 8, by omega⟩ p)) (fun p => aG m c (ix2 ⟨r.val / 8, by omega⟩ p)) ((a.val * 8 + r.val % 8) * 128 + q.val)

def result (c : Dev nD) : S16x65536x128.Idx → EReal := fun y => res m c (y 0) (y 1) (y 2)

theorem final (c : Dev nD) (hg : ∀ y, aG m c y ≠ ⊤) : (dats m 0 c).arrAt 2 cfg0.N = result m c := by
  refine (dats m 0 c).arrAt_eq_of_covers 2 _ (by decide +kernel) fun t hf y => ?_
  have ht := lt_points t
  blk_simp
  rw [after0_2]
  idx_vars y
  have hx : ∀ y : S64x128.Idx, gates m c t y ≠ ⊤ := fun y => by
    idx_vars y
    exact Eq.subst (motive := fun z : EReal => z ≠ ⊤) (blk1 m c t y0 y1).symm (hg _)
  unfold outsAt0
  refine (out_at c _ _ _ _ _ _ _ _ _ hx (ix3 y0 y1 y2)).trans ?_
  refine Eq.trans ?_ (congrArg (result m c) (emb2 t y0 y1 y2)).symm
  show cell (fun p => (iblk m c 0 t : S64x128.Idx → BitVec 32) (ix2 (⟨y1.val / 8, _⟩ : Fin 64) p)) (fun p => (iblk m c 1 t : S64x128.Idx → EReal) (ix2 (⟨y1.val / 8, _⟩ : Fin 64) p))
    ((y0.val * 8 + y1.val % 8) * 128 + y2.val) = res m c y0 ⟨t.val * 512 + y1.val, _⟩ y2
  unfold res
  have e1 : (⟨(t.val * 512 + y1.val) / 8, by omega⟩ : Fin 8192) = ⟨t.val * 64 + y1.val / 8, by omega⟩ :=
    Fin.ext (by show (t.val * 512 + y1.val) / 8 = t.val * 64 + y1.val / 8; omega)
  have e2 : (t.val * 512 + y1.val) % 8 = y1.val % 8 := by omega
  dsimp only
  rw [e1, e2]
  exact congrArg₂ (fun a b => cell a b _) (funext fun p => blk0 m c t _ p) (funext fun p => blk1 m c t _ p)

end Cert.Kernel6Ideal.Mask
-- ==== Proof.MaskRef.lean ====
/- The gates of all experts: the reference at an index. -/
module

public import proofs.«01_k».proof.Proof.MaskBody
public import proofs.«01_k».proof.Proof.Gen.Reference6Ideal.Run
public import Idealize.ShloMosaic.Lib.Pointwise
public import Idealize.ShloMosaic.Lib.IdealHost

@[expose] public section

set_option maxRecDepth 16384

noncomputable section

namespace Cert.Reference6Ideal.Mask

open Idealize.ShloMosaic Idealize.ShloMosaic.TcCoe Idealize.SL.Sem
open Cert.Reference6Ideal Cert.Reference6Ideal.Gen Cert.Gates

/-- The gates as a matrix of tokens by experts. -/
def sums (e : Vec Ideal S8192x128 .i32) (g : FVec Ideal S8192x128 .f32) : FVec Ideal S8192x16384 .f32 :=
  Host.reduceAdd (select (cmpi .eq (broadcastInDim S8192x128x16384 ![0, 1, 2] bcast_S8192x128x1_S8192x128x16384_0_1_2 (broadcastInDim S8192x128x1 ![0, 1] bcast_S8192x128_S8192x128x1_0_1 e)) (broadcastInDim S8192x128x16384 ![0, 1, 2] bcast_S1x1x16384_S8192x128x16384_0_1_2 (broadcastInDim S1x1x16384 ![2] bcast_S16384_S1x1x16384_2 (iotaInDim S16384 32 0)))) (broadcastInDim S8192x128x16384 ![0, 1, 2] bcast_S8192x128x1_S8192x128x16384_0_1_2 (broadcastInDim S8192x128x1 ![0, 1] bcast_S8192x128_S8192x128x1_0_1 g)) (broadcastInDim S8192x128x16384 ![] bcast_S_S8192x128x16384 (id (constant S_ .f32 0x00000000#32)))) (constant S_ .f32 0x00000000#32) reducesTo_S8192x128x16384_S8192x16384_d1 h_S_

def whole (e : Vec Ideal S8192x128 .i32) (g : FVec Ideal S8192x128 .f32) : FVec Ideal S16x65536x128 .f32 :=
  shapeCast _ (transpose S16x8192x8x128 [1, 0, 2, 3] (shapeCast _ (sums e g) shapeCasts_S8192x16384_S8192x16x8x128) transposes_S8192x16x8x128_S16x8192x8x128_1_0_2_3) shapeCasts_S16x8192x8x128_S16x65536x128

theorem sums_at (e : Vec Ideal S8192x128 .i32) (g : FVec Ideal S8192x128 .f32) (t : Fin 8192) (n : Fin 16384) :
    sums e g (ix2 t n) = cell (fun p => e (ix2 t p)) (fun p => g (ix2 t p)) n.val := by
  pointwise [sums, id]
  simp only [pick]
  rfl

theorem whole_at (e : Vec Ideal S8192x128 .i32) (g : FVec Ideal S8192x128 .f32) (a : Fin 16) (r : Fin 65536) (q : Fin 128) :
    whole e g (ix3 a r q) = cell (fun p => e (ix2 ⟨r.val / 8, by omega⟩ p)) (fun p => g (ix2 ⟨r.val / 8, by omega⟩ p))
      ((a.val * 8 + r.val % 8) * 128 + q.val) := by
  have h : whole e g (ix3 a r q) = sums e g (ix2 ⟨r.val / 8, by omega⟩ ⟨(a.val * 8 + r.val % 8) * 128 + q.val, by omega⟩) := by
    unfold whole
    generalize sums e g = M
    pointwise
    exact congrArg (fun z => M (ix2 _ z)) (Fin.ext (by show a.val * 1024 + r.val % 8 * 128 + q.val = (a.val * 8 + r.val % 8) * 128 + q.val; omega))
  exact h.trans (sums_at e g _ _)

end Cert.Reference6Ideal.Mask
-- ==== Proof.Mask.lean ====
/- The claims about the gates of all experts: the frames, and the result equal where no gate of a
   pick is plus infinity. -/
module

public import proofs.«01_k».proof.Defs
public import proofs.«01_k».proof.Proof.Gen.Kernel6.Frame
public import proofs.«01_k».proof.Proof.Gen.Pre_gates_below_infinity
public import proofs.«01_k».proof.Proof.Attention
public import proofs.«01_k».proof.Proof.MaskArr
public import proofs.«01_k».proof.Proof.MaskRef
public import Idealize.ShloMosaic.Lib.Quiescent

@[expose] public section

set_option maxRecDepth 16384

noncomputable section

namespace Cert.Gates

open Idealize.ShloMosaic Idealize.ShloMosaic.TcCoe Idealize.SL.Sem
open Cert.Kernel6Ideal Cert.Kernel6Ideal.Gen Cert.Kernel6Ideal.Mask

variable (m : (ℓ : Loc nD τ sig) → Buf (Elt Ideal) ℓ) (ρ : Dev nD → PrngReg)

theorem gatesFacts : Cert.Pre_gates_below_infinity.Facts := Cert.Pre_gates_below_infinity.Gen.facts

/-- A value below infinity isn't plus infinity. -/
theorem ne_of_below (x : EReal) (h : Ideal.cmp .olt x (Ideal.ofBits FTy.f32 0x7F800000#32) = 1#1) : x ≠ ⊤ := by
  rw [Cert.Attention.infinity] at h
  rintro rfl
  simp [Ideal.cmp] at h

theorem all_below {s : Shape} {axes : List (Fin s.rank)} (x : FVec Ideal s .f32)
    (hb : Cert.Pre_gates_below_infinity.S_.BroadcastsInDim s (![] : Fin 0 → Fin s.rank)) (hr : s.ReducesTo axes Cert.Pre_gates_below_infinity.S_)
    (hu : 0 < Cert.Pre_gates_below_infinity.S_.numel)
    (h : Host.reduce IntOp.andi (cmpf .olt x
      (broadcastInDim s ![] hb (constant (F := Ideal) Cert.Pre_gates_below_infinity.S_ .f32 0x7F800000#32)))
      (constantI Cert.Pre_gates_below_infinity.S_ 1 1#1) hr hu = fun _ => 1#1) (i : s.Idx) : (x i : EReal) ≠ ⊤ := by
  have e := Host.reduce_andi_all _ _ hr hu (fun a => a.elim0) (congrFun h _) i
  exact ne_of_below (x i) e

theorem pre_below (h : Cert.Pre_Kernel6Ideal_gates_below_infinity (hPre_gates_below_infinity := gatesFacts) m) (c : Dev nD) (i : S8192x128.Idx) :
    aG m c i ≠ ⊤ := by
  have h0 := h c
  dsimp only [Cert.Pre_gates_below_infinity.fn] at h0
  exact all_below _ _ _ _ h0 i

theorem whole_eq (c : Dev nD) : Cert.Reference6Ideal.Mask.whole (aE m c) (aG m c) = result m c := by
  funext (y : S16x65536x128.Idx)
  idx_vars y
  exact Cert.Reference6Ideal.Mask.whole_at (aE m c) (aG m c) y0 y1 y2

theorem frame_kernel6 : Cert.quiescent_Kernel6 (hKernel6 := Cert.Kernel6.Gen.facts) :=
  fun m ρ _ => Cert.Kernel6.Gen.frame m ρ

theorem frame_ideal6 : Cert.quiescent_Kernel6Ideal (hKernel6Ideal := Cert.Kernel6Ideal.Gen.facts) :=
  fun m ρ _ => Cert.Kernel6Ideal.Gen.frame m ρ

theorem frame_ideal6_pre : Cert.quiescent_Kernel6Ideal_pre_gates_below_infinity (hKernel6Ideal := Cert.Kernel6Ideal.Gen.facts)
    (hPre_gates_below_infinity := gatesFacts) :=
  fun m ρ _ => Cert.Kernel6Ideal.Gen.frame m ρ

theorem frame_reference6 : Cert.quiescent_Reference6Ideal (hReference6Ideal := Cert.Reference6Ideal.Gen.facts) :=
  fun m ρ _ => (θ_run (Cert.Reference6Ideal.defs (F := Ideal)) _ _).mono
    (fun r h => ⟨fun c => (h c).2, sem_eq_zero_of_no_sems (by decide) r.2⟩)
    (Cert.Reference6Ideal.Value.run (F := Ideal) m ρ)

theorem frame_reference6_pre : Cert.quiescent_Reference6Ideal_pre_gates_below_infinity (hReference6Ideal := Cert.Reference6Ideal.Gen.facts)
    (hPre_gates_below_infinity := gatesFacts) :=
  fun m ρ _ => frame_reference6 m ρ trivial

theorem preserves6 : Cert.preserves_Kernel6_Kernel6Ideal := trivial

theorem algebraic6 : Cert.algebraic_Kernel6Ideal_Reference6Ideal_pre_gates_below_infinity (hKernel6Ideal := Cert.Kernel6Ideal.Gen.facts)
    (hReference6Ideal := Cert.Reference6Ideal.Gen.facts) (hPre_gates_below_infinity := gatesFacts) := by
  intro m ρ m' ρ' hpre hargs
  refine ⟨fun c => result m c, ?_, ?_⟩
  · exact (θ_run _ _ _).mono (fun r h c => ⟨(h c).1.trans (final m c (pre_below m hpre c)), (h c).2⟩) (Value.run_blocks m ρ)
  · refine (θ_run _ _ _).mono (fun r h c => ?_) (Cert.Reference6Ideal.Value.run m' ρ')
    obtain ⟨e0, e1⟩ := hargs c
    refine ⟨((h c).1.trans ?_).trans (whole_eq m c), (h c).2⟩
    rw [e0, e1]
    rfl

end Cert.Gates
-- ==== Proof.CumBody.lean ====
/- The cumulated log forget values: what the call's body stores and carries, at an index. -/
module

public import proofs.«01_k».proof.Proof.Gen.Kernel7Ideal.Value
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.Cumulated

open Idealize.ShloMosaic

/-- Value `k` of sequence `b` in column `j` (zero past the array). -/
def col (a : (⟨2, ![8192, 128]⟩ : Shape).Idx → EReal) (b : ℕ) (j : Fin 128) (k : ℕ) : EReal :=
  if h : b * 4096 + k < 8192 then a (ix2 ⟨b * 4096 + k, h⟩ j) else 0

/-- The sum of the first `n` values of sequence `b` in column `j`. -/
def total (a : (⟨2, ![8192, 128]⟩ : Shape).Idx → EReal) (b : ℕ) (j : Fin 128) (n : ℕ) : EReal := ∑ k ∈ Finset.range n, col a b j k

/-- A sum over the places up to `r`. -/
theorem sum_le {n : ℕ} (f : ℕ → EReal) (r : ℕ) (hr : r < n) : (∑ s : Fin n, if s.val ≤ r then f s.val else 0) = ∑ k ∈ Finset.range (r + 1), f k := by
  rw [Fin.sum_univ_eq_sum_range (fun s => if s ≤ r then f s else 0) n, ← Finset.sum_filter]
  refine Finset.sum_congr ?_ fun _ _ => rfl
  ext k
  simp only [Finset.mem_filter, Finset.mem_range]
  omega

/-- A value that isn't plus infinity, plus what is left of it after taking it away, is itself. -/
theorem add_rest (x : EReal) (h : x ≠ ⊤) : x + (x - x) = x := by
  induction x with
  | bot => simp
  | coe r => rw [← EReal.coe_sub, sub_self, EReal.coe_zero, add_zero]
  | top => exact absurd rfl h

theorem rest_rest (x : EReal) (h : x ≠ ⊤) : x + (x - x) + ((x - x) - (x - x)) = x := by
  induction x with
  | bot => simp
  | coe r => rw [← EReal.coe_sub, sub_self, EReal.coe_zero, sub_zero, add_zero, add_zero]
  | top => exact absurd rfl h

/-- Three sums over the same places, one for each part of the values. -/
theorem parts (p : Fin 256 → Prop) [DecidablePred p] (x : Fin 256 → EReal) (h : ∀ s, x s ≠ ⊤) :
    (∑ s, (if p s then (1 : EReal) else 0) * x s) + (∑ s, (if p s then (1 : EReal) else 0) * (x s - x s))
      + (∑ s, (if p s then (1 : EReal) else 0) * ((x s - x s) - (x s - x s))) = ∑ s, if p s then x s else 0 := by
  rw [← Finset.sum_add_distrib, ← Finset.sum_add_distrib]
  refine Finset.sum_congr rfl fun s _ => ?_
  by_cases hs : p s
  · simp only [if_pos hs, one_mul]
    exact rest_rest (x s) (h s)
  · simp only [if_neg hs, zero_mul, add_zero]

end Cert.Cumulated

namespace Cert.Kernel7Ideal.Cum

open Idealize.ShloMosaic Idealize.ShloMosaic.TcCoe Idealize.SL.Sem
open Cert.Kernel7Ideal Cert.Kernel7Ideal.Gen Cert.Cumulated

/-- The lower triangle: one where the column isn't past the row. -/
def tri : S256x256.Idx → EReal := fun y => if (y 1).val ≤ (y 0).val then 1 else 0

/-- The block of cumulated values: the running sums within the block, plus the carried row. -/
def block (x : S256x128.Idx → EReal) (p : S1x128.Idx → EReal) (r : Fin 256) (j : Fin 128) : EReal :=
  (∑ s : Fin 256, if s.val ≤ r.val then x (ix2 s j) else 0) + p (ix2 0 j)

theorem step (x : S256x128.Idx → EReal) (hx : ∀ y, x y ≠ ⊤) (p : S1x128.Idx → EReal) (r : Fin 256) (j : Fin 128) :
    (k0_pay2 (F := Ideal) x tri p : S256x128.Idx → EReal) (ix2 r j) = block x p r j := by
  have h : (k0_pay2 (F := Ideal) x tri p : S256x128.Idx → EReal) (ix2 r j)
      = (∑ s : Fin 256, tri (ix2 r s) * x (ix2 s j)) + (∑ s : Fin 256, tri (ix2 r s) * (x (ix2 s j) - x (ix2 s j)))
        + (∑ s : Fin 256, tri (ix2 r s) * ((x (ix2 s j) - x (ix2 s j)) - (x (ix2 s j) - x (ix2 s j)))) + p (ix2 0 j) := by
    generalize tri = T
    pointwise [k0_pay2]
  exact h.trans (congrArg (· + p (ix2 0 j)) (parts (fun s => s.val ≤ r.val) (fun s => x (ix2 s j)) (fun s => hx _)))

theorem last (x : S256x128.Idx → EReal) (T : S256x256.Idx → EReal) (p : S1x128.Idx → EReal) (j : Fin 128) :
    (k0_pay3 (F := Ideal) x T p : S1x128.Idx → EReal) (ix2 0 j) = (k0_pay2 (F := Ideal) x T p : S256x128.Idx → EReal) (ix2 255 j) := by
  unfold k0_pay3
  generalize k0_pay2 (F := Ideal) x T p = Q
  pointwise

theorem zeros (j : Fin 128) : (k0_pay1 (F := Ideal) : S1x128.Idx → EReal) (ix2 0 j) = 0 := by
  pointwise [k0_pay1]

section body

variable (c : Dev nD) (i : grid0.Coords) (arg2 : Memref sig .tc .vmem S256x128 .f32) (harg2 : arg2.IsWhole) (arg3 : Memref sig .tc .vmem S256x256 .bf16) (harg3 : arg3.IsWhole)
  (arg4 : Memref sig .tc .vmem S256x128 .f32) (harg4 : arg4.IsWhole) (arg5 : Memref sig .tc .vmem S1x128 .f32) (harg5 : arg5.IsWhole)
  (x0 : Vec Ideal S256x128 .f32) (xs : Vec Ideal S1x128 .f32)

theorem ldX_eq : View.readAt (Elt Ideal) arg2.view (Rect.unit (s := S256x128) ![0, 0] S256x128.size inb_S256x128_S256x128_0_0).toLoadRect (harg2.unread x0) = x0 :=
  (View.readAt_full _ _ _).trans (harg2.read_unread x0)

theorem ldT_eq (x1 : Vec Ideal S256x256 .bf16) : View.readAt (Elt Ideal) arg3.view (Rect.unit (s := S256x256) ![0, 0] S256x256.size inb_S256x256_S256x256_0_0).toLoadRect (harg3.unread x1) = x1 :=
  (View.readAt_full _ _ _).trans (harg3.read_unread x1)

theorem ldS_eq : View.readAt (Elt Ideal) arg5.view (Rect.unit (s := S1x128) ![0, 0] S1x128.size inb_S1x128_S1x128_0_0).toLoadRect (harg5.unread xs) = xs :=
  (View.readAt_full _ _ _).trans (harg5.read_unread xs)

/-- The first block of a sequence: the carried row starts at zero. -/
theorem outA (hc0 : cond0_0 i) :
    (out0_A_2 (F := Ideal) c i arg2 harg2 arg3 harg3 arg4 harg4 arg5 harg5 hc0 x0 tri : S256x128.Idx → EReal) = k0_pay2 (F := Ideal) x0 tri (k0_pay1 (F := Ideal)) := by
  unfold out0_A_2
  rw [View.read_writes_junk_eq_canon]
  unfold kernelRun0_A
  dsimp only
  simp (disch := decide) only [View.canon_cons_unit_lit', View.ld_unit_lit']
  unfold kernelRun0_A.sl.v18 kernelRun0_A.sl.HS0_1
  simp (disch := decide) only [View.readCov_unit_lit']
  rw [ldX_eq, ldT_eq]

theorem soutA (hc0 : cond0_0 i) :
    (sout0_A_0 (F := Ideal) c i arg2 harg2 arg3 harg3 arg4 harg4 arg5 harg5 hc0 x0 tri : S1x128.Idx → EReal) = k0_pay3 (F := Ideal) x0 tri (k0_pay1 (F := Ideal)) := by
  unfold sout0_A_0
  rw [View.read_writes_junk_eq_canon]
  unfold kernelRun0_A
  dsimp only
  simp (disch := decide) only [View.canon_cons_unit_lit', View.ld_unit_lit']
  unfold kernelRun0_A.sl.v18 kernelRun0_A.sl.HS0_1
  simp (disch := decide) only [View.readCov_unit_lit']
  rw [ldX_eq, ldT_eq]

theorem outB (hc0 : ¬cond0_0 i) :
    (out0_B_2 (F := Ideal) c i arg2 harg2 arg3 harg3 arg4 harg4 arg5 harg5 hc0 x0 tri xs : S256x128.Idx → EReal) = k0_pay2 (F := Ideal) x0 tri xs := by
  unfold out0_B_2
  rw [View.read_writes_junk_eq_canon]
  unfold kernelRun0_B
  dsimp only
  simp (disch := decide) only [View.canon_cons_unit_lit', View.ld_unit_lit']
  rw [ldX_eq, ldT_eq, ldS_eq]

theorem soutB (hc0 : ¬cond0_0 i) :
    (sout0_B_0 (F := Ideal) c i arg2 harg2 arg3 harg3 arg4 harg4 arg5 harg5 hc0 x0 tri xs : S1x128.Idx → EReal) = k0_pay3 (F := Ideal) x0 tri xs := by
  unfold sout0_B_0
  rw [View.read_writes_junk_eq_canon]
  unfold kernelRun0_B
  dsimp only
  simp (disch := decide) only [View.canon_cons_unit_lit', View.ld_unit_lit']
  rw [ldX_eq, ldT_eq, ldS_eq]

end body

end Cert.Kernel7Ideal.Cum
-- ==== Proof.CumArr.lean ====
/- The cumulated log forget values: the array the call leaves. -/
module

public import proofs.«01_k».proof.Proof.CumBody

@[expose] public section

set_option maxRecDepth 16384

noncomputable section

namespace Cert.Kernel7Ideal.Cum

open Idealize.ShloMosaic Idealize.ShloMosaic.TcCoe Idealize.SL.Sem
open Cert.Kernel7Ideal Cert.Kernel7Ideal.Gen Cert.Cumulated

/-- Which block of each array a grid point reads or writes. -/
theorem idx : ∀ t : Fin cfg0.N,
    win0_0.index t = ![t.val, 0] ∧ win0_1.index t = ![0, 0] ∧ win0_2.index t = ![t.val, 0] :=
  (by decide +kernel : ∀ t : Fin grid0.N, _)

theorem lt_points (t : Fin cfg0.N) : t.val < 32 := lt_of_lt_of_eq t.isLt N_0

theorem emb0 (t : Fin cfg0.N) (r : Fin 256) (q : Fin 128) : ((win0_0.blk t).view.emb (ix2 r q) : S8192x128.Idx)
    = ix2 ⟨t.val * 256 + r.val, by have := lt_points t; omega⟩ q := by
  blk_ext [idx t] <;> rfl

theorem emb1 (t : Fin cfg0.N) (r : Fin 256) (q : Fin 256) : ((win0_1.blk t).view.emb (ix2 r q) : S256x256.Idx) = ix2 r q := by
  blk_ext [idx t] <;> rfl

theorem emb2 (t : Fin cfg0.N) (r : Fin 256) (q : Fin 128) : ((win0_2.blk t).view.emb (ix2 r q) : S8192x128.Idx)
    = ix2 ⟨t.val * 256 + r.val, by have := lt_points t; omega⟩ q := by
  blk_ext [idx t] <;> rfl

variable (m : (ℓ : Loc nD τ sig) → Buf (Elt Ideal) ℓ)

abbrev aF (c : Dev nD) : S8192x128.Idx → EReal := m ((c : Thread nD τ).loc main_arg0)

/-- The order of two small words, as a number. -/
theorem le_word (a b : ℕ) (ha : a < 256) (hb : b < 256) :
    (FloatOps.uitofp (F := Ideal) FTy.bf16 (IntOp.cmpi .sle (BitVec.ofNat 32 a) (BitVec.ofNat 32 b)) : EReal) = if a ≤ b then 1 else 0 := by
  have h1 : (BitVec.ofNat 32 a).toInt = a := by
    rw [BitVec.toInt_eq_toNat_cond, BitVec.toNat_ofNat]
    split <;> omega
  have h2 : (BitVec.ofNat 32 b).toInt = b := by
    rw [BitVec.toInt_eq_toNat_cond, BitVec.toNat_ofNat]
    split <;> omega
  have h3 : IntOp.cmpi .sle (BitVec.ofNat 32 a) (BitVec.ofNat 32 b) = if a ≤ b then 1#1 else 0#1 := by
    unfold IntOp.cmpi
    by_cases h : a ≤ b
    · simp [BitVec.sle, h1, h2, h]
    · simp [BitVec.sle, h1, h2, h]
  rw [h3]
  by_cases h : a ≤ b
  · rw [if_pos h, if_pos h]
    simp [FloatOps.uitofp]
  · rw [if_neg h, if_neg h]
    simp [FloatOps.uitofp]

theorem tri_at (c : Dev nD) (r q : Fin 256) : (V m c main_v3 : S256x256.Idx → EReal) (ix2 r q) = tri (ix2 r q) := by
  entry_read
  pointwise
  exact le_word _ _ q.isLt r.isLt

/-- The values a grid point reads. -/
abbrev vals (c : Dev nD) (t : Fin cfg0.N) : S256x128.Idx → EReal := iblk m c 0 t

theorem blk0 (c : Dev nD) (t : Fin cfg0.N) (r : Fin 256) (q : Fin 128) : vals m c t (ix2 r q)
    = aF m c (ix2 ⟨t.val * 256 + r.val, by have := lt_points t; omega⟩ q) :=
  (congrArg (V m c main_arg0 : S8192x128.Idx → EReal) (emb0 t r q)).trans (congrFun (V_main_arg0 m c) _)

theorem blk1 (c : Dev nD) (t : Fin cfg0.N) : (iblk m c 1 t : S256x256.Idx → EReal) = tri := by
  funext (y : S256x256.Idx)
  idx_vars y
  exact (congrArg (V m c main_v3 : S256x256.Idx → EReal) (emb1 t y0 y1)).trans (tri_at m c y0 y1)

/-- A block of a grid point, from the row the point before carried: the totals up to each row. -/
theorem block_total (c : Dev nD) (t : Fin cfg0.N) (p : S1x128.Idx → EReal) (j : Fin 128)
    (hp : p (ix2 0 j) = total (aF m c) (t.val / 16) j (t.val % 16 * 256)) (r : Fin 256) :
    block (vals m c t) p r j = total (aF m c) (t.val / 16) j (t.val % 16 * 256 + (r.val + 1)) := by
  have ht := lt_points t
  unfold block
  rw [hp]
  unfold total
  rw [Finset.sum_range_add, add_comm]
  refine congrArg (_ + ·) (Eq.trans ?_ (sum_le (n := 256) (fun k => col (aF m c) (t.val / 16) j (t.val % 16 * 256 + k)) r.val r.isLt))
  refine Finset.sum_congr rfl fun s _ => ?_
  refine congrArg (fun z : EReal => if s.val ≤ r.val then z else 0) ((blk0 m c t s j).trans ?_)
  unfold col
  rw [dif_pos (by omega)]
  refine congrArg (fun z => aF m c (ix2 z j)) (Fin.ext ?_)
  show t.val * 256 + s.val = t.val / 16 * 4096 + (t.val % 16 * 256 + s.val)
  omega

section run

variable (c : Dev nD) (hF : ∀ y, aF m c y ≠ ⊤)
include hF

theorem vals_ne (t : Fin cfg0.N) (y : S256x128.Idx) : vals m c t y ≠ ⊤ := by
  idx_vars y
  exact Eq.subst (motive := fun z : EReal => z ≠ ⊤) (blk0 m c t y0 y1).symm (hF _)

/-- What a grid point leaves, from the row carried to it: the block and the carried row. -/
theorem leaves (t : Fin cfg0.N) (p : S1x128.Idx → EReal)
    (hp : ∀ j, p (ix2 0 j) = total (aF m c) (t.val / 16) j (t.val % 16 * 256)) :
    (∀ r j, (k0_pay2 (F := Ideal) (vals m c t) tri p : S256x128.Idx → EReal) (ix2 r j) = total (aF m c) (t.val / 16) j (t.val % 16 * 256 + (r.val + 1)))
    ∧ ∀ j, (k0_pay3 (F := Ideal) (vals m c t) tri p : S1x128.Idx → EReal) (ix2 0 j) = total (aF m c) (t.val / 16) j (t.val % 16 * 256 + 256) := by
  have h : ∀ r j, (k0_pay2 (F := Ideal) (vals m c t) tri p : S256x128.Idx → EReal) (ix2 r j) = total (aF m c) (t.val / 16) j (t.val % 16 * 256 + (r.val + 1)) :=
    fun r j => (step _ (vals_ne m c hF t) p r j).trans (block_total m c t p j (hp j) r)
  exact ⟨h, fun j => (last _ _ _ j).trans (h 255 j)⟩

/-- After every grid point: the block it writes and the row it carries on. -/
theorem points (n : ℕ) : ∀ hn : n < cfg0.N,
    (∀ r j, ((outsAt0 m c n hn).1 : S256x128.Idx → EReal) (ix2 r j) = total (aF m c) (n / 16) j (n % 16 * 256 + (r.val + 1)))
    ∧ ∀ j, ((outsAt0 m c n hn).2 : S1x128.Idx → EReal) (ix2 0 j) = total (aF m c) (n / 16) j (n % 16 * 256 + 256) := by
  induction n with
  | zero =>
    intro hn
    have e := outsAt0_A m c ⟨0, hn⟩ rfl
    dsimp only at e
    rw [e, blk1 m c ⟨0, hn⟩, outA, soutA]
    exact leaves m c hF ⟨0, hn⟩ _ fun j => (zeros j).trans (Finset.sum_range_zero _).symm
  | succ n ih =>
    intro hn
    by_cases h0 : (n + 1) % 16 = 0
    · have e := outsAt0_A m c ⟨n + 1, hn⟩ h0
      dsimp only at e
      rw [e, blk1 m c ⟨n + 1, hn⟩, outA, soutA]
      refine leaves m c hF ⟨n + 1, hn⟩ _ fun j => (zeros j).trans ?_
      dsimp only
      rw [h0, Nat.zero_mul]
      exact (Finset.sum_range_zero _).symm
    · have e := outsAt0_B m c ⟨n + 1, hn⟩ h0
      dsimp only at e
      rw [e, blk1 m c ⟨n + 1, hn⟩, outB, soutB]
      refine leaves m c hF ⟨n + 1, hn⟩ _ fun j => ((ih (Nat.lt_of_succ_lt hn)).2 j).trans ?_
      dsimp only
      rw [show (n + 1) / 16 = n / 16 by omega, show (n + 1) % 16 * 256 = n % 16 * 256 + 256 by omega]

end run

/-- The result: the totals of the sequence up to the row. -/
def result (c : Dev nD) : S8192x128.Idx → EReal := fun y => total (aF m c) ((y 0).val / 4096) (y 1) ((y 0).val % 4096 + 1)

theorem final (c : Dev nD) (hF : ∀ y, aF m c y ≠ ⊤) : (dats m 0 c).arrAt 2 cfg0.N = result m c := by
  refine (dats m 0 c).arrAt_eq_of_covers 2 _ (by decide +kernel) fun t hf y => ?_
  have ht := lt_points t
  blk_simp
  rw [after0_2]
  idx_vars y
  refine ((points m c hF t.val t.isLt).1 y0 y1).trans ?_
  refine Eq.trans ?_ (congrArg (result m c) (emb2 t y0 y1)).symm
  show _ = total (aF m c) ((t.val * 256 + y0.val) / 4096) y1 ((t.val * 256 + y0.val) % 4096 + 1)
  rw [show (t.val * 256 + y0.val) / 4096 = t.val / 16 by omega, show (t.val * 256 + y0.val) % 4096 + 1 = t.val % 16 * 256 + (y0.val + 1) by omega]

end Cert.Kernel7Ideal.Cum
-- ==== Proof.CumRef.lean ====
/- The cumulated log forget values: the reference at an index. -/
module

public import proofs.«01_k».proof.Proof.CumBody
public import proofs.«01_k».proof.Proof.Gen.Reference7Ideal.Run
public import Idealize.ShloMosaic.Lib.Pointwise
public import Idealize.ShloMosaic.Lib.IdealHost

@[expose] public section

set_option maxRecDepth 16384

noncomputable section

namespace Cert.Reference7Ideal.Cum

open Idealize.ShloMosaic Idealize.ShloMosaic.TcCoe Idealize.SL.Sem
open Cert.Reference7Ideal Cert.Reference7Ideal.Gen Cert.Cumulated

/-- Picking by the order of two small words. -/
theorem pick_le {α : Type} (a b : ℕ) (ha : a < 4096) (hb : b < 4096) (u v : α) :
    Scalar.select (IntOp.cmpi .sle (BitVec.ofNat 32 a) (BitVec.ofNat 32 b)) u v = if a ≤ b then u else v := by
  have h1 : (BitVec.ofNat 32 a).toInt = a := by
    rw [BitVec.toInt_eq_toNat_cond, BitVec.toNat_ofNat]
    split <;> omega
  have h2 : (BitVec.ofNat 32 b).toInt = b := by
    rw [BitVec.toInt_eq_toNat_cond, BitVec.toNat_ofNat]
    split <;> omega
  unfold Scalar.select IntOp.cmpi
  by_cases h : a ≤ b
  · simp [BitVec.sle, h1, h2, h]
  · simp [BitVec.sle, h1, h2, h]

def sums (x : FVec Ideal S8192x128 .f32) : FVec Ideal S2x4096x128 .f32 :=
  Host.reduceAdd (select (broadcastInDim S2x4096x4096x128 ![0, 1, 2, 3] bcast_S1x4096x4096x1_S2x4096x4096x128_0_1_2_3 (broadcastInDim S1x4096x4096x1 ![1, 2] bcast_S4096x4096_S1x4096x4096x1_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (broadcastInDim S2x4096x4096x128 ![0, 1, 2, 3] bcast_S2x1x4096x128_S2x4096x4096x128_0_1_2_3 (broadcastInDim S2x1x4096x128 ![0, 2, 3] bcast_S2x4096x128_S2x1x4096x128_0_2_3 (shapeCast _ x shapeCasts_S8192x128_S2x4096x128))) (broadcastInDim S2x4096x4096x128 ![] bcast_S_S2x4096x4096x128 (id (constant S_ .f32 0x00000000#32)))) (constant S_ .f32 0x00000000#32) reducesTo_S2x4096x4096x128_S2x4096x128_d2 h_S_

def whole (x : FVec Ideal S8192x128 .f32) : FVec Ideal S8192x128 .f32 := shapeCast _ (sums x) shapeCasts_S2x4096x128_S8192x128

theorem sums_at (x : FVec Ideal S8192x128 .f32) (b : Fin 2) (t : Fin 4096) (j : Fin 128) : sums x (ix3 b t j) = total x b.val j (t.val + 1) := by
  have h : sums x (ix3 b t j) = ∑ s : Fin 4096, if s.val ≤ t.val then x (ix2 ⟨b.val * 4096 + s.val, by omega⟩ j) else 0 := by
    pointwise [sums, id]
    simp only [pick_le _ _ (Fin.isLt _) (Fin.isLt _)]
  refine h.trans (Eq.trans ?_ (sum_le (n := 4096) (col x b.val j) t.val t.isLt))
  refine Finset.sum_congr rfl fun s _ => ?_
  unfold col
  rw [dif_pos (by omega)]

theorem whole_at (x : FVec Ideal S8192x128 .f32) (r : Fin 8192) (j : Fin 128) : whole x (ix2 r j) = total x (r.val / 4096) j (r.val % 4096 + 1) := by
  have h : whole x (ix2 r j) = sums x (ix3 ⟨r.val / 4096, by omega⟩ ⟨r.val % 4096, by omega⟩ j) := by
    unfold whole
    generalize sums x = M
    pointwise
  exact h.trans (sums_at x _ _ _)

end Cert.Reference7Ideal.Cum
-- ==== Proof.Cum.lean ====
/- The claims about the cumulated log forget values: the frames, and the result equal where no log forget value is plus
   infinity. -/
module

public import proofs.«01_k».proof.Defs
public import proofs.«01_k».proof.Proof.Gen.Kernel7.Frame
public import proofs.«01_k».proof.Proof.Gen.Pre_below_infinity
public import proofs.«01_k».proof.Proof.Attention
public import proofs.«01_k».proof.Proof.CumArr
public import proofs.«01_k».proof.Proof.CumRef
public import Idealize.ShloMosaic.Lib.Quiescent

@[expose] public section

set_option maxRecDepth 16384

noncomputable section

namespace Cert.Cumulated

open Idealize.ShloMosaic Idealize.ShloMosaic.TcCoe Idealize.SL.Sem
open Cert.Kernel7Ideal Cert.Kernel7Ideal.Gen Cert.Kernel7Ideal.Cum

variable (m : (ℓ : Loc nD τ sig) → Buf (Elt Ideal) ℓ) (ρ : Dev nD → PrngReg)

theorem belowFacts : Cert.Pre_below_infinity.Facts := Cert.Pre_below_infinity.Gen.facts

/-- A value below infinity isn't plus infinity. -/
theorem ne_of_below (x : EReal) (h : Ideal.cmp .olt x (Ideal.ofBits FTy.f32 0x7F800000#32) = 1#1) : x ≠ ⊤ := by
  rw [Cert.Attention.infinity] at h
  rintro rfl
  simp [Ideal.cmp] at h

theorem all_below {s : Shape} {axes : List (Fin s.rank)} (x : FVec Ideal s .f32)
    (hb : Cert.Pre_below_infinity.S_.BroadcastsInDim s (![] : Fin 0 → Fin s.rank)) (hr : s.ReducesTo axes Cert.Pre_below_infinity.S_)
    (hu : 0 < Cert.Pre_below_infinity.S_.numel)
    (h : Host.reduce IntOp.andi (cmpf .olt x
      (broadcastInDim s ![] hb (constant (F := Ideal) Cert.Pre_below_infinity.S_ .f32 0x7F800000#32)))
      (constantI Cert.Pre_below_infinity.S_ 1 1#1) hr hu = fun _ => 1#1) (i : s.Idx) : (x i : EReal) ≠ ⊤ := by
  have e := Host.reduce_andi_all _ _ hr hu (fun a => a.elim0) (congrFun h _) i
  exact ne_of_below (x i) e

theorem pre_below (h : Cert.Pre_Kernel7Ideal_below_infinity (hPre_below_infinity := belowFacts) m) (c : Dev nD) (i : S8192x128.Idx) :
    aF m c i ≠ ⊤ := by
  have h0 := h c
  dsimp only [Cert.Pre_below_infinity.fn] at h0
  exact all_below _ _ _ _ h0 i

theorem whole_eq (c : Dev nD) : Cert.Reference7Ideal.Cum.whole (aF m c) = result m c := by
  funext (y : S8192x128.Idx)
  idx_vars y
  exact Cert.Reference7Ideal.Cum.whole_at (aF m c) y0 y1

theorem frame_kernel7 : Cert.quiescent_Kernel7 (hKernel7 := Cert.Kernel7.Gen.facts) :=
  fun m ρ _ => Cert.Kernel7.Gen.frame m ρ

theorem frame_ideal7 : Cert.quiescent_Kernel7Ideal (hKernel7Ideal := Cert.Kernel7Ideal.Gen.facts) :=
  fun m ρ _ => Cert.Kernel7Ideal.Gen.frame m ρ

theorem frame_ideal7_pre : Cert.quiescent_Kernel7Ideal_pre_below_infinity (hKernel7Ideal := Cert.Kernel7Ideal.Gen.facts)
    (hPre_below_infinity := belowFacts) :=
  fun m ρ _ => Cert.Kernel7Ideal.Gen.frame m ρ

theorem frame_reference7 : Cert.quiescent_Reference7Ideal (hReference7Ideal := Cert.Reference7Ideal.Gen.facts) :=
  fun m ρ _ => (θ_run (Cert.Reference7Ideal.defs (F := Ideal)) _ _).mono
    (fun r h => ⟨fun c => (h c).2, sem_eq_zero_of_no_sems (by decide) r.2⟩)
    (Cert.Reference7Ideal.Value.run (F := Ideal) m ρ)

theorem frame_reference7_pre : Cert.quiescent_Reference7Ideal_pre_below_infinity (hReference7Ideal := Cert.Reference7Ideal.Gen.facts)
    (hPre_below_infinity := belowFacts) :=
  fun m ρ _ => frame_reference7 m ρ trivial

theorem preserves7 : Cert.preserves_Kernel7_Kernel7Ideal := trivial

theorem algebraic7 : Cert.algebraic_Kernel7Ideal_Reference7Ideal_pre_below_infinity (hKernel7Ideal := Cert.Kernel7Ideal.Gen.facts)
    (hReference7Ideal := Cert.Reference7Ideal.Gen.facts) (hPre_below_infinity := belowFacts) := by
  intro m ρ m' ρ' hpre hargs
  refine ⟨fun c => result m c, ?_, ?_⟩
  · exact (θ_run _ _ _).mono (fun r h c => ⟨(h c).1.trans (final m c (pre_below m hpre c)), (h c).2⟩) (Value.run_blocks m ρ)
  · refine (θ_run _ _ _).mono (fun r h c => ?_) (Cert.Reference7Ideal.Value.run m' ρ')
    have e0 := hargs c
    refine ⟨((h c).1.trans ?_).trans (whole_eq m c), (h c).2⟩
    rw [e0]
    rfl

end Cert.Cumulated
-- ==== Proof.Mask8Body.lean ====
/- The samples' gates of all experts: the body of the call. A trip of its loop writes, for one token, the gate of every expert as
   16 slabs of 8 first keys by 128 second keys. -/
module

public import proofs.«01_k».proof.Defs
public import proofs.«01_k».proof.Proof.Gen.Kernel8Ideal.Value
public import Idealize.ShloMosaic.Lib.Pipeline.ValueKit
public import Idealize.ShloMosaic.Lib.Pointwise
public import Idealize.ShloMosaic.Lib.WholeRead
public import Idealize.ShloMosaic.Lib.IdealHost
public import Idealize.ShloMosaic.Lib.Claim
public import proofs.«01_k».proof.Proof.MaskBody

@[expose] public section

set_option maxRecDepth 16384

noncomputable section

namespace Cert.Kernel8Ideal.Mask

open Idealize.ShloMosaic Idealize.ShloMosaic.TcCoe Idealize.SL.Sem
open Cert.Kernel8Ideal Cert.Kernel8Ideal.Gen Cert.Gates

/-- The products of one token: the gate of expert `128 i + j`. -/
theorem pay7_at (v : IVec S128x128 32) (hv : v = iota .tc S128x128 32 [0] iota_S128x128_d0_w32) (x : Vec Ideal S1x128 .i32) (g : Vec Ideal S1x128 .f32)
    (hg : ∀ p : Fin 128, (g (ix2 0 p) : EReal) ≠ ⊤) (i j : Fin 128) :
    k0_pay7 v v x g (ix2 i j) = cell (fun p => x (ix2 0 p)) (fun p => g (ix2 0 p)) (i.val * 128 + j.val) := by
  subst hv
  pointwise [k0_pay7]
  simp only [pick, shift]
  refine (Finset.sum_add_distrib).symm.trans (Finset.sum_congr rfl fun p _ => ?_)
  have h := halves (x (ix2 0 p)) i.val j.val i.isLt j.isLt
  have hr := add_rest _ (hg p)
  by_cases h1 : BitVec.ofNat 32 i.val = (x (ix2 0 p)).sshiftRight 7 <;>
    by_cases h2 : BitVec.ofNat 32 j.val = x (ix2 0 p) &&& 127#32 <;> simp_all [IntOp.andi]

/-! ## The slabs of the products -/

theorem cut0 (v : IVec S128x128 32) (x g) (b : Fin 8) (q : Fin 128) :
    k0_pay8 (F := Ideal) v v x g (ix3 0 b q) = k0_pay7 v v x g (ix2 ⟨0 * 8 + b.val, by omega⟩ q) := by
  pointwise [k0_pay8]
theorem cut1 (v : IVec S128x128 32) (x g) (b : Fin 8) (q : Fin 128) :
    k0_pay9 (F := Ideal) v v x g (ix3 0 b q) = k0_pay7 v v x g (ix2 ⟨1 * 8 + b.val, by omega⟩ q) := by
  pointwise [k0_pay9]
theorem cut2 (v : IVec S128x128 32) (x g) (b : Fin 8) (q : Fin 128) :
    k0_pay11 (F := Ideal) (k0_pay10 v v x g) (ix3 0 b q) = k0_pay7 v v x g (ix2 ⟨2 * 8 + b.val, by omega⟩ q) := by
  pointwise [k0_pay11, k0_pay10]
theorem cut3 (M : FVec Ideal S128x128 .f32) (b : Fin 8) (q : Fin 128) : k0_pay12 M (ix3 0 b q) = M (ix2 ⟨3 * 8 + b.val, by omega⟩ q) := by
  pointwise [k0_pay12]
theorem cut4 (M : FVec Ideal S128x128 .f32) (b : Fin 8) (q : Fin 128) : k0_pay13 M (ix3 0 b q) = M (ix2 ⟨4 * 8 + b.val, by omega⟩ q) := by
  pointwise [k0_pay13]
theorem cut5 (M : FVec Ideal S128x128 .f32) (b : Fin 8) (q : Fin 128) : k0_pay14 M (ix3 0 b q) = M (ix2 ⟨5 * 8 + b.val, by omega⟩ q) := by
  pointwise [k0_pay14]
theorem cut6 (M : FVec Ideal S128x128 .f32) (b : Fin 8) (q : Fin 128) : k0_pay15 M (ix3 0 b q) = M (ix2 ⟨6 * 8 + b.val, by omega⟩ q) := by
  pointwise [k0_pay15]
theorem cut7 (M : FVec Ideal S128x128 .f32) (b : Fin 8) (q : Fin 128) : k0_pay16 M (ix3 0 b q) = M (ix2 ⟨7 * 8 + b.val, by omega⟩ q) := by
  pointwise [k0_pay16]
theorem cut8 (M : FVec Ideal S128x128 .f32) (b : Fin 8) (q : Fin 128) : k0_pay17 M (ix3 0 b q) = M (ix2 ⟨8 * 8 + b.val, by omega⟩ q) := by
  pointwise [k0_pay17]
theorem cut9 (M : FVec Ideal S128x128 .f32) (b : Fin 8) (q : Fin 128) : k0_pay18 M (ix3 0 b q) = M (ix2 ⟨9 * 8 + b.val, by omega⟩ q) := by
  pointwise [k0_pay18]
theorem cut10 (M : FVec Ideal S128x128 .f32) (b : Fin 8) (q : Fin 128) : k0_pay1 M (ix3 0 b q) = M (ix2 ⟨10 * 8 + b.val, by omega⟩ q) := by
  pointwise [k0_pay1]
theorem cut11 (M : FVec Ideal S128x128 .f32) (b : Fin 8) (q : Fin 128) : k0_pay2 M (ix3 0 b q) = M (ix2 ⟨11 * 8 + b.val, by omega⟩ q) := by
  pointwise [k0_pay2]
theorem cut12 (M : FVec Ideal S128x128 .f32) (b : Fin 8) (q : Fin 128) : k0_pay3 M (ix3 0 b q) = M (ix2 ⟨12 * 8 + b.val, by omega⟩ q) := by
  pointwise [k0_pay3]
theorem cut13 (M : FVec Ideal S128x128 .f32) (b : Fin 8) (q : Fin 128) : k0_pay4 M (ix3 0 b q) = M (ix2 ⟨13 * 8 + b.val, by omega⟩ q) := by
  pointwise [k0_pay4]
theorem cut14 (M : FVec Ideal S128x128 .f32) (b : Fin 8) (q : Fin 128) : k0_pay5 M (ix3 0 b q) = M (ix2 ⟨14 * 8 + b.val, by omega⟩ q) := by
  pointwise [k0_pay5]
theorem cut15 (M : FVec Ideal S128x128 .f32) (b : Fin 8) (q : Fin 128) : k0_pay6 M (ix3 0 b q) = M (ix2 ⟨15 * 8 + b.val, by omega⟩ q) := by
  pointwise [k0_pay6]

/-! ## The trips -/

/-- What the body leaves at an index of the block. -/
def tgt (x0 : Vec Ideal S64x128 .i32) (x1 : Vec Ideal S64x128 .f32) (y : S16x512x128.Idx) : EReal :=
  cell (fun p => x0 (ix2 ⟨(y 1).val / 8, Nat.div_lt_of_lt_mul (y 1).isLt⟩ p)) (fun p => x1 (ix2 ⟨(y 1).val / 8, Nat.div_lt_of_lt_mul (y 1).isLt⟩ p))
    (((y 0).val * 8 + (y 1).val % 8) * 128 + (y 2).val)

theorem tgt_at (x0 : Vec Ideal S64x128 .i32) (x1 : Vec Ideal S64x128 .f32) (k : ℕ) (hk : k < 64) (a : ℕ) (ha : a < 16) (b : Fin 8) (q : Fin 128) :
    tgt x0 x1 (ix3 ⟨a, ha⟩ ⟨8 * k + b.val, by omega⟩ q)
      = cell (fun p => x0 (ix2 ⟨k, hk⟩ p)) (fun p => x1 (ix2 ⟨k, hk⟩ p)) ((a * 8 + b.val) * 128 + q.val) := by
  have h1 : (8 * k + b.val) / 8 = k := by omega
  have h2 : (8 * k + b.val) % 8 = b.val := by omega
  have hr : (⟨(8 * k + b.val) / 8, by omega⟩ : Fin 64) = ⟨k, hk⟩ := Fin.ext h1
  show cell (fun p => x0 (ix2 (⟨(8 * k + b.val) / 8, _⟩ : Fin 64) p)) (fun p => x1 (ix2 (⟨(8 * k + b.val) / 8, _⟩ : Fin 64) p))
    ((a * 8 + (8 * k + b.val) % 8) * 128 + q.val) = _
  rw [hr, h2]

/-- A slab that agrees with the target. -/
theorem slab (k : ℕ) (hk : k < 64) (a : ℕ) (ha : a < 16) (T : S16x512x128.Idx → EReal) {off : Fin 3 → ℕ} (hoff : off = ![a, 8 * k, 0])
    {inb : ∀ i, off i + S1x8x128.size i ≤ S16x512x128.size i} {w : S1x8x128.Idx → EReal}
    (h : ∀ (b : Fin 8) (q : Fin 128), w (ix3 0 b q) = T (ix3 ⟨a, ha⟩ ⟨8 * k + b.val, by omega⟩ q))
    {p : View.Piece (Elt Ideal) S16x512x128 .f32} (hp : p = ⟨Rect.unit (s := S16x512x128) off S1x8x128.size inb, w⟩) :
    ∀ x, p.2 x = T (p.1.emb x) := by
  subst hp
  subst hoff
  intro (x : S1x8x128.Idx)
  idx_vars x
  have h0 : x0 = 0 := Subsingleton.elim _ _
  subst h0
  refine (h x1 x2).trans (congrArg T ?_)
  funext i
  match i with
  | ⟨0, _⟩ => exact Fin.ext (by show a = a + 1 * 0; omega)
  | ⟨1, _⟩ => exact Fin.ext (by show 8 * k + x1.val = 8 * k + 1 * x1.val; omega)
  | ⟨2, _⟩ => exact Fin.ext (by show x2.val = 0 + 1 * x2.val; omega)

/-- The row a trip loads. -/
theorem ld_row {φ : EltTy} (X : S64x128.Idx → Elt Ideal φ) (k : ℕ) (hk : k < 64) {off : Fin 2 → ℕ} (hoff : off = ![k, 0])
    (inb : ∀ i, off i + S1x128.size i ≤ S64x128.size i) (p : Fin 128) :
    View.ld X (Rect.unit (s := S64x128) off S1x128.size inb) (ix2 0 p) = X (ix2 ⟨k, hk⟩ p) := by
  subst hoff
  refine congrArg X ?_
  funext i
  match i with
  | ⟨0, _⟩ => exact Fin.ext (by show k + 1 * 0 = k; omega)
  | ⟨1, _⟩ => exact Fin.ext (by show 0 + 1 * p.val = p.val; omega)

section Launch

variable (c : Dev nD) (i : grid0.Coords) (arg1 : Memref sig .tc .vmem S64x128 .i32) (harg1 : arg1.IsWhole) (arg2 : Memref sig .tc .vmem S64x128 .f32) (harg2 : arg2.IsWhole) (arg3 : Memref sig .tc .vmem S16x512x128 .f32) (harg3 : arg3.IsWhole)
    (x0 : Vec Ideal S64x128 .i32) (x1 : Vec Ideal S64x128 .f32)

theorem trips_eq : k0_t1_loop.trips = 64 := by decide

/-- The products of trip `k`. -/
theorem row_at (hx : ∀ y, (x1 y : EReal) ≠ ⊤) (v : IVec S128x128 32) (hv : v = iota .tc S128x128 32 [0] iota_S128x128_d0_w32)
    (k : Fin k0_t1_loop.trips) (hk : k.val < 64) (inb) (i j : Fin 128) :
    k0_pay7 (F := Ideal) v v (View.readAt (Elt Ideal) arg1.view (Rect.unit (s := S64x128) (k0_off1 k) S1x128.size inb).toLoadRect (harg1.unread x0))
      (View.readAt (Elt Ideal) arg2.view (Rect.unit (s := S64x128) (k0_off1 k) S1x128.size inb).toLoadRect (harg2.unread x1)) (ix2 i j)
      = cell (fun p => x0 (ix2 ⟨k.val, hk⟩ p)) (fun p => x1 (ix2 ⟨k.val, hk⟩ p)) (i.val * 128 + j.val) := by
  have e0 : ∀ p : Fin 128, View.readAt (Elt Ideal) arg1.view (Rect.unit (s := S64x128) (k0_off1 k) S1x128.size inb).toLoadRect (harg1.unread x0) (ix2 0 p)
      = x0 (ix2 ⟨k.val, hk⟩ p) := fun p =>
    (Memref.IsWhole.readAt_unread harg1 _ _ _).trans (ld_row x0 k.val hk (k0_off1_eq k) inb p)
  have e1 : ∀ p : Fin 128, View.readAt (Elt Ideal) arg2.view (Rect.unit (s := S64x128) (k0_off1 k) S1x128.size inb).toLoadRect (harg2.unread x1) (ix2 0 p)
      = x1 (ix2 ⟨k.val, hk⟩ p) := fun p =>
    (Memref.IsWhole.readAt_unread harg2 _ _ _).trans (ld_row x1 k.val hk (k0_off1_eq k) inb p)
  refine (pay7_at v hv _ _ (fun p => ?_) i j).trans (congrArg₂ (fun a b => cell a b _) (funext e0) (funext e1))
  exact Eq.subst (motive := fun z : EReal => z ≠ ⊤) (e1 p).symm (hx _)

theorem trip_ok (hx : ∀ y, (x1 y : EReal) ≠ ⊤) (v : IVec S128x128 32) (hv : v = iota .tc S128x128 32 [0] iota_S128x128_d0_w32)
    (k : Fin k0_t1_loop.trips) (p : View.Piece (Elt Ideal) S16x512x128 .f32)
    (hp : p ∈ tripL_k0_t1 (F := Ideal) Variants.none c none i arg1 harg1 arg2 harg2 arg3 harg3 v v (harg1.unread x0) (harg2.unread x1) k) :
    ∀ x, p.2 x = tgt x0 x1 (p.1.emb x) := by
  have hk : k.val < 64 := lt_of_lt_of_eq k.isLt trips_eq
  unfold tripL_k0_t1 trip_k0_t1 at hp
  dsimp only at hp
  simp only [List.mem_cons, List.not_mem_nil, or_false] at hp
  have row := row_at arg1 harg1 arg2 harg2 x0 x1 hx v hv k hk (k0_off1_inb k)
  rcases hp with h | h | h | h | h | h | h | h | h | h | h | h | h | h | h | h
  · exact slab k.val hk 15 (by decide) _ (k0_off17_eq k) (fun b q => (cut15 _ b q).trans ((row _ q).trans (tgt_at x0 x1 k.val hk 15 (by decide) b q).symm)) h
  · exact slab k.val hk 14 (by decide) _ (k0_off16_eq k) (fun b q => (cut14 _ b q).trans ((row _ q).trans (tgt_at x0 x1 k.val hk 14 (by decide) b q).symm)) h
  · exact slab k.val hk 13 (by decide) _ (k0_off15_eq k) (fun b q => (cut13 _ b q).trans ((row _ q).trans (tgt_at x0 x1 k.val hk 13 (by decide) b q).symm)) h
  · exact slab k.val hk 12 (by decide) _ (k0_off14_eq k) (fun b q => (cut12 _ b q).trans ((row _ q).trans (tgt_at x0 x1 k.val hk 12 (by decide) b q).symm)) h
  · exact slab k.val hk 11 (by decide) _ (k0_off13_eq k) (fun b q => (cut11 _ b q).trans ((row _ q).trans (tgt_at x0 x1 k.val hk 11 (by decide) b q).symm)) h
  · exact slab k.val hk 10 (by decide) _ (k0_off12_eq k) (fun b q => (cut10 _ b q).trans ((row _ q).trans (tgt_at x0 x1 k.val hk 10 (by decide) b q).symm)) h
  · exact slab k.val hk 9 (by decide) _ (k0_off11_eq k) (fun b q => (cut9 _ b q).trans ((row _ q).trans (tgt_at x0 x1 k.val hk 9 (by decide) b q).symm)) h
  · exact slab k.val hk 8 (by decide) _ (k0_off10_eq k) (fun b q => (cut8 _ b q).trans ((row _ q).trans (tgt_at x0 x1 k.val hk 8 (by decide) b q).symm)) h
  · exact slab k.val hk 7 (by decide) _ (k0_off9_eq k) (fun b q => (cut7 _ b q).trans ((row _ q).trans (tgt_at x0 x1 k.val hk 7 (by decide) b q).symm)) h
  · exact slab k.val hk 6 (by decide) _ (k0_off8_eq k) (fun b q => (cut6 _ b q).trans ((row _ q).trans (tgt_at x0 x1 k.val hk 6 (by decide) b q).symm)) h
  · exact slab k.val hk 5 (by decide) _ (k0_off7_eq k) (fun b q => (cut5 _ b q).trans ((row _ q).trans (tgt_at x0 x1 k.val hk 5 (by decide) b q).symm)) h
  · exact slab k.val hk 4 (by decide) _ (k0_off6_eq k) (fun b q => (cut4 _ b q).trans ((row _ q).trans (tgt_at x0 x1 k.val hk 4 (by decide) b q).symm)) h
  · exact slab k.val hk 3 (by decide) _ (k0_off5_eq k) (fun b q => (cut3 _ b q).trans ((row _ q).trans (tgt_at x0 x1 k.val hk 3 (by decide) b q).symm)) h
  · exact slab k.val hk 2 (by decide) _ (k0_off4_eq k) (fun b q => (cut2 v _ _ b q).trans ((row _ q).trans (tgt_at x0 x1 k.val hk 2 (by decide) b q).symm)) h
  · exact slab k.val hk 1 (by decide) _ (k0_off3_eq k) (fun b q => (cut1 v _ _ b q).trans ((row _ q).trans (tgt_at x0 x1 k.val hk 1 (by decide) b q).symm)) h
  · exact slab k.val hk 0 (by decide) _ (k0_off2_eq k) (fun b q => (cut0 v _ _ b q).trans ((row _ q).trans (tgt_at x0 x1 k.val hk 0 (by decide) b q).symm)) h

/-- Every slab of the first `n` trips agrees with the target. -/
theorem pieces_ok (hx : ∀ y, (x1 y : EReal) ≠ ⊤) (v : IVec S128x128 32) (hv : v = iota .tc S128x128 32 [0] iota_S128x128_d0_w32)
    (n : ℕ) (hn : n ≤ 64) (p : View.Piece (Elt Ideal) S16x512x128 .f32)
    (hp : p ∈ pb_k0_t1 (F := Ideal) Variants.none c none i arg1 harg1 arg2 harg2 arg3 harg3 v v (harg1.unread x0) (harg2.unread x1) n) :
    ∀ x, p.2 x = tgt x0 x1 (p.1.emb x) := by
  induction n with
  | zero => exact absurd hp List.not_mem_nil
  | succ n ih =>
    have ht : n < k0_t1_loop.trips := lt_of_lt_of_eq (by omega) trips_eq.symm
    rw [pb_k0_t1_succ Variants.none c none i arg1 harg1 arg2 harg2 arg3 harg3 v v (harg1.unread x0) (harg2.unread x1) ⟨n, ht⟩] at hp
    rcases List.mem_append.mp hp with h | h
    · exact trip_ok c i arg1 harg1 arg2 harg2 arg3 harg3 x0 x1 hx v hv ⟨n, ht⟩ p h
    · exact ih (by omega) h

/-- A trip writes the eight rows of its token in each of the 16 slabs. -/
theorem trip_mem (v : IVec S128x128 32) (k : Fin k0_t1_loop.trips) (y : S16x512x128.Idx) (hy : (y 1).val / 8 = k.val) :
    ∃ p ∈ tripL_k0_t1 (F := Ideal) Variants.none c none i arg1 harg1 arg2 harg2 arg3 harg3 v v (harg1.unread x0) (harg2.unread x1) k, y ∈ p.1.set := by
  unfold tripL_k0_t1 trip_k0_t1
  dsimp only
  have h0 : (y 0).val < 16 := (y 0).isLt
  have h2 : (y 2).val < 128 := (y 2).isLt
  have key : ∀ (a : ℕ) (ha : (y 0).val = a) (off : Fin 3 → ℕ) (hoff : off = ![a, 8 * k.val, 0]) (inb : ∀ i, off i + S1x8x128.size i ≤ S16x512x128.size i),
      y ∈ (Rect.unit (s := S16x512x128) off S1x8x128.size inb).set := by
    intro a ha off hoff inb
    subst hoff
    rw [Rect.mem_set_unit]
    intro j
    match j with
    | ⟨0, _⟩ => exact ⟨by show a ≤ (y 0).val; omega, by show (y 0).val < a + 1; omega⟩
    | ⟨1, _⟩ => exact ⟨by show 8 * k.val ≤ (y 1).val; omega, by show (y 1).val < 8 * k.val + 8; omega⟩
    | ⟨2, _⟩ => exact ⟨by show 0 ≤ (y 2).val; omega, by show (y 2).val < 0 + 128; omega⟩
  simp only [List.exists_mem_cons_iff, List.not_mem_nil, false_and, exists_false, or_false]
  have hc : (y 0).val = 15 ∨ (y 0).val = 14 ∨ (y 0).val = 13 ∨ (y 0).val = 12 ∨ (y 0).val = 11 ∨ (y 0).val = 10 ∨ (y 0).val = 9 ∨ (y 0).val = 8
      ∨ (y 0).val = 7 ∨ (y 0).val = 6 ∨ (y 0).val = 5 ∨ (y 0).val = 4 ∨ (y 0).val = 3 ∨ (y 0).val = 2 ∨ (y 0).val = 1 ∨ (y 0).val = 0 := by omega
  exact hc.imp (key _ · _ (k0_off17_eq k) _) <| Or.imp (key _ · _ (k0_off16_eq k) _) <| Or.imp (key _ · _ (k0_off15_eq k) _) <|
    Or.imp (key _ · _ (k0_off14_eq k) _) <| Or.imp (key _ · _ (k0_off13_eq k) _) <| Or.imp (key _ · _ (k0_off12_eq k) _) <|
    Or.imp (key _ · _ (k0_off11_eq k) _) <| Or.imp (key _ · _ (k0_off10_eq k) _) <| Or.imp (key _ · _ (k0_off9_eq k) _) <|
    Or.imp (key _ · _ (k0_off8_eq k) _) <| Or.imp (key _ · _ (k0_off7_eq k) _) <| Or.imp (key _ · _ (k0_off6_eq k) _) <|
    Or.imp (key _ · _ (k0_off5_eq k) _) <| Or.imp (key _ · _ (k0_off4_eq k) _) <| Or.imp (key _ · _ (k0_off3_eq k) _) (key _ · _ (k0_off2_eq k) _)

theorem pieces_mem (v : IVec S128x128 32) (y : S16x512x128.Idx) (n : ℕ) (hn : n ≤ 64) (hy : (y 1).val / 8 < n) :
    ∃ p ∈ pb_k0_t1 (F := Ideal) Variants.none c none i arg1 harg1 arg2 harg2 arg3 harg3 v v (harg1.unread x0) (harg2.unread x1) n, y ∈ p.1.set := by
  induction n with
  | zero => omega
  | succ n ih =>
    have ht : n < k0_t1_loop.trips := lt_of_lt_of_eq (by omega) trips_eq.symm
    rw [pb_k0_t1_succ Variants.none c none i arg1 harg1 arg2 harg2 arg3 harg3 v v (harg1.unread x0) (harg2.unread x1) ⟨n, ht⟩]
    by_cases h : (y 1).val / 8 = n
    · obtain ⟨p, hp, hm⟩ := trip_mem c i arg1 harg1 arg2 harg2 arg3 harg3 x0 x1 v ⟨n, ht⟩ y h
      exact ⟨p, List.mem_append_left _ hp, hm⟩
    · obtain ⟨p, hp, hm⟩ := ih (by omega) (by omega)
      exact ⟨p, List.mem_append_right _ hp, hm⟩

/-- What the grid point leaves in its block. -/
theorem out_at (hx : ∀ y, (x1 y : EReal) ≠ ⊤) (y : S16x512x128.Idx) :
    out0_A_2 c i arg1 harg1 arg2 harg2 arg3 harg3 x0 x1 y = tgt x0 x1 y := by
  have h1 : (y 1).val < 512 := (y 1).isLt
  have hm : ∀ v : IVec S128x128 32, _ := fun v => pieces_mem c i arg1 harg1 arg2 harg2 arg3 harg3 x0 x1 v y 64 le_rfl (by omega)
  unfold out0_A_2 kernelRun0_A
  dsimp only
  have h64 : Scf.trips (0#32) (Scalar.addi 0#32 64#32) 1#32 = 64 := by decide
  rw [h64]
  refine (View.read_writes_apply_eq_canon _ _ y _ (hm _)).trans (View.canon_eq_of_allAt _ y _ (hm _) ?_)
  intro p hp x e
  rw [← e]
  exact pieces_ok c i arg1 harg1 arg2 harg2 arg3 harg3 x0 x1 hx _ rfl 64 le_rfl p hp x

end Launch

end Cert.Kernel8Ideal.Mask
-- ==== Proof.Mask8Arr.lean ====
/- The samples' gates of all experts: the array the call leaves. -/
module

public import proofs.«01_k».proof.Proof.Mask8Body

@[expose] public section

set_option maxRecDepth 16384

noncomputable section

namespace Cert.Kernel8Ideal.Mask

open Idealize.ShloMosaic Idealize.ShloMosaic.TcCoe Idealize.SL.Sem
open Cert.Kernel8Ideal Cert.Kernel8Ideal.Gen Cert.Gates

/-- Which block of each array a grid point reads or writes. -/
theorem idx : ∀ t : Fin cfg0.N,
    win0_0.index t = ![t.val, 0] ∧ win0_1.index t = ![t.val, 0] ∧ win0_2.index t = ![0, t.val, 0] :=
  (by decide +kernel : ∀ t : Fin grid0.N, _)

theorem lt_points (t : Fin cfg0.N) : t.val < 16 := lt_of_lt_of_eq t.isLt N_0

theorem emb0 (t : Fin cfg0.N) (r : Fin 64) (q : Fin 128) : ((win0_0.blk t).view.emb (ix2 r q) : S1024x128.Idx)
    = ix2 ⟨t.val * 64 + r.val, by have := lt_points t; omega⟩ q := by
  blk_ext [idx t] <;> rfl

theorem emb1 (t : Fin cfg0.N) (r : Fin 64) (q : Fin 128) : ((win0_1.blk t).view.emb (ix2 r q) : S1024x128.Idx)
    = ix2 ⟨t.val * 64 + r.val, by have := lt_points t; omega⟩ q := by
  blk_ext [idx t] <;> rfl

theorem emb2 (t : Fin cfg0.N) (a : Fin 16) (r : Fin 512) (q : Fin 128) : ((win0_2.blk t).view.emb (ix3 a r q) : S16x8192x128.Idx)
    = ix3 a ⟨t.val * 512 + r.val, by have := lt_points t; omega⟩ q := by
  blk_ext [idx t] <;> rfl

variable (m : (ℓ : Loc nD τ sig) → Buf (Elt Ideal) ℓ)

abbrev aE (c : Dev nD) : S1024x128.Idx → BitVec 32 := m ((c : Thread nD τ).loc main_arg0)
abbrev aG (c : Dev nD) : S1024x128.Idx → EReal := m ((c : Thread nD τ).loc main_arg1)

theorem blk0 (c : Dev nD) (t : Fin cfg0.N) (r : Fin 64) (q : Fin 128) : (iblk m c 0 t : S64x128.Idx → BitVec 32) (ix2 r q)
    = aE m c (ix2 ⟨t.val * 64 + r.val, by have := lt_points t; omega⟩ q) :=
  (congrArg (V m c main_arg0 : S1024x128.Idx → BitVec 32) (emb0 t r q)).trans (congrFun (V_main_arg0 m c) _)

theorem blk1 (c : Dev nD) (t : Fin cfg0.N) (r : Fin 64) (q : Fin 128) : (iblk m c 1 t : S64x128.Idx → EReal) (ix2 r q)
    = aG m c (ix2 ⟨t.val * 64 + r.val, by have := lt_points t; omega⟩ q) :=
  (congrArg (V m c main_arg1 : S1024x128.Idx → EReal) (emb1 t r q)).trans (congrFun (V_main_arg1 m c) _)

/-- The gates a grid point reads. -/
abbrev gates (c : Dev nD) (t : Fin cfg0.N) : S64x128.Idx → EReal := iblk m c 1 t

/-- The result at a block of first keys `a`, a row `r` (token and first key in the block) and a second key `q`. -/
def res (c : Dev nD) (a : Fin 16) (r : Fin 8192) (q : Fin 128) : EReal :=
  cell (fun p => aE m c (ix2 ⟨r.val / 8, by omega⟩ p)) (fun p => aG m c (ix2 ⟨r.val / 8, by omega⟩ p)) ((a.val * 8 + r.val % 8) * 128 + q.val)

def result (c : Dev nD) : S16x8192x128.Idx → EReal := fun y => res m c (y 0) (y 1) (y 2)

theorem final (c : Dev nD) (hg : ∀ y, aG m c y ≠ ⊤) : (dats m 0 c).arrAt 2 cfg0.N = result m c := by
  refine (dats m 0 c).arrAt_eq_of_covers 2 _ (by decide +kernel) fun t hf y => ?_
  have ht := lt_points t
  blk_simp
  rw [after0_2]
  idx_vars y
  have hx : ∀ y : S64x128.Idx, gates m c t y ≠ ⊤ := fun y => by
    idx_vars y
    exact Eq.subst (motive := fun z : EReal => z ≠ ⊤) (blk1 m c t y0 y1).symm (hg _)
  unfold outsAt0
  refine (out_at c _ _ _ _ _ _ _ _ _ hx (ix3 y0 y1 y2)).trans ?_
  refine Eq.trans ?_ (congrArg (result m c) (emb2 t y0 y1 y2)).symm
  show cell (fun p => (iblk m c 0 t : S64x128.Idx → BitVec 32) (ix2 (⟨y1.val / 8, _⟩ : Fin 64) p)) (fun p => (iblk m c 1 t : S64x128.Idx → EReal) (ix2 (⟨y1.val / 8, _⟩ : Fin 64) p))
    ((y0.val * 8 + y1.val % 8) * 128 + y2.val) = res m c y0 ⟨t.val * 512 + y1.val, _⟩ y2
  unfold res
  have e1 : (⟨(t.val * 512 + y1.val) / 8, by omega⟩ : Fin 1024) = ⟨t.val * 64 + y1.val / 8, by omega⟩ :=
    Fin.ext (by show (t.val * 512 + y1.val) / 8 = t.val * 64 + y1.val / 8; omega)
  have e2 : (t.val * 512 + y1.val) % 8 = y1.val % 8 := by omega
  dsimp only
  rw [e1, e2]
  exact congrArg₂ (fun a b => cell a b _) (funext fun p => blk0 m c t _ p) (funext fun p => blk1 m c t _ p)

end Cert.Kernel8Ideal.Mask
-- ==== Proof.Mask8Ref.lean ====
/- The samples' gates of all experts: the reference at an index. -/
module

public import proofs.«01_k».proof.Proof.Mask8Body
public import proofs.«01_k».proof.Proof.Gen.Reference8Ideal.Run
public import Idealize.ShloMosaic.Lib.Pointwise
public import Idealize.ShloMosaic.Lib.IdealHost

@[expose] public section

set_option maxRecDepth 16384

noncomputable section

namespace Cert.Reference8Ideal.Mask

open Idealize.ShloMosaic Idealize.ShloMosaic.TcCoe Idealize.SL.Sem
open Cert.Reference8Ideal Cert.Reference8Ideal.Gen Cert.Gates

/-- The gates as a matrix of tokens by experts. -/
def sums (e : Vec Ideal S1024x128 .i32) (g : FVec Ideal S1024x128 .f32) : FVec Ideal S1024x16384 .f32 :=
  Host.reduceAdd (select (cmpi .eq (broadcastInDim S1024x128x16384 ![0, 1, 2] bcast_S1024x128x1_S1024x128x16384_0_1_2 (broadcastInDim S1024x128x1 ![0, 1] bcast_S1024x128_S1024x128x1_0_1 e)) (broadcastInDim S1024x128x16384 ![0, 1, 2] bcast_S1x1x16384_S1024x128x16384_0_1_2 (broadcastInDim S1x1x16384 ![2] bcast_S16384_S1x1x16384_2 (iotaInDim S16384 32 0)))) (broadcastInDim S1024x128x16384 ![0, 1, 2] bcast_S1024x128x1_S1024x128x16384_0_1_2 (broadcastInDim S1024x128x1 ![0, 1] bcast_S1024x128_S1024x128x1_0_1 g)) (broadcastInDim S1024x128x16384 ![] bcast_S_S1024x128x16384 (id (constant S_ .f32 0x00000000#32)))) (constant S_ .f32 0x00000000#32) reducesTo_S1024x128x16384_S1024x16384_d1 h_S_

def whole (e : Vec Ideal S1024x128 .i32) (g : FVec Ideal S1024x128 .f32) : FVec Ideal S16x8192x128 .f32 :=
  shapeCast _ (transpose S16x1024x8x128 [1, 0, 2, 3] (shapeCast _ (sums e g) shapeCasts_S1024x16384_S1024x16x8x128) transposes_S1024x16x8x128_S16x1024x8x128_1_0_2_3) shapeCasts_S16x1024x8x128_S16x8192x128

theorem sums_at (e : Vec Ideal S1024x128 .i32) (g : FVec Ideal S1024x128 .f32) (t : Fin 1024) (n : Fin 16384) :
    sums e g (ix2 t n) = cell (fun p => e (ix2 t p)) (fun p => g (ix2 t p)) n.val := by
  pointwise [sums, id]
  simp only [pick]
  rfl

theorem whole_at (e : Vec Ideal S1024x128 .i32) (g : FVec Ideal S1024x128 .f32) (a : Fin 16) (r : Fin 8192) (q : Fin 128) :
    whole e g (ix3 a r q) = cell (fun p => e (ix2 ⟨r.val / 8, by omega⟩ p)) (fun p => g (ix2 ⟨r.val / 8, by omega⟩ p))
      ((a.val * 8 + r.val % 8) * 128 + q.val) := by
  have h : whole e g (ix3 a r q) = sums e g (ix2 ⟨r.val / 8, by omega⟩ ⟨(a.val * 8 + r.val % 8) * 128 + q.val, by omega⟩) := by
    unfold whole
    generalize sums e g = M
    pointwise
    exact congrArg (fun z => M (ix2 _ z)) (Fin.ext (by show a.val * 1024 + r.val % 8 * 128 + q.val = (a.val * 8 + r.val % 8) * 128 + q.val; omega))
  exact h.trans (sums_at e g _ _)

end Cert.Reference8Ideal.Mask
-- ==== Proof.Mask8.lean ====
/- The claims about the samples' gates of all experts: the frames, and the result equal where no gate of a
   pick is plus infinity. -/
module

public import proofs.«01_k».proof.Defs
public import proofs.«01_k».proof.Proof.Gen.Kernel8.Frame
public import proofs.«01_k».proof.Proof.Gen.Pre_sample_gates_below_infinity
public import proofs.«01_k».proof.Proof.Attention
public import proofs.«01_k».proof.Proof.Mask8Arr
public import proofs.«01_k».proof.Proof.Mask8Ref
public import Idealize.ShloMosaic.Lib.Quiescent

@[expose] public section

set_option maxRecDepth 16384

noncomputable section

namespace Cert.SampleGates

open Idealize.ShloMosaic Idealize.ShloMosaic.TcCoe Idealize.SL.Sem
open Cert.Kernel8Ideal Cert.Kernel8Ideal.Gen Cert.Kernel8Ideal.Mask

variable (m : (ℓ : Loc nD τ sig) → Buf (Elt Ideal) ℓ) (ρ : Dev nD → PrngReg)

theorem sampleGatesFacts : Cert.Pre_sample_gates_below_infinity.Facts := Cert.Pre_sample_gates_below_infinity.Gen.facts

/-- A value below infinity isn't plus infinity. -/
theorem ne_of_below (x : EReal) (h : Ideal.cmp .olt x (Ideal.ofBits FTy.f32 0x7F800000#32) = 1#1) : x ≠ ⊤ := by
  rw [Cert.Attention.infinity] at h
  rintro rfl
  simp [Ideal.cmp] at h

theorem all_below {s : Shape} {axes : List (Fin s.rank)} (x : FVec Ideal s .f32)
    (hb : Cert.Pre_sample_gates_below_infinity.S_.BroadcastsInDim s (![] : Fin 0 → Fin s.rank)) (hr : s.ReducesTo axes Cert.Pre_sample_gates_below_infinity.S_)
    (hu : 0 < Cert.Pre_sample_gates_below_infinity.S_.numel)
    (h : Host.reduce IntOp.andi (cmpf .olt x
      (broadcastInDim s ![] hb (constant (F := Ideal) Cert.Pre_sample_gates_below_infinity.S_ .f32 0x7F800000#32)))
      (constantI Cert.Pre_sample_gates_below_infinity.S_ 1 1#1) hr hu = fun _ => 1#1) (i : s.Idx) : (x i : EReal) ≠ ⊤ := by
  have e := Host.reduce_andi_all _ _ hr hu (fun a => a.elim0) (congrFun h _) i
  exact ne_of_below (x i) e

theorem pre_below (h : Cert.Pre_Kernel8Ideal_sample_gates_below_infinity (hPre_sample_gates_below_infinity := sampleGatesFacts) m) (c : Dev nD) (i : S1024x128.Idx) :
    aG m c i ≠ ⊤ := by
  have h0 := h c
  dsimp only [Cert.Pre_sample_gates_below_infinity.fn] at h0
  exact all_below _ _ _ _ h0 i

theorem whole_eq (c : Dev nD) : Cert.Reference8Ideal.Mask.whole (aE m c) (aG m c) = result m c := by
  funext (y : S16x8192x128.Idx)
  idx_vars y
  exact Cert.Reference8Ideal.Mask.whole_at (aE m c) (aG m c) y0 y1 y2

theorem frame_kernel8 : Cert.quiescent_Kernel8 (hKernel8 := Cert.Kernel8.Gen.facts) :=
  fun m ρ _ => Cert.Kernel8.Gen.frame m ρ

theorem frame_ideal8 : Cert.quiescent_Kernel8Ideal (hKernel8Ideal := Cert.Kernel8Ideal.Gen.facts) :=
  fun m ρ _ => Cert.Kernel8Ideal.Gen.frame m ρ

theorem frame_ideal8_pre : Cert.quiescent_Kernel8Ideal_pre_sample_gates_below_infinity (hKernel8Ideal := Cert.Kernel8Ideal.Gen.facts)
    (hPre_sample_gates_below_infinity := sampleGatesFacts) :=
  fun m ρ _ => Cert.Kernel8Ideal.Gen.frame m ρ

theorem frame_reference8 : Cert.quiescent_Reference8Ideal (hReference8Ideal := Cert.Reference8Ideal.Gen.facts) :=
  fun m ρ _ => (θ_run (Cert.Reference8Ideal.defs (F := Ideal)) _ _).mono
    (fun r h => ⟨fun c => (h c).2, sem_eq_zero_of_no_sems (by decide) r.2⟩)
    (Cert.Reference8Ideal.Value.run (F := Ideal) m ρ)

theorem frame_reference8_pre : Cert.quiescent_Reference8Ideal_pre_sample_gates_below_infinity (hReference8Ideal := Cert.Reference8Ideal.Gen.facts)
    (hPre_sample_gates_below_infinity := sampleGatesFacts) :=
  fun m ρ _ => frame_reference8 m ρ trivial

theorem preserves8 : Cert.preserves_Kernel8_Kernel8Ideal := trivial

theorem algebraic8 : Cert.algebraic_Kernel8Ideal_Reference8Ideal_pre_sample_gates_below_infinity (hKernel8Ideal := Cert.Kernel8Ideal.Gen.facts)
    (hReference8Ideal := Cert.Reference8Ideal.Gen.facts) (hPre_sample_gates_below_infinity := sampleGatesFacts) := by
  intro m ρ m' ρ' hpre hargs
  refine ⟨fun c => result m c, ?_, ?_⟩
  · exact (θ_run _ _ _).mono (fun r h c => ⟨(h c).1.trans (final m c (pre_below m hpre c)), (h c).2⟩) (Value.run_blocks m ρ)
  · refine (θ_run _ _ _).mono (fun r h c => ?_) (Cert.Reference8Ideal.Value.run m' ρ')
    obtain ⟨e0, e1⟩ := hargs c
    refine ⟨((h c).1.trans ?_).trans (whole_eq m c), (h c).2⟩
    rw [e0, e1]
    rfl

end Cert.SampleGates
-- ==== Proof.Input.lean ====
/- The input matrix of the state space branch: the kernel and the reference at an index, and the claims. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.VecWindow
public import Idealize.ShloMosaic.Lib.Quiescent
public import Idealize.ShloMosaic.Lib.Claim

@[expose] public section

set_option maxRecDepth 16384

noncomputable section

namespace Cert.Kernel9Ideal.Input

open Idealize.ShloMosaic Idealize.ShloMosaic.TcCoe Idealize.SL.Sem
open Cert.Kernel9Ideal Cert.Kernel9Ideal.Gen

theorem real (p q : Vec Ideal S64x64x1 .f32) (a b : Vec Ideal S64x64x16 .f32) (g s : Fin 64) (k : Fin 16) :
    out0_4 (F := Ideal) p q a b (ix3 g s k) = p (ix3 g s 0) * a (ix3 g s k) - q (ix3 g s 0) * b (ix3 g s k) := by
  unfold out0_4
  simp (disch := decide) only [View.canon_cons_unit_lit', View.ld_unit_lit']
  pointwise [k0_pay5, k0_pay1, k0_pay2, k0_pay3, k0_pay4]

theorem imag (p q : Vec Ideal S64x64x1 .f32) (a b : Vec Ideal S64x64x16 .f32) (g s : Fin 64) (k : Fin 16) :
    out0_5 (F := Ideal) p q a b (ix3 g s k) = p (ix3 g s 0) * b (ix3 g s k) + q (ix3 g s 0) * a (ix3 g s k) := by
  unfold out0_5
  simp (disch := decide) only [View.canon_cons_unit_lit', View.ld_unit_lit']
  pointwise [k0_pay6, k0_pay1, k0_pay2, k0_pay3, k0_pay4]

variable (m : (ℓ : Loc nD τ sig) → Buf (Elt Ideal) ℓ)

abbrev aCr (c : Dev nD) : S64x64.Idx → EReal := m ((c : Thread nD τ).loc main_arg0)
abbrev aCi (c : Dev nD) : S64x64.Idx → EReal := m ((c : Thread nD τ).loc main_arg1)
abbrev aBr (c : Dev nD) : S1x64x64x16.Idx → EReal := m ((c : Thread nD τ).loc main_arg2)
abbrev aBi (c : Dev nD) : S1x64x64x16.Idx → EReal := m ((c : Thread nD τ).loc main_arg3)

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] :=
  (by decide +kernel : ∀ t : Fin grid0.N, _)

theorem emb0 (t : Fin cfg0.N) (g s : Fin 64) : ((win0_0.blk t).view.emb (ix3 g s 0) : S64x64x1.Idx) = ix3 g s 0 := by
  blk_ext [idx t] <;> rfl
theorem emb1 (t : Fin cfg0.N) (g s : Fin 64) : ((win0_1.blk t).view.emb (ix3 g s 0) : S64x64x1.Idx) = ix3 g s 0 := by
  blk_ext [idx t] <;> rfl
theorem emb2 (t : Fin cfg0.N) (g s : Fin 64) (k : Fin 16) : ((win0_2.blk t).view.emb (ix3 g s k) : S64x64x16.Idx) = ix3 g s k := by
  blk_ext [idx t] <;> rfl
theorem emb3 (t : Fin cfg0.N) (g s : Fin 64) (k : Fin 16) : ((win0_3.blk t).view.emb (ix3 g s k) : S64x64x16.Idx) = ix3 g s k := by
  blk_ext [idx t] <;> rfl
theorem emb4 (t : Fin cfg0.N) (g s : Fin 64) (k : Fin 16) : ((win0_4.blk t).view.emb (ix3 g s k) : S64x64x16.Idx) = ix3 g s k := by
  blk_ext [idx t] <;> rfl
theorem emb5 (t : Fin cfg0.N) (g s : Fin 64) (k : Fin 16) : ((win0_5.blk t).view.emb (ix3 g s k) : S64x64x16.Idx) = ix3 g s k := by
  blk_ext [idx t] <;> rfl

theorem in0 (c : Dev nD) (t : Fin cfg0.N) (g s : Fin 64) : (iblk m c 0 t : S64x64x1.Idx → EReal) (ix3 g s 0) = aCr m c (ix2 g s) := by
  refine (congrArg (V m c main_v2 : S64x64x1.Idx → EReal) (emb0 t g s)).trans ?_
  entry_read
  pointwise
theorem in1 (c : Dev nD) (t : Fin cfg0.N) (g s : Fin 64) : (iblk m c 1 t : S64x64x1.Idx → EReal) (ix3 g s 0) = aCi m c (ix2 g s) := by
  refine (congrArg (V m c main_v3 : S64x64x1.Idx → EReal) (emb1 t g s)).trans ?_
  entry_read
  pointwise
theorem in2 (c : Dev nD) (t : Fin cfg0.N) (g s : Fin 64) (k : Fin 16) : (iblk m c 2 t : S64x64x16.Idx → EReal) (ix3 g s k) = aBr m c (ix4 0 g s k) := by
  refine (congrArg (V m c main_v0 : S64x64x16.Idx → EReal) (emb2 t g s k)).trans ?_
  entry_read
  pointwise
theorem in3 (c : Dev nD) (t : Fin cfg0.N) (g s : Fin 64) (k : Fin 16) : (iblk m c 3 t : S64x64x16.Idx → EReal) (ix3 g s k) = aBi m c (ix4 0 g s k) := by
  refine (congrArg (V m c main_v1 : S64x64x16.Idx → EReal) (emb3 t g s k)).trans ?_
  entry_read
  pointwise

/-- The real part of the input matrix. -/
def re (c : Dev nD) : S64x64x16.Idx → EReal := fun y =>
  aCr m c (ix2 (y 0) (y 1)) * aBr m c (ix4 0 (y 0) (y 1) (y 2)) - aCi m c (ix2 (y 0) (y 1)) * aBi m c (ix4 0 (y 0) (y 1) (y 2))
/-- The imaginary part of the input matrix. -/
def im (c : Dev nD) : S64x64x16.Idx → EReal := fun y =>
  aCr m c (ix2 (y 0) (y 1)) * aBi m c (ix4 0 (y 0) (y 1) (y 2)) + aCi m c (ix2 (y 0) (y 1)) * aBr m c (ix4 0 (y 0) (y 1) (y 2))

theorem final_re (c : Dev nD) : (dats m 0 c).arrAt 4 cfg0.N = re m c := by
  refine (dats m 0 c).arrAt_eq_of_covers 4 _ (by decide +kernel) fun t hf y => ?_
  blk_simp
  rw [after0_4]
  idx_vars y
  refine (real _ _ _ _ y0 y1 y2).trans ?_
  refine Eq.trans ?_ (congrArg (re m c) (emb4 t y0 y1 y2)).symm
  exact congrArg₂ (· - ·) (congrArg₂ (· * ·) (in0 m c t y0 y1) (in2 m c t y0 y1 y2)) (congrArg₂ (· * ·) (in1 m c t y0 y1) (in3 m c t y0 y1 y2))

theorem final_im (c : Dev nD) : (dats m 0 c).arrAt 5 cfg0.N = im m c := by
  refine (dats m 0 c).arrAt_eq_of_covers 5 _ (by decide +kernel) fun t hf y => ?_
  blk_simp
  rw [after0_5]
  idx_vars y
  refine (imag _ _ _ _ y0 y1 y2).trans ?_
  refine Eq.trans ?_ (congrArg (im m c) (emb5 t y0 y1 y2)).symm
  exact congrArg₂ (· + ·) (congrArg₂ (· * ·) (in0 m c t y0 y1) (in3 m c t y0 y1 y2)) (congrArg₂ (· * ·) (in1 m c t y0 y1) (in2 m c t y0 y1 y2))

end Cert.Kernel9Ideal.Input

namespace Cert.Reference9Ideal.Input

open Idealize.ShloMosaic Idealize.ShloMosaic.TcCoe Idealize.SL.Sem
open Cert.Reference9Ideal Cert.Reference9Ideal.Gen

def re (p q : FVec Ideal S64x64 .f32) (a b : FVec Ideal S1x64x64x16 .f32) : FVec Ideal S64x64x16 .f32 :=
  subf (mulf (broadcastInDim S64x64x16 ![0, 1, 2] bcast_S64x64x1_S64x64x16_0_1_2 (broadcastInDim S64x64x1 ![0, 1] bcast_S64x64_S64x64x1_0_1 p)) (shapeCast _ a shapeCasts_S1x64x64x16_S64x64x16)) (mulf (broadcastInDim S64x64x16 ![0, 1, 2] bcast_S64x64x1_S64x64x16_0_1_2 (broadcastInDim S64x64x1 ![0, 1] bcast_S64x64_S64x64x1_0_1 q)) (shapeCast _ b shapeCasts_S1x64x64x16_S64x64x16))

def im (p q : FVec Ideal S64x64 .f32) (a b : FVec Ideal S1x64x64x16 .f32) : FVec Ideal S64x64x16 .f32 :=
  addf (mulf (broadcastInDim S64x64x16 ![0, 1, 2] bcast_S64x64x1_S64x64x16_0_1_2 (broadcastInDim S64x64x1 ![0, 1] bcast_S64x64_S64x64x1_0_1 p)) (shapeCast _ b shapeCasts_S1x64x64x16_S64x64x16)) (mulf (broadcastInDim S64x64x16 ![0, 1, 2] bcast_S64x64x1_S64x64x16_0_1_2 (broadcastInDim S64x64x1 ![0, 1] bcast_S64x64_S64x64x1_0_1 q)) (shapeCast _ a shapeCasts_S1x64x64x16_S64x64x16))

theorem re_at (p q a b) (g s : Fin 64) (k : Fin 16) :
    re p q a b (ix3 g s k) = p (ix2 g s) * a (ix4 0 g s k) - q (ix2 g s) * b (ix4 0 g s k) := by
  pointwise [re]

theorem im_at (p q a b) (g s : Fin 64) (k : Fin 16) :
    im p q a b (ix3 g s k) = p (ix2 g s) * b (ix4 0 g s k) + q (ix2 g s) * a (ix4 0 g s k) := by
  pointwise [im]

end Cert.Reference9Ideal.Input

namespace Cert.Input

open Idealize.ShloMosaic Idealize.ShloMosaic.TcCoe Idealize.SL.Sem
open Cert.Kernel9Ideal Cert.Kernel9Ideal.Gen Cert.Kernel9Ideal.Input

variable (m : (ℓ : Loc nD τ sig) → Buf (Elt Ideal) ℓ)

theorem re_eq (c : Dev nD) : Cert.Reference9Ideal.Input.re (aCr m c) (aCi m c) (aBr m c) (aBi m c) = re m c := by
  funext (y : S64x64x16.Idx)
  idx_vars y
  exact Cert.Reference9Ideal.Input.re_at (aCr m c) (aCi m c) (aBr m c) (aBi m c) y0 y1 y2

theorem im_eq (c : Dev nD) : Cert.Reference9Ideal.Input.im (aCr m c) (aCi m c) (aBr m c) (aBi m c) = im m c := by
  funext (y : S64x64x16.Idx)
  idx_vars y
  exact Cert.Reference9Ideal.Input.im_at (aCr m c) (aCi m c) (aBr m c) (aBi m c) y0 y1 y2

theorem frame_kernel9 : Cert.quiescent_Kernel9 (hKernel9 := Cert.Kernel9.Gen.facts) :=
  fun m ρ _ => Cert.Kernel9.Gen.frame m ρ

theorem frame_ideal9 : Cert.quiescent_Kernel9Ideal (hKernel9Ideal := Cert.Kernel9Ideal.Gen.facts) :=
  fun m ρ _ => Cert.Kernel9Ideal.Gen.frame m ρ

theorem frame_reference9 : Cert.quiescent_Reference9Ideal (hReference9Ideal := Cert.Reference9Ideal.Gen.facts) :=
  fun m ρ _ => (θ_run (Cert.Reference9Ideal.defs (F := Ideal)) _ _).mono
    (fun r h => ⟨fun c => (h c).2.2, sem_eq_zero_of_no_sems (by decide) r.2⟩)
    (Cert.Reference9Ideal.Value.run (F := Ideal) m ρ)

theorem preserves9 : Cert.preserves_Kernel9_Kernel9Ideal := trivial

theorem algebraic9 : Cert.algebraic_Kernel9Ideal_Reference9Ideal (hKernel9Ideal := Cert.Kernel9Ideal.Gen.facts)
    (hReference9Ideal := Cert.Reference9Ideal.Gen.facts) := by
  intro m ρ m' ρ' hpre hargs
  refine ⟨fun c => re m c, fun c => im m c, ?_, ?_⟩
  · exact (θ_run _ _ _).mono (fun r h c => ⟨(h c).1.trans (final_re m c), (h c).2.1.trans (final_im m c), (h c).2.2⟩) (Cert.Kernel9Ideal.Value.run_blocks m ρ)
  · refine (θ_run _ _ _).mono (fun r h c => ?_) (Cert.Reference9Ideal.Value.run m' ρ')
    obtain ⟨e0, e1, e2, e3⟩ := hargs c
    refine ⟨((h c).1.trans ?_).trans (re_eq m c), ((h c).2.1.trans ?_).trans (im_eq m c), (h c).2.2⟩
    · rw [e0, e1, e2, e3]
      rfl
    · rw [e0, e1, e2, e3]
      rfl

end Cert.Input
-- ==== Proof.Short.lean ====
/- The cumulated log forget values of the samples' new positions: the kernel and the reference at an index, and the
   claims. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.CumRef
public import Idealize.ShloMosaic.Lib.Quiescent
public import Idealize.ShloMosaic.Lib.Claim

@[expose] public section

set_option maxRecDepth 16384

noncomputable section

namespace Cert.Short

open Idealize.ShloMosaic Idealize.ShloMosaic.TcCoe Idealize.SL.Sem

/-- Value `k` of sample `b` in column `j`. -/
def place (a : (⟨3, ![128, 8, 128]⟩ : Shape).Idx → EReal) (b j : Fin 128) (k : ℕ) : EReal := a (ix3 b ⟨k % 8, by omega⟩ j)

/-- The sum of the values of a sample up to the own position. -/
def upto (a : (⟨3, ![128, 8, 128]⟩ : Shape).Idx → EReal) (y : (⟨3, ![128, 8, 128]⟩ : Shape).Idx) : EReal :=
  ∑ k ∈ Finset.range ((y 1).val + 1), place a (y 0) (y 2) k

end Cert.Short

namespace Cert.Kernel10Ideal.Short

open Idealize.ShloMosaic Idealize.ShloMosaic.TcCoe Idealize.SL.Sem
open Cert.Kernel10Ideal Cert.Kernel10Ideal.Gen Cert.Short

/-- A row the body loads. -/
theorem row (a : Vec Ideal S128x8x128 .f32) (k : ℕ) (hk : k < 8) (inb : ∀ i, (![0, k, 0] : Fin 3 → ℕ) i + S128x1x128.size i ≤ S128x8x128.size i) (b j : Fin 128) :
    View.ld a (Rect.unit (s := S128x8x128) ![0, k, 0] S128x1x128.size inb) (ix3 b 0 j) = place a b j k := by
  unfold place
  refine congrArg a ?_
  funext i
  match i with
  | ⟨0, _⟩ => exact Fin.ext (by show 0 + 1 * b.val = b.val; omega)
  | ⟨1, _⟩ => exact Fin.ext (by show k + 1 * 0 = k % 8; omega)
  | ⟨2, _⟩ => exact Fin.ext (by show 0 + 1 * j.val = j.val; omega)

/-- A row the body stores. -/
theorem piece (a : Vec Ideal S128x8x128 .f32) (k : ℕ) (hk : k < 8) (inb : ∀ i, (![0, k, 0] : Fin 3 → ℕ) i + S128x1x128.size i ≤ S128x8x128.size i)
    (w : S128x1x128.Idx → EReal) (h : ∀ b j, w (ix3 b 0 j) = ∑ q ∈ Finset.range (k + 1), place a b j q) :
    ∀ x, w x = upto a ((Rect.unit (s := S128x8x128) ![0, k, 0] S128x1x128.size inb).emb x) := by
  intro (x : S128x1x128.Idx)
  idx_vars x
  have h1 : x1 = 0 := Subsingleton.elim _ _
  subst h1
  refine (h x0 x2).trans ?_
  have e : ((Rect.unit (s := S128x8x128) ![0, k, 0] S128x1x128.size inb).emb (ix3 x0 0 x2) : S128x8x128.Idx) = ix3 x0 ⟨k, hk⟩ x2 := by
    funext i
    match i with
    | ⟨0, _⟩ => exact Fin.ext (by show 0 + 1 * x0.val = x0.val; omega)
    | ⟨1, _⟩ => exact Fin.ext (by show k + 1 * 0 = k; omega)
    | ⟨2, _⟩ => exact Fin.ext (by show 0 + 1 * x2.val = x2.val; omega)
  exact (congrArg (upto a) e).symm

theorem whole (a : Vec Ideal S128x8x128 .f32) : Value.G1 (F := Ideal) a = upto a := by
  funext y
  refine View.canon_apply_of_pieces (Val := Elt Ideal) (e := .f32) (upto a) _ ?_ y (cover0_1 _ _ _ _ _ _ _ _ y)
  intro pc hpc
  simp only [List.mem_cons, List.not_mem_nil, or_false] at hpc
  rcases hpc with h | h | h | h | h | h | h | h <;> subst h
  · refine piece a 7 (by decide) inb_S128x8x128_S128x1x128_0_7_0 _ fun b j => ?_
    simp only [Finset.sum_range_succ, Finset.sum_range_zero, zero_add, ← row a 0 (by decide) inb_S128x8x128_S128x1x128_0_0_0, ← row a 1 (by decide) inb_S128x8x128_S128x1x128_0_1_0, ← row a 2 (by decide) inb_S128x8x128_S128x1x128_0_2_0, ← row a 3 (by decide) inb_S128x8x128_S128x1x128_0_3_0, ← row a 4 (by decide) inb_S128x8x128_S128x1x128_0_4_0, ← row a 5 (by decide) inb_S128x8x128_S128x1x128_0_5_0, ← row a 6 (by decide) inb_S128x8x128_S128x1x128_0_6_0, ← row a 7 (by decide) inb_S128x8x128_S128x1x128_0_7_0]
    rfl
  · refine piece a 6 (by decide) inb_S128x8x128_S128x1x128_0_6_0 _ fun b j => ?_
    simp only [Finset.sum_range_succ, Finset.sum_range_zero, zero_add, ← row a 0 (by decide) inb_S128x8x128_S128x1x128_0_0_0, ← row a 1 (by decide) inb_S128x8x128_S128x1x128_0_1_0, ← row a 2 (by decide) inb_S128x8x128_S128x1x128_0_2_0, ← row a 3 (by decide) inb_S128x8x128_S128x1x128_0_3_0, ← row a 4 (by decide) inb_S128x8x128_S128x1x128_0_4_0, ← row a 5 (by decide) inb_S128x8x128_S128x1x128_0_5_0, ← row a 6 (by decide) inb_S128x8x128_S128x1x128_0_6_0]
    rfl
  · refine piece a 5 (by decide) inb_S128x8x128_S128x1x128_0_5_0 _ fun b j => ?_
    simp only [Finset.sum_range_succ, Finset.sum_range_zero, zero_add, ← row a 0 (by decide) inb_S128x8x128_S128x1x128_0_0_0, ← row a 1 (by decide) inb_S128x8x128_S128x1x128_0_1_0, ← row a 2 (by decide) inb_S128x8x128_S128x1x128_0_2_0, ← row a 3 (by decide) inb_S128x8x128_S128x1x128_0_3_0, ← row a 4 (by decide) inb_S128x8x128_S128x1x128_0_4_0, ← row a 5 (by decide) inb_S128x8x128_S128x1x128_0_5_0]
    rfl
  · refine piece a 4 (by decide) inb_S128x8x128_S128x1x128_0_4_0 _ fun b j => ?_
    simp only [Finset.sum_range_succ, Finset.sum_range_zero, zero_add, ← row a 0 (by decide) inb_S128x8x128_S128x1x128_0_0_0, ← row a 1 (by decide) inb_S128x8x128_S128x1x128_0_1_0, ← row a 2 (by decide) inb_S128x8x128_S128x1x128_0_2_0, ← row a 3 (by decide) inb_S128x8x128_S128x1x128_0_3_0, ← row a 4 (by decide) inb_S128x8x128_S128x1x128_0_4_0]
    rfl
  · refine piece a 3 (by decide) inb_S128x8x128_S128x1x128_0_3_0 _ fun b j => ?_
    simp only [Finset.sum_range_succ, Finset.sum_range_zero, zero_add, ← row a 0 (by decide) inb_S128x8x128_S128x1x128_0_0_0, ← row a 1 (by decide) inb_S128x8x128_S128x1x128_0_1_0, ← row a 2 (by decide) inb_S128x8x128_S128x1x128_0_2_0, ← row a 3 (by decide) inb_S128x8x128_S128x1x128_0_3_0]
    rfl
  · refine piece a 2 (by decide) inb_S128x8x128_S128x1x128_0_2_0 _ fun b j => ?_
    simp only [Finset.sum_range_succ, Finset.sum_range_zero, zero_add, ← row a 0 (by decide) inb_S128x8x128_S128x1x128_0_0_0, ← row a 1 (by decide) inb_S128x8x128_S128x1x128_0_1_0, ← row a 2 (by decide) inb_S128x8x128_S128x1x128_0_2_0]
    rfl
  · refine piece a 1 (by decide) inb_S128x8x128_S128x1x128_0_1_0 _ fun b j => ?_
    simp only [Finset.sum_range_succ, Finset.sum_range_zero, zero_add, ← row a 0 (by decide) inb_S128x8x128_S128x1x128_0_0_0, ← row a 1 (by decide) inb_S128x8x128_S128x1x128_0_1_0]
    rfl
  · refine piece a 0 (by decide) inb_S128x8x128_S128x1x128_0_0_0 _ fun b j => ?_
    simp only [Finset.sum_range_succ, Finset.sum_range_zero, zero_add, ← row a 0 (by decide) inb_S128x8x128_S128x1x128_0_0_0]

end Cert.Kernel10Ideal.Short

namespace Cert.Reference10Ideal.Short

open Idealize.ShloMosaic Idealize.ShloMosaic.TcCoe Idealize.SL.Sem
open Cert.Reference10Ideal Cert.Reference10Ideal.Gen Cert.Short

def sums (x : FVec Ideal S128x8x128 .f32) : FVec Ideal S128x8x128 .f32 :=
  Host.reduceAdd (select (broadcastInDim S128x8x8x128 ![0, 1, 2, 3] bcast_S1x8x8x1_S128x8x8x128_0_1_2_3 (broadcastInDim S1x8x8x1 ![1, 2] bcast_S8x8_S1x8x8x1_1_2 (cmpi .sle (broadcastInDim S8x8 ![0, 1] bcast_S1x8_S8x8_0_1 (broadcastInDim S1x8 ![1] bcast_S8_S1x8_1 (iotaInDim S8 32 0))) (broadcastInDim S8x8 ![0, 1] bcast_S8x1_S8x8_0_1 (broadcastInDim S8x1 ![0] bcast_S8_S8x1_0 (iotaInDim S8 32 0)))))) (broadcastInDim S128x8x8x128 ![0, 1, 2, 3] bcast_S128x1x8x128_S128x8x8x128_0_1_2_3 (broadcastInDim S128x1x8x128 ![0, 2, 3] bcast_S128x8x128_S128x1x8x128_0_2_3 x)) (broadcastInDim S128x8x8x128 ![] bcast_S_S128x8x8x128 (id (constant S_ .f32 0x00000000#32)))) (constant S_ .f32 0x00000000#32) reducesTo_S128x8x8x128_S128x8x128_d2 h_S_

theorem sums_at (x : FVec Ideal S128x8x128 .f32) (b : Fin 128) (t : Fin 8) (j : Fin 128) : sums x (ix3 b t j) = upto x (ix3 b t j) := by
  have h : sums x (ix3 b t j) = ∑ s : Fin 8, if s.val ≤ t.val then x (ix3 b s j) else 0 := by
    pointwise [sums, id]
    refine Finset.sum_congr rfl fun s _ => ?_
    exact Cert.Reference7Ideal.Cum.pick_le s.val t.val (by omega) (by omega) (x (ix3 b s j)) 0
  refine h.trans (Eq.trans ?_ (Cert.Cumulated.sum_le (n := 8) (place x b j) t.val t.isLt))
  refine Finset.sum_congr rfl fun s _ => ?_
  refine congrArg (fun z : EReal => if s.val ≤ t.val then z else 0) (congrArg (fun z => x (ix3 b z j)) (Fin.ext ?_))
  show s.val = s.val % 8
  omega

theorem whole (x : FVec Ideal S128x8x128 .f32) : sums x = upto x := by
  funext (y : S128x8x128.Idx)
  idx_vars y
  exact sums_at x y0 y1 y2

end Cert.Reference10Ideal.Short

namespace Cert.Short

open Idealize.ShloMosaic Idealize.ShloMosaic.TcCoe Idealize.SL.Sem
open Cert.Kernel10Ideal Cert.Kernel10Ideal.Gen

theorem frame_kernel10 : Cert.quiescent_Kernel10 (hKernel10 := Cert.Kernel10.Gen.facts) :=
  fun m ρ _ => Cert.Kernel10.Gen.frame m ρ

theorem frame_ideal10 : Cert.quiescent_Kernel10Ideal (hKernel10Ideal := Cert.Kernel10Ideal.Gen.facts) :=
  fun m ρ _ => Cert.Kernel10Ideal.Gen.frame m ρ

theorem frame_reference10 : Cert.quiescent_Reference10Ideal (hReference10Ideal := Cert.Reference10Ideal.Gen.facts) :=
  fun m ρ _ => (θ_run (Cert.Reference10Ideal.defs (F := Ideal)) _ _).mono
    (fun r h => ⟨fun c => (h c).2, sem_eq_zero_of_no_sems (by decide) r.2⟩)
    (Cert.Reference10Ideal.Value.run (F := Ideal) m ρ)

theorem preserves10 : Cert.preserves_Kernel10_Kernel10Ideal := trivial

theorem algebraic10 : Cert.algebraic_Kernel10Ideal_Reference10Ideal (hKernel10Ideal := Cert.Kernel10Ideal.Gen.facts)
    (hReference10Ideal := Cert.Reference10Ideal.Gen.facts) := by
  intro m ρ m' ρ' hpre hargs
  refine ⟨fun c => upto (m ((c : Thread nD τ).loc main_arg0)), ?_, ?_⟩
  · exact (θ_run _ _ _).mono (fun r h c => ⟨(h c).1.trans (Cert.Kernel10Ideal.Short.whole _), (h c).2⟩) (Cert.Kernel10Ideal.Value.run m ρ)
  · refine (θ_run _ _ _).mono (fun r h c => ?_) (Cert.Reference10Ideal.Value.run m' ρ')
    have e0 := hargs c
    refine ⟨((h c).1.trans ?_).trans (Cert.Reference10Ideal.Short.whole (m ((c : Thread nD τ).loc main_arg0))), (h c).2⟩
    rw [e0]
    rfl

end Cert.Short
-- ==== Proof.Tables.lean ====
/- The state space branch's tables: the coefficients and the first eight powers of the transition, the kernel and the
   reference at an index, and the claims. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.VecWindow
public import Idealize.ShloMosaic.Lib.Quiescent
public import Idealize.ShloMosaic.Lib.Claim

@[expose] public section

set_option maxRecDepth 16384

noncomputable section

namespace Cert.Tables

open Idealize.ShloMosaic

/-- The real part of the exponent, kept below zero. -/
def low (a : EReal) : EReal := min a (Ideal.ofBits FTy.f32 3100751639#32)
/-- The real part of the transition. -/
def tRe (a b d : EReal) : EReal := Ideal.exp (low a * Ideal.exp d) * Ideal.cos (b * Ideal.exp d)
/-- The imaginary part of the transition. -/
def tIm (a b d : EReal) : EReal := Ideal.exp (low a * Ideal.exp d) * Ideal.sin (b * Ideal.exp d)
/-- The real part of the coefficient. -/
def cRe (a b d : EReal) : EReal := Ideal.div ((tRe a b d - 1) * low a + tIm a b d * b) (low a * low a + b * b)
/-- The imaginary part of the coefficient. -/
def cIm (a b d : EReal) : EReal := Ideal.div (tIm a b d * low a - (tRe a b d - 1) * b) (low a * low a + b * b)

/-- The powers of a complex number from the first on, by repeated multiplication. -/
def pow (p q : EReal) : ℕ → EReal × EReal
  | 0 => (p, q)
  | k + 1 => ((pow p q k).1 * p - (pow p q k).2 * q, (pow p q k).1 * q + (pow p q k).2 * p)

end Cert.Tables

namespace Cert.Kernel11Ideal.Tables

open Idealize.ShloMosaic Idealize.ShloMosaic.TcCoe Idealize.SL.Sem
open Cert.Kernel11Ideal Cert.Kernel11Ideal.Gen Cert.Tables

theorem coefRe (x y z : Vec Ideal S1x4096 .f32) (j : Fin 4096) :
    out0_5 (F := Ideal) x y z (ix2 0 j) = cRe (x (ix2 0 j)) (y (ix2 0 j)) (z (ix2 0 j)) := by
  unfold out0_5
  simp (disch := decide) only [View.canon_cons_unit_lit', View.ld_unit_lit']
  pointwise [k0_pay13, k0_pay12, k0_pay11, k0_pay10, k0_pay9, k0_pay8, k0_pay7, k0_pay6, k0_pay5, cRe, tRe, tIm, low]

theorem coefIm (x y z : Vec Ideal S1x4096 .f32) (j : Fin 4096) :
    out0_6 (F := Ideal) x y z (ix2 0 j) = cIm (x (ix2 0 j)) (y (ix2 0 j)) (z (ix2 0 j)) := by
  unfold out0_6
  simp (disch := decide) only [View.canon_cons_unit_lit', View.ld_unit_lit']
  pointwise [k0_pay14, k0_pay12, k0_pay11, k0_pay10, k0_pay9, k0_pay8, k0_pay7, k0_pay6, k0_pay5, cIm, tRe, tIm, low]

theorem oneRe (x y z : Vec Ideal S1x4096 .f32) (j : Fin 4096) :
    k0_pay25 (F := Ideal) x y z (ix2 0 j) = tRe (x (ix2 0 j)) (y (ix2 0 j)) (z (ix2 0 j)) := by
  unfold k0_pay25
  simp (disch := decide) only [View.ld_unit_lit']
  pointwise [k0_pay9, k0_pay8, k0_pay7, k0_pay6, k0_pay5, tRe, low]

theorem oneIm (x y z : Vec Ideal S1x4096 .f32) (j : Fin 4096) :
    k0_pay26 (F := Ideal) x y z (ix2 0 j) = tIm (x (ix2 0 j)) (y (ix2 0 j)) (z (ix2 0 j)) := by
  unfold k0_pay26
  simp (disch := decide) only [View.ld_unit_lit']
  pointwise [k0_pay10, k0_pay8, k0_pay7, k0_pay6, k0_pay5, tIm, low]

/-- The powers the body computes, at a column. -/
def powAt (x y z : Vec Ideal S1x4096 .f32) (j : Fin 4096) (k : ℕ) : EReal × EReal :=
  pow (k0_pay25 (F := Ideal) x y z (ix2 0 j)) (k0_pay26 (F := Ideal) x y z (ix2 0 j)) k

/-- Where a stored row lies. -/
theorem place (k : ℕ) (hk : k < 8) (inb : ∀ i, (![k, 0] : Fin 2 → ℕ) i + S1x4096.size i ≤ S8x4096.size i) (j : Fin 4096) :
    ((Rect.unit (s := S8x4096) ![k, 0] S1x4096.size inb).emb (ix2 0 j) : S8x4096.Idx) = ix2 ⟨k, hk⟩ j := by
  funext i
  match i with
  | ⟨0, _⟩ => exact Fin.ext (by show k + 1 * 0 = k; omega)
  | ⟨1, _⟩ => exact Fin.ext (by show 0 + 1 * j.val = j.val; omega)

/-- A stored row. -/
theorem piece (E : S8x4096.Idx → EReal) (k : ℕ) (hk : k < 8) (inb : ∀ i, (![k, 0] : Fin 2 → ℕ) i + S1x4096.size i ≤ S8x4096.size i)
    (w : S1x4096.Idx → EReal) (h : ∀ j, w (ix2 0 j) = E (ix2 ⟨k, hk⟩ j)) :
    ∀ x, w x = E ((Rect.unit (s := S8x4096) ![k, 0] S1x4096.size inb).emb x) := by
  intro (x : S1x4096.Idx)
  idx_vars x
  have h1 : x0 = 0 := Subsingleton.elim _ _
  subst h1
  exact (h x1).trans (congrArg E (place k hk inb x1)).symm

theorem rowsRe (x y z : Vec Ideal S1x4096 .f32) : out0_3 (F := Ideal) x y z = fun i => (powAt x y z (i 1) (i 0).val).1 := by
  funext i
  refine View.canon_apply_of_pieces (Val := Elt Ideal) (e := .f32) (fun i : S8x4096.Idx => (powAt x y z (i 1) (i 0).val).1) _ ?_ i (cover0_3 _ _ _ _ _ _ _ _ i)
  intro pc hpc
  simp only [List.mem_cons, List.not_mem_nil, or_false] at hpc
  rcases hpc with h | h | h | h | h | h | h | h <;> subst h
  · exact piece (fun i : S8x4096.Idx => (powAt x y z (i 1) (i 0).val).1) 7 (by decide) inb_S8x4096_S1x4096_7_0 _ fun j => rfl
  · exact piece (fun i : S8x4096.Idx => (powAt x y z (i 1) (i 0).val).1) 6 (by decide) inb_S8x4096_S1x4096_6_0 _ fun j => rfl
  · exact piece (fun i : S8x4096.Idx => (powAt x y z (i 1) (i 0).val).1) 5 (by decide) inb_S8x4096_S1x4096_5_0 _ fun j => rfl
  · exact piece (fun i : S8x4096.Idx => (powAt x y z (i 1) (i 0).val).1) 4 (by decide) inb_S8x4096_S1x4096_4_0 _ fun j => rfl
  · exact piece (fun i : S8x4096.Idx => (powAt x y z (i 1) (i 0).val).1) 3 (by decide) inb_S8x4096_S1x4096_3_0 _ fun j => rfl
  · exact piece (fun i : S8x4096.Idx => (powAt x y z (i 1) (i 0).val).1) 2 (by decide) inb_S8x4096_S1x4096_2_0 _ fun j => rfl
  · exact piece (fun i : S8x4096.Idx => (powAt x y z (i 1) (i 0).val).1) 1 (by decide) inb_S8x4096_S1x4096_1_0 _ fun j => rfl
  · exact piece (fun i : S8x4096.Idx => (powAt x y z (i 1) (i 0).val).1) 0 (by decide) inb_S8x4096_S1x4096_0_0 _ fun j => rfl

theorem rowsIm (x y z : Vec Ideal S1x4096 .f32) : out0_4 (F := Ideal) x y z = fun i => (powAt x y z (i 1) (i 0).val).2 := by
  funext i
  refine View.canon_apply_of_pieces (Val := Elt Ideal) (e := .f32) (fun i : S8x4096.Idx => (powAt x y z (i 1) (i 0).val).2) _ ?_ i (cover0_4 _ _ _ _ _ _ _ _ i)
  intro pc hpc
  simp only [List.mem_cons, List.not_mem_nil, or_false] at hpc
  rcases hpc with h | h | h | h | h | h | h | h <;> subst h
  · exact piece (fun i : S8x4096.Idx => (powAt x y z (i 1) (i 0).val).2) 7 (by decide) inb_S8x4096_S1x4096_7_0 _ fun j => rfl
  · exact piece (fun i : S8x4096.Idx => (powAt x y z (i 1) (i 0).val).2) 6 (by decide) inb_S8x4096_S1x4096_6_0 _ fun j => rfl
  · exact piece (fun i : S8x4096.Idx => (powAt x y z (i 1) (i 0).val).2) 5 (by decide) inb_S8x4096_S1x4096_5_0 _ fun j => rfl
  · exact piece (fun i : S8x4096.Idx => (powAt x y z (i 1) (i 0).val).2) 4 (by decide) inb_S8x4096_S1x4096_4_0 _ fun j => rfl
  · exact piece (fun i : S8x4096.Idx => (powAt x y z (i 1) (i 0).val).2) 3 (by decide) inb_S8x4096_S1x4096_3_0 _ fun j => rfl
  · exact piece (fun i : S8x4096.Idx => (powAt x y z (i 1) (i 0).val).2) 2 (by decide) inb_S8x4096_S1x4096_2_0 _ fun j => rfl
  · exact piece (fun i : S8x4096.Idx => (powAt x y z (i 1) (i 0).val).2) 1 (by decide) inb_S8x4096_S1x4096_1_0 _ fun j => rfl
  · exact piece (fun i : S8x4096.Idx => (powAt x y z (i 1) (i 0).val).2) 0 (by decide) inb_S8x4096_S1x4096_0_0 _ fun j => rfl

variable (m : (ℓ : Loc nD τ sig) → Buf (Elt Ideal) ℓ)

abbrev aA (c : Dev nD) : S1x64x64.Idx → EReal := m ((c : Thread nD τ).loc main_arg0)
abbrev aB (c : Dev nD) : S1x64x64.Idx → EReal := m ((c : Thread nD τ).loc main_arg1)
abbrev aD (c : Dev nD) : S1x64.Idx → EReal := m ((c : Thread nD τ).loc main_arg2)

/-- The real parts, the imaginary parts and the steps in the tables' order. -/
def colA (c : Dev nD) (j : Fin 4096) : EReal := aA m c (ix3 0 ⟨j.val / 64, by omega⟩ ⟨j.val % 64, by omega⟩)
def colB (c : Dev nD) (j : Fin 4096) : EReal := aB m c (ix3 0 ⟨j.val / 64, by omega⟩ ⟨j.val % 64, by omega⟩)
def colD (c : Dev nD) (j : Fin 4096) : EReal := aD m c (ix2 0 ⟨j.val / 64, by omega⟩)

/-- The powers of the transition in the tables' order. -/
def power (c : Dev nD) (j : Fin 4096) (k : ℕ) : EReal × EReal :=
  pow (tRe (colA m c j) (colB m c j) (colD m c j)) (tIm (colA m c j) (colB m c j) (colD m c j)) k

def powRe (c : Dev nD) : S8x4096.Idx → EReal := fun y => (power m c (y 1) (y 0).val).1
def powIm (c : Dev nD) : S8x4096.Idx → EReal := fun y => (power m c (y 1) (y 0).val).2
def coeRe (c : Dev nD) : S1x4096.Idx → EReal := fun y => cRe (colA m c (y 1)) (colB m c (y 1)) (colD m c (y 1))
def coeIm (c : Dev nD) : S1x4096.Idx → EReal := fun y => cIm (colA m c (y 1)) (colB m c (y 1)) (colD m c (y 1))

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem emb0 (t : Fin cfg0.N) (j : Fin 4096) : ((win0_0.blk t).view.emb (ix2 0 j) : S1x4096.Idx) = ix2 0 j := by
  blk_ext [idx t] <;> rfl
theorem emb1 (t : Fin cfg0.N) (j : Fin 4096) : ((win0_1.blk t).view.emb (ix2 0 j) : S1x4096.Idx) = ix2 0 j := by
  blk_ext [idx t] <;> rfl
theorem emb2 (t : Fin cfg0.N) (j : Fin 4096) : ((win0_2.blk t).view.emb (ix2 0 j) : S1x4096.Idx) = ix2 0 j := by
  blk_ext [idx t] <;> rfl
theorem emb3 (t : Fin cfg0.N) (k : Fin 8) (j : Fin 4096) : ((win0_3.blk t).view.emb (ix2 k j) : S8x4096.Idx) = ix2 k j := by
  blk_ext [idx t] <;> rfl
theorem emb4 (t : Fin cfg0.N) (k : Fin 8) (j : Fin 4096) : ((win0_4.blk t).view.emb (ix2 k j) : S8x4096.Idx) = ix2 k j := by
  blk_ext [idx t] <;> rfl
theorem emb5 (t : Fin cfg0.N) (j : Fin 4096) : ((win0_5.blk t).view.emb (ix2 0 j) : S1x4096.Idx) = ix2 0 j := by
  blk_ext [idx t] <;> rfl
theorem emb6 (t : Fin cfg0.N) (j : Fin 4096) : ((win0_6.blk t).view.emb (ix2 0 j) : S1x4096.Idx) = ix2 0 j := by
  blk_ext [idx t] <;> rfl

theorem in0 (c : Dev nD) (t : Fin cfg0.N) (j : Fin 4096) : (iblk m c 0 t : S1x4096.Idx → EReal) (ix2 0 j) = colA m c j := by
  refine (congrArg (V m c main_v5 : S1x4096.Idx → EReal) (emb0 t j)).trans ?_
  entry_read
  pointwise [colA]
theorem in1 (c : Dev nD) (t : Fin cfg0.N) (j : Fin 4096) : (iblk m c 1 t : S1x4096.Idx → EReal) (ix2 0 j) = colB m c j := by
  refine (congrArg (V m c main_v6 : S1x4096.Idx → EReal) (emb1 t j)).trans ?_
  entry_read
  pointwise [colB]
theorem in2 (c : Dev nD) (t : Fin cfg0.N) (j : Fin 4096) : (iblk m c 2 t : S1x4096.Idx → EReal) (ix2 0 j) = colD m c j := by
  refine (congrArg (V m c main_v7 : S1x4096.Idx → EReal) (emb2 t j)).trans ?_
  entry_read
  pointwise [colD]

theorem powAt_eq (c : Dev nD) (t : Fin cfg0.N) (j : Fin 4096) (k : ℕ) : powAt (iblk m c 0 t) (iblk m c 1 t) (iblk m c 2 t) j k = power m c j k := by
  unfold powAt power
  rw [oneRe, oneIm]
  have e0 := in0 m c t j
  have e1 := in1 m c t j
  have e2 := in2 m c t j
  rw [e0, e1, e2]

theorem final_powRe (c : Dev nD) : (dats m 0 c).arrAt 3 cfg0.N = powRe m c := by
  refine (dats m 0 c).arrAt_eq_of_covers 3 _ (by decide +kernel) fun t hf y => ?_
  blk_simp
  rw [after0_3]
  idx_vars y
  refine (congrFun (rowsRe (iblk m c 0 t) (iblk m c 1 t) (iblk m c 2 t)) (ix2 y0 y1)).trans ?_
  refine Eq.trans ?_ (congrArg (powRe m c) (emb3 t y0 y1)).symm
  exact congrArg Prod.fst (powAt_eq m c t y1 y0.val)

theorem final_powIm (c : Dev nD) : (dats m 0 c).arrAt 4 cfg0.N = powIm m c := by
  refine (dats m 0 c).arrAt_eq_of_covers 4 _ (by decide +kernel) fun t hf y => ?_
  blk_simp
  rw [after0_4]
  idx_vars y
  refine (congrFun (rowsIm (iblk m c 0 t) (iblk m c 1 t) (iblk m c 2 t)) (ix2 y0 y1)).trans ?_
  refine Eq.trans ?_ (congrArg (powIm m c) (emb4 t y0 y1)).symm
  exact congrArg Prod.snd (powAt_eq m c t y1 y0.val)

theorem final_coeRe (c : Dev nD) : (dats m 0 c).arrAt 5 cfg0.N = coeRe m c := by
  refine (dats m 0 c).arrAt_eq_of_covers 5 _ (by decide +kernel) fun t hf y => ?_
  blk_simp
  rw [after0_5]
  idx_vars y
  have h0 : y0 = 0 := Subsingleton.elim _ _
  subst h0
  refine (coefRe (iblk m c 0 t) (iblk m c 1 t) (iblk m c 2 t) y1).trans ?_
  refine Eq.trans ?_ (congrArg (coeRe m c) (emb5 t y1)).symm
  have e0 := in0 m c t y1
  have e1 := in1 m c t y1
  have e2 := in2 m c t y1
  rw [e0, e1, e2]
  rfl

theorem final_coeIm (c : Dev nD) : (dats m 0 c).arrAt 6 cfg0.N = coeIm m c := by
  refine (dats m 0 c).arrAt_eq_of_covers 6 _ (by decide +kernel) fun t hf y => ?_
  blk_simp
  rw [after0_6]
  idx_vars y
  have h0 : y0 = 0 := Subsingleton.elim _ _
  subst h0
  refine (coefIm (iblk m c 0 t) (iblk m c 1 t) (iblk m c 2 t) y1).trans ?_
  refine Eq.trans ?_ (congrArg (coeIm m c) (emb6 t y1)).symm
  have e0 := in0 m c t y1
  have e1 := in1 m c t y1
  have e2 := in2 m c t y1
  rw [e0, e1, e2]
  rfl

end Cert.Kernel11Ideal.Tables

namespace Cert.Reference11Ideal.Tables

open Idealize.ShloMosaic Idealize.ShloMosaic.TcCoe Idealize.SL.Sem
open Cert.Reference11Ideal Cert.Reference11Ideal.Gen Cert.Reference11Ideal.Value Cert.Tables

variable (V : Valuation τ sig (Elt Ideal))

abbrev vA : S1x64x64.Idx → EReal := V (Proc.tc.devRef main_arg0)
abbrev vB : S1x64x64.Idx → EReal := V (Proc.tc.devRef main_arg1)
abbrev vD : S1x64.Idx → EReal := V (Proc.tc.devRef main_arg2)

theorem oneRe (g s : Fin 64) : res_main_v13 (F := Ideal) V (ix2 g s) = tRe (vA V (ix3 0 g s)) (vB V (ix3 0 g s)) (vD V (ix2 0 g)) := by
  pointwise [res_main_v13, res_main_v9, res_main_v6, res_main_v3, res_main_v2, tRe, low]
theorem oneIm (g s : Fin 64) : res_main_v17 (F := Ideal) V (ix2 g s) = tIm (vA V (ix3 0 g s)) (vB V (ix3 0 g s)) (vD V (ix2 0 g)) := by
  pointwise [res_main_v17, res_main_v9, res_main_v6, res_main_v3, res_main_v2, tIm, low]

def coeRe : FVec Ideal S1x4096 .f32 :=
  shapeCast _ (Host.divf (addf (mulf (res_main_v22 V) (res_main_v2 V)) (mulf (res_main_v17 V) (res_main_v3 V))) (res_main_v20 V) : FVec Ideal S64x64 .f32) shapeCasts_S64x64_S1x4096
def coeIm : FVec Ideal S1x4096 .f32 :=
  shapeCast _ (Host.divf (subf (mulf (res_main_v17 V) (res_main_v2 V)) (mulf (res_main_v22 V) (res_main_v3 V))) (res_main_v20 V) : FVec Ideal S64x64 .f32) shapeCasts_S64x64_S1x4096

theorem coeRe_at (j : Fin 4096) : coeRe V (ix2 0 j) = cRe (vA V (ix3 0 ⟨j.val / 64, by omega⟩ ⟨j.val % 64, by omega⟩)) (vB V (ix3 0 ⟨j.val / 64, by omega⟩ ⟨j.val % 64, by omega⟩)) (vD V (ix2 0 ⟨j.val / 64, by omega⟩)) := by
  pointwise [coeRe, res_main_v22, res_main_v20, res_main_v17, res_main_v13, res_main_v9, res_main_v6, res_main_v3, res_main_v2, cRe, tRe, tIm, low]
theorem coeIm_at (j : Fin 4096) : coeIm V (ix2 0 j) = cIm (vA V (ix3 0 ⟨j.val / 64, by omega⟩ ⟨j.val % 64, by omega⟩)) (vB V (ix3 0 ⟨j.val / 64, by omega⟩ ⟨j.val % 64, by omega⟩)) (vD V (ix2 0 ⟨j.val / 64, by omega⟩)) := by
  pointwise [coeIm, res_main_v22, res_main_v20, res_main_v17, res_main_v13, res_main_v9, res_main_v6, res_main_v3, res_main_v2, cIm, tRe, tIm, low]

theorem rows (X0 X1 X2 X3 X4 X5 X6 X7 : FVec Ideal S1x4096 .f32) (r : Fin 8) (j : Fin 4096) :
    (concatenate S8x4096 0 [⟨S1x4096, X0⟩, ⟨S1x4096, X1⟩, ⟨S1x4096, X2⟩, ⟨S1x4096, X3⟩, ⟨S1x4096, X4⟩, ⟨S1x4096, X5⟩, ⟨S1x4096, X6⟩, ⟨S1x4096, X7⟩] concatenates_S1x4096_S1x4096_S1x4096_S1x4096_S1x4096_S1x4096_S1x4096_S1x4096_S8x4096_d0 : FVec Ideal S8x4096 .f32) (ix2 r j)
      = (![X0, X1, X2, X3, X4, X5, X6, X7] r : FVec Ideal S1x4096 .f32) (ix2 0 j) := by
  fin_cases r
  all_goals pointwise

/-- A row of a table: the flattened matrix. -/
theorem flat (X : FVec Ideal S64x64 .f32) (j : Fin 4096) :
    (shapeCast S1x4096 X shapeCasts_S64x64_S1x4096 : FVec Ideal S1x4096 .f32) (ix2 0 j) = X (ix2 ⟨j.val / 64, by omega⟩ ⟨j.val % 64, by omega⟩) := by
  pointwise

def powRe : FVec Ideal S8x4096 .f32 :=
  concatenate S8x4096 0 [⟨S1x4096, (shapeCast S1x4096 (res_main_v13 V : FVec Ideal S64x64 .f32) shapeCasts_S64x64_S1x4096 : FVec Ideal S1x4096 .f32)⟩, ⟨S1x4096, (shapeCast S1x4096 (res_main_v33 V : FVec Ideal S64x64 .f32) shapeCasts_S64x64_S1x4096 : FVec Ideal S1x4096 .f32)⟩, ⟨S1x4096, (shapeCast S1x4096 (res_main_v39 V : FVec Ideal S64x64 .f32) shapeCasts_S64x64_S1x4096 : FVec Ideal S1x4096 .f32)⟩, ⟨S1x4096, (shapeCast S1x4096 (res_main_v45 V : FVec Ideal S64x64 .f32) shapeCasts_S64x64_S1x4096 : FVec Ideal S1x4096 .f32)⟩, ⟨S1x4096, (shapeCast S1x4096 (res_main_v51 V : FVec Ideal S64x64 .f32) shapeCasts_S64x64_S1x4096 : FVec Ideal S1x4096 .f32)⟩, ⟨S1x4096, (shapeCast S1x4096 (res_main_v57 V : FVec Ideal S64x64 .f32) shapeCasts_S64x64_S1x4096 : FVec Ideal S1x4096 .f32)⟩, ⟨S1x4096, (shapeCast S1x4096 (res_main_v63 V : FVec Ideal S64x64 .f32) shapeCasts_S64x64_S1x4096 : FVec Ideal S1x4096 .f32)⟩, ⟨S1x4096, (shapeCast S1x4096 (subf (mulf (res_main_v63 V) (res_main_v13 V)) (mulf (res_main_v66 V) (res_main_v17 V)) : FVec Ideal S64x64 .f32) shapeCasts_S64x64_S1x4096 : FVec Ideal S1x4096 .f32)⟩] concatenates_S1x4096_S1x4096_S1x4096_S1x4096_S1x4096_S1x4096_S1x4096_S1x4096_S8x4096_d0

theorem powRe_at (r : Fin 8) (j : Fin 4096) : powRe V (ix2 r j)
    = (pow (res_main_v13 (F := Ideal) V (ix2 ⟨j.val / 64, by omega⟩ ⟨j.val % 64, by omega⟩)) (res_main_v17 (F := Ideal) V (ix2 ⟨j.val / 64, by omega⟩ ⟨j.val % 64, by omega⟩)) r.val).1 := by
  refine (rows _ _ _ _ _ _ _ _ r j).trans ?_
  fin_cases r
  · exact (flat (res_main_v13 V : FVec Ideal S64x64 .f32) j).trans rfl
  · exact (flat (res_main_v33 V : FVec Ideal S64x64 .f32) j).trans rfl
  · exact (flat (res_main_v39 V : FVec Ideal S64x64 .f32) j).trans rfl
  · exact (flat (res_main_v45 V : FVec Ideal S64x64 .f32) j).trans rfl
  · exact (flat (res_main_v51 V : FVec Ideal S64x64 .f32) j).trans rfl
  · exact (flat (res_main_v57 V : FVec Ideal S64x64 .f32) j).trans rfl
  · exact (flat (res_main_v63 V : FVec Ideal S64x64 .f32) j).trans rfl
  · exact (flat (subf (mulf (res_main_v63 V) (res_main_v13 V)) (mulf (res_main_v66 V) (res_main_v17 V)) : FVec Ideal S64x64 .f32) j).trans rfl

def powIm : FVec Ideal S8x4096 .f32 :=
  concatenate S8x4096 0 [⟨S1x4096, (shapeCast S1x4096 (res_main_v17 V : FVec Ideal S64x64 .f32) shapeCasts_S64x64_S1x4096 : FVec Ideal S1x4096 .f32)⟩, ⟨S1x4096, (shapeCast S1x4096 (res_main_v36 V : FVec Ideal S64x64 .f32) shapeCasts_S64x64_S1x4096 : FVec Ideal S1x4096 .f32)⟩, ⟨S1x4096, (shapeCast S1x4096 (res_main_v42 V : FVec Ideal S64x64 .f32) shapeCasts_S64x64_S1x4096 : FVec Ideal S1x4096 .f32)⟩, ⟨S1x4096, (shapeCast S1x4096 (res_main_v48 V : FVec Ideal S64x64 .f32) shapeCasts_S64x64_S1x4096 : FVec Ideal S1x4096 .f32)⟩, ⟨S1x4096, (shapeCast S1x4096 (res_main_v54 V : FVec Ideal S64x64 .f32) shapeCasts_S64x64_S1x4096 : FVec Ideal S1x4096 .f32)⟩, ⟨S1x4096, (shapeCast S1x4096 (res_main_v60 V : FVec Ideal S64x64 .f32) shapeCasts_S64x64_S1x4096 : FVec Ideal S1x4096 .f32)⟩, ⟨S1x4096, (shapeCast S1x4096 (res_main_v66 V : FVec Ideal S64x64 .f32) shapeCasts_S64x64_S1x4096 : FVec Ideal S1x4096 .f32)⟩, ⟨S1x4096, (shapeCast S1x4096 (addf (mulf (res_main_v63 V) (res_main_v17 V)) (mulf (res_main_v66 V) (res_main_v13 V)) : FVec Ideal S64x64 .f32) shapeCasts_S64x64_S1x4096 : FVec Ideal S1x4096 .f32)⟩] concatenates_S1x4096_S1x4096_S1x4096_S1x4096_S1x4096_S1x4096_S1x4096_S1x4096_S8x4096_d0

theorem powIm_at (r : Fin 8) (j : Fin 4096) : powIm V (ix2 r j)
    = (pow (res_main_v13 (F := Ideal) V (ix2 ⟨j.val / 64, by omega⟩ ⟨j.val % 64, by omega⟩)) (res_main_v17 (F := Ideal) V (ix2 ⟨j.val / 64, by omega⟩ ⟨j.val % 64, by omega⟩)) r.val).2 := by
  refine (rows _ _ _ _ _ _ _ _ r j).trans ?_
  fin_cases r
  · exact (flat (res_main_v17 V : FVec Ideal S64x64 .f32) j).trans rfl
  · exact (flat (res_main_v36 V : FVec Ideal S64x64 .f32) j).trans rfl
  · exact (flat (res_main_v42 V : FVec Ideal S64x64 .f32) j).trans rfl
  · exact (flat (res_main_v48 V : FVec Ideal S64x64 .f32) j).trans rfl
  · exact (flat (res_main_v54 V : FVec Ideal S64x64 .f32) j).trans rfl
  · exact (flat (res_main_v60 V : FVec Ideal S64x64 .f32) j).trans rfl
  · exact (flat (res_main_v66 V : FVec Ideal S64x64 .f32) j).trans rfl
  · exact (flat (addf (mulf (res_main_v63 V) (res_main_v17 V)) (mulf (res_main_v66 V) (res_main_v13 V)) : FVec Ideal S64x64 .f32) j).trans rfl

end Cert.Reference11Ideal.Tables

namespace Cert.Tables

open Idealize.ShloMosaic Idealize.ShloMosaic.TcCoe Idealize.SL.Sem
open Cert.Kernel11Ideal Cert.Kernel11Ideal.Gen Cert.Kernel11Ideal.Tables

theorem frame_kernel11 : Cert.quiescent_Kernel11 (hKernel11 := Cert.Kernel11.Gen.facts) :=
  fun m ρ _ => Cert.Kernel11.Gen.frame m ρ

theorem frame_ideal11 : Cert.quiescent_Kernel11Ideal (hKernel11Ideal := Cert.Kernel11Ideal.Gen.facts) :=
  fun m ρ _ => Cert.Kernel11Ideal.Gen.frame m ρ

theorem frame_reference11 : Cert.quiescent_Reference11Ideal (hReference11Ideal := Cert.Reference11Ideal.Gen.facts) :=
  fun m ρ _ => (θ_run (Cert.Reference11Ideal.defs (F := Ideal)) _ _).mono
    (fun r h => ⟨fun c => (h c).2.2.2.2, sem_eq_zero_of_no_sems (by decide) r.2⟩)
    (Cert.Reference11Ideal.Value.run (F := Ideal) m ρ)

theorem preserves11 : Cert.preserves_Kernel11_Kernel11Ideal := trivial

variable (m : (ℓ : Loc nD τ sig) → Buf (Elt Ideal) ℓ)
    (V : Valuation Cert.Reference11Ideal.τ Cert.Reference11Ideal.sig (Elt Ideal)) (c : Dev nD)

theorem powRe_eq (e0 : Cert.Reference11Ideal.Tables.vA V = aA m c) (e1 : Cert.Reference11Ideal.Tables.vB V = aB m c) (e2 : Cert.Reference11Ideal.Tables.vD V = aD m c) :
    Cert.Reference11Ideal.Tables.powRe V = powRe m c := by
  funext (y : S8x4096.Idx)
  idx_vars y
  refine (Cert.Reference11Ideal.Tables.powRe_at V y0 y1).trans ?_
  rw [Cert.Reference11Ideal.Tables.oneRe, Cert.Reference11Ideal.Tables.oneIm, e0, e1, e2]
  rfl

theorem powIm_eq (e0 : Cert.Reference11Ideal.Tables.vA V = aA m c) (e1 : Cert.Reference11Ideal.Tables.vB V = aB m c) (e2 : Cert.Reference11Ideal.Tables.vD V = aD m c) :
    Cert.Reference11Ideal.Tables.powIm V = powIm m c := by
  funext (y : S8x4096.Idx)
  idx_vars y
  refine (Cert.Reference11Ideal.Tables.powIm_at V y0 y1).trans ?_
  rw [Cert.Reference11Ideal.Tables.oneRe, Cert.Reference11Ideal.Tables.oneIm, e0, e1, e2]
  rfl

theorem coeRe_eq (e0 : Cert.Reference11Ideal.Tables.vA V = aA m c) (e1 : Cert.Reference11Ideal.Tables.vB V = aB m c) (e2 : Cert.Reference11Ideal.Tables.vD V = aD m c) :
    Cert.Reference11Ideal.Tables.coeRe V = coeRe m c := by
  funext (y : S1x4096.Idx)
  idx_vars y
  have h0 : y0 = 0 := Subsingleton.elim _ _
  subst h0
  refine (Cert.Reference11Ideal.Tables.coeRe_at V y1).trans ?_
  rw [e0, e1, e2]
  rfl

theorem coeIm_eq (e0 : Cert.Reference11Ideal.Tables.vA V = aA m c) (e1 : Cert.Reference11Ideal.Tables.vB V = aB m c) (e2 : Cert.Reference11Ideal.Tables.vD V = aD m c) :
    Cert.Reference11Ideal.Tables.coeIm V = coeIm m c := by
  funext (y : S1x4096.Idx)
  idx_vars y
  have h0 : y0 = 0 := Subsingleton.elim _ _
  subst h0
  refine (Cert.Reference11Ideal.Tables.coeIm_at V y1).trans ?_
  rw [e0, e1, e2]
  rfl

theorem algebraic11 : Cert.algebraic_Kernel11Ideal_Reference11Ideal (hKernel11Ideal := Cert.Kernel11Ideal.Gen.facts)
    (hReference11Ideal := Cert.Reference11Ideal.Gen.facts) := by
  intro m ρ m' ρ' hpre hargs
  refine ⟨fun c => powRe m c, fun c => powIm m c, fun c => coeRe m c, fun c => coeIm m c, ?_, ?_⟩
  · exact (θ_run _ _ _).mono (fun r h c => ⟨(h c).1.trans (final_powRe m c), (h c).2.1.trans (final_powIm m c),
      (h c).2.2.1.trans (final_coeRe m c), (h c).2.2.2.1.trans (final_coeIm m c), (h c).2.2.2.2⟩) (Cert.Kernel11Ideal.Value.run_blocks m ρ)
  · refine (θ_run _ _ _).mono (fun r h c => ?_) (Cert.Reference11Ideal.Value.run m' ρ')
    obtain ⟨e0, e1, e2⟩ := hargs c
    exact ⟨(h c).1.trans (powRe_eq m _ c e0 e1 e2), (h c).2.1.trans (powIm_eq m _ c e0 e1 e2),
      (h c).2.2.1.trans (coeRe_eq m _ c e0 e1 e2), (h c).2.2.2.1.trans (coeIm_eq m _ c e0 e1 e2), (h c).2.2.2.2⟩

end Cert.Tables
-- ==== Proof.Pages.lean ====
/- The page sums of the samples' cached log forget values: the kernel at an index. -/
module

public import proofs.«01_k».proof.Proof.Gen.Kernel12Ideal.Value
public import proofs.«01_k».proof.Proof.CumBody
public import Idealize.ShloMosaic.Lib.Pipeline.ValueKit
public import Idealize.ShloMosaic.Lib.Pointwise
public import Idealize.ShloMosaic.Lib.VecWindow
public import Idealize.ShloMosaic.Lib.Claim

@[expose] public section

set_option maxRecDepth 16384

noncomputable section

namespace Cert.Pages

open Idealize.ShloMosaic

/-- The value at position `k / 8` and head `k % 8` of page `i`. -/
def item (a : (⟨4, ![1, 2560, 128, 8]⟩ : Shape).Idx → EReal) (i : Fin 2560) (k : ℕ) : EReal :=
  a (ix4 0 i ⟨k / 8 % 128, by omega⟩ ⟨k % 8, by omega⟩)

/-- The sum over the later positions of the page, for the own head. -/
def after (a : (⟨4, ![1, 2560, 128, 8]⟩ : Shape).Idx → EReal) (y : (⟨2, ![2560, 1024]⟩ : Shape).Idx) : EReal :=
  ∑ s : Fin 128, if (y 1).val / 8 < s.val then item a (y 0) (s.val * 8 + (y 1).val % 8) else 0

/-- The sum over all positions of the page, for the own head. -/
def whole (a : (⟨4, ![1, 2560, 128, 8]⟩ : Shape).Idx → EReal) (y : (⟨2, ![2560, 1024]⟩ : Shape).Idx) : EReal :=
  ∑ s : Fin 128, item a (y 0) (s.val * 8 + (y 1).val % 8)

theorem strided_range (f : ℕ → EReal) (p : ℕ → Prop) [DecidablePred p] (h : ℕ) (hh : h < 8) (n : ℕ) :
    (∑ r ∈ Finset.range (n * 8), if r % 8 = h ∧ p (r / 8) then f r else 0) = ∑ s ∈ Finset.range n, if p s then f (s * 8 + h) else 0 := by
  induction n with
  | zero => simp
  | succ n ih =>
    rw [Nat.succ_mul, Finset.sum_range_add, ih, Finset.sum_range_succ _ n]
    congr 1
    rw [Finset.sum_eq_single h]
    · have e1 : (n * 8 + h) % 8 = h := by omega
      have e2 : (n * 8 + h) / 8 = n := by omega
      simp only [e1, e2, true_and]
    · intro k hk hne
      rw [Finset.mem_range] at hk
      refine if_neg ?_
      rintro ⟨e, _⟩
      omega
    · intro hn
      exact absurd (Finset.mem_range.2 hh) hn

/-- A sum over the places of one head is a sum over the positions. -/
theorem strided (f : ℕ → EReal) (p : ℕ → Prop) [DecidablePred p] (h : ℕ) (hh : h < 8) :
    (∑ r : Fin 1024, if r.val % 8 = h ∧ p (r.val / 8) then f r.val else 0) = ∑ s : Fin 128, if p s.val then f (s.val * 8 + h) else 0 := by
  rw [Fin.sum_univ_eq_sum_range (fun r => if r % 8 = h ∧ p (r / 8) then f r else 0) 1024,
    Fin.sum_univ_eq_sum_range (fun s => if p s then f (s * 8 + h) else 0) 128]
  exact strided_range f p h hh 128

/-- Three sums over the same places, one for each part of the values. -/
theorem parts (p : Fin 1024 → Prop) [DecidablePred p] (x : Fin 1024 → EReal) (h : ∀ s, x s ≠ ⊤) :
    (∑ s, x s * (if p s then (1 : EReal) else 0)) + (∑ s, (x s - x s) * (if p s then (1 : EReal) else 0))
      + (∑ s, ((x s - x s) - (x s - x s)) * (if p s then (1 : EReal) else 0)) = ∑ s, if p s then x s else 0 := by
  rw [← Finset.sum_add_distrib, ← Finset.sum_add_distrib]
  refine Finset.sum_congr rfl fun s _ => ?_
  by_cases hs : p s
  · simp only [if_pos hs, mul_one]
    exact Cert.Cumulated.rest_rest (x s) (h s)
  · simp only [if_neg hs, mul_zero, add_zero]

/-- The remainder by eight as the host code writes it. -/
def remW (w : BitVec 32) : BitVec 32 :=
  Scalar.select
    (IntOp.andi
      (IntOp.cmpi CmpIPredicate.ne (IntOp.cmpi CmpIPredicate.slt (IntOp.remsi ArithUnit.host w (Scalar.select (IntOp.cmpi CmpIPredicate.eq 8#32 0#32) 1#32 8#32)) 0#32)
        (IntOp.cmpi CmpIPredicate.slt (Scalar.select (IntOp.cmpi CmpIPredicate.eq 8#32 0#32) 1#32 8#32) 0#32))
      (IntOp.cmpi CmpIPredicate.ne (IntOp.remsi ArithUnit.host w (Scalar.select (IntOp.cmpi CmpIPredicate.eq 8#32 0#32) 1#32 8#32)) 0#32))
    (IntOp.addi (IntOp.remsi ArithUnit.host w (Scalar.select (IntOp.cmpi CmpIPredicate.eq 8#32 0#32) 1#32 8#32)) (Scalar.select (IntOp.cmpi CmpIPredicate.eq 8#32 0#32) 1#32 8#32))
    (IntOp.remsi ArithUnit.host w (Scalar.select (IntOp.cmpi CmpIPredicate.eq 8#32 0#32) 1#32 8#32))

/-- The quotient by eight as the host code writes it. -/
def divW (w : BitVec 32) : BitVec 32 :=
  Scalar.select
    (IntOp.andi
      (IntOp.cmpi CmpIPredicate.ne (if w = 0 then (0 : BitVec 32) else if w.msb = true then (-1 : BitVec 32) else (1 : BitVec 32)) (if (8#32 : BitVec 32) = 0 then (0 : BitVec 32) else if BitVec.msb 8#32 = true then (-1 : BitVec 32) else (1 : BitVec 32)))
      (IntOp.cmpi CmpIPredicate.ne (IntOp.remsi ArithUnit.host w 8#32) 0#32))
    (IntOp.subi (IntOp.divsi ArithUnit.host w 8#32) 1#32)
    (IntOp.divsi ArithUnit.host w 8#32)

theorem remW_at : ∀ r : Fin 1024, remW (BitVec.ofNat 32 r.val) = BitVec.ofNat 32 (r.val % 8) := by decide +kernel
theorem divW_at : ∀ r : Fin 1024, divW (BitVec.ofNat 32 r.val) = BitVec.ofNat 32 (r.val / 8) := by decide +kernel

theorem toInt_small (a : ℕ) (ha : a < 1024) : (BitVec.ofNat 32 a).toInt = a := by
  rw [BitVec.toInt_eq_toNat_cond, BitVec.toNat_ofNat]
  split <;> omega

theorem eq_word (a b : ℕ) (ha : a < 1024) (hb : b < 1024) :
    IntOp.cmpi .eq (BitVec.ofNat 32 a) (BitVec.ofNat 32 b) = if a = b then 1#1 else 0#1 := by
  by_cases h : a = b
  · subst h
    rw [if_pos rfl]
    simp [IntOp.cmpi]
  · rw [if_neg h]
    have : BitVec.ofNat 32 a ≠ BitVec.ofNat 32 b := fun e => h (by
      have := congrArg BitVec.toNat e
      rw [BitVec.toNat_ofNat, BitVec.toNat_ofNat] at this
      omega)
    have e : (BitVec.ofNat 32 a == BitVec.ofNat 32 b) = false := beq_eq_false_iff_ne.2 this
    simp only [IntOp.cmpi, e]
    rfl

theorem gt_word (a b : ℕ) (ha : a < 1024) (hb : b < 1024) :
    IntOp.cmpi .sgt (BitVec.ofNat 32 a) (BitVec.ofNat 32 b) = if b < a then 1#1 else 0#1 := by
  have h1 := toInt_small a ha
  have h2 := toInt_small b hb
  unfold IntOp.cmpi
  by_cases h : b < a
  · simp [BitVec.slt, h1, h2, h]
  · simp [BitVec.slt, h1, h2, h]

end Cert.Pages

namespace Cert.Kernel12Ideal.Pages

open Idealize.ShloMosaic Idealize.ShloMosaic.StableHlo Idealize.ShloMosaic.TcCoe Idealize.SL.Sem
open Cert.Kernel12Ideal Cert.Kernel12Ideal.Gen Cert.Pages

variable (m : (ℓ : Loc nD τ sig) → Buf (Elt Ideal) ℓ)

abbrev aL (c : Dev nD) : S1x2560x128x8.Idx → EReal := m ((c : Thread nD τ).loc main_arg0)

theorem all_at (c : Dev nD) (r q : Fin 1024) : (V m c main_v12 : S1024x1024.Idx → EReal) (ix2 r q) = (if r.val % 8 = q.val % 8 then (1 : EReal) else (0 : EReal) : EReal) := by
  entry_read
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.binary, TRef.ternary, TRef.unary, TRef.toBuf, TRef.ofBuf, cast_eq]
  after_results
  pointwise
  show (FloatOps.uitofp (F := Ideal) FTy.bf16 (IntOp.cmpi .eq (remW (BitVec.ofNat 32 r.val)) (remW (BitVec.ofNat 32 q.val))) : EReal) = _
  rw [remW_at, remW_at, eq_word _ _ (by omega) (by omega)]
  by_cases h : r.val % 8 = q.val % 8
  · rw [if_pos h, if_pos h]
    simp [FloatOps.uitofp]
  · rw [if_neg h, if_neg h]
    simp [FloatOps.uitofp]

theorem after_at (c : Dev nD) (r q : Fin 1024) : (V m c main_v11 : S1024x1024.Idx → EReal) (ix2 r q)
    = (if r.val % 8 = q.val % 8 ∧ q.val / 8 < r.val / 8 then (1 : EReal) else (0 : EReal) : EReal) := by
  entry_read
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.binary, TRef.ternary, TRef.unary, TRef.toBuf, TRef.ofBuf, cast_eq]
  after_results
  pointwise
  show (FloatOps.uitofp (F := Ideal) FTy.bf16 (IntOp.andi (IntOp.cmpi .eq (remW (BitVec.ofNat 32 r.val)) (remW (BitVec.ofNat 32 q.val)))
    (IntOp.cmpi .sgt (divW (BitVec.ofNat 32 r.val)) (divW (BitVec.ofNat 32 q.val)))) : EReal) = _
  rw [remW_at, remW_at, divW_at, divW_at, eq_word _ _ (by omega) (by omega), gt_word _ _ (by omega) (by omega)]
  by_cases h : r.val % 8 = q.val % 8
  · by_cases h2 : q.val / 8 < r.val / 8
    · rw [if_pos h, if_pos h2, if_pos ⟨h, h2⟩]
      simp [FloatOps.uitofp, IntOp.andi]
    · rw [if_pos h, if_neg h2, if_neg (fun e => h2 e.2)]
      simp [FloatOps.uitofp, IntOp.andi]
  · rw [if_neg h, if_neg (show ¬(r.val % 8 = q.val % 8 ∧ q.val / 8 < r.val / 8) from fun e => h e.1)]
    simp [FloatOps.uitofp, IntOp.andi]

theorem arg_at (c : Dev nD) (i : Fin 2560) (q : Fin 1024) : (V m c main_v1 : S2560x1024.Idx → EReal) (ix2 i q) = item (aL m c) i q.val := by
  entry_read
  simp only [hostOps0, hostOps0_1, hostOps0_2, hostOps0_3, hostOps0_4, hostOps0_5, hostOps0_6, hostOps0_7, hostOps0_8, List.flatten_cons, List.flatten_nil, List.append_nil, List.cons_append, List.nil_append, TRef.nullary, TRef.binary, TRef.ternary, TRef.unary, TRef.toBuf, TRef.ofBuf, cast_eq]
  after_results
  pointwise
  unfold item
  refine congrArg (aL m c) ?_
  refine congrArg (fun z => ix4 0 i z ⟨q.val % 8, by omega⟩) (Fin.ext ?_)
  show q.val / 8 = q.val / 8 % 128
  omega

theorem bodyA (x : S256x1024.Idx → EReal) (T U : S1024x1024.Idx → EReal) (i : Fin 256) (j : Fin 1024) :
    (out0_3 (F := Ideal) x T U : S256x1024.Idx → EReal) (ix2 i j) = (∑ s : Fin 1024, x (ix2 i s) * T (ix2 s j))
      + (∑ s : Fin 1024, (x (ix2 i s) - x (ix2 i s)) * T (ix2 s j))
      + (∑ s : Fin 1024, ((x (ix2 i s) - x (ix2 i s)) - (x (ix2 i s) - x (ix2 i s))) * T (ix2 s j)) := by
  unfold out0_3
  simp (disch := decide) only [View.canon_cons_unit_lit', View.ld_unit_lit']
  pointwise [k0_pay6, k0_pay5, k0_pay4, k0_pay3, k0_pay2, k0_pay1]

theorem bodyB (x : S256x1024.Idx → EReal) (T U : S1024x1024.Idx → EReal) (i : Fin 256) (j : Fin 1024) :
    (out0_4 (F := Ideal) x T U : S256x1024.Idx → EReal) (ix2 i j) = (∑ s : Fin 1024, x (ix2 i s) * U (ix2 s j))
      + (∑ s : Fin 1024, (x (ix2 i s) - x (ix2 i s)) * U (ix2 s j))
      + (∑ s : Fin 1024, ((x (ix2 i s) - x (ix2 i s)) - (x (ix2 i s) - x (ix2 i s))) * U (ix2 s j)) := by
  unfold out0_4
  simp (disch := decide) only [View.canon_cons_unit_lit', View.ld_unit_lit']
  pointwise [k0_pay7, k0_pay5, k0_pay4, k0_pay3, k0_pay2, k0_pay1]

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt_points (t : Fin cfg0.N) : t.val < 10 := lt_of_lt_of_eq t.isLt N_0

/-- The page of a row of a block. -/
def page (t : Fin cfg0.N) (r : Fin 256) : Fin 2560 := ⟨t.val * 256 + r.val, by have := lt_points t; omega⟩

theorem emb0 (t : Fin cfg0.N) (r : Fin 256) (q : Fin 1024) : ((win0_0.blk t).view.emb (ix2 r q) : S2560x1024.Idx) = ix2 (page t r) q := by
  blk_ext [idx t] <;> rfl
theorem emb1 (t : Fin cfg0.N) (r q : Fin 1024) : ((win0_1.blk t).view.emb (ix2 r q) : S1024x1024.Idx) = ix2 r q := by
  blk_ext [idx t] <;> rfl
theorem emb2 (t : Fin cfg0.N) (r q : Fin 1024) : ((win0_2.blk t).view.emb (ix2 r q) : S1024x1024.Idx) = ix2 r q := by
  blk_ext [idx t] <;> rfl
theorem emb3 (t : Fin cfg0.N) (r : Fin 256) (q : Fin 1024) : ((win0_3.blk t).view.emb (ix2 r q) : S2560x1024.Idx) = ix2 (page t r) q := by
  blk_ext [idx t] <;> rfl
theorem emb4 (t : Fin cfg0.N) (r : Fin 256) (q : Fin 1024) : ((win0_4.blk t).view.emb (ix2 r q) : S2560x1024.Idx) = ix2 (page t r) q := by
  blk_ext [idx t] <;> rfl

abbrev xs (c : Dev nD) (t : Fin cfg0.N) : S256x1024.Idx → EReal := iblk m c 0 t
abbrev ma (c : Dev nD) (t : Fin cfg0.N) : S1024x1024.Idx → EReal := iblk m c 1 t
abbrev mt (c : Dev nD) (t : Fin cfg0.N) : S1024x1024.Idx → EReal := iblk m c 2 t

theorem in0 (c : Dev nD) (t : Fin cfg0.N) (r : Fin 256) (q : Fin 1024) : xs m c t (ix2 r q) = item (aL m c) (page t r) q.val :=
  (congrArg (V m c main_v1 : S2560x1024.Idx → EReal) (emb0 t r q)).trans (arg_at m c (page t r) q)
theorem in1 (c : Dev nD) (t : Fin cfg0.N) (r q : Fin 1024) : ma m c t (ix2 r q) = if r.val % 8 = q.val % 8 ∧ q.val / 8 < r.val / 8 then 1 else 0 :=
  (congrArg (V m c main_v11 : S1024x1024.Idx → EReal) (emb1 t r q)).trans (after_at m c r q)
theorem in2 (c : Dev nD) (t : Fin cfg0.N) (r q : Fin 1024) : mt m c t (ix2 r q) = if r.val % 8 = q.val % 8 then 1 else 0 :=
  (congrArg (V m c main_v12 : S1024x1024.Idx → EReal) (emb2 t r q)).trans (all_at m c r q)

theorem ne_top (c : Dev nD) (h : ∀ i, aL m c i ≠ ⊤) (i : Fin 2560) (k : ℕ) : item (aL m c) i k ≠ ⊤ := h _

theorem final_after (c : Dev nD) (hx : ∀ i, aL m c i ≠ ⊤) : (dats m 0 c).arrAt 3 cfg0.N = after (aL m c) := by
  refine (dats m 0 c).arrAt_eq_of_covers 3 _ (by decide +kernel) fun t hf y => ?_
  blk_simp
  rw [after0_3]
  idx_vars y
  refine (bodyA (xs m c t) (ma m c t) (mt m c t) y0 y1).trans ?_
  refine Eq.trans ?_ (congrArg (after (aL m c)) (emb3 t y0 y1)).symm
  simp only [in0, in1]
  refine (parts (fun s => s.val % 8 = y1.val % 8 ∧ y1.val / 8 < s.val / 8) (fun s => item (aL m c) (page t y0) s.val) (fun s => ne_top m c hx _ _)).trans ?_
  exact strided (item (aL m c) (page t y0)) (fun s => y1.val / 8 < s) (y1.val % 8) (by omega)

theorem final_whole (c : Dev nD) (hx : ∀ i, aL m c i ≠ ⊤) : (dats m 0 c).arrAt 4 cfg0.N = whole (aL m c) := by
  refine (dats m 0 c).arrAt_eq_of_covers 4 _ (by decide +kernel) fun t hf y => ?_
  blk_simp
  rw [after0_4]
  idx_vars y
  refine (bodyB (xs m c t) (ma m c t) (mt m c t) y0 y1).trans ?_
  refine Eq.trans ?_ (congrArg (whole (aL m c)) (emb4 t y0 y1)).symm
  simp only [in0, in2]
  refine (parts (fun s => s.val % 8 = y1.val % 8) (fun s => item (aL m c) (page t y0) s.val) (fun s => ne_top m c hx _ _)).trans ?_
  have e := strided (item (aL m c) (page t y0)) (fun _ => True) (y1.val % 8) (by omega)
  simp only [and_true, if_true] at e
  exact e

end Cert.Kernel12Ideal.Pages
-- ==== Proof.PageSums.lean ====
/- The page sums of the samples' cached log forget values: the reference at an index, and the claims. -/
module

public import proofs.«01_k».proof.Defs
public import proofs.«01_k».proof.Proof.Gen.Kernel12.Frame
public import proofs.«01_k».proof.Proof.Gen.Pre_pages_below_infinity
public import proofs.«01_k».proof.Proof.Gen.Reference12Ideal.Run
public import proofs.«01_k».proof.Proof.Pages
public import proofs.«01_k».proof.Proof.Cum
public import Idealize.ShloMosaic.Lib.Quiescent

@[expose] public section

set_option maxRecDepth 16384

noncomputable section

namespace Cert.Reference12Ideal.Pages

open Idealize.ShloMosaic Idealize.ShloMosaic.TcCoe Idealize.SL.Sem
open Cert.Reference12Ideal Cert.Reference12Ideal.Gen Cert.Pages

def later (x : FVec Ideal S1x2560x128x8 .f32) : FVec Ideal S2560x1024 .f32 :=
  shapeCast _ (Host.reduceAdd (select (broadcastInDim S2560x128x128x8 ![0, 1, 2, 3] bcast_S1x128x128x1_S2560x128x128x8_0_1_2_3 (broadcastInDim S1x128x128x1 ![1, 2] bcast_S128x128_S1x128x128x1_1_2 (cmpi .sgt (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0)))))) (broadcastInDim S2560x128x128x8 ![0, 1, 2, 3] bcast_S2560x1x128x8_S2560x128x128x8_0_1_2_3 (broadcastInDim S2560x1x128x8 ![0, 2, 3] bcast_S2560x128x8_S2560x1x128x8_0_2_3 (shapeCast _ x shapeCasts_S1x2560x128x8_S2560x128x8))) (broadcastInDim S2560x128x128x8 ![] bcast_S_S2560x128x128x8 (id (constant S_ .f32 0x00000000#32)))) (constant S_ .f32 0x00000000#32) reducesTo_S2560x128x128x8_S2560x128x8_d2 h_S_) shapeCasts_S2560x128x8_S2560x1024

def total (x : FVec Ideal S1x2560x128x8 .f32) : FVec Ideal S2560x1024 .f32 :=
  shapeCast _ (broadcastInDim S2560x128x8 ![0, 1, 2] bcast_S2560x1x8_S2560x128x8_0_1_2 (broadcastInDim S2560x1x8 ![0, 2] bcast_S2560x8_S2560x1x8_0_2 (Host.reduceAdd (shapeCast _ x shapeCasts_S1x2560x128x8_S2560x128x8) (constant S_ .f32 0x00000000#32) reducesTo_S2560x128x8_S2560x8_d1 h_S_))) shapeCasts_S2560x128x8_S2560x1024

/-- The value of a page at a position and a head. -/
theorem at_item (x : S1x2560x128x8.Idx → EReal) (i : Fin 2560) (s : Fin 128) (h : Fin 8) : x (ix4 0 i s h) = item x i (s.val * 8 + h.val) := by
  unfold item
  refine congrArg x ?_
  refine (congrArg (fun z => ix4 0 i z h) (Fin.ext ?_)).trans (congrArg (fun z => ix4 0 i ⟨(s.val * 8 + h.val) / 8 % 128, by omega⟩ z) (Fin.ext ?_))
  · show s.val = (s.val * 8 + h.val) / 8 % 128
    omega
  · show h.val = (s.val * 8 + h.val) % 8
    omega

theorem later_at (x : FVec Ideal S1x2560x128x8 .f32) (i : Fin 2560) (j : Fin 1024) : later x (ix2 i j) = after x (ix2 i j) := by
  have h : later x (ix2 i j) = ∑ s : Fin 128, if j.val / 8 < s.val then x (ix4 0 i s ⟨j.val % 8, by omega⟩) else 0 := by
    pointwise [later, id]
    refine Finset.sum_congr rfl fun s _ => ?_
    rw [gt_word _ _ (by omega) (by omega)]
    by_cases h : j.val / 8 < s.val
    · rw [if_pos h, if_pos h]
      rfl
    · rw [if_neg h, if_neg h]
      rfl
  refine h.trans (Finset.sum_congr rfl fun s _ => ?_)
  exact congrArg (fun z : EReal => if j.val / 8 < s.val then z else 0) (at_item x i s ⟨j.val % 8, by omega⟩)

theorem total_at (x : FVec Ideal S1x2560x128x8 .f32) (i : Fin 2560) (j : Fin 1024) : total x (ix2 i j) = whole x (ix2 i j) := by
  have h : total x (ix2 i j) = ∑ s : Fin 128, x (ix4 0 i s ⟨j.val % 8, by omega⟩) := by
    pointwise [total, id]
  refine h.trans (Finset.sum_congr rfl fun s _ => ?_)
  exact at_item x i s ⟨j.val % 8, by omega⟩

theorem later_eq (x : FVec Ideal S1x2560x128x8 .f32) : later x = after x := by
  funext (y : S2560x1024.Idx)
  idx_vars y
  exact later_at x y0 y1

theorem total_eq (x : FVec Ideal S1x2560x128x8 .f32) : total x = whole x := by
  funext (y : S2560x1024.Idx)
  idx_vars y
  exact total_at x y0 y1

end Cert.Reference12Ideal.Pages

namespace Cert.Pages

open Idealize.ShloMosaic Idealize.ShloMosaic.TcCoe Idealize.SL.Sem
open Cert.Kernel12Ideal Cert.Kernel12Ideal.Gen Cert.Kernel12Ideal.Pages

theorem pagesFacts : Cert.Pre_pages_below_infinity.Facts := Cert.Pre_pages_below_infinity.Gen.facts

variable (m : (ℓ : Loc nD τ sig) → Buf (Elt Ideal) ℓ)

theorem pre_pages (h : Cert.Pre_Kernel12Ideal_pages_below_infinity (hPre_pages_below_infinity := pagesFacts) m) (c : Dev nD) (i : S1x2560x128x8.Idx) :
    aL m c i ≠ ⊤ := by
  have h0 := h c
  dsimp only [Cert.Pre_pages_below_infinity.fn] at h0
  exact Cert.Cumulated.all_below _ _ _ _ h0 i

theorem frame_kernel12 : Cert.quiescent_Kernel12 (hKernel12 := Cert.Kernel12.Gen.facts) :=
  fun m ρ _ => Cert.Kernel12.Gen.frame m ρ

theorem frame_ideal12 : Cert.quiescent_Kernel12Ideal (hKernel12Ideal := Cert.Kernel12Ideal.Gen.facts) :=
  fun m ρ _ => Cert.Kernel12Ideal.Gen.frame m ρ

theorem frame_ideal12_pre : Cert.quiescent_Kernel12Ideal_pre_pages_below_infinity (hKernel12Ideal := Cert.Kernel12Ideal.Gen.facts)
    (hPre_pages_below_infinity := pagesFacts) :=
  fun m ρ _ => Cert.Kernel12Ideal.Gen.frame m ρ

theorem frame_reference12 : Cert.quiescent_Reference12Ideal (hReference12Ideal := Cert.Reference12Ideal.Gen.facts) :=
  fun m ρ _ => (θ_run (Cert.Reference12Ideal.defs (F := Ideal)) _ _).mono
    (fun r h => ⟨fun c => (h c).2.2, sem_eq_zero_of_no_sems (by decide) r.2⟩)
    (Cert.Reference12Ideal.Value.run (F := Ideal) m ρ)

theorem frame_reference12_pre : Cert.quiescent_Reference12Ideal_pre_pages_below_infinity (hReference12Ideal := Cert.Reference12Ideal.Gen.facts)
    (hPre_pages_below_infinity := pagesFacts) :=
  fun m ρ _ => frame_reference12 m ρ trivial

theorem preserves12 : Cert.preserves_Kernel12_Kernel12Ideal := trivial

theorem algebraic12 : Cert.algebraic_Kernel12Ideal_Reference12Ideal_pre_pages_below_infinity (hKernel12Ideal := Cert.Kernel12Ideal.Gen.facts)
    (hReference12Ideal := Cert.Reference12Ideal.Gen.facts) (hPre_pages_below_infinity := pagesFacts) := by
  intro m ρ m' ρ' hpre hargs
  refine ⟨fun c => after (aL m c), fun c => whole (aL m c), ?_, ?_⟩
  · exact (θ_run _ _ _).mono (fun r h c => ⟨(h c).1.trans (final_after m c (pre_pages m hpre c)),
      (h c).2.1.trans (final_whole m c (pre_pages m hpre c)), (h c).2.2⟩) (Cert.Kernel12Ideal.Value.run_blocks m ρ)
  · refine (θ_run _ _ _).mono (fun r h c => ?_) (Cert.Reference12Ideal.Value.run m' ρ')
    have e0 := hargs c
    refine ⟨((h c).1.trans ?_).trans (Cert.Reference12Ideal.Pages.later_eq (aL m c)),
      ((h c).2.1.trans ?_).trans (Cert.Reference12Ideal.Pages.total_eq (aL m c)), (h c).2.2⟩
    · rw [e0]
      rfl
    · rw [e0]
      rfl

end Cert.Pages
-- ==== Proof.lean ====
/- The claim: the frames, the preserved constant and the algebraic equality of the attention; the same
   of the modulation and input projection, of the output projection, of the expert layer, of the gates
   of all experts of the prompt and of the samples, of the cumulated log forget values of the prompt and of the
   samples' new positions, of the state space branch's tables and input matrix, and of the page sums of the
   cached log forget values. -/
module

public import proofs.«01_k».proof.Defs
public import proofs.«01_k».proof.Proof.Attention
public import proofs.«01_k».proof.Proof.Proj
public import proofs.«01_k».proof.Proof.Out
public import proofs.«01_k».proof.Proof.Exp4
public import proofs.«01_k».proof.Proof.Exp5
public import proofs.«01_k».proof.Proof.Mask
public import proofs.«01_k».proof.Proof.Cum
public import proofs.«01_k».proof.Proof.Mask8
public import proofs.«01_k».proof.Proof.Input
public import proofs.«01_k».proof.Proof.Short
public import proofs.«01_k».proof.Proof.Tables
public import proofs.«01_k».proof.Proof.PageSums

@[expose] public section

noncomputable section

namespace Cert.Proof

open Cert.Attention Cert.Projection Cert.Merge Cert.Expert4 Cert.Expert5 Cert.Gates Cert.Cumulated Cert.SampleGates Cert.Input Cert.Short Cert.Tables Cert.Pages

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    preFacts, gatesFacts, belowFacts, sampleGatesFacts, pagesFacts,
    frame_kernel, frame_ideal, frame_ideal_pre, frame_reference, frame_reference_pre,
    frame_kernel2, frame_ideal2, frame_reference2, frame_kernel3, frame_ideal3, frame_reference3,
    frame_kernel4, frame_ideal4, frame_reference4, frame_kernel5, frame_ideal5, frame_reference5,
    frame_kernel6, frame_ideal6, frame_ideal6_pre, frame_reference6, frame_reference6_pre,
    frame_kernel7, frame_ideal7, frame_ideal7_pre, frame_reference7, frame_reference7_pre,
    frame_kernel8, frame_ideal8, frame_ideal8_pre, frame_reference8, frame_reference8_pre,
    frame_kernel9, frame_ideal9, frame_reference9,
    frame_kernel10, frame_ideal10, frame_reference10,
    frame_kernel11, frame_ideal11, frame_reference11,
    frame_kernel12, frame_ideal12, frame_ideal12_pre, frame_reference12, frame_reference12_pre, preserves, algebraic,
    preserves2, algebraic2, preserves3, algebraic3, preserves4, algebraic4, preserves5, algebraic5, preserves6, algebraic6,
    preserves7, algebraic7, preserves8, algebraic8, preserves9, algebraic9, preserves10, algebraic10, preserves11, algebraic11,
    preserves12, algebraic12⟩

end Cert.Proof

end
